-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Logit (m : (ℓ : Loc Cert.Logit.nD Cert.Logit.τ Cert.Logit.sig) → Buf (Elt Bits) ℓ) : Prop :=
  True

def Pre_LogitIdeal (m : (ℓ : Loc Cert.LogitIdeal.nD Cert.LogitIdeal.τ Cert.LogitIdeal.sig) → Buf (Elt Ideal) ℓ) : Prop :=
  True

def Pre_LogitRefIdeal (m : (ℓ : Loc Cert.LogitRefIdeal.nD Cert.LogitRefIdeal.τ Cert.LogitRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_DwPle (m : (ℓ : Loc Cert.DwPle.nD Cert.DwPle.τ Cert.DwPle.sig) → Buf (Elt Bits) ℓ) : Prop :=
  True

def Pre_DwPleIdeal (m : (ℓ : Loc Cert.DwPleIdeal.nD Cert.DwPleIdeal.τ Cert.DwPleIdeal.sig) → Buf (Elt Ideal) ℓ) : Prop :=
  True

def Pre_DwPleRefIdeal (m : (ℓ : Loc Cert.DwPleRefIdeal.nD Cert.DwPleRefIdeal.τ Cert.DwPleRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DSquare (m : (ℓ : Loc Cert.DSquare.nD Cert.DSquare.τ Cert.DSquare.sig) → Buf (Elt Bits) ℓ) : Prop :=
  True

def Pre_DSquareIdeal (m : (ℓ : Loc Cert.DSquareIdeal.nD Cert.DSquareIdeal.τ Cert.DSquareIdeal.sig) → Buf (Elt Ideal) ℓ) : Prop :=
  True

def Pre_DSquareRefIdeal (m : (ℓ : Loc Cert.DSquareRefIdeal.nD Cert.DSquareRefIdeal.τ Cert.DSquareRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwLogit (m : (ℓ : Loc Cert.DwLogit.nD Cert.DwLogit.τ Cert.DwLogit.sig) → Buf (Elt Bits) ℓ) : Prop :=
  True

def Pre_DwLogitIdeal (m : (ℓ : Loc Cert.DwLogitIdeal.nD Cert.DwLogitIdeal.τ Cert.DwLogitIdeal.sig) → Buf (Elt Ideal) ℓ) : Prop :=
  True

def Pre_DwLogitRefIdeal (m : (ℓ : Loc Cert.DwLogitRefIdeal.nD Cert.DwLogitRefIdeal.τ Cert.DwLogitRefIdeal.sig) → Buf (Elt Ideal) ℓ) : Prop :=
  True

def Pre_DuLogit (m : (ℓ : Loc Cert.DuLogit.nD Cert.DuLogit.τ Cert.DuLogit.sig) → Buf (Elt Bits) ℓ) : Prop :=
  True

def Pre_DuLogitIdeal (m : (ℓ : Loc Cert.DuLogitIdeal.nD Cert.DuLogitIdeal.τ Cert.DuLogitIdeal.sig) → Buf (Elt Ideal) ℓ) : Prop :=
  True

def Pre_DuLogitRefIdeal (m : (ℓ : Loc Cert.DuLogitRefIdeal.nD Cert.DuLogitRefIdeal.τ Cert.DuLogitRefIdeal.sig) → Buf (Elt Ideal) ℓ) : Prop :=
  True

def Pre_DuGate (m : (ℓ : Loc Cert.DuGate.nD Cert.DuGate.τ Cert.DuGate.sig) → Buf (Elt Bits) ℓ) : Prop :=
  True

def Pre_DuGateIdeal (m : (ℓ : Loc Cert.DuGateIdeal.nD Cert.DuGateIdeal.τ Cert.DuGateIdeal.sig) → Buf (Elt Ideal) ℓ) : Prop :=
  True

def Pre_DuGateRefIdeal (m : (ℓ : Loc Cert.DuGateRefIdeal.nD Cert.DuGateRefIdeal.τ Cert.DuGateRefIdeal.sig) → Buf (Elt Ideal) ℓ) : Prop :=
  True

def Pre_DuQkv (m : (ℓ : Loc Cert.DuQkv.nD Cert.DuQkv.τ Cert.DuQkv.sig) → Buf (Elt Bits) ℓ) : Prop :=
  True

def Pre_DuQkvIdeal (m : (ℓ : Loc Cert.DuQkvIdeal.nD Cert.DuQkvIdeal.τ Cert.DuQkvIdeal.sig) → Buf (Elt Ideal) ℓ) : Prop :=
  True

def Pre_DuQkvRefIdeal (m : (ℓ : Loc Cert.DuQkvRefIdeal.nD Cert.DuQkvRefIdeal.τ Cert.DuQkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DMerge (m : (ℓ : Loc Cert.DMerge.nD Cert.DMerge.τ Cert.DMerge.sig) → Buf (Elt Bits) ℓ) : Prop :=
  True

def Pre_DMergeIdeal (m : (ℓ : Loc Cert.DMergeIdeal.nD Cert.DMergeIdeal.τ Cert.DMergeIdeal.sig) → Buf (Elt Ideal) ℓ) : Prop :=
  True

def Pre_DMergeRefIdeal (m : (ℓ : Loc Cert.DMergeRefIdeal.nD Cert.DMergeRefIdeal.τ Cert.DMergeRefIdeal.sig) → Buf (Elt Ideal) ℓ) : Prop :=
  True

def Pre_DPle (m : (ℓ : Loc Cert.DPle.nD Cert.DPle.τ Cert.DPle.sig) → Buf (Elt Bits) ℓ) : Prop :=
  True

def Pre_DPleIdeal (m : (ℓ : Loc Cert.DPleIdeal.nD Cert.DPleIdeal.τ Cert.DPleIdeal.sig) → Buf (Elt Ideal) ℓ) : Prop :=
  True

def Pre_DPleRefIdeal (m : (ℓ : Loc Cert.DPleRefIdeal.nD Cert.DPleRefIdeal.τ Cert.DPleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_DRope (m : (ℓ : Loc Cert.DRope.nD Cert.DRope.τ Cert.DRope.sig) → Buf (Elt Bits) ℓ) : Prop :=
  True

def Pre_DRopeIdeal (m : (ℓ : Loc Cert.DRopeIdeal.nD Cert.DRopeIdeal.τ Cert.DRopeIdeal.sig) → Buf (Elt Ideal) ℓ) : Prop :=
  True

def Pre_DRopeRefIdeal (m : (ℓ : Loc Cert.DRopeRefIdeal.nD Cert.DRopeRefIdeal.τ Cert.DRopeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Logit [hLogit : Cert.Logit.Facts] : Prop :=
  ∀ (m : (ℓ : Loc Cert.Logit.nD Cert.Logit.τ Cert.Logit.sig) → Buf (Elt Bits) ℓ) (g : Dev Cert.Logit.nD → PrngReg), Pre_Logit m →
    θ_run (Cert.Logit.defs (F := Bits)) (onTc (τ := Cert.Logit.τ) (Cert.Logit.main (F := Bits))) ⟨m, fun _ => 0, g⟩ (fun r => (∀ c : Dev Cert.Logit.nD,
      r.2.mem ((c.tc : Thread Cert.Logit.nD Cert.Logit.τ).loc Cert.Logit.main_arg0) = m ((c.tc : Thread Cert.Logit.nD Cert.Logit.τ).loc Cert.Logit.main_arg0)
      ∧ r.2.mem ((c.tc : Thread Cert.Logit.nD Cert.Logit.τ).loc Cert.Logit.main_arg1) = m ((c.tc : Thread Cert.Logit.nD Cert.Logit.τ).loc Cert.Logit.main_arg1))
      ∧ r.2.sem = fun _ => 0)

def quiescent_LogitIdeal [hLogitIdeal : Cert.LogitIdeal.Facts] : Prop :=
  ∀ (m : (ℓ : Loc Cert.LogitIdeal.nD Cert.LogitIdeal.τ Cert.LogitIdeal.sig) → Buf (Elt Ideal) ℓ) (g : Dev Cert.LogitIdeal.nD → PrngReg), Pre_LogitIdeal m →
    θ_run (Cert.LogitIdeal.defs (F := Ideal)) (onTc (τ := Cert.LogitIdeal.τ) (Cert.LogitIdeal.main (F := Ideal))) ⟨m, fun _ => 0, g⟩ (fun r => (∀ c : Dev Cert.LogitIdeal.nD,
      r.2.mem ((c.tc : Thread Cert.LogitIdeal.nD Cert.LogitIdeal.τ).loc Cert.LogitIdeal.main_arg0) = m ((c.tc : Thread Cert.LogitIdeal.nD Cert.LogitIdeal.τ).loc Cert.LogitIdeal.main_arg0)
      ∧ r.2.mem ((c.tc : Thread Cert.LogitIdeal.nD Cert.LogitIdeal.τ).loc Cert.LogitIdeal.main_arg1) = m ((c.tc : Thread Cert.LogitIdeal.nD Cert.LogitIdeal.τ).loc Cert.LogitIdeal.main_arg1))
      ∧ r.2.sem = fun _ => 0)

def quiescent_LogitRefIdeal [hLogitRefIdeal : Cert.LogitRefIdeal.Facts] : Prop :=
  ∀ (m : (ℓ : Loc Cert.LogitRefIdeal.nD Cert.LogitRefIdeal.τ Cert.LogitRefIdeal.sig) → Buf (Elt Ideal) ℓ) (g : Dev Cert.LogitRefIdeal.nD → PrngReg), Pre_LogitRefIdeal m →
    θ_run (Cert.LogitRefIdeal.defs (F := Ideal)) (onTc (τ := Cert.LogitRefIdeal.τ) (Cert.LogitRefIdeal.main (F := Ideal))) ⟨m, fun _ => 0, g⟩ (fun r => (∀ c : Dev Cert.LogitRefIdeal.nD,
      r.2.mem ((c.tc : Thread Cert.LogitRefIdeal.nD Cert.LogitRefIdeal.τ).loc Cert.LogitRefIdeal.main_arg0) = m ((c.tc : Thread Cert.LogitRefIdeal.nD Cert.LogitRefIdeal.τ).loc Cert.LogitRefIdeal.main_arg0)
      ∧ r.2.mem ((c.tc : Thread Cert.LogitRefIdeal.nD Cert.LogitRefIdeal.τ).loc Cert.LogitRefIdeal.main_arg1) = m ((c.tc : Thread Cert.LogitRefIdeal.nD Cert.LogitRefIdeal.τ).loc Cert.LogitRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_DwPle [hDwPle : Cert.DwPle.Facts] : Prop :=
  ∀ (m : (ℓ : Loc Cert.DwPle.nD Cert.DwPle.τ Cert.DwPle.sig) → Buf (Elt Bits) ℓ) (g : Dev Cert.DwPle.nD → PrngReg), Pre_DwPle m →
    θ_run (Cert.DwPle.defs (F := Bits)) (onTc (τ := Cert.DwPle.τ) (Cert.DwPle.main (F := Bits))) ⟨m, fun _ => 0, g⟩ (fun r => (∀ c : Dev Cert.DwPle.nD,
      r.2.mem ((c.tc : Thread Cert.DwPle.nD Cert.DwPle.τ).loc Cert.DwPle.main_arg0) = m ((c.tc : Thread Cert.DwPle.nD Cert.DwPle.τ).loc Cert.DwPle.main_arg0)
      ∧ r.2.mem ((c.tc : Thread Cert.DwPle.nD Cert.DwPle.τ).loc Cert.DwPle.main_arg1) = m ((c.tc : Thread Cert.DwPle.nD Cert.DwPle.τ).loc Cert.DwPle.main_arg1))
      ∧ r.2.sem = fun _ => 0)

def quiescent_DwPleIdeal [hDwPleIdeal : Cert.DwPleIdeal.Facts] : Prop :=
  ∀ (m : (ℓ : Loc Cert.DwPleIdeal.nD Cert.DwPleIdeal.τ Cert.DwPleIdeal.sig) → Buf (Elt Ideal) ℓ) (g : Dev Cert.DwPleIdeal.nD → PrngReg), Pre_DwPleIdeal m →
    θ_run (Cert.DwPleIdeal.defs (F := Ideal)) (onTc (τ := Cert.DwPleIdeal.τ) (Cert.DwPleIdeal.main (F := Ideal))) ⟨m, fun _ => 0, g⟩ (fun r => (∀ c : Dev Cert.DwPleIdeal.nD,
      r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
      ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ r.2.sem = fun _ => 0)

def quiescent_DwPleRefIdeal [hDwPleRefIdeal : Cert.DwPleRefIdeal.Facts] : Prop :=
  ∀ (m : (ℓ : Loc Cert.DwPleRefIdeal.nD Cert.DwPleRefIdeal.τ Cert.DwPleRefIdeal.sig) → Buf (Elt Ideal) ℓ) (g : Dev Cert.DwPleRefIdeal.nD → PrngReg), Pre_DwPleRefIdeal m →
    θ_run (Cert.DwPleRefIdeal.defs (F := Ideal)) (onTc (τ := Cert.DwPleRefIdeal.τ) (Cert.DwPleRefIdeal.main (F := Ideal))) ⟨m, fun _ => 0, g⟩ (fun r => (∀ c : Dev Cert.DwPleRefIdeal.nD,
      r.2.mem ((c.tc : Thread Cert.DwPleRefIdeal.nD Cert.DwPleRefIdeal.τ).loc Cert.DwPleRefIdeal.main_arg0) = m ((c.tc : Thread Cert.DwPleRefIdeal.nD Cert.DwPleRefIdeal.τ).loc Cert.DwPleRefIdeal.main_arg0)
      ∧ r.2.mem ((c.tc : Thread Cert.DwPleRefIdeal.nD Cert.DwPleRefIdeal.τ).loc Cert.DwPleRefIdeal.main_arg1) = m ((c.tc : Thread Cert.DwPleRefIdeal.nD Cert.DwPleRefIdeal.τ).loc Cert.DwPleRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DSquare [hDSquare : Cert.DSquare.Facts] : Prop :=
  ∀ (m : (ℓ : Loc Cert.DSquare.nD Cert.DSquare.τ Cert.DSquare.sig) → Buf (Elt Bits) ℓ) (g : Dev Cert.DSquare.nD → PrngReg), Pre_DSquare m →
    θ_run (Cert.DSquare.defs (F := Bits)) (onTc (τ := Cert.DSquare.τ) (Cert.DSquare.main (F := Bits))) ⟨m, fun _ => 0, g⟩ (fun r => (∀ c : Dev Cert.DSquare.nD,
      r.2.mem ((c.tc : Thread Cert.DSquare.nD Cert.DSquare.τ).loc Cert.DSquare.main_arg0) = m ((c.tc : Thread Cert.DSquare.nD Cert.DSquare.τ).loc Cert.DSquare.main_arg0)
      ∧ r.2.mem ((c.tc : Thread Cert.DSquare.nD Cert.DSquare.τ).loc Cert.DSquare.main_arg1) = m ((c.tc : Thread Cert.DSquare.nD Cert.DSquare.τ).loc Cert.DSquare.main_arg1))
      ∧ r.2.sem = fun _ => 0)

def quiescent_DSquareIdeal [hDSquareIdeal : Cert.DSquareIdeal.Facts] : Prop :=
  ∀ (m : (ℓ : Loc Cert.DSquareIdeal.nD Cert.DSquareIdeal.τ Cert.DSquareIdeal.sig) → Buf (Elt Ideal) ℓ) (g : Dev Cert.DSquareIdeal.nD → PrngReg), Pre_DSquareIdeal m →
    θ_run (Cert.DSquareIdeal.defs (F := Ideal)) (onTc (τ := Cert.DSquareIdeal.τ) (Cert.DSquareIdeal.main (F := Ideal))) ⟨m, fun _ => 0, g⟩ (fun r => (∀ c : Dev Cert.DSquareIdeal.nD,
      r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
      ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ r.2.sem = fun _ => 0)

def quiescent_DSquareRefIdeal [hDSquareRefIdeal : Cert.DSquareRefIdeal.Facts] : Prop :=
  ∀ (m : (ℓ : Loc Cert.DSquareRefIdeal.nD Cert.DSquareRefIdeal.τ Cert.DSquareRefIdeal.sig) → Buf (Elt Ideal) ℓ) (g : Dev Cert.DSquareRefIdeal.nD → PrngReg), Pre_DSquareRefIdeal m →
    θ_run (Cert.DSquareRefIdeal.defs (F := Ideal)) (onTc (τ := Cert.DSquareRefIdeal.τ) (Cert.DSquareRefIdeal.main (F := Ideal))) ⟨m, fun _ => 0, g⟩ (fun r => (∀ c : Dev Cert.DSquareRefIdeal.nD,
      r.2.mem ((c.tc : Thread Cert.DSquareRefIdeal.nD Cert.DSquareRefIdeal.τ).loc Cert.DSquareRefIdeal.main_arg0) = m ((c.tc : Thread Cert.DSquareRefIdeal.nD Cert.DSquareRefIdeal.τ).loc Cert.DSquareRefIdeal.main_arg0)
      ∧ r.2.mem ((c.tc : Thread Cert.DSquareRefIdeal.nD Cert.DSquareRefIdeal.τ).loc Cert.DSquareRefIdeal.main_arg1) = m ((c.tc : Thread Cert.DSquareRefIdeal.nD Cert.DSquareRefIdeal.τ).loc Cert.DSquareRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_DwLogit [hDwLogit : Cert.DwLogit.Facts] : Prop :=
  ∀ (m : (ℓ : Loc Cert.DwLogit.nD Cert.DwLogit.τ Cert.DwLogit.sig) → Buf (Elt Bits) ℓ) (g : Dev Cert.DwLogit.nD → PrngReg), Pre_DwLogit m →
    θ_run (Cert.DwLogit.defs (F := Bits)) (onTc (τ := Cert.DwLogit.τ) (Cert.DwLogit.main (F := Bits))) ⟨m, fun _ => 0, g⟩ (fun r => (∀ c : Dev Cert.DwLogit.nD,
      r.2.mem ((c.tc : Thread Cert.DwLogit.nD Cert.DwLogit.τ).loc Cert.DwLogit.main_arg0) = m ((c.tc : Thread Cert.DwLogit.nD Cert.DwLogit.τ).loc Cert.DwLogit.main_arg0)
      ∧ r.2.mem ((c.tc : Thread Cert.DwLogit.nD Cert.DwLogit.τ).loc Cert.DwLogit.main_arg1) = m ((c.tc : Thread Cert.DwLogit.nD Cert.DwLogit.τ).loc Cert.DwLogit.main_arg1))
      ∧ r.2.sem = fun _ => 0)

def quiescent_DwLogitIdeal [hDwLogitIdeal : Cert.DwLogitIdeal.Facts] : Prop :=
  ∀ (m : (ℓ : Loc Cert.DwLogitIdeal.nD Cert.DwLogitIdeal.τ Cert.DwLogitIdeal.sig) → Buf (Elt Ideal) ℓ) (g : Dev Cert.DwLogitIdeal.nD → PrngReg), Pre_DwLogitIdeal m →
    θ_run (Cert.DwLogitIdeal.defs (F := Ideal)) (onTc (τ := Cert.DwLogitIdeal.τ) (Cert.DwLogitIdeal.main (F := Ideal))) ⟨m, fun _ => 0, g⟩ (fun r => (∀ c : Dev Cert.DwLogitIdeal.nD,
      r.2.mem ((c.tc : Thread Cert.DwLogitIdeal.nD Cert.DwLogitIdeal.τ).loc Cert.DwLogitIdeal.main_arg0) = m ((c.tc : Thread Cert.DwLogitIdeal.nD Cert.DwLogitIdeal.τ).loc Cert.DwLogitIdeal.main_arg0)
      ∧ r.2.mem ((c.tc : Thread Cert.DwLogitIdeal.nD Cert.DwLogitIdeal.τ).loc Cert.DwLogitIdeal.main_arg1) = m ((c.tc : Thread Cert.DwLogitIdeal.nD Cert.DwLogitIdeal.τ).loc Cert.DwLogitIdeal.main_arg1))
      ∧ r.2.sem = fun _ => 0)

def quiescent_DwLogitRefIdeal [hDwLogitRefIdeal : Cert.DwLogitRefIdeal.Facts] : Prop :=
  ∀ (m : (ℓ : Loc Cert.DwLogitRefIdeal.nD Cert.DwLogitRefIdeal.τ Cert.DwLogitRefIdeal.sig) → Buf (Elt Ideal) ℓ) (g : Dev Cert.DwLogitRefIdeal.nD → PrngReg), Pre_DwLogitRefIdeal m →
    θ_run (Cert.DwLogitRefIdeal.defs (F := Ideal)) (onTc (τ := Cert.DwLogitRefIdeal.τ) (Cert.DwLogitRefIdeal.main (F := Ideal))) ⟨m, fun _ => 0, g⟩ (fun r => (∀ c : Dev Cert.DwLogitRefIdeal.nD,
      r.2.mem ((c.tc : Thread Cert.DwLogitRefIdeal.nD Cert.DwLogitRefIdeal.τ).loc Cert.DwLogitRefIdeal.main_arg0) = m ((c.tc : Thread Cert.DwLogitRefIdeal.nD Cert.DwLogitRefIdeal.τ).loc Cert.DwLogitRefIdeal.main_arg0)
      ∧ r.2.mem ((c.tc : Thread Cert.DwLogitRefIdeal.nD Cert.DwLogitRefIdeal.τ).loc Cert.DwLogitRefIdeal.main_arg1) = m ((c.tc : Thread Cert.DwLogitRefIdeal.nD Cert.DwLogitRefIdeal.τ).loc Cert.DwLogitRefIdeal.main_arg1))
      ∧ r.2.sem = fun _ => 0)

def quiescent_DuLogit [hDuLogit : Cert.DuLogit.Facts] : Prop :=
  ∀ (m : (ℓ : Loc Cert.DuLogit.nD Cert.DuLogit.τ Cert.DuLogit.sig) → Buf (Elt Bits) ℓ) (g : Dev Cert.DuLogit.nD → PrngReg), Pre_DuLogit m →
    θ_run (Cert.DuLogit.defs (F := Bits)) (onTc (τ := Cert.DuLogit.τ) (Cert.DuLogit.main (F := Bits))) ⟨m, fun _ => 0, g⟩ (fun r => (∀ c : Dev Cert.DuLogit.nD,
      r.2.mem ((c.tc : Thread Cert.DuLogit.nD Cert.DuLogit.τ).loc Cert.DuLogit.main_arg0) = m ((c.tc : Thread Cert.DuLogit.nD Cert.DuLogit.τ).loc Cert.DuLogit.main_arg0)
      ∧ r.2.mem ((c.tc : Thread Cert.DuLogit.nD Cert.DuLogit.τ).loc Cert.DuLogit.main_arg1) = m ((c.tc : Thread Cert.DuLogit.nD Cert.DuLogit.τ).loc Cert.DuLogit.main_arg1))
      ∧ r.2.sem = fun _ => 0)

def quiescent_DuLogitIdeal [hDuLogitIdeal : Cert.DuLogitIdeal.Facts] : Prop :=
  ∀ (m : (ℓ : Loc Cert.DuLogitIdeal.nD Cert.DuLogitIdeal.τ Cert.DuLogitIdeal.sig) → Buf (Elt Ideal) ℓ) (g : Dev Cert.DuLogitIdeal.nD → PrngReg), Pre_DuLogitIdeal m →
    θ_run (Cert.DuLogitIdeal.defs (F := Ideal)) (onTc (τ := Cert.DuLogitIdeal.τ) (Cert.DuLogitIdeal.main (F := Ideal))) ⟨m, fun _ => 0, g⟩ (fun r => (∀ c : Dev Cert.DuLogitIdeal.nD,
      r.2.mem ((c.tc : Thread Cert.DuLogitIdeal.nD Cert.DuLogitIdeal.τ).loc Cert.DuLogitIdeal.main_arg0) = m ((c.tc : Thread Cert.DuLogitIdeal.nD Cert.DuLogitIdeal.τ).loc Cert.DuLogitIdeal.main_arg0)
      ∧ r.2.mem ((c.tc : Thread Cert.DuLogitIdeal.nD Cert.DuLogitIdeal.τ).loc Cert.DuLogitIdeal.main_arg1) = m ((c.tc : Thread Cert.DuLogitIdeal.nD Cert.DuLogitIdeal.τ).loc Cert.DuLogitIdeal.main_arg1))
      ∧ r.2.sem = fun _ => 0)

def quiescent_DuLogitRefIdeal [hDuLogitRefIdeal : Cert.DuLogitRefIdeal.Facts] : Prop :=
  ∀ (m : (ℓ : Loc Cert.DuLogitRefIdeal.nD Cert.DuLogitRefIdeal.τ Cert.DuLogitRefIdeal.sig) → Buf (Elt Ideal) ℓ) (g : Dev Cert.DuLogitRefIdeal.nD → PrngReg), Pre_DuLogitRefIdeal m →
    θ_run (Cert.DuLogitRefIdeal.defs (F := Ideal)) (onTc (τ := Cert.DuLogitRefIdeal.τ) (Cert.DuLogitRefIdeal.main (F := Ideal))) ⟨m, fun _ => 0, g⟩ (fun r => (∀ c : Dev Cert.DuLogitRefIdeal.nD,
      r.2.mem ((c.tc : Thread Cert.DuLogitRefIdeal.nD Cert.DuLogitRefIdeal.τ).loc Cert.DuLogitRefIdeal.main_arg0) = m ((c.tc : Thread Cert.DuLogitRefIdeal.nD Cert.DuLogitRefIdeal.τ).loc Cert.DuLogitRefIdeal.main_arg0)
      ∧ r.2.mem ((c.tc : Thread Cert.DuLogitRefIdeal.nD Cert.DuLogitRefIdeal.τ).loc Cert.DuLogitRefIdeal.main_arg1) = m ((c.tc : Thread Cert.DuLogitRefIdeal.nD Cert.DuLogitRefIdeal.τ).loc Cert.DuLogitRefIdeal.main_arg1))
      ∧ r.2.sem = fun _ => 0)

def quiescent_DuGate [hDuGate : Cert.DuGate.Facts] : Prop :=
  ∀ (m : (ℓ : Loc Cert.DuGate.nD Cert.DuGate.τ Cert.DuGate.sig) → Buf (Elt Bits) ℓ) (g : Dev Cert.DuGate.nD → PrngReg), Pre_DuGate m →
    θ_run (Cert.DuGate.defs (F := Bits)) (onTc (τ := Cert.DuGate.τ) (Cert.DuGate.main (F := Bits))) ⟨m, fun _ => 0, g⟩ (fun r => (∀ c : Dev Cert.DuGate.nD,
      r.2.mem ((c.tc : Thread Cert.DuGate.nD Cert.DuGate.τ).loc Cert.DuGate.main_arg0) = m ((c.tc : Thread Cert.DuGate.nD Cert.DuGate.τ).loc Cert.DuGate.main_arg0)
      ∧ r.2.mem ((c.tc : Thread Cert.DuGate.nD Cert.DuGate.τ).loc Cert.DuGate.main_arg1) = m ((c.tc : Thread Cert.DuGate.nD Cert.DuGate.τ).loc Cert.DuGate.main_arg1)
      ∧ r.2.mem ((c.tc : Thread Cert.DuGate.nD Cert.DuGate.τ).loc Cert.DuGate.main_arg2) = m ((c.tc : Thread Cert.DuGate.nD Cert.DuGate.τ).loc Cert.DuGate.main_arg2))
      ∧ r.2.sem = fun _ => 0)

def quiescent_DuGateIdeal [hDuGateIdeal : Cert.DuGateIdeal.Facts] : Prop :=
  ∀ (m : (ℓ : Loc Cert.DuGateIdeal.nD Cert.DuGateIdeal.τ Cert.DuGateIdeal.sig) → Buf (Elt Ideal) ℓ) (g : Dev Cert.DuGateIdeal.nD → PrngReg), Pre_DuGateIdeal m →
    θ_run (Cert.DuGateIdeal.defs (F := Ideal)) (onTc (τ := Cert.DuGateIdeal.τ) (Cert.DuGateIdeal.main (F := Ideal))) ⟨m, fun _ => 0, g⟩ (fun r => (∀ c : Dev Cert.DuGateIdeal.nD,
      r.2.mem ((c.tc : Thread Cert.DuGateIdeal.nD Cert.DuGateIdeal.τ).loc Cert.DuGateIdeal.main_arg0) = m ((c.tc : Thread Cert.DuGateIdeal.nD Cert.DuGateIdeal.τ).loc Cert.DuGateIdeal.main_arg0)
      ∧ r.2.mem ((c.tc : Thread Cert.DuGateIdeal.nD Cert.DuGateIdeal.τ).loc Cert.DuGateIdeal.main_arg1) = m ((c.tc : Thread Cert.DuGateIdeal.nD Cert.DuGateIdeal.τ).loc Cert.DuGateIdeal.main_arg1)
      ∧ r.2.mem ((c.tc : Thread Cert.DuGateIdeal.nD Cert.DuGateIdeal.τ).loc Cert.DuGateIdeal.main_arg2) = m ((c.tc : Thread Cert.DuGateIdeal.nD Cert.DuGateIdeal.τ).loc Cert.DuGateIdeal.main_arg2))
      ∧ r.2.sem = fun _ => 0)

def quiescent_DuGateRefIdeal [hDuGateRefIdeal : Cert.DuGateRefIdeal.Facts] : Prop :=
  ∀ (m : (ℓ : Loc Cert.DuGateRefIdeal.nD Cert.DuGateRefIdeal.τ Cert.DuGateRefIdeal.sig) → Buf (Elt Ideal) ℓ) (g : Dev Cert.DuGateRefIdeal.nD → PrngReg), Pre_DuGateRefIdeal m →
    θ_run (Cert.DuGateRefIdeal.defs (F := Ideal)) (onTc (τ := Cert.DuGateRefIdeal.τ) (Cert.DuGateRefIdeal.main (F := Ideal))) ⟨m, fun _ => 0, g⟩ (fun r => (∀ c : Dev Cert.DuGateRefIdeal.nD,
      r.2.mem ((c.tc : Thread Cert.DuGateRefIdeal.nD Cert.DuGateRefIdeal.τ).loc Cert.DuGateRefIdeal.main_arg0) = m ((c.tc : Thread Cert.DuGateRefIdeal.nD Cert.DuGateRefIdeal.τ).loc Cert.DuGateRefIdeal.main_arg0)
      ∧ r.2.mem ((c.tc : Thread Cert.DuGateRefIdeal.nD Cert.DuGateRefIdeal.τ).loc Cert.DuGateRefIdeal.main_arg1) = m ((c.tc : Thread Cert.DuGateRefIdeal.nD Cert.DuGateRefIdeal.τ).loc Cert.DuGateRefIdeal.main_arg1)
      ∧ r.2.mem ((c.tc : Thread Cert.DuGateRefIdeal.nD Cert.DuGateRefIdeal.τ).loc Cert.DuGateRefIdeal.main_arg2) = m ((c.tc : Thread Cert.DuGateRefIdeal.nD Cert.DuGateRefIdeal.τ).loc Cert.DuGateRefIdeal.main_arg2))
      ∧ r.2.sem = fun _ => 0)

def quiescent_DuQkv [hDuQkv : Cert.DuQkv.Facts] : Prop :=
  ∀ (m : (ℓ : Loc Cert.DuQkv.nD Cert.DuQkv.τ Cert.DuQkv.sig) → Buf (Elt Bits) ℓ) (g : Dev Cert.DuQkv.nD → PrngReg), Pre_DuQkv m →
    θ_run (Cert.DuQkv.defs (F := Bits)) (onTc (τ := Cert.DuQkv.τ) (Cert.DuQkv.main (F := Bits))) ⟨m, fun _ => 0, g⟩ (fun r => (∀ c : Dev Cert.DuQkv.nD,
      r.2.mem ((c.tc : Thread Cert.DuQkv.nD Cert.DuQkv.τ).loc Cert.DuQkv.main_arg0) = m ((c.tc : Thread Cert.DuQkv.nD Cert.DuQkv.τ).loc Cert.DuQkv.main_arg0)
      ∧ r.2.mem ((c.tc : Thread Cert.DuQkv.nD Cert.DuQkv.τ).loc Cert.DuQkv.main_arg1) = m ((c.tc : Thread Cert.DuQkv.nD Cert.DuQkv.τ).loc Cert.DuQkv.main_arg1)
      ∧ r.2.mem ((c.tc : Thread Cert.DuQkv.nD Cert.DuQkv.τ).loc Cert.DuQkv.main_arg2) = m ((c.tc : Thread Cert.DuQkv.nD Cert.DuQkv.τ).loc Cert.DuQkv.main_arg2))
      ∧ r.2.sem = fun _ => 0)

def quiescent_DuQkvIdeal [hDuQkvIdeal : Cert.DuQkvIdeal.Facts] : Prop :=
  ∀ (m : (ℓ : Loc Cert.DuQkvIdeal.nD Cert.DuQkvIdeal.τ Cert.DuQkvIdeal.sig) → Buf (Elt Ideal) ℓ) (g : Dev Cert.DuQkvIdeal.nD → PrngReg), Pre_DuQkvIdeal m →
    θ_run (Cert.DuQkvIdeal.defs (F := Ideal)) (onTc (τ := Cert.DuQkvIdeal.τ) (Cert.DuQkvIdeal.main (F := Ideal))) ⟨m, fun _ => 0, g⟩ (fun r => (∀ c : Dev Cert.DuQkvIdeal.nD,
      r.2.mem ((c.tc : Thread Cert.DuQkvIdeal.nD Cert.DuQkvIdeal.τ).loc Cert.DuQkvIdeal.main_arg0) = m ((c.tc : Thread Cert.DuQkvIdeal.nD Cert.DuQkvIdeal.τ).loc Cert.DuQkvIdeal.main_arg0)
      ∧ r.2.mem ((c.tc : Thread Cert.DuQkvIdeal.nD Cert.DuQkvIdeal.τ).loc Cert.DuQkvIdeal.main_arg1) = m ((c.tc : Thread Cert.DuQkvIdeal.nD Cert.DuQkvIdeal.τ).loc Cert.DuQkvIdeal.main_arg1)
      ∧ r.2.mem ((c.tc : Thread Cert.DuQkvIdeal.nD Cert.DuQkvIdeal.τ).loc Cert.DuQkvIdeal.main_arg2) = m ((c.tc : Thread Cert.DuQkvIdeal.nD Cert.DuQkvIdeal.τ).loc Cert.DuQkvIdeal.main_arg2))
      ∧ r.2.sem = fun _ => 0)

def quiescent_DuQkvRefIdeal [hDuQkvRefIdeal : Cert.DuQkvRefIdeal.Facts] : Prop :=
  ∀ (m : (ℓ : Loc Cert.DuQkvRefIdeal.nD Cert.DuQkvRefIdeal.τ Cert.DuQkvRefIdeal.sig) → Buf (Elt Ideal) ℓ) (g : Dev Cert.DuQkvRefIdeal.nD → PrngReg), Pre_DuQkvRefIdeal m →
    θ_run (Cert.DuQkvRefIdeal.defs (F := Ideal)) (onTc (τ := Cert.DuQkvRefIdeal.τ) (Cert.DuQkvRefIdeal.main (F := Ideal))) ⟨m, fun _ => 0, g⟩ (fun r => (∀ c : Dev Cert.DuQkvRefIdeal.nD,
      r.2.mem ((c.tc : Thread Cert.DuQkvRefIdeal.nD Cert.DuQkvRefIdeal.τ).loc Cert.DuQkvRefIdeal.main_arg0) = m ((c.tc : Thread Cert.DuQkvRefIdeal.nD Cert.DuQkvRefIdeal.τ).loc Cert.DuQkvRefIdeal.main_arg0)
      ∧ r.2.mem ((c.tc : Thread Cert.DuQkvRefIdeal.nD Cert.DuQkvRefIdeal.τ).loc Cert.DuQkvRefIdeal.main_arg1) = m ((c.tc : Thread Cert.DuQkvRefIdeal.nD Cert.DuQkvRefIdeal.τ).loc Cert.DuQkvRefIdeal.main_arg1)
      ∧ r.2.mem ((c.tc : Thread Cert.DuQkvRefIdeal.nD Cert.DuQkvRefIdeal.τ).loc Cert.DuQkvRefIdeal.main_arg2) = m ((c.tc : Thread Cert.DuQkvRefIdeal.nD Cert.DuQkvRefIdeal.τ).loc Cert.DuQkvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_DMerge [hDMerge : Cert.DMerge.Facts] : Prop :=
  ∀ (m : (ℓ : Loc Cert.DMerge.nD Cert.DMerge.τ Cert.DMerge.sig) → Buf (Elt Bits) ℓ) (g : Dev Cert.DMerge.nD → PrngReg), Pre_DMerge m →
    θ_run (Cert.DMerge.defs (F := Bits)) (onTc (τ := Cert.DMerge.τ) (Cert.DMerge.main (F := Bits))) ⟨m, fun _ => 0, g⟩ (fun r => (∀ c : Dev Cert.DMerge.nD,
      r.2.mem ((c.tc : Thread Cert.DMerge.nD Cert.DMerge.τ).loc Cert.DMerge.main_arg0) = m ((c.tc : Thread Cert.DMerge.nD Cert.DMerge.τ).loc Cert.DMerge.main_arg0)
      ∧ r.2.mem ((c.tc : Thread Cert.DMerge.nD Cert.DMerge.τ).loc Cert.DMerge.main_arg1) = m ((c.tc : Thread Cert.DMerge.nD Cert.DMerge.τ).loc Cert.DMerge.main_arg1)
      ∧ r.2.mem ((c.tc : Thread Cert.DMerge.nD Cert.DMerge.τ).loc Cert.DMerge.main_arg2) = m ((c.tc : Thread Cert.DMerge.nD Cert.DMerge.τ).loc Cert.DMerge.main_arg2)
      ∧ r.2.mem ((c.tc : Thread Cert.DMerge.nD Cert.DMerge.τ).loc Cert.DMerge.main_arg3) = m ((c.tc : Thread Cert.DMerge.nD Cert.DMerge.τ).loc Cert.DMerge.main_arg3)
      ∧ r.2.mem ((c.tc : Thread Cert.DMerge.nD Cert.DMerge.τ).loc Cert.DMerge.main_arg4) = m ((c.tc : Thread Cert.DMerge.nD Cert.DMerge.τ).loc Cert.DMerge.main_arg4))
      ∧ r.2.sem = fun _ => 0)

def quiescent_DMergeIdeal [hDMergeIdeal : Cert.DMergeIdeal.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
      ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
      ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4))
      ∧ r.2.sem = fun _ => 0)

def quiescent_DMergeRefIdeal [hDMergeRefIdeal : Cert.DMergeRefIdeal.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2)
      ∧ r.2.mem ((c.tc : Thread Cert.DMergeRefIdeal.nD Cert.DMergeRefIdeal.τ).loc Cert.DMergeRefIdeal.main_arg3) = m ((c.tc : Thread Cert.DMergeRefIdeal.nD Cert.DMergeRefIdeal.τ).loc Cert.DMergeRefIdeal.main_arg3)
      ∧ r.2.mem ((c.tc : Thread Cert.DMergeRefIdeal.nD Cert.DMergeRefIdeal.τ).loc Cert.DMergeRefIdeal.main_arg4) = m ((c.tc : Thread Cert.DMergeRefIdeal.nD Cert.DMergeRefIdeal.τ).loc Cert.DMergeRefIdeal.main_arg4))
      ∧ r.2.sem = fun _ => 0)

def quiescent_DPle [hDPle : Cert.DPle.Facts] : Prop :=
  ∀ (m : (ℓ : Loc Cert.DPle.nD Cert.DPle.τ Cert.DPle.sig) → Buf (Elt Bits) ℓ) (g : Dev Cert.DPle.nD → PrngReg), Pre_DPle m →
    θ_run (Cert.DPle.defs (F := Bits)) (onTc (τ := Cert.DPle.τ) (Cert.DPle.main (F := Bits))) ⟨m, fun _ => 0, g⟩ (fun r => (∀ c : Dev Cert.DPle.nD,
      r.2.mem ((c.tc : Thread Cert.DPle.nD Cert.DPle.τ).loc Cert.DPle.main_arg0) = m ((c.tc : Thread Cert.DPle.nD Cert.DPle.τ).loc Cert.DPle.main_arg0)
      ∧ r.2.mem ((c.tc : Thread Cert.DPle.nD Cert.DPle.τ).loc Cert.DPle.main_arg1) = m ((c.tc : Thread Cert.DPle.nD Cert.DPle.τ).loc Cert.DPle.main_arg1)
      ∧ r.2.mem ((c.tc : Thread Cert.DPle.nD Cert.DPle.τ).loc Cert.DPle.main_arg2) = m ((c.tc : Thread Cert.DPle.nD Cert.DPle.τ).loc Cert.DPle.main_arg2))
      ∧ r.2.sem = fun _ => 0)

def quiescent_DPleIdeal [hDPleIdeal : Cert.DPleIdeal.Facts] : Prop :=
  ∀ (m : (ℓ : Loc Cert.DPleIdeal.nD Cert.DPleIdeal.τ Cert.DPleIdeal.sig) → Buf (Elt Ideal) ℓ) (g : Dev Cert.DPleIdeal.nD → PrngReg), Pre_DPleIdeal m →
    θ_run (Cert.DPleIdeal.defs (F := Ideal)) (onTc (τ := Cert.DPleIdeal.τ) (Cert.DPleIdeal.main (F := Ideal))) ⟨m, fun _ => 0, g⟩ (fun r => (∀ c : Dev Cert.DPleIdeal.nD,
      r.2.mem ((c.tc : Thread Cert.DPleIdeal.nD Cert.DPleIdeal.τ).loc Cert.DPleIdeal.main_arg0) = m ((c.tc : Thread Cert.DPleIdeal.nD Cert.DPleIdeal.τ).loc Cert.DPleIdeal.main_arg0)
      ∧ r.2.mem ((c.tc : Thread Cert.DPleIdeal.nD Cert.DPleIdeal.τ).loc Cert.DPleIdeal.main_arg1) = m ((c.tc : Thread Cert.DPleIdeal.nD Cert.DPleIdeal.τ).loc Cert.DPleIdeal.main_arg1)
      ∧ r.2.mem ((c.tc : Thread Cert.DPleIdeal.nD Cert.DPleIdeal.τ).loc Cert.DPleIdeal.main_arg2) = m ((c.tc : Thread Cert.DPleIdeal.nD Cert.DPleIdeal.τ).loc Cert.DPleIdeal.main_arg2))
      ∧ r.2.sem = fun _ => 0)

def quiescent_DPleRefIdeal [hDPleRefIdeal : Cert.DPleRefIdeal.Facts] : Prop :=
  ∀ (m : (ℓ : Loc Cert.DPleRefIdeal.nD Cert.DPleRefIdeal.τ Cert.DPleRefIdeal.sig) → Buf (Elt Ideal) ℓ) (g : Dev Cert.DPleRefIdeal.nD → PrngReg), Pre_DPleRefIdeal m →
    θ_run (Cert.DPleRefIdeal.defs (F := Ideal)) (onTc (τ := Cert.DPleRefIdeal.τ) (Cert.DPleRefIdeal.main (F := Ideal))) ⟨m, fun _ => 0, g⟩ (fun r => (∀ c : Dev Cert.DPleRefIdeal.nD,
      r.2.mem ((c.tc : Thread Cert.DPleRefIdeal.nD Cert.DPleRefIdeal.τ).loc Cert.DPleRefIdeal.main_arg0) = m ((c.tc : Thread Cert.DPleRefIdeal.nD Cert.DPleRefIdeal.τ).loc Cert.DPleRefIdeal.main_arg0)
      ∧ r.2.mem ((c.tc : Thread Cert.DPleRefIdeal.nD Cert.DPleRefIdeal.τ).loc Cert.DPleRefIdeal.main_arg1) = m ((c.tc : Thread Cert.DPleRefIdeal.nD Cert.DPleRefIdeal.τ).loc Cert.DPleRefIdeal.main_arg1)
      ∧ r.2.mem ((c.tc : Thread Cert.DPleRefIdeal.nD Cert.DPleRefIdeal.τ).loc Cert.DPleRefIdeal.main_arg2) = m ((c.tc : Thread Cert.DPleRefIdeal.nD Cert.DPleRefIdeal.τ).loc Cert.DPleRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1)
      ∧ r.2.mem ((c.tc : Thread Cert.DNorm.nD Cert.DNorm.τ).loc Cert.DNorm.main_arg2) = m ((c.tc : Thread Cert.DNorm.nD Cert.DNorm.τ).loc Cert.DNorm.main_arg2)
      ∧ r.2.mem ((c.tc : Thread Cert.DNorm.nD Cert.DNorm.τ).loc Cert.DNorm.main_arg3) = m ((c.tc : Thread Cert.DNorm.nD Cert.DNorm.τ).loc Cert.DNorm.main_arg3))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
      ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
      ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
      ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
      ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_DRope [hDRope : Cert.DRope.Facts] : Prop :=
  ∀ (m : (ℓ : Loc Cert.DRope.nD Cert.DRope.τ Cert.DRope.sig) → Buf (Elt Bits) ℓ) (g : Dev Cert.DRope.nD → PrngReg), Pre_DRope m →
    θ_run (Cert.DRope.defs (F := Bits)) (onTc (τ := Cert.DRope.τ) (Cert.DRope.main (F := Bits))) ⟨m, fun _ => 0, g⟩ (fun r => (∀ c : Dev Cert.DRope.nD,
      r.2.mem ((c.tc : Thread Cert.DRope.nD Cert.DRope.τ).loc Cert.DRope.main_arg0) = m ((c.tc : Thread Cert.DRope.nD Cert.DRope.τ).loc Cert.DRope.main_arg0)
      ∧ r.2.mem ((c.tc : Thread Cert.DRope.nD Cert.DRope.τ).loc Cert.DRope.main_arg1) = m ((c.tc : Thread Cert.DRope.nD Cert.DRope.τ).loc Cert.DRope.main_arg1))
      ∧ r.2.sem = fun _ => 0)

def quiescent_DRopeIdeal [hDRopeIdeal : Cert.DRopeIdeal.Facts] : Prop :=
  ∀ (m : (ℓ : Loc Cert.DRopeIdeal.nD Cert.DRopeIdeal.τ Cert.DRopeIdeal.sig) → Buf (Elt Ideal) ℓ) (g : Dev Cert.DRopeIdeal.nD → PrngReg), Pre_DRopeIdeal m →
    θ_run (Cert.DRopeIdeal.defs (F := Ideal)) (onTc (τ := Cert.DRopeIdeal.τ) (Cert.DRopeIdeal.main (F := Ideal))) ⟨m, fun _ => 0, g⟩ (fun r => (∀ c : Dev Cert.DRopeIdeal.nD,
      r.2.mem ((c.tc : Thread Cert.DRopeIdeal.nD Cert.DRopeIdeal.τ).loc Cert.DRopeIdeal.main_arg0) = m ((c.tc : Thread Cert.DRopeIdeal.nD Cert.DRopeIdeal.τ).loc Cert.DRopeIdeal.main_arg0)
      ∧ r.2.mem ((c.tc : Thread Cert.DRopeIdeal.nD Cert.DRopeIdeal.τ).loc Cert.DRopeIdeal.main_arg1) = m ((c.tc : Thread Cert.DRopeIdeal.nD Cert.DRopeIdeal.τ).loc Cert.DRopeIdeal.main_arg1))
      ∧ r.2.sem = fun _ => 0)

def quiescent_DRopeRefIdeal [hDRopeRefIdeal : Cert.DRopeRefIdeal.Facts] : Prop :=
  ∀ (m : (ℓ : Loc Cert.DRopeRefIdeal.nD Cert.DRopeRefIdeal.τ Cert.DRopeRefIdeal.sig) → Buf (Elt Ideal) ℓ) (g : Dev Cert.DRopeRefIdeal.nD → PrngReg), Pre_DRopeRefIdeal m →
    θ_run (Cert.DRopeRefIdeal.defs (F := Ideal)) (onTc (τ := Cert.DRopeRefIdeal.τ) (Cert.DRopeRefIdeal.main (F := Ideal))) ⟨m, fun _ => 0, g⟩ (fun r => (∀ c : Dev Cert.DRopeRefIdeal.nD,
      r.2.mem ((c.tc : Thread Cert.DRopeRefIdeal.nD Cert.DRopeRefIdeal.τ).loc Cert.DRopeRefIdeal.main_arg0) = m ((c.tc : Thread Cert.DRopeRefIdeal.nD Cert.DRopeRefIdeal.τ).loc Cert.DRopeRefIdeal.main_arg0)
      ∧ r.2.mem ((c.tc : Thread Cert.DRopeRefIdeal.nD Cert.DRopeRefIdeal.τ).loc Cert.DRopeRefIdeal.main_arg1) = m ((c.tc : Thread Cert.DRopeRefIdeal.nD Cert.DRopeRefIdeal.τ).loc Cert.DRopeRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v14) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)) →
    ∃ (v0 : (c : Dev Cert.DmIdeal.nD) → Buf (Elt Ideal) ((c.tc : Thread Cert.DmIdeal.nD Cert.DmIdeal.τ).loc Cert.DmIdeal.main_v0)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v0) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v7) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Logit_LogitIdeal : Prop :=
  True

def algebraic_LogitIdeal_LogitRefIdeal [hLogitIdeal : Cert.LogitIdeal.Facts] [hLogitRefIdeal : Cert.LogitRefIdeal.Facts] : Prop :=
  ∀ (m : (ℓ : Loc Cert.LogitIdeal.nD Cert.LogitIdeal.τ Cert.LogitIdeal.sig) → Buf (Elt Ideal) ℓ) (g : Dev Cert.LogitIdeal.nD → PrngReg)
    (m' : (ℓ : Loc Cert.LogitRefIdeal.nD Cert.LogitRefIdeal.τ Cert.LogitRefIdeal.sig) → Buf (Elt Ideal) ℓ) (g' : Dev Cert.LogitRefIdeal.nD → PrngReg), Pre_LogitIdeal m →
    (∀ c : Dev Cert.LogitIdeal.nD,
      m' ((c.tc : Thread Cert.LogitRefIdeal.nD Cert.LogitRefIdeal.τ).loc Cert.LogitRefIdeal.main_arg0) = m ((c.tc : Thread Cert.LogitIdeal.nD Cert.LogitIdeal.τ).loc Cert.LogitIdeal.main_arg0)
      ∧ m' ((c.tc : Thread Cert.LogitRefIdeal.nD Cert.LogitRefIdeal.τ).loc Cert.LogitRefIdeal.main_arg1) = m ((c.tc : Thread Cert.LogitIdeal.nD Cert.LogitIdeal.τ).loc Cert.LogitIdeal.main_arg1)) →
    ∃ (v0 : (c : Dev Cert.LogitIdeal.nD) → Buf (Elt Ideal) ((c.tc : Thread Cert.LogitIdeal.nD Cert.LogitIdeal.τ).loc Cert.LogitIdeal.main_v0)),
      θ_run (Cert.LogitIdeal.defs (F := Ideal)) (onTc (τ := Cert.LogitIdeal.τ) (Cert.LogitIdeal.main (F := Ideal))) ⟨m, fun _ => 0, g⟩ (fun r => ∀ c : Dev Cert.LogitIdeal.nD,
          r.2.mem ((c.tc : Thread Cert.LogitIdeal.nD Cert.LogitIdeal.τ).loc Cert.LogitIdeal.main_v0) = v0 c
          ∧ r.2.mem ((c.tc : Thread Cert.LogitIdeal.nD Cert.LogitIdeal.τ).loc Cert.LogitIdeal.main_arg0) = m ((c.tc : Thread Cert.LogitIdeal.nD Cert.LogitIdeal.τ).loc Cert.LogitIdeal.main_arg0)
          ∧ r.2.mem ((c.tc : Thread Cert.LogitIdeal.nD Cert.LogitIdeal.τ).loc Cert.LogitIdeal.main_arg1) = m ((c.tc : Thread Cert.LogitIdeal.nD Cert.LogitIdeal.τ).loc Cert.LogitIdeal.main_arg1))
      ∧ θ_run (Cert.LogitRefIdeal.defs (F := Ideal)) (onTc (τ := Cert.LogitRefIdeal.τ) (Cert.LogitRefIdeal.main (F := Ideal))) ⟨m', fun _ => 0, g'⟩ (fun r => ∀ c : Dev Cert.LogitRefIdeal.nD,
          r.2.mem ((c.tc : Thread Cert.LogitRefIdeal.nD Cert.LogitRefIdeal.τ).loc Cert.LogitRefIdeal.main_v2) = v0 c
          ∧ r.2.mem ((c.tc : Thread Cert.LogitRefIdeal.nD Cert.LogitRefIdeal.τ).loc Cert.LogitRefIdeal.main_arg0) = m' ((c.tc : Thread Cert.LogitRefIdeal.nD Cert.LogitRefIdeal.τ).loc Cert.LogitRefIdeal.main_arg0)
          ∧ r.2.mem ((c.tc : Thread Cert.LogitRefIdeal.nD Cert.LogitRefIdeal.τ).loc Cert.LogitRefIdeal.main_arg1) = m' ((c.tc : Thread Cert.LogitRefIdeal.nD Cert.LogitRefIdeal.τ).loc Cert.LogitRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v5) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v9) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v7) = v0 c
          ∧ r.2.mem ((c.tc : Thread Cert.PleRefIdeal.nD Cert.PleRefIdeal.τ).loc Cert.PleRefIdeal.main_v8) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_DwPle_DwPleIdeal : Prop :=
  True

def algebraic_DwPleIdeal_DwPleRefIdeal [hDwPleIdeal : Cert.DwPleIdeal.Facts] [hDwPleRefIdeal : Cert.DwPleRefIdeal.Facts] : Prop :=
  ∀ (m : (ℓ : Loc Cert.DwPleIdeal.nD Cert.DwPleIdeal.τ Cert.DwPleIdeal.sig) → Buf (Elt Ideal) ℓ) (g : Dev Cert.DwPleIdeal.nD → PrngReg)
    (m' : (ℓ : Loc Cert.DwPleRefIdeal.nD Cert.DwPleRefIdeal.τ Cert.DwPleRefIdeal.sig) → Buf (Elt Ideal) ℓ) (g' : Dev Cert.DwPleRefIdeal.nD → PrngReg), Pre_DwPleIdeal m →
    (∀ c : Dev Cert.DwPleIdeal.nD,
      m' ((c.tc : Thread Cert.DwPleRefIdeal.nD Cert.DwPleRefIdeal.τ).loc Cert.DwPleRefIdeal.main_arg0) = m ((c.tc : Thread Cert.DwPleIdeal.nD Cert.DwPleIdeal.τ).loc Cert.DwPleIdeal.main_arg0)
      ∧ m' ((c.tc : Thread Cert.DwPleRefIdeal.nD Cert.DwPleRefIdeal.τ).loc Cert.DwPleRefIdeal.main_arg1) = m ((c.tc : Thread Cert.DwPleIdeal.nD Cert.DwPleIdeal.τ).loc Cert.DwPleIdeal.main_arg1)) →
    ∃ (v0 : (c : Dev Cert.DwPleIdeal.nD) → Buf (Elt Ideal) ((c.tc : Thread Cert.DwPleIdeal.nD Cert.DwPleIdeal.τ).loc Cert.DwPleIdeal.main_v0)),
      θ_run (Cert.DwPleIdeal.defs (F := Ideal)) (onTc (τ := Cert.DwPleIdeal.τ) (Cert.DwPleIdeal.main (F := Ideal))) ⟨m, fun _ => 0, g⟩ (fun r => ∀ c : Dev Cert.DwPleIdeal.nD,
          r.2.mem ((c.tc : Thread Cert.DwPleIdeal.nD Cert.DwPleIdeal.τ).loc Cert.DwPleIdeal.main_v0) = v0 c
          ∧ r.2.mem ((c.tc : Thread Cert.DwPleIdeal.nD Cert.DwPleIdeal.τ).loc Cert.DwPleIdeal.main_arg0) = m ((c.tc : Thread Cert.DwPleIdeal.nD Cert.DwPleIdeal.τ).loc Cert.DwPleIdeal.main_arg0)
          ∧ r.2.mem ((c.tc : Thread Cert.DwPleIdeal.nD Cert.DwPleIdeal.τ).loc Cert.DwPleIdeal.main_arg1) = m ((c.tc : Thread Cert.DwPleIdeal.nD Cert.DwPleIdeal.τ).loc Cert.DwPleIdeal.main_arg1))
      ∧ θ_run (Cert.DwPleRefIdeal.defs (F := Ideal)) (onTc (τ := Cert.DwPleRefIdeal.τ) (Cert.DwPleRefIdeal.main (F := Ideal))) ⟨m', fun _ => 0, g'⟩ (fun r => ∀ c : Dev Cert.DwPleRefIdeal.nD,
          r.2.mem ((c.tc : Thread Cert.DwPleRefIdeal.nD Cert.DwPleRefIdeal.τ).loc Cert.DwPleRefIdeal.main_v10) = v0 c
          ∧ r.2.mem ((c.tc : Thread Cert.DwPleRefIdeal.nD Cert.DwPleRefIdeal.τ).loc Cert.DwPleRefIdeal.main_arg0) = m' ((c.tc : Thread Cert.DwPleRefIdeal.nD Cert.DwPleRefIdeal.τ).loc Cert.DwPleRefIdeal.main_arg0)
          ∧ r.2.mem ((c.tc : Thread Cert.DwPleRefIdeal.nD Cert.DwPleRefIdeal.τ).loc Cert.DwPleRefIdeal.main_arg1) = m' ((c.tc : Thread Cert.DwPleRefIdeal.nD Cert.DwPleRefIdeal.τ).loc Cert.DwPleRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v6) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DSquare_DSquareIdeal : Prop :=
  True

def algebraic_DSquareIdeal_DSquareRefIdeal [hDSquareIdeal : Cert.DSquareIdeal.Facts] [hDSquareRefIdeal : Cert.DSquareRefIdeal.Facts] : Prop :=
  ∀ (m : (ℓ : Loc Cert.DSquareIdeal.nD Cert.DSquareIdeal.τ Cert.DSquareIdeal.sig) → Buf (Elt Ideal) ℓ) (g : Dev Cert.DSquareIdeal.nD → PrngReg)
    (m' : (ℓ : Loc Cert.DSquareRefIdeal.nD Cert.DSquareRefIdeal.τ Cert.DSquareRefIdeal.sig) → Buf (Elt Ideal) ℓ) (g' : Dev Cert.DSquareRefIdeal.nD → PrngReg), Pre_DSquareIdeal m →
    (∀ c : Dev Cert.DSquareIdeal.nD,
      m' ((c.tc : Thread Cert.DSquareRefIdeal.nD Cert.DSquareRefIdeal.τ).loc Cert.DSquareRefIdeal.main_arg0) = m ((c.tc : Thread Cert.DSquareIdeal.nD Cert.DSquareIdeal.τ).loc Cert.DSquareIdeal.main_arg0)
      ∧ m' ((c.tc : Thread Cert.DSquareRefIdeal.nD Cert.DSquareRefIdeal.τ).loc Cert.DSquareRefIdeal.main_arg1) = m ((c.tc : Thread Cert.DSquareIdeal.nD Cert.DSquareIdeal.τ).loc Cert.DSquareIdeal.main_arg1)) →
    ∃ (v0 : (c : Dev Cert.DSquareIdeal.nD) → Buf (Elt Ideal) ((c.tc : Thread Cert.DSquareIdeal.nD Cert.DSquareIdeal.τ).loc Cert.DSquareIdeal.main_v0)),
      θ_run (Cert.DSquareIdeal.defs (F := Ideal)) (onTc (τ := Cert.DSquareIdeal.τ) (Cert.DSquareIdeal.main (F := Ideal))) ⟨m, fun _ => 0, g⟩ (fun r => ∀ c : Dev Cert.DSquareIdeal.nD,
          r.2.mem ((c.tc : Thread Cert.DSquareIdeal.nD Cert.DSquareIdeal.τ).loc Cert.DSquareIdeal.main_v0) = v0 c
          ∧ r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
          ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ θ_run (Cert.DSquareRefIdeal.defs (F := Ideal)) (onTc (τ := Cert.DSquareRefIdeal.τ) (Cert.DSquareRefIdeal.main (F := Ideal))) ⟨m', fun _ => 0, g'⟩ (fun r => ∀ c : Dev Cert.DSquareRefIdeal.nD,
          r.2.mem ((c.tc : Thread Cert.DSquareRefIdeal.nD Cert.DSquareRefIdeal.τ).loc Cert.DSquareRefIdeal.main_v5) = v0 c
          ∧ r.2.mem ((c.tc : Thread Cert.DSquareRefIdeal.nD Cert.DSquareRefIdeal.τ).loc Cert.DSquareRefIdeal.main_arg0) = m' ((c.tc : Thread Cert.DSquareRefIdeal.nD Cert.DSquareRefIdeal.τ).loc Cert.DSquareRefIdeal.main_arg0)
          ∧ r.2.mem ((c.tc : Thread Cert.DSquareRefIdeal.nD Cert.DSquareRefIdeal.τ).loc Cert.DSquareRefIdeal.main_arg1) = m' ((c.tc : Thread Cert.DSquareRefIdeal.nD Cert.DSquareRefIdeal.τ).loc Cert.DSquareRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v10) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v10) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v7) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v6) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_DwLogit_DwLogitIdeal : Prop :=
  True

def algebraic_DwLogitIdeal_DwLogitRefIdeal [hDwLogitIdeal : Cert.DwLogitIdeal.Facts] [hDwLogitRefIdeal : Cert.DwLogitRefIdeal.Facts] : Prop :=
  ∀ (m : (ℓ : Loc Cert.DwLogitIdeal.nD Cert.DwLogitIdeal.τ Cert.DwLogitIdeal.sig) → Buf (Elt Ideal) ℓ) (g : Dev Cert.DwLogitIdeal.nD → PrngReg)
    (m' : (ℓ : Loc Cert.DwLogitRefIdeal.nD Cert.DwLogitRefIdeal.τ Cert.DwLogitRefIdeal.sig) → Buf (Elt Ideal) ℓ) (g' : Dev Cert.DwLogitRefIdeal.nD → PrngReg), Pre_DwLogitIdeal m →
    (∀ c : Dev Cert.DwLogitIdeal.nD,
      m' ((c.tc : Thread Cert.DwLogitRefIdeal.nD Cert.DwLogitRefIdeal.τ).loc Cert.DwLogitRefIdeal.main_arg0) = m ((c.tc : Thread Cert.DwLogitIdeal.nD Cert.DwLogitIdeal.τ).loc Cert.DwLogitIdeal.main_arg0)
      ∧ m' ((c.tc : Thread Cert.DwLogitRefIdeal.nD Cert.DwLogitRefIdeal.τ).loc Cert.DwLogitRefIdeal.main_arg1) = m ((c.tc : Thread Cert.DwLogitIdeal.nD Cert.DwLogitIdeal.τ).loc Cert.DwLogitIdeal.main_arg1)) →
    ∃ (v0 : (c : Dev Cert.DwLogitIdeal.nD) → Buf (Elt Ideal) ((c.tc : Thread Cert.DwLogitIdeal.nD Cert.DwLogitIdeal.τ).loc Cert.DwLogitIdeal.main_v0)),
      θ_run (Cert.DwLogitIdeal.defs (F := Ideal)) (onTc (τ := Cert.DwLogitIdeal.τ) (Cert.DwLogitIdeal.main (F := Ideal))) ⟨m, fun _ => 0, g⟩ (fun r => ∀ c : Dev Cert.DwLogitIdeal.nD,
          r.2.mem ((c.tc : Thread Cert.DwLogitIdeal.nD Cert.DwLogitIdeal.τ).loc Cert.DwLogitIdeal.main_v0) = v0 c
          ∧ r.2.mem ((c.tc : Thread Cert.DwLogitIdeal.nD Cert.DwLogitIdeal.τ).loc Cert.DwLogitIdeal.main_arg0) = m ((c.tc : Thread Cert.DwLogitIdeal.nD Cert.DwLogitIdeal.τ).loc Cert.DwLogitIdeal.main_arg0)
          ∧ r.2.mem ((c.tc : Thread Cert.DwLogitIdeal.nD Cert.DwLogitIdeal.τ).loc Cert.DwLogitIdeal.main_arg1) = m ((c.tc : Thread Cert.DwLogitIdeal.nD Cert.DwLogitIdeal.τ).loc Cert.DwLogitIdeal.main_arg1))
      ∧ θ_run (Cert.DwLogitRefIdeal.defs (F := Ideal)) (onTc (τ := Cert.DwLogitRefIdeal.τ) (Cert.DwLogitRefIdeal.main (F := Ideal))) ⟨m', fun _ => 0, g'⟩ (fun r => ∀ c : Dev Cert.DwLogitRefIdeal.nD,
          r.2.mem ((c.tc : Thread Cert.DwLogitRefIdeal.nD Cert.DwLogitRefIdeal.τ).loc Cert.DwLogitRefIdeal.main_v6) = v0 c
          ∧ r.2.mem ((c.tc : Thread Cert.DwLogitRefIdeal.nD Cert.DwLogitRefIdeal.τ).loc Cert.DwLogitRefIdeal.main_arg0) = m' ((c.tc : Thread Cert.DwLogitRefIdeal.nD Cert.DwLogitRefIdeal.τ).loc Cert.DwLogitRefIdeal.main_arg0)
          ∧ r.2.mem ((c.tc : Thread Cert.DwLogitRefIdeal.nD Cert.DwLogitRefIdeal.τ).loc Cert.DwLogitRefIdeal.main_arg1) = m' ((c.tc : Thread Cert.DwLogitRefIdeal.nD Cert.DwLogitRefIdeal.τ).loc Cert.DwLogitRefIdeal.main_arg1))

def preserves_DuLogit_DuLogitIdeal : Prop :=
  True

def algebraic_DuLogitIdeal_DuLogitRefIdeal [hDuLogitIdeal : Cert.DuLogitIdeal.Facts] [hDuLogitRefIdeal : Cert.DuLogitRefIdeal.Facts] : Prop :=
  ∀ (m : (ℓ : Loc Cert.DuLogitIdeal.nD Cert.DuLogitIdeal.τ Cert.DuLogitIdeal.sig) → Buf (Elt Ideal) ℓ) (g : Dev Cert.DuLogitIdeal.nD → PrngReg)
    (m' : (ℓ : Loc Cert.DuLogitRefIdeal.nD Cert.DuLogitRefIdeal.τ Cert.DuLogitRefIdeal.sig) → Buf (Elt Ideal) ℓ) (g' : Dev Cert.DuLogitRefIdeal.nD → PrngReg), Pre_DuLogitIdeal m →
    (∀ c : Dev Cert.DuLogitIdeal.nD,
      m' ((c.tc : Thread Cert.DuLogitRefIdeal.nD Cert.DuLogitRefIdeal.τ).loc Cert.DuLogitRefIdeal.main_arg0) = m ((c.tc : Thread Cert.DuLogitIdeal.nD Cert.DuLogitIdeal.τ).loc Cert.DuLogitIdeal.main_arg0)
      ∧ m' ((c.tc : Thread Cert.DuLogitRefIdeal.nD Cert.DuLogitRefIdeal.τ).loc Cert.DuLogitRefIdeal.main_arg1) = m ((c.tc : Thread Cert.DuLogitIdeal.nD Cert.DuLogitIdeal.τ).loc Cert.DuLogitIdeal.main_arg1)) →
    ∃ (v0 : (c : Dev Cert.DuLogitIdeal.nD) → Buf (Elt Ideal) ((c.tc : Thread Cert.DuLogitIdeal.nD Cert.DuLogitIdeal.τ).loc Cert.DuLogitIdeal.main_v0)),
      θ_run (Cert.DuLogitIdeal.defs (F := Ideal)) (onTc (τ := Cert.DuLogitIdeal.τ) (Cert.DuLogitIdeal.main (F := Ideal))) ⟨m, fun _ => 0, g⟩ (fun r => ∀ c : Dev Cert.DuLogitIdeal.nD,
          r.2.mem ((c.tc : Thread Cert.DuLogitIdeal.nD Cert.DuLogitIdeal.τ).loc Cert.DuLogitIdeal.main_v0) = v0 c
          ∧ r.2.mem ((c.tc : Thread Cert.DuLogitIdeal.nD Cert.DuLogitIdeal.τ).loc Cert.DuLogitIdeal.main_arg0) = m ((c.tc : Thread Cert.DuLogitIdeal.nD Cert.DuLogitIdeal.τ).loc Cert.DuLogitIdeal.main_arg0)
          ∧ r.2.mem ((c.tc : Thread Cert.DuLogitIdeal.nD Cert.DuLogitIdeal.τ).loc Cert.DuLogitIdeal.main_arg1) = m ((c.tc : Thread Cert.DuLogitIdeal.nD Cert.DuLogitIdeal.τ).loc Cert.DuLogitIdeal.main_arg1))
      ∧ θ_run (Cert.DuLogitRefIdeal.defs (F := Ideal)) (onTc (τ := Cert.DuLogitRefIdeal.τ) (Cert.DuLogitRefIdeal.main (F := Ideal))) ⟨m', fun _ => 0, g'⟩ (fun r => ∀ c : Dev Cert.DuLogitRefIdeal.nD,
          r.2.mem ((c.tc : Thread Cert.DuLogitRefIdeal.nD Cert.DuLogitRefIdeal.τ).loc Cert.DuLogitRefIdeal.main_v4) = v0 c
          ∧ r.2.mem ((c.tc : Thread Cert.DuLogitRefIdeal.nD Cert.DuLogitRefIdeal.τ).loc Cert.DuLogitRefIdeal.main_arg0) = m' ((c.tc : Thread Cert.DuLogitRefIdeal.nD Cert.DuLogitRefIdeal.τ).loc Cert.DuLogitRefIdeal.main_arg0)
          ∧ r.2.mem ((c.tc : Thread Cert.DuLogitRefIdeal.nD Cert.DuLogitRefIdeal.τ).loc Cert.DuLogitRefIdeal.main_arg1) = m' ((c.tc : Thread Cert.DuLogitRefIdeal.nD Cert.DuLogitRefIdeal.τ).loc Cert.DuLogitRefIdeal.main_arg1))

def preserves_DuGate_DuGateIdeal : Prop :=
  True

def algebraic_DuGateIdeal_DuGateRefIdeal [hDuGateIdeal : Cert.DuGateIdeal.Facts] [hDuGateRefIdeal : Cert.DuGateRefIdeal.Facts] : Prop :=
  ∀ (m : (ℓ : Loc Cert.DuGateIdeal.nD Cert.DuGateIdeal.τ Cert.DuGateIdeal.sig) → Buf (Elt Ideal) ℓ) (g : Dev Cert.DuGateIdeal.nD → PrngReg)
    (m' : (ℓ : Loc Cert.DuGateRefIdeal.nD Cert.DuGateRefIdeal.τ Cert.DuGateRefIdeal.sig) → Buf (Elt Ideal) ℓ) (g' : Dev Cert.DuGateRefIdeal.nD → PrngReg), Pre_DuGateIdeal m →
    (∀ c : Dev Cert.DuGateIdeal.nD,
      m' ((c.tc : Thread Cert.DuGateRefIdeal.nD Cert.DuGateRefIdeal.τ).loc Cert.DuGateRefIdeal.main_arg0) = m ((c.tc : Thread Cert.DuGateIdeal.nD Cert.DuGateIdeal.τ).loc Cert.DuGateIdeal.main_arg0)
      ∧ m' ((c.tc : Thread Cert.DuGateRefIdeal.nD Cert.DuGateRefIdeal.τ).loc Cert.DuGateRefIdeal.main_arg1) = m ((c.tc : Thread Cert.DuGateIdeal.nD Cert.DuGateIdeal.τ).loc Cert.DuGateIdeal.main_arg1)
      ∧ m' ((c.tc : Thread Cert.DuGateRefIdeal.nD Cert.DuGateRefIdeal.τ).loc Cert.DuGateRefIdeal.main_arg2) = m ((c.tc : Thread Cert.DuGateIdeal.nD Cert.DuGateIdeal.τ).loc Cert.DuGateIdeal.main_arg2)) →
    ∃ (v0 : (c : Dev Cert.DuGateIdeal.nD) → Buf (Elt Ideal) ((c.tc : Thread Cert.DuGateIdeal.nD Cert.DuGateIdeal.τ).loc Cert.DuGateIdeal.main_v0)),
      θ_run (Cert.DuGateIdeal.defs (F := Ideal)) (onTc (τ := Cert.DuGateIdeal.τ) (Cert.DuGateIdeal.main (F := Ideal))) ⟨m, fun _ => 0, g⟩ (fun r => ∀ c : Dev Cert.DuGateIdeal.nD,
          r.2.mem ((c.tc : Thread Cert.DuGateIdeal.nD Cert.DuGateIdeal.τ).loc Cert.DuGateIdeal.main_v0) = v0 c
          ∧ r.2.mem ((c.tc : Thread Cert.DuGateIdeal.nD Cert.DuGateIdeal.τ).loc Cert.DuGateIdeal.main_arg0) = m ((c.tc : Thread Cert.DuGateIdeal.nD Cert.DuGateIdeal.τ).loc Cert.DuGateIdeal.main_arg0)
          ∧ r.2.mem ((c.tc : Thread Cert.DuGateIdeal.nD Cert.DuGateIdeal.τ).loc Cert.DuGateIdeal.main_arg1) = m ((c.tc : Thread Cert.DuGateIdeal.nD Cert.DuGateIdeal.τ).loc Cert.DuGateIdeal.main_arg1)
          ∧ r.2.mem ((c.tc : Thread Cert.DuGateIdeal.nD Cert.DuGateIdeal.τ).loc Cert.DuGateIdeal.main_arg2) = m ((c.tc : Thread Cert.DuGateIdeal.nD Cert.DuGateIdeal.τ).loc Cert.DuGateIdeal.main_arg2))
      ∧ θ_run (Cert.DuGateRefIdeal.defs (F := Ideal)) (onTc (τ := Cert.DuGateRefIdeal.τ) (Cert.DuGateRefIdeal.main (F := Ideal))) ⟨m', fun _ => 0, g'⟩ (fun r => ∀ c : Dev Cert.DuGateRefIdeal.nD,
          r.2.mem ((c.tc : Thread Cert.DuGateRefIdeal.nD Cert.DuGateRefIdeal.τ).loc Cert.DuGateRefIdeal.main_v7) = v0 c
          ∧ r.2.mem ((c.tc : Thread Cert.DuGateRefIdeal.nD Cert.DuGateRefIdeal.τ).loc Cert.DuGateRefIdeal.main_arg0) = m' ((c.tc : Thread Cert.DuGateRefIdeal.nD Cert.DuGateRefIdeal.τ).loc Cert.DuGateRefIdeal.main_arg0)
          ∧ r.2.mem ((c.tc : Thread Cert.DuGateRefIdeal.nD Cert.DuGateRefIdeal.τ).loc Cert.DuGateRefIdeal.main_arg1) = m' ((c.tc : Thread Cert.DuGateRefIdeal.nD Cert.DuGateRefIdeal.τ).loc Cert.DuGateRefIdeal.main_arg1)
          ∧ r.2.mem ((c.tc : Thread Cert.DuGateRefIdeal.nD Cert.DuGateRefIdeal.τ).loc Cert.DuGateRefIdeal.main_arg2) = m' ((c.tc : Thread Cert.DuGateRefIdeal.nD Cert.DuGateRefIdeal.τ).loc Cert.DuGateRefIdeal.main_arg2))

def preserves_DuQkv_DuQkvIdeal : Prop :=
  True

def algebraic_DuQkvIdeal_DuQkvRefIdeal [hDuQkvIdeal : Cert.DuQkvIdeal.Facts] [hDuQkvRefIdeal : Cert.DuQkvRefIdeal.Facts] : Prop :=
  ∀ (m : (ℓ : Loc Cert.DuQkvIdeal.nD Cert.DuQkvIdeal.τ Cert.DuQkvIdeal.sig) → Buf (Elt Ideal) ℓ) (g : Dev Cert.DuQkvIdeal.nD → PrngReg)
    (m' : (ℓ : Loc Cert.DuQkvRefIdeal.nD Cert.DuQkvRefIdeal.τ Cert.DuQkvRefIdeal.sig) → Buf (Elt Ideal) ℓ) (g' : Dev Cert.DuQkvRefIdeal.nD → PrngReg), Pre_DuQkvIdeal m →
    (∀ c : Dev Cert.DuQkvIdeal.nD,
      m' ((c.tc : Thread Cert.DuQkvRefIdeal.nD Cert.DuQkvRefIdeal.τ).loc Cert.DuQkvRefIdeal.main_arg0) = m ((c.tc : Thread Cert.DuQkvIdeal.nD Cert.DuQkvIdeal.τ).loc Cert.DuQkvIdeal.main_arg0)
      ∧ m' ((c.tc : Thread Cert.DuQkvRefIdeal.nD Cert.DuQkvRefIdeal.τ).loc Cert.DuQkvRefIdeal.main_arg1) = m ((c.tc : Thread Cert.DuQkvIdeal.nD Cert.DuQkvIdeal.τ).loc Cert.DuQkvIdeal.main_arg1)
      ∧ m' ((c.tc : Thread Cert.DuQkvRefIdeal.nD Cert.DuQkvRefIdeal.τ).loc Cert.DuQkvRefIdeal.main_arg2) = m ((c.tc : Thread Cert.DuQkvIdeal.nD Cert.DuQkvIdeal.τ).loc Cert.DuQkvIdeal.main_arg2)) →
    ∃ (v0 : (c : Dev Cert.DuQkvIdeal.nD) → Buf (Elt Ideal) ((c.tc : Thread Cert.DuQkvIdeal.nD Cert.DuQkvIdeal.τ).loc Cert.DuQkvIdeal.main_v0)),
      θ_run (Cert.DuQkvIdeal.defs (F := Ideal)) (onTc (τ := Cert.DuQkvIdeal.τ) (Cert.DuQkvIdeal.main (F := Ideal))) ⟨m, fun _ => 0, g⟩ (fun r => ∀ c : Dev Cert.DuQkvIdeal.nD,
          r.2.mem ((c.tc : Thread Cert.DuQkvIdeal.nD Cert.DuQkvIdeal.τ).loc Cert.DuQkvIdeal.main_v0) = v0 c
          ∧ r.2.mem ((c.tc : Thread Cert.DuQkvIdeal.nD Cert.DuQkvIdeal.τ).loc Cert.DuQkvIdeal.main_arg0) = m ((c.tc : Thread Cert.DuQkvIdeal.nD Cert.DuQkvIdeal.τ).loc Cert.DuQkvIdeal.main_arg0)
          ∧ r.2.mem ((c.tc : Thread Cert.DuQkvIdeal.nD Cert.DuQkvIdeal.τ).loc Cert.DuQkvIdeal.main_arg1) = m ((c.tc : Thread Cert.DuQkvIdeal.nD Cert.DuQkvIdeal.τ).loc Cert.DuQkvIdeal.main_arg1)
          ∧ r.2.mem ((c.tc : Thread Cert.DuQkvIdeal.nD Cert.DuQkvIdeal.τ).loc Cert.DuQkvIdeal.main_arg2) = m ((c.tc : Thread Cert.DuQkvIdeal.nD Cert.DuQkvIdeal.τ).loc Cert.DuQkvIdeal.main_arg2))
      ∧ θ_run (Cert.DuQkvRefIdeal.defs (F := Ideal)) (onTc (τ := Cert.DuQkvRefIdeal.τ) (Cert.DuQkvRefIdeal.main (F := Ideal))) ⟨m', fun _ => 0, g'⟩ (fun r => ∀ c : Dev Cert.DuQkvRefIdeal.nD,
          r.2.mem ((c.tc : Thread Cert.DuQkvRefIdeal.nD Cert.DuQkvRefIdeal.τ).loc Cert.DuQkvRefIdeal.main_v7) = v0 c
          ∧ r.2.mem ((c.tc : Thread Cert.DuQkvRefIdeal.nD Cert.DuQkvRefIdeal.τ).loc Cert.DuQkvRefIdeal.main_arg0) = m' ((c.tc : Thread Cert.DuQkvRefIdeal.nD Cert.DuQkvRefIdeal.τ).loc Cert.DuQkvRefIdeal.main_arg0)
          ∧ r.2.mem ((c.tc : Thread Cert.DuQkvRefIdeal.nD Cert.DuQkvRefIdeal.τ).loc Cert.DuQkvRefIdeal.main_arg1) = m' ((c.tc : Thread Cert.DuQkvRefIdeal.nD Cert.DuQkvRefIdeal.τ).loc Cert.DuQkvRefIdeal.main_arg1)
          ∧ r.2.mem ((c.tc : Thread Cert.DuQkvRefIdeal.nD Cert.DuQkvRefIdeal.τ).loc Cert.DuQkvRefIdeal.main_arg2) = m' ((c.tc : Thread Cert.DuQkvRefIdeal.nD Cert.DuQkvRefIdeal.τ).loc Cert.DuQkvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v8) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_DMerge_DMergeIdeal : Prop :=
  True

def algebraic_DMergeIdeal_DMergeRefIdeal [hDMergeIdeal : Cert.DMergeIdeal.Facts] [hDMergeRefIdeal : Cert.DMergeRefIdeal.Facts] : Prop :=
  ∀ (m : (ℓ : Loc Cert.DMergeIdeal.nD Cert.DMergeIdeal.τ Cert.DMergeIdeal.sig) → Buf (Elt Ideal) ℓ) (g : Dev Cert.DMergeIdeal.nD → PrngReg)
    (m' : (ℓ : Loc Cert.DMergeRefIdeal.nD Cert.DMergeRefIdeal.τ Cert.DMergeRefIdeal.sig) → Buf (Elt Ideal) ℓ) (g' : Dev Cert.DMergeRefIdeal.nD → PrngReg), Pre_DMergeIdeal m →
    (∀ c : Dev Cert.DMergeIdeal.nD,
      m' ((c.tc : Thread Cert.DMergeRefIdeal.nD Cert.DMergeRefIdeal.τ).loc Cert.DMergeRefIdeal.main_arg0) = m ((c.tc : Thread Cert.DMergeIdeal.nD Cert.DMergeIdeal.τ).loc Cert.DMergeIdeal.main_arg0)
      ∧ m' ((c.tc : Thread Cert.DMergeRefIdeal.nD Cert.DMergeRefIdeal.τ).loc Cert.DMergeRefIdeal.main_arg1) = m ((c.tc : Thread Cert.DMergeIdeal.nD Cert.DMergeIdeal.τ).loc Cert.DMergeIdeal.main_arg1)
      ∧ m' ((c.tc : Thread Cert.DMergeRefIdeal.nD Cert.DMergeRefIdeal.τ).loc Cert.DMergeRefIdeal.main_arg2) = m ((c.tc : Thread Cert.DMergeIdeal.nD Cert.DMergeIdeal.τ).loc Cert.DMergeIdeal.main_arg2)
      ∧ m' ((c.tc : Thread Cert.DMergeRefIdeal.nD Cert.DMergeRefIdeal.τ).loc Cert.DMergeRefIdeal.main_arg3) = m ((c.tc : Thread Cert.DMergeIdeal.nD Cert.DMergeIdeal.τ).loc Cert.DMergeIdeal.main_arg3)
      ∧ m' ((c.tc : Thread Cert.DMergeRefIdeal.nD Cert.DMergeRefIdeal.τ).loc Cert.DMergeRefIdeal.main_arg4) = m ((c.tc : Thread Cert.DMergeIdeal.nD Cert.DMergeIdeal.τ).loc Cert.DMergeIdeal.main_arg4)) →
    ∃ (v0 : (c : Dev Cert.DMergeIdeal.nD) → Buf (Elt Ideal) ((c.tc : Thread Cert.DMergeIdeal.nD Cert.DMergeIdeal.τ).loc Cert.DMergeIdeal.main_v9_0)) (v1 : (c : Dev Cert.DMergeIdeal.nD) → Buf (Elt Ideal) ((c.tc : Thread Cert.DMergeIdeal.nD Cert.DMergeIdeal.τ).loc Cert.DMergeIdeal.main_v9_1)) (v2 : (c : Dev Cert.DMergeIdeal.nD) → Buf (Elt Ideal) ((c.tc : Thread Cert.DMergeIdeal.nD Cert.DMergeIdeal.τ).loc Cert.DMergeIdeal.main_v9_2)) (v3 : (c : Dev Cert.DMergeIdeal.nD) → Buf (Elt Ideal) ((c.tc : Thread Cert.DMergeIdeal.nD Cert.DMergeIdeal.τ).loc Cert.DMergeIdeal.main_v9_3)),
      θ_run (Cert.DMergeIdeal.defs (F := Ideal)) (onTc (τ := Cert.DMergeIdeal.τ) (Cert.DMergeIdeal.main (F := Ideal))) ⟨m, fun _ => 0, g⟩ (fun r => ∀ c : Dev Cert.DMergeIdeal.nD,
          r.2.mem ((c.tc : Thread Cert.DMergeIdeal.nD Cert.DMergeIdeal.τ).loc Cert.DMergeIdeal.main_v9_0) = v0 c
          ∧ r.2.mem ((c.tc : Thread Cert.DMergeIdeal.nD Cert.DMergeIdeal.τ).loc Cert.DMergeIdeal.main_v9_1) = v1 c
          ∧ r.2.mem ((c.tc : Thread Cert.DMergeIdeal.nD Cert.DMergeIdeal.τ).loc Cert.DMergeIdeal.main_v9_2) = v2 c
          ∧ r.2.mem ((c.tc : Thread Cert.DMergeIdeal.nD Cert.DMergeIdeal.τ).loc Cert.DMergeIdeal.main_v9_3) = v3 c
          ∧ r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
          ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
          ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
          ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
          ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4))
      ∧ θ_run (Cert.DMergeRefIdeal.defs (F := Ideal)) (onTc (τ := Cert.DMergeRefIdeal.τ) (Cert.DMergeRefIdeal.main (F := Ideal))) ⟨m', fun _ => 0, g'⟩ (fun r => ∀ c : Dev Cert.DMergeRefIdeal.nD,
          r.2.mem ((c.tc : Thread Cert.DMergeRefIdeal.nD Cert.DMergeRefIdeal.τ).loc Cert.DMergeRefIdeal.main_v29) = v0 c
          ∧ r.2.mem ((c.tc : Thread Cert.DMergeRefIdeal.nD Cert.DMergeRefIdeal.τ).loc Cert.DMergeRefIdeal.main_v30) = v1 c
          ∧ r.2.mem ((c.tc : Thread Cert.DMergeRefIdeal.nD Cert.DMergeRefIdeal.τ).loc Cert.DMergeRefIdeal.main_v31) = v2 c
          ∧ r.2.mem ((c.tc : Thread Cert.DMergeRefIdeal.nD Cert.DMergeRefIdeal.τ).loc Cert.DMergeRefIdeal.main_v28) = v3 c
          ∧ r.2.mem ((c.tc : Thread Cert.DMergeRefIdeal.nD Cert.DMergeRefIdeal.τ).loc Cert.DMergeRefIdeal.main_arg0) = m' ((c.tc : Thread Cert.DMergeRefIdeal.nD Cert.DMergeRefIdeal.τ).loc Cert.DMergeRefIdeal.main_arg0)
          ∧ r.2.mem ((c.tc : Thread Cert.DMergeRefIdeal.nD Cert.DMergeRefIdeal.τ).loc Cert.DMergeRefIdeal.main_arg1) = m' ((c.tc : Thread Cert.DMergeRefIdeal.nD Cert.DMergeRefIdeal.τ).loc Cert.DMergeRefIdeal.main_arg1)
          ∧ r.2.mem ((c.tc : Thread Cert.DMergeRefIdeal.nD Cert.DMergeRefIdeal.τ).loc Cert.DMergeRefIdeal.main_arg2) = m' ((c.tc : Thread Cert.DMergeRefIdeal.nD Cert.DMergeRefIdeal.τ).loc Cert.DMergeRefIdeal.main_arg2)
          ∧ r.2.mem ((c.tc : Thread Cert.DMergeRefIdeal.nD Cert.DMergeRefIdeal.τ).loc Cert.DMergeRefIdeal.main_arg3) = m' ((c.tc : Thread Cert.DMergeRefIdeal.nD Cert.DMergeRefIdeal.τ).loc Cert.DMergeRefIdeal.main_arg3)
          ∧ r.2.mem ((c.tc : Thread Cert.DMergeRefIdeal.nD Cert.DMergeRefIdeal.τ).loc Cert.DMergeRefIdeal.main_arg4) = m' ((c.tc : Thread Cert.DMergeRefIdeal.nD Cert.DMergeRefIdeal.τ).loc Cert.DMergeRefIdeal.main_arg4))

def preserves_DPle_DPleIdeal : Prop :=
  True

def algebraic_DPleIdeal_DPleRefIdeal [hDPleIdeal : Cert.DPleIdeal.Facts] [hDPleRefIdeal : Cert.DPleRefIdeal.Facts] : Prop :=
  ∀ (m : (ℓ : Loc Cert.DPleIdeal.nD Cert.DPleIdeal.τ Cert.DPleIdeal.sig) → Buf (Elt Ideal) ℓ) (g : Dev Cert.DPleIdeal.nD → PrngReg)
    (m' : (ℓ : Loc Cert.DPleRefIdeal.nD Cert.DPleRefIdeal.τ Cert.DPleRefIdeal.sig) → Buf (Elt Ideal) ℓ) (g' : Dev Cert.DPleRefIdeal.nD → PrngReg), Pre_DPleIdeal m →
    (∀ c : Dev Cert.DPleIdeal.nD,
      m' ((c.tc : Thread Cert.DPleRefIdeal.nD Cert.DPleRefIdeal.τ).loc Cert.DPleRefIdeal.main_arg0) = m ((c.tc : Thread Cert.DPleIdeal.nD Cert.DPleIdeal.τ).loc Cert.DPleIdeal.main_arg0)
      ∧ m' ((c.tc : Thread Cert.DPleRefIdeal.nD Cert.DPleRefIdeal.τ).loc Cert.DPleRefIdeal.main_arg1) = m ((c.tc : Thread Cert.DPleIdeal.nD Cert.DPleIdeal.τ).loc Cert.DPleIdeal.main_arg1)
      ∧ m' ((c.tc : Thread Cert.DPleRefIdeal.nD Cert.DPleRefIdeal.τ).loc Cert.DPleRefIdeal.main_arg2) = m ((c.tc : Thread Cert.DPleIdeal.nD Cert.DPleIdeal.τ).loc Cert.DPleIdeal.main_arg2)) →
    ∃ (v0 : (c : Dev Cert.DPleIdeal.nD) → Buf (Elt Ideal) ((c.tc : Thread Cert.DPleIdeal.nD Cert.DPleIdeal.τ).loc Cert.DPleIdeal.main_v7_0)) (v1 : (c : Dev Cert.DPleIdeal.nD) → Buf (Elt Ideal) ((c.tc : Thread Cert.DPleIdeal.nD Cert.DPleIdeal.τ).loc Cert.DPleIdeal.main_v7_1)),
      θ_run (Cert.DPleIdeal.defs (F := Ideal)) (onTc (τ := Cert.DPleIdeal.τ) (Cert.DPleIdeal.main (F := Ideal))) ⟨m, fun _ => 0, g⟩ (fun r => ∀ c : Dev Cert.DPleIdeal.nD,
          r.2.mem ((c.tc : Thread Cert.DPleIdeal.nD Cert.DPleIdeal.τ).loc Cert.DPleIdeal.main_v7_0) = v0 c
          ∧ r.2.mem ((c.tc : Thread Cert.DPleIdeal.nD Cert.DPleIdeal.τ).loc Cert.DPleIdeal.main_v7_1) = v1 c
          ∧ r.2.mem ((c.tc : Thread Cert.DPleIdeal.nD Cert.DPleIdeal.τ).loc Cert.DPleIdeal.main_arg0) = m ((c.tc : Thread Cert.DPleIdeal.nD Cert.DPleIdeal.τ).loc Cert.DPleIdeal.main_arg0)
          ∧ r.2.mem ((c.tc : Thread Cert.DPleIdeal.nD Cert.DPleIdeal.τ).loc Cert.DPleIdeal.main_arg1) = m ((c.tc : Thread Cert.DPleIdeal.nD Cert.DPleIdeal.τ).loc Cert.DPleIdeal.main_arg1)
          ∧ r.2.mem ((c.tc : Thread Cert.DPleIdeal.nD Cert.DPleIdeal.τ).loc Cert.DPleIdeal.main_arg2) = m ((c.tc : Thread Cert.DPleIdeal.nD Cert.DPleIdeal.τ).loc Cert.DPleIdeal.main_arg2))
      ∧ θ_run (Cert.DPleRefIdeal.defs (F := Ideal)) (onTc (τ := Cert.DPleRefIdeal.τ) (Cert.DPleRefIdeal.main (F := Ideal))) ⟨m', fun _ => 0, g'⟩ (fun r => ∀ c : Dev Cert.DPleRefIdeal.nD,
          r.2.mem ((c.tc : Thread Cert.DPleRefIdeal.nD Cert.DPleRefIdeal.τ).loc Cert.DPleRefIdeal.main_v14) = v0 c
          ∧ r.2.mem ((c.tc : Thread Cert.DPleRefIdeal.nD Cert.DPleRefIdeal.τ).loc Cert.DPleRefIdeal.main_v15) = v1 c
          ∧ r.2.mem ((c.tc : Thread Cert.DPleRefIdeal.nD Cert.DPleRefIdeal.τ).loc Cert.DPleRefIdeal.main_arg0) = m' ((c.tc : Thread Cert.DPleRefIdeal.nD Cert.DPleRefIdeal.τ).loc Cert.DPleRefIdeal.main_arg0)
          ∧ r.2.mem ((c.tc : Thread Cert.DPleRefIdeal.nD Cert.DPleRefIdeal.τ).loc Cert.DPleRefIdeal.main_arg1) = m' ((c.tc : Thread Cert.DPleRefIdeal.nD Cert.DPleRefIdeal.τ).loc Cert.DPleRefIdeal.main_arg1)
          ∧ r.2.mem ((c.tc : Thread Cert.DPleRefIdeal.nD Cert.DPleRefIdeal.τ).loc Cert.DPleRefIdeal.main_arg2) = m' ((c.tc : Thread Cert.DPleRefIdeal.nD Cert.DPleRefIdeal.τ).loc Cert.DPleRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)
      ∧ m' ((c.tc : Thread Cert.DNormRefIdeal.nD Cert.DNormRefIdeal.τ).loc Cert.DNormRefIdeal.main_arg2) = m ((c.tc : Thread Cert.DNormIdeal.nD Cert.DNormIdeal.τ).loc Cert.DNormIdeal.main_arg2)
      ∧ m' ((c.tc : Thread Cert.DNormRefIdeal.nD Cert.DNormRefIdeal.τ).loc Cert.DNormRefIdeal.main_arg3) = m ((c.tc : Thread Cert.DNormIdeal.nD Cert.DNormIdeal.τ).loc Cert.DNormIdeal.main_arg3)) →
    ∃ (v0 : (c : Dev Cert.DNormIdeal.nD) → Buf (Elt Ideal) ((c.tc : Thread Cert.DNormIdeal.nD Cert.DNormIdeal.τ).loc Cert.DNormIdeal.main_v0_0)) (v1 : (c : Dev Cert.DNormIdeal.nD) → Buf (Elt Ideal) ((c.tc : Thread Cert.DNormIdeal.nD Cert.DNormIdeal.τ).loc Cert.DNormIdeal.main_v0_1)) (v2 : (c : Dev Cert.DNormIdeal.nD) → Buf (Elt Ideal) ((c.tc : Thread Cert.DNormIdeal.nD Cert.DNormIdeal.τ).loc Cert.DNormIdeal.main_v0_2)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v0_0) = v0 c
          ∧ r.2.mem ((c.tc : Thread Cert.DNormIdeal.nD Cert.DNormIdeal.τ).loc Cert.DNormIdeal.main_v0_1) = v1 c
          ∧ r.2.mem ((c.tc : Thread Cert.DNormIdeal.nD Cert.DNormIdeal.τ).loc Cert.DNormIdeal.main_v0_2) = v2 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
          ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
          ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v35) = v0 c
          ∧ r.2.mem ((c.tc : Thread Cert.DNormRefIdeal.nD Cert.DNormRefIdeal.τ).loc Cert.DNormRefIdeal.main_v37) = v1 c
          ∧ r.2.mem ((c.tc : Thread Cert.DNormRefIdeal.nD Cert.DNormRefIdeal.τ).loc Cert.DNormRefIdeal.main_v18) = v2 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1)
          ∧ r.2.mem ((c.tc : Thread Cert.DNormRefIdeal.nD Cert.DNormRefIdeal.τ).loc Cert.DNormRefIdeal.main_arg2) = m' ((c.tc : Thread Cert.DNormRefIdeal.nD Cert.DNormRefIdeal.τ).loc Cert.DNormRefIdeal.main_arg2)
          ∧ r.2.mem ((c.tc : Thread Cert.DNormRefIdeal.nD Cert.DNormRefIdeal.τ).loc Cert.DNormRefIdeal.main_arg3) = m' ((c.tc : Thread Cert.DNormRefIdeal.nD Cert.DNormRefIdeal.τ).loc Cert.DNormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v49) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v36) = v0 c
          ∧ r.2.mem ((c.tc : Thread Cert.RopeRefIdeal.nD Cert.RopeRefIdeal.τ).loc Cert.RopeRefIdeal.main_v69) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_DRope_DRopeIdeal : Prop :=
  True

def algebraic_DRopeIdeal_DRopeRefIdeal [hDRopeIdeal : Cert.DRopeIdeal.Facts] [hDRopeRefIdeal : Cert.DRopeRefIdeal.Facts] : Prop :=
  ∀ (m : (ℓ : Loc Cert.DRopeIdeal.nD Cert.DRopeIdeal.τ Cert.DRopeIdeal.sig) → Buf (Elt Ideal) ℓ) (g : Dev Cert.DRopeIdeal.nD → PrngReg)
    (m' : (ℓ : Loc Cert.DRopeRefIdeal.nD Cert.DRopeRefIdeal.τ Cert.DRopeRefIdeal.sig) → Buf (Elt Ideal) ℓ) (g' : Dev Cert.DRopeRefIdeal.nD → PrngReg), Pre_DRopeIdeal m →
    (∀ c : Dev Cert.DRopeIdeal.nD,
      m' ((c.tc : Thread Cert.DRopeRefIdeal.nD Cert.DRopeRefIdeal.τ).loc Cert.DRopeRefIdeal.main_arg0) = m ((c.tc : Thread Cert.DRopeIdeal.nD Cert.DRopeIdeal.τ).loc Cert.DRopeIdeal.main_arg0)
      ∧ m' ((c.tc : Thread Cert.DRopeRefIdeal.nD Cert.DRopeRefIdeal.τ).loc Cert.DRopeRefIdeal.main_arg1) = m ((c.tc : Thread Cert.DRopeIdeal.nD Cert.DRopeIdeal.τ).loc Cert.DRopeIdeal.main_arg1)) →
    ∃ (v0 : (c : Dev Cert.DRopeIdeal.nD) → Buf (Elt Ideal) ((c.tc : Thread Cert.DRopeIdeal.nD Cert.DRopeIdeal.τ).loc Cert.DRopeIdeal.main_v19_0)) (v1 : (c : Dev Cert.DRopeIdeal.nD) → Buf (Elt Ideal) ((c.tc : Thread Cert.DRopeIdeal.nD Cert.DRopeIdeal.τ).loc Cert.DRopeIdeal.main_v19_1)),
      θ_run (Cert.DRopeIdeal.defs (F := Ideal)) (onTc (τ := Cert.DRopeIdeal.τ) (Cert.DRopeIdeal.main (F := Ideal))) ⟨m, fun _ => 0, g⟩ (fun r => ∀ c : Dev Cert.DRopeIdeal.nD,
          r.2.mem ((c.tc : Thread Cert.DRopeIdeal.nD Cert.DRopeIdeal.τ).loc Cert.DRopeIdeal.main_v19_0) = v0 c
          ∧ r.2.mem ((c.tc : Thread Cert.DRopeIdeal.nD Cert.DRopeIdeal.τ).loc Cert.DRopeIdeal.main_v19_1) = v1 c
          ∧ r.2.mem ((c.tc : Thread Cert.DRopeIdeal.nD Cert.DRopeIdeal.τ).loc Cert.DRopeIdeal.main_arg0) = m ((c.tc : Thread Cert.DRopeIdeal.nD Cert.DRopeIdeal.τ).loc Cert.DRopeIdeal.main_arg0)
          ∧ r.2.mem ((c.tc : Thread Cert.DRopeIdeal.nD Cert.DRopeIdeal.τ).loc Cert.DRopeIdeal.main_arg1) = m ((c.tc : Thread Cert.DRopeIdeal.nD Cert.DRopeIdeal.τ).loc Cert.DRopeIdeal.main_arg1))
      ∧ θ_run (Cert.DRopeRefIdeal.defs (F := Ideal)) (onTc (τ := Cert.DRopeRefIdeal.τ) (Cert.DRopeRefIdeal.main (F := Ideal))) ⟨m', fun _ => 0, g'⟩ (fun r => ∀ c : Dev Cert.DRopeRefIdeal.nD,
          r.2.mem ((c.tc : Thread Cert.DRopeRefIdeal.nD Cert.DRopeRefIdeal.τ).loc Cert.DRopeRefIdeal.main_v55) = v0 c
          ∧ r.2.mem ((c.tc : Thread Cert.DRopeRefIdeal.nD Cert.DRopeRefIdeal.τ).loc Cert.DRopeRefIdeal.main_v78) = v1 c
          ∧ r.2.mem ((c.tc : Thread Cert.DRopeRefIdeal.nD Cert.DRopeRefIdeal.τ).loc Cert.DRopeRefIdeal.main_arg0) = m' ((c.tc : Thread Cert.DRopeRefIdeal.nD Cert.DRopeRefIdeal.τ).loc Cert.DRopeRefIdeal.main_arg0)
          ∧ r.2.mem ((c.tc : Thread Cert.DRopeRefIdeal.nD Cert.DRopeRefIdeal.τ).loc Cert.DRopeRefIdeal.main_arg1) = m' ((c.tc : Thread Cert.DRopeRefIdeal.nD Cert.DRopeRefIdeal.τ).loc Cert.DRopeRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v14) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDact : Cert.Dact.Facts) (hDactIdeal : Cert.DactIdeal.Facts) (hDactRefIdeal : Cert.DactRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDm : Cert.Dm.Facts) (hDmIdeal : Cert.DmIdeal.Facts) (hDmRefIdeal : Cert.DmRefIdeal.Facts) (hQkv : Cert.Qkv.Facts) (hQkvIdeal : Cert.QkvIdeal.Facts) (hQkvRefIdeal : Cert.QkvRefIdeal.Facts) (hLogit : Cert.Logit.Facts) (hLogitIdeal : Cert.LogitIdeal.Facts) (hLogitRefIdeal : Cert.LogitRefIdeal.Facts) (hGate : Cert.Gate.Facts) (hGateIdeal : Cert.GateIdeal.Facts) (hGateRefIdeal : Cert.GateRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hPleGate : Cert.PleGate.Facts) (hPleGateIdeal : Cert.PleGateIdeal.Facts) (hPleGateRefIdeal : Cert.PleGateRefIdeal.Facts) (hPle : Cert.Ple.Facts) (hPleIdeal : Cert.PleIdeal.Facts) (hPleRefIdeal : Cert.PleRefIdeal.Facts) (hDwPle : Cert.DwPle.Facts) (hDwPleIdeal : Cert.DwPleIdeal.Facts) (hDwPleRefIdeal : Cert.DwPleRefIdeal.Facts) (hDwSquare : Cert.DwSquare.Facts) (hDwSquareIdeal : Cert.DwSquareIdeal.Facts) (hDwSquareRefIdeal : Cert.DwSquareRefIdeal.Facts) (hDSquare : Cert.DSquare.Facts) (hDSquareIdeal : Cert.DSquareIdeal.Facts) (hDSquareRefIdeal : Cert.DSquareRefIdeal.Facts) (hDwGate : Cert.DwGate.Facts) (hDwGateIdeal : Cert.DwGateIdeal.Facts) (hDwGateRefIdeal : Cert.DwGateRefIdeal.Facts) (hDwBranch : Cert.DwBranch.Facts) (hDwBranchIdeal : Cert.DwBranchIdeal.Facts) (hDwBranchRefIdeal : Cert.DwBranchRefIdeal.Facts) (hDBranch : Cert.DBranch.Facts) (hDBranchIdeal : Cert.DBranchIdeal.Facts) (hDBranchRefIdeal : Cert.DBranchRefIdeal.Facts) (hDwQkv : Cert.DwQkv.Facts) (hDwQkvIdeal : Cert.DwQkvIdeal.Facts) (hDwQkvRefIdeal : Cert.DwQkvRefIdeal.Facts) (hDwLogit : Cert.DwLogit.Facts) (hDwLogitIdeal : Cert.DwLogitIdeal.Facts) (hDwLogitRefIdeal : Cert.DwLogitRefIdeal.Facts) (hDuLogit : Cert.DuLogit.Facts) (hDuLogitIdeal : Cert.DuLogitIdeal.Facts) (hDuLogitRefIdeal : Cert.DuLogitRefIdeal.Facts) (hDuGate : Cert.DuGate.Facts) (hDuGateIdeal : Cert.DuGateIdeal.Facts) (hDuGateRefIdeal : Cert.DuGateRefIdeal.Facts) (hDuQkv : Cert.DuQkv.Facts) (hDuQkvIdeal : Cert.DuQkvIdeal.Facts) (hDuQkvRefIdeal : Cert.DuQkvRefIdeal.Facts) (hMerge : Cert.Merge.Facts) (hMergeIdeal : Cert.MergeIdeal.Facts) (hMergeRefIdeal : Cert.MergeRefIdeal.Facts) (hDMerge : Cert.DMerge.Facts) (hDMergeIdeal : Cert.DMergeIdeal.Facts) (hDMergeRefIdeal : Cert.DMergeRefIdeal.Facts) (hDPle : Cert.DPle.Facts) (hDPleIdeal : Cert.DPleIdeal.Facts) (hDPleRefIdeal : Cert.DPleRefIdeal.Facts) (hNorm : Cert.Norm.Facts) (hNormIdeal : Cert.NormIdeal.Facts) (hNormRefIdeal : Cert.NormRefIdeal.Facts) (hAdamw : Cert.Adamw.Facts) (hAdamwIdeal : Cert.AdamwIdeal.Facts) (hAdamwRefIdeal : Cert.AdamwRefIdeal.Facts) (hDNorm : Cert.DNorm.Facts) (hDNormIdeal : Cert.DNormIdeal.Facts) (hDNormRefIdeal : Cert.DNormRefIdeal.Facts) (hLoss : Cert.Loss.Facts) (hLossIdeal : Cert.LossIdeal.Facts) (hLossRefIdeal : Cert.LossRefIdeal.Facts) (hRope : Cert.Rope.Facts) (hRopeIdeal : Cert.RopeIdeal.Facts) (hRopeRefIdeal : Cert.RopeRefIdeal.Facts) (hDRope : Cert.DRope.Facts) (hDRopeIdeal : Cert.DRopeIdeal.Facts) (hDRopeRefIdeal : Cert.DRopeRefIdeal.Facts) (hMix : Cert.Mix.Facts) (hMixIdeal : Cert.MixIdeal.Facts) (hMixRefIdeal : Cert.MixRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Dact (hDact := hDact)
    ∧ quiescent_DactIdeal (hDactIdeal := hDactIdeal)
    ∧ quiescent_DactRefIdeal (hDactRefIdeal := hDactRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dm (hDm := hDm)
    ∧ quiescent_DmIdeal (hDmIdeal := hDmIdeal)
    ∧ quiescent_DmRefIdeal (hDmRefIdeal := hDmRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Logit (hLogit := hLogit)
    ∧ quiescent_LogitIdeal (hLogitIdeal := hLogitIdeal)
    ∧ quiescent_LogitRefIdeal (hLogitRefIdeal := hLogitRefIdeal)
    ∧ quiescent_Gate (hGate := hGate)
    ∧ quiescent_GateIdeal (hGateIdeal := hGateIdeal)
    ∧ quiescent_GateRefIdeal (hGateRefIdeal := hGateRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_Ple (hPle := hPle)
    ∧ quiescent_PleIdeal (hPleIdeal := hPleIdeal)
    ∧ quiescent_PleRefIdeal (hPleRefIdeal := hPleRefIdeal)
    ∧ quiescent_DwPle (hDwPle := hDwPle)
    ∧ quiescent_DwPleIdeal (hDwPleIdeal := hDwPleIdeal)
    ∧ quiescent_DwPleRefIdeal (hDwPleRefIdeal := hDwPleRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DSquare (hDSquare := hDSquare)
    ∧ quiescent_DSquareIdeal (hDSquareIdeal := hDSquareIdeal)
    ∧ quiescent_DSquareRefIdeal (hDSquareRefIdeal := hDSquareRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwLogit (hDwLogit := hDwLogit)
    ∧ quiescent_DwLogitIdeal (hDwLogitIdeal := hDwLogitIdeal)
    ∧ quiescent_DwLogitRefIdeal (hDwLogitRefIdeal := hDwLogitRefIdeal)
    ∧ quiescent_DuLogit (hDuLogit := hDuLogit)
    ∧ quiescent_DuLogitIdeal (hDuLogitIdeal := hDuLogitIdeal)
    ∧ quiescent_DuLogitRefIdeal (hDuLogitRefIdeal := hDuLogitRefIdeal)
    ∧ quiescent_DuGate (hDuGate := hDuGate)
    ∧ quiescent_DuGateIdeal (hDuGateIdeal := hDuGateIdeal)
    ∧ quiescent_DuGateRefIdeal (hDuGateRefIdeal := hDuGateRefIdeal)
    ∧ quiescent_DuQkv (hDuQkv := hDuQkv)
    ∧ quiescent_DuQkvIdeal (hDuQkvIdeal := hDuQkvIdeal)
    ∧ quiescent_DuQkvRefIdeal (hDuQkvRefIdeal := hDuQkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_DMerge (hDMerge := hDMerge)
    ∧ quiescent_DMergeIdeal (hDMergeIdeal := hDMergeIdeal)
    ∧ quiescent_DMergeRefIdeal (hDMergeRefIdeal := hDMergeRefIdeal)
    ∧ quiescent_DPle (hDPle := hDPle)
    ∧ quiescent_DPleIdeal (hDPleIdeal := hDPleIdeal)
    ∧ quiescent_DPleRefIdeal (hDPleRefIdeal := hDPleRefIdeal)
    ∧ quiescent_Norm (hNorm := hNorm)
    ∧ quiescent_NormIdeal (hNormIdeal := hNormIdeal)
    ∧ quiescent_NormRefIdeal (hNormRefIdeal := hNormRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_Loss (hLoss := hLoss)
    ∧ quiescent_LossIdeal (hLossIdeal := hLossIdeal)
    ∧ quiescent_LossRefIdeal (hLossRefIdeal := hLossRefIdeal)
    ∧ quiescent_Rope (hRope := hRope)
    ∧ quiescent_RopeIdeal (hRopeIdeal := hRopeIdeal)
    ∧ quiescent_RopeRefIdeal (hRopeRefIdeal := hRopeRefIdeal)
    ∧ quiescent_DRope (hDRope := hDRope)
    ∧ quiescent_DRopeIdeal (hDRopeIdeal := hDRopeIdeal)
    ∧ quiescent_DRopeRefIdeal (hDRopeRefIdeal := hDRopeRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Dact_DactIdeal
    ∧ algebraic_DactIdeal_DactRefIdeal (hDactIdeal := hDactIdeal) (hDactRefIdeal := hDactRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_Dm_DmIdeal
    ∧ algebraic_DmIdeal_DmRefIdeal (hDmIdeal := hDmIdeal) (hDmRefIdeal := hDmRefIdeal)
    ∧ preserves_Qkv_QkvIdeal
    ∧ algebraic_QkvIdeal_QkvRefIdeal (hQkvIdeal := hQkvIdeal) (hQkvRefIdeal := hQkvRefIdeal)
    ∧ preserves_Logit_LogitIdeal
    ∧ algebraic_LogitIdeal_LogitRefIdeal (hLogitIdeal := hLogitIdeal) (hLogitRefIdeal := hLogitRefIdeal)
    ∧ preserves_Gate_GateIdeal
    ∧ algebraic_GateIdeal_GateRefIdeal (hGateIdeal := hGateIdeal) (hGateRefIdeal := hGateRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_PleGate_PleGateIdeal
    ∧ algebraic_PleGateIdeal_PleGateRefIdeal (hPleGateIdeal := hPleGateIdeal) (hPleGateRefIdeal := hPleGateRefIdeal)
    ∧ preserves_Ple_PleIdeal
    ∧ algebraic_PleIdeal_PleRefIdeal (hPleIdeal := hPleIdeal) (hPleRefIdeal := hPleRefIdeal)
    ∧ preserves_DwPle_DwPleIdeal
    ∧ algebraic_DwPleIdeal_DwPleRefIdeal (hDwPleIdeal := hDwPleIdeal) (hDwPleRefIdeal := hDwPleRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DSquare_DSquareIdeal
    ∧ algebraic_DSquareIdeal_DSquareRefIdeal (hDSquareIdeal := hDSquareIdeal) (hDSquareRefIdeal := hDSquareRefIdeal)
    ∧ preserves_DwGate_DwGateIdeal
    ∧ algebraic_DwGateIdeal_DwGateRefIdeal (hDwGateIdeal := hDwGateIdeal) (hDwGateRefIdeal := hDwGateRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DBranch_DBranchIdeal
    ∧ algebraic_DBranchIdeal_DBranchRefIdeal (hDBranchIdeal := hDBranchIdeal) (hDBranchRefIdeal := hDBranchRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwLogit_DwLogitIdeal
    ∧ algebraic_DwLogitIdeal_DwLogitRefIdeal (hDwLogitIdeal := hDwLogitIdeal) (hDwLogitRefIdeal := hDwLogitRefIdeal)
    ∧ preserves_DuLogit_DuLogitIdeal
    ∧ algebraic_DuLogitIdeal_DuLogitRefIdeal (hDuLogitIdeal := hDuLogitIdeal) (hDuLogitRefIdeal := hDuLogitRefIdeal)
    ∧ preserves_DuGate_DuGateIdeal
    ∧ algebraic_DuGateIdeal_DuGateRefIdeal (hDuGateIdeal := hDuGateIdeal) (hDuGateRefIdeal := hDuGateRefIdeal)
    ∧ preserves_DuQkv_DuQkvIdeal
    ∧ algebraic_DuQkvIdeal_DuQkvRefIdeal (hDuQkvIdeal := hDuQkvIdeal) (hDuQkvRefIdeal := hDuQkvRefIdeal)
    ∧ preserves_Merge_MergeIdeal
    ∧ algebraic_MergeIdeal_MergeRefIdeal (hMergeIdeal := hMergeIdeal) (hMergeRefIdeal := hMergeRefIdeal)
    ∧ preserves_DMerge_DMergeIdeal
    ∧ algebraic_DMergeIdeal_DMergeRefIdeal (hDMergeIdeal := hDMergeIdeal) (hDMergeRefIdeal := hDMergeRefIdeal)
    ∧ preserves_DPle_DPleIdeal
    ∧ algebraic_DPleIdeal_DPleRefIdeal (hDPleIdeal := hDPleIdeal) (hDPleRefIdeal := hDPleRefIdeal)
    ∧ preserves_Norm_NormIdeal
    ∧ algebraic_NormIdeal_NormRefIdeal (hNormIdeal := hNormIdeal) (hNormRefIdeal := hNormRefIdeal)
    ∧ preserves_Adamw_AdamwIdeal
    ∧ algebraic_AdamwIdeal_AdamwRefIdeal (hAdamwIdeal := hAdamwIdeal) (hAdamwRefIdeal := hAdamwRefIdeal)
    ∧ preserves_DNorm_DNormIdeal
    ∧ algebraic_DNormIdeal_DNormRefIdeal (hDNormIdeal := hDNormIdeal) (hDNormRefIdeal := hDNormRefIdeal)
    ∧ preserves_Loss_LossIdeal
    ∧ algebraic_LossIdeal_LossRefIdeal (hLossIdeal := hLossIdeal) (hLossRefIdeal := hLossRefIdeal)
    ∧ preserves_Rope_RopeIdeal
    ∧ algebraic_RopeIdeal_RopeRefIdeal (hRopeIdeal := hRopeIdeal) (hRopeRefIdeal := hRopeRefIdeal)
    ∧ preserves_DRope_DRopeIdeal
    ∧ algebraic_DRopeIdeal_DRopeRefIdeal (hDRopeIdeal := hDRopeIdeal) (hDRopeRefIdeal := hDRopeRefIdeal)
    ∧ preserves_Mix_MixIdeal
    ∧ algebraic_MixIdeal_MixRefIdeal (hMixIdeal := hMixIdeal) (hMixRefIdeal := hMixRefIdeal)
-- ==== Pre_finite.lean ====
abbrev S2048x6144 : Shape := ⟨2, ![2048, 6144]⟩
abbrev S2048x4 : Shape := ⟨2, ![2048, 4]⟩
abbrev S2048x512 : Shape := ⟨2, ![2048, 512]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x6144 .bf16) (main_arg1 : FVec F S2048x4 .f32) (main_arg2 : FVec F S2048x512 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x4 .f32 := Host.absf main_arg1
  let main_cst_0 : FVec F S_ .f32 := constant S_ .f32 0x7F800000#32
  let main_v6 : FVec F S2048x4 .f32 := broadcastInDim S2048x4 ![] bcast_S_S2048x4 main_cst_0
  let main_v7 : IVec S2048x4 1 := cmpf .olt main_v5 main_v6
  let main_c_1 : IVec S_ 1 := constantI S_ 1 1#1
  let main_v8 : IVec S_ 1 := (fun x v => Host.reduce IntOp.andi x v reducesTo_S2048x4_S_d0_1 h_S_) main_v7 main_c_1
  let main_v9 : IVec S_ 1 := andi main_v4 main_v8
  let main_v10 : FVec F S2048x512 .f32 := (extf .f32 · bitsLt_bf16_f32) main_arg2
  let main_v11 : FVec F S2048x512 .f32 := Host.absf main_v10
  let main_cst_2 : FVec F S_ .f32 := constant S_ .f32 0x7F800000#32
  let main_v12 : FVec F S2048x512 .f32 := broadcastInDim S2048x512 ![] bcast_S_S2048x512 main_cst_2
  let main_v13 : IVec S2048x512 1 := cmpf .olt main_v11 main_v12
  let main_c_3 : IVec S_ 1 := constantI S_ 1 1#1
  let main_v14 : IVec S_ 1 := (fun x v => Host.reduce IntOp.andi x v reducesTo_S2048x512_S_d0_1 h_S_) main_v13 main_c_3
  let main_v15 : IVec S_ 1 := andi main_v9 main_v14
  main_v15
-- ==== Kernel.lean ====
abbrev S2048x6144 : Shape := ⟨2, ![2048, 6144]⟩
abbrev S2048x4 : Shape := ⟨2, ![2048, 4]⟩
abbrev S2048x512 : Shape := ⟨2, ![2048, 512]⟩
abbrev S4x2048 : Shape := ⟨2, ![4, 2048]⟩
abbrev S4x2048x1 : Shape := ⟨3, ![4, 2048, 1]⟩
abbrev S4x1x2048 : Shape := ⟨3, ![4, 1, 2048]⟩
abbrev S2048x3x16x128 : Shape := ⟨4, ![2048, 3, 16, 128]⟩
abbrev S2048x3x4x128 : Shape := ⟨4, ![2048, 3, 4, 128]⟩
abbrev S2048x1x4x128 : Shape := ⟨4, ![2048, 1, 4, 128]⟩
abbrev S2048x4x128 : Shape := ⟨3, ![2048, 4, 128]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x128x2048 : Shape := ⟨3, ![4, 128, 2048]⟩
abbrev S512x128 : Shape := ⟨2, ![512, 128]⟩
abbrev S2048x128 : Shape := ⟨2, ![2048, 128]⟩
abbrev S1x512x1 : Shape := ⟨3, ![1, 512, 1]⟩
abbrev S1x1x2048 : Shape := ⟨3, ![1, 1, 2048]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S1024x128 : Shape := ⟨2, ![1024, 128]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩
abbrev S1536x128 : Shape := ⟨2, ![1536, 128]⟩
abbrev S1x1x1536 : Shape := ⟨3, ![1, 1, 1536]⟩
abbrev S1x1536 : Shape := ⟨2, ![1, 1536]⟩
abbrev S512x1536 : Shape := ⟨2, ![512, 1536]⟩
abbrev S1536 : Shape := ⟨1, ![1536]⟩
abbrev S512x2048 : Shape := ⟨2, ![512, 2048]⟩

abbrev nBuf : Space → Nat
  | .hbm => 68
  | .vmem => 26
  | .smem => 0
  | _ => 0

abbrev bufTy : (tb : Table) → Fin (tcTables nBuf tb) → BufTy
  | .hbm, ⟨0, _⟩ => ⟨S2048x6144, .bf16⟩
  | .hbm, ⟨1, _⟩ => ⟨S2048x4, .f32⟩
  | .hbm, ⟨2, _⟩ => ⟨S2048x512, .bf16⟩
  | .hbm, ⟨3, _⟩ => ⟨S4x2048, .f32⟩
  | .hbm, ⟨4, _⟩ => ⟨S4x2048x1, .f32⟩
  | .hbm, ⟨5, _⟩ => ⟨S4x2048, .f32⟩
  | .hbm, ⟨6, _⟩ => ⟨S4x1x2048, .f32⟩
  | .hbm, ⟨7, _⟩ => ⟨S2048x6144, .f32⟩
  | .hbm, ⟨8, _⟩ => ⟨S2048x3x16x128, .f32⟩
  | .hbm, ⟨9, _⟩ => ⟨S2048x3x4x128, .f32⟩
  | .hbm, ⟨10, _⟩ => ⟨S2048x1x4x128, .f32⟩
  | .hbm, ⟨11, _⟩ => ⟨S2048x4x128, .f32⟩
  | .hbm, ⟨12, _⟩ => ⟨S2048x1x4x128, .f32⟩
  | .hbm, ⟨13, _⟩ => ⟨S2048x4x128, .f32⟩
  | .hbm, ⟨14, _⟩ => ⟨S2048x1x4x128, .f32⟩
  | .hbm, ⟨15, _⟩ => ⟨S2048x4x128, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x2048x2048, .i1⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x2048, .f32⟩
  | .hbm, ⟨59, _⟩ => ⟨S4x2048x2048, .f32⟩
  | .hbm, ⟨60, _⟩ => ⟨S4x128x2048, .f32⟩
  | .hbm, ⟨61, _⟩ => ⟨S2048x4x128, .f32⟩
  | .hbm, ⟨62, _⟩ => ⟨S2048x512, .f32⟩
  | .hbm, ⟨63, _⟩ => ⟨S2048x512, .bf16⟩
  | .hbm, ⟨64, _⟩ => ⟨S2048x512, .bf16⟩
  | .hbm, ⟨65, _⟩ => ⟨S2048x512, .bf16⟩
  | .hbm, ⟨66, _⟩ => ⟨S2048x512, .bf16⟩
  | .hbm, ⟨67, _⟩ => ⟨S4x1x2048, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x2048, .f32⟩
  | .local _ .vmem, ⟨9, _⟩ => ⟨S1x1x2048, .f32⟩
  | .local _ .vmem, ⟨10, _⟩ => ⟨S1x512x1, .f32⟩
  | .local _ .vmem, ⟨11, _⟩ => ⟨S1x512x1, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x1x2048, .f32⟩
  | .local _ .vmem, ⟨23, _⟩ => ⟨S1x1x2048, .f32⟩
  | .local _ .vmem, ⟨24, _⟩ => ⟨S2048x128, .f32⟩
  | .local _ .vmem, ⟨25, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c3_i32_6 : BitVec 32 := 3#32
  let v15 : BitVec 1 := Scalar.cmpi .eq arg1 c3_i32_6
  let v16 : BitVec 32 := Scalar.extui v15
  let c0_i32_7 : BitVec 32 := 0#32
  let v17 : BitVec 1 := Scalar.cmpi .ne v16 c0_i32_7
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x6144 : Shape := ⟨2, ![2048, 6144]⟩
abbrev S2048x4 : Shape := ⟨2, ![2048, 4]⟩
abbrev S2048x512 : Shape := ⟨2, ![2048, 512]⟩
abbrev S2048x2048 : Shape := ⟨2, ![2048, 2048]⟩
abbrev S2048x16x128 : Shape := ⟨3, ![2048, 16, 128]⟩
abbrev S2048x4x128 : Shape := ⟨3, ![2048, 4, 128]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S2048 : Shape := ⟨1, ![2048]⟩
abbrev S1x2048 : Shape := ⟨2, ![1, 2048]⟩
abbrev S2048x1 : Shape := ⟨2, ![2048, 1]⟩
abbrev S4x128x2048 : Shape := ⟨3, ![4, 128, 2048]⟩
abbrev S4x2048x128 : Shape := ⟨3, ![4, 2048, 128]⟩

abbrev nBuf : Space → Nat
  | .hbm => 128
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x4, .f32⟩
  | .hbm, ⟨2, _⟩ => ⟨S2048x512, .bf16⟩
  | .hbm, ⟨3, _⟩ => ⟨S2048x6144, .f32⟩
  | .hbm, ⟨4, _⟩ => ⟨S2048x2048, .f32⟩
  | .hbm, ⟨5, _⟩ => ⟨S2048x16x128, .f32⟩
  | .hbm, ⟨6, _⟩ => ⟨S2048x2048, .f32⟩
  | .hbm, ⟨7, _⟩ => ⟨S2048x16x128, .f32⟩
  | .hbm, ⟨8, _⟩ => ⟨S2048x2048, .f32⟩
  | .hbm, ⟨9, _⟩ => ⟨S2048x16x128, .f32⟩
  | .hbm, ⟨10, _⟩ => ⟨S2048x4x128, .f32⟩
  | .hbm, ⟨11, _⟩ => ⟨S2048x4x128, .f32⟩
  | .hbm, ⟨12, _⟩ => ⟨S2048x4x128, .f32⟩
  | .hbm, ⟨13, _⟩ => ⟨S2048x512, .f32⟩
  | .hbm, ⟨14, _⟩ => ⟨S2048x4x128, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S4x2048, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S4x1x2048, .f32⟩
  | .hbm, ⟨24, _⟩ => ⟨S4x2048x2048, .f32⟩
  | .hbm, ⟨25, _⟩ => ⟨S4x2048x2048, .f32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S4x2048x2048, .i1⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .i1⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S_, .f32⟩
  | .hbm, ⟨51, _⟩ => ⟨S4x2048, .f32⟩
  | .hbm, ⟨52, _⟩ => ⟨S4x2048, .i1⟩
  | .hbm, ⟨53, _⟩ => ⟨S_, .f32⟩
  | .hbm, ⟨54, _⟩ => ⟨S4x2048, .f32⟩
  | .hbm, ⟨55, _⟩ => ⟨S4x2048, .i1⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4x2048, .f32⟩
  | .hbm, ⟨60, _⟩ => ⟨S_, .f32⟩
  | .hbm, ⟨61, _⟩ => ⟨S4x2048, .f32⟩
  | .hbm, ⟨62, _⟩ => ⟨S4x2048, .f32⟩
  | .hbm, ⟨63, _⟩ => ⟨S4x2048, .f32⟩
  | .hbm, ⟨64, _⟩ => ⟨S4x2048x1, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S4x2048x2048, .f32⟩
  | .hbm, ⟨72, _⟩ => ⟨S4x2048x2048, .f32⟩
  | .hbm, ⟨73, _⟩ => ⟨S4x2048x1, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x128x2048, .f32⟩
  | .hbm, ⟨78, _⟩ => ⟨S2048x4x128, .f32⟩
  | .hbm, ⟨79, _⟩ => ⟨S4x128x2048, .f32⟩
  | .hbm, ⟨80, _⟩ => ⟨S4x2048x2048, .f32⟩
  | .hbm, ⟨81, _⟩ => ⟨S4x128x2048, .f32⟩
  | .hbm, ⟨82, _⟩ => ⟨S2048x4x128, .f32⟩
  | .hbm, ⟨83, _⟩ => ⟨S4x2048x2048, .f32⟩
  | .hbm, ⟨84, _⟩ => ⟨S4x2048x2048, .f32⟩
  | .hbm, ⟨85, _⟩ => ⟨S4x2048x2048, .f32⟩
  | .hbm, ⟨86, _⟩ => ⟨S_, .f32⟩
  | .hbm, ⟨87, _⟩ => ⟨S4x2048, .f32⟩
  | .hbm, ⟨88, _⟩ => ⟨S4x2048x1, .f32⟩
  | .hbm, ⟨89, _⟩ => ⟨S4x2048x1, .f32⟩
  | .hbm, ⟨90, _⟩ => ⟨S4x2048x2048, .f32⟩
  | .hbm, ⟨91, _⟩ => ⟨S4x2048x2048, .f32⟩
  | .hbm, ⟨92, _⟩ => ⟨S_, .f32⟩
  | .hbm, ⟨93, _⟩ => ⟨S4x2048, .f32⟩
  | .hbm, ⟨94, _⟩ => ⟨S4x2048x2048, .f32⟩
  | .hbm, ⟨95, _⟩ => ⟨S4x2048x2048, .f32⟩
  | .hbm, ⟨96, _⟩ => ⟨S4x2048x2048, .f32⟩
  | .hbm, ⟨97, _⟩ => ⟨S_, .f32⟩
  | .hbm, ⟨98, _⟩ => ⟨S4x2048x2048, .f32⟩
  | .hbm, ⟨99, _⟩ => ⟨S4x2048x2048, .f32⟩
  | .hbm, ⟨100, _⟩ => ⟨S4x2048x2048, .f32⟩
  | .hbm, ⟨101, _⟩ => ⟨S_, .f32⟩
  | .hbm, ⟨102, _⟩ => ⟨S4x2048, .f32⟩
  | .hbm, ⟨103, _⟩ => ⟨S4x1x2048, .f32⟩
  | .hbm, ⟨104, _⟩ => ⟨S_, .f32⟩
  | .hbm, ⟨105, _⟩ => ⟨S4x2048, .f32⟩
  | .hbm, ⟨106, _⟩ => ⟨S_, .f32⟩
  | .hbm, ⟨107, _⟩ => ⟨S4x2048, .f32⟩
  | .hbm, ⟨108, _⟩ => ⟨S4x2048x1, .f32⟩
  | .hbm, ⟨109, _⟩ => ⟨S_, .f32⟩
  | .hbm, ⟨110, _⟩ => ⟨S4x2048, .f32⟩
  | .hbm, ⟨111, _⟩ => ⟨S4x2048, .f32⟩
  | .hbm, ⟨112, _⟩ => ⟨S2048x4, .f32⟩
  | .hbm, ⟨113, _⟩ => ⟨S_, .f32⟩
  | .hbm, ⟨114, _⟩ => ⟨S4x2048x2048, .f32⟩
  | .hbm, ⟨115, _⟩ => ⟨S4x2048x2048, .f32⟩
  | .hbm, ⟨116, _⟩ => ⟨S4x2048x128, .f32⟩
  | .hbm, ⟨117, _⟩ => ⟨S2048x4x128, .f32⟩
  | .hbm, ⟨118, _⟩ => ⟨S4x2048x128, .f32⟩
  | .hbm, ⟨119, _⟩ => ⟨S2048x4x128, .f32⟩
  | .hbm, ⟨120, _⟩ => ⟨S2048x512, .f32⟩
  | .hbm, ⟨121, _⟩ => ⟨S2048x512, .bf16⟩
  | .hbm, ⟨122, _⟩ => ⟨S2048x512, .f32⟩
  | .hbm, ⟨123, _⟩ => ⟨S2048x512, .bf16⟩
  | .hbm, ⟨124, _⟩ => ⟨S2048x512, .f32⟩
  | .hbm, ⟨125, _⟩ => ⟨S2048x512, .bf16⟩
  | .hbm, ⟨126, _⟩ => ⟨S4x2048, .f32⟩
  | .hbm, ⟨127, _⟩ => ⟨S4x1x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Up.lean ====
abbrev S2048x2048 : Shape := ⟨2, ![2048, 2048]⟩
abbrev S4x2048x2048 : Shape := ⟨3, ![4, 2048, 2048]⟩
abbrev S2048x8192 : Shape := ⟨2, ![2048, 8192]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S2048x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .bf16⟩
  | .hbm, ⟨11, _⟩ => ⟨S2048x8192, .f32⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dact.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S8192x2048, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2048x2048 : Shape := ⟨2, ![2048, 2048]⟩
abbrev S2048x8192 : Shape := ⟨2, ![2048, 8192]⟩
abbrev S_ : Shape := ⟨0, ![]⟩
abbrev S4x2048x2048 : Shape := ⟨3, ![4, 2048, 2048]⟩
abbrev S2048x4x2048 : Shape := ⟨3, ![2048, 4, 2048]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S4x2048x2048, .f32⟩
  | .hbm, ⟨4, _⟩ => ⟨S2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dm.lean ====
abbrev S2048x8192 : Shape := ⟨2, ![2048, 8192]⟩
abbrev S4x2048x2048 : Shape := ⟨3, ![4, 2048, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmRefIdeal.lean ====
abbrev S2048x8192 : Shape := ⟨2, ![2048, 8192]⟩
abbrev S4x2048x2048 : Shape := ⟨3, ![4, 2048, 2048]⟩
abbrev S_ : Shape := ⟨0, ![]⟩
abbrev S2048x2048 : Shape := ⟨2, ![2048, 2048]⟩
abbrev S2048x4x2048 : Shape := ⟨3, ![2048, 4, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S_, .f32⟩
  | .hbm, ⟨3, _⟩ => ⟨S2048x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Qkv.lean ====
abbrev S2048x2048 : Shape := ⟨2, ![2048, 2048]⟩
abbrev S2048x6148 : Shape := ⟨2, ![2048, 6148]⟩
abbrev S2048x6144 : Shape := ⟨2, ![2048, 6144]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6148, .bf16⟩
  | .hbm, ⟨2, _⟩ => ⟨S2048x6144, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x2048 : Shape := ⟨2, ![2048, 2048]⟩
abbrev S2048x6148 : Shape := ⟨2, ![2048, 6148]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6148, .bf16⟩
  | .hbm, ⟨2, _⟩ => ⟨S2048x2048, .f32⟩
  | .hbm, ⟨3, _⟩ => ⟨S2048x6148, .f32⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Logit.lean ====
abbrev S2048x2048 : Shape := ⟨2, ![2048, 2048]⟩
abbrev S2048x128 : Shape := ⟨2, ![2048, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .f32⟩
  | .local _ .vmem, ⟨0, _⟩ => ⟨S2048x2048, .bf16⟩
  | .local _ .vmem, ⟨1, _⟩ => ⟨S2048x128, .bf16⟩
  | .local _ .vmem, ⟨2, _⟩ => ⟨S2048x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LogitRefIdeal.lean ====
abbrev S2048x2048 : Shape := ⟨2, ![2048, 2048]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x2048, .f32⟩
  | .hbm, ⟨3, _⟩ => ⟨S2048x128, .f32⟩
  | .hbm, ⟨4, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S2048x2048 : Shape := ⟨2, ![2048, 2048]⟩
abbrev S4x2048x1024 : Shape := ⟨3, ![4, 2048, 1024]⟩
abbrev S1x4096 : Shape := ⟨2, ![1, 4096]⟩
abbrev S2048x4096 : Shape := ⟨2, ![2048, 4096]⟩
abbrev S1x2048x512 : Shape := ⟨3, ![1, 2048, 512]⟩
abbrev S1x512 : Shape := ⟨2, ![1, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S1x4096, .f32⟩
  | .hbm, ⟨3, _⟩ => ⟨S2048x4096, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x512, .f32⟩
  | .local _ .vmem, ⟨4, _⟩ => ⟨S1x512, .f32⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateRefIdeal.lean ====
abbrev S2048x2048 : Shape := ⟨2, ![2048, 2048]⟩
abbrev S4x2048x1024 : Shape := ⟨3, ![4, 2048, 1024]⟩
abbrev S1x4096 : Shape := ⟨2, ![1, 4096]⟩
abbrev S2048x4x1024 : Shape := ⟨3, ![2048, 4, 1024]⟩
abbrev S2048x4096 : Shape := ⟨2, ![2048, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S1x4096, .f32⟩
  | .hbm, ⟨3, _⟩ => ⟨S2048x2048, .f32⟩
  | .hbm, ⟨4, _⟩ => ⟨S4x2048x1024, .f32⟩
  | .hbm, ⟨5, _⟩ => ⟨S2048x4x1024, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Branch.lean ====
abbrev S2048x512 : Shape := ⟨2, ![2048, 512]⟩
abbrev S4x512x512 : Shape := ⟨3, ![4, 512, 512]⟩
abbrev S2048x2048 : Shape := ⟨2, ![2048, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x2048, .bf16⟩
  | .local _ .vmem, ⟨0, _⟩ => ⟨S2048x512, .bf16⟩
  | .local _ .vmem, ⟨1, _⟩ => ⟨S1x512x512, .bf16⟩
  | .local _ .vmem, ⟨2, _⟩ => ⟨S1x512x512, .bf16⟩
  | .local _ .vmem, ⟨3, _⟩ => ⟨S2048x512, .bf16⟩
  | .local _ .vmem, ⟨4, _⟩ => ⟨S2048x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S2048x512 : Shape := ⟨2, ![2048, 512]⟩
abbrev S4x512x512 : Shape := ⟨3, ![4, 512, 512]⟩
abbrev S512x4x512 : Shape := ⟨3, ![512, 4, 512]⟩
abbrev S512x2048 : Shape := ⟨2, ![512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x512, .f32⟩
  | .hbm, ⟨3, _⟩ => ⟨S4x512x512, .f32⟩
  | .hbm, ⟨4, _⟩ => ⟨S512x4x512, .f32⟩
  | .hbm, ⟨5, _⟩ => ⟨S512x2048, .f32⟩
  | .hbm, ⟨6, _⟩ => ⟨S2048x2048, .f32⟩
  | .hbm, ⟨7, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Ple.lean ====
abbrev S2048x256 : Shape := ⟨2, ![2048, 256]⟩
abbrev S4x256x512 : Shape := ⟨3, ![4, 256, 512]⟩
abbrev S2048x2048 : Shape := ⟨2, ![2048, 2048]⟩
abbrev S1x256x256 : Shape := ⟨3, ![1, 256, 256]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x256, .bf16⟩
  | .hbm, ⟨1, _⟩ => ⟨S4x256x512, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .local _ .vmem, ⟨0, _⟩ => ⟨S2048x256, .bf16⟩
  | .local _ .vmem, ⟨1, _⟩ => ⟨S1x256x256, .bf16⟩
  | .local _ .vmem, ⟨2, _⟩ => ⟨S1x256x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .bf16⟩
  | .local _ .vmem, ⟨6, _⟩ => ⟨S2048x256, .bf16⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PleRefIdeal.lean ====
abbrev S2048x256 : Shape := ⟨2, ![2048, 256]⟩
abbrev S4x256x512 : Shape := ⟨3, ![4, 256, 512]⟩
abbrev S2048x2048 : Shape := ⟨2, ![2048, 2048]⟩
abbrev S256x4x512 : Shape := ⟨3, ![256, 4, 512]⟩
abbrev S256x2048 : Shape := ⟨2, ![256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S4x256x512, .bf16⟩
  | .hbm, ⟨2, _⟩ => ⟨S2048x2048, .f32⟩
  | .hbm, ⟨3, _⟩ => ⟨S2048x2048, .bf16⟩
  | .hbm, ⟨4, _⟩ => ⟨S2048x256, .f32⟩
  | .hbm, ⟨5, _⟩ => ⟨S4x256x512, .f32⟩
  | .hbm, ⟨6, _⟩ => ⟨S256x4x512, .f32⟩
  | .hbm, ⟨7, _⟩ => ⟨S256x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwPle.lean ====
abbrev S2048x256 : Shape := ⟨2, ![2048, 256]⟩
abbrev S2048x2048 : Shape := ⟨2, ![2048, 2048]⟩
abbrev S4x256x512 : Shape := ⟨3, ![4, 256, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S4x256x512, .bf16⟩
  | .local _ .vmem, ⟨0, _⟩ => ⟨S2048x256, .bf16⟩
  | .local _ .vmem, ⟨1, _⟩ => ⟨S2048x512, .bf16⟩
  | .local _ .vmem, ⟨2, _⟩ => ⟨S2048x512, .bf16⟩
  | .local _ .vmem, ⟨3, _⟩ => ⟨S1x256x512, .bf16⟩
  | .local _ .vmem, ⟨4, _⟩ => ⟨S1x256x512, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwPleRefIdeal.lean ====
abbrev S2048x256 : Shape := ⟨2, ![2048, 256]⟩
abbrev S2048x2048 : Shape := ⟨2, ![2048, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S_, .f32⟩
  | .hbm, ⟨3, _⟩ => ⟨S4x256x512, .f32⟩
  | .hbm, ⟨4, _⟩ => ⟨S2048x256, .f32⟩
  | .hbm, ⟨5, _⟩ => ⟨S256x4x512, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x256, .f32⟩
  | .hbm, ⟨10, _⟩ => ⟨S256x2048, .f32⟩
  | .hbm, ⟨11, _⟩ => ⟨S256x4x512, .f32⟩
  | .hbm, ⟨12, _⟩ => ⟨S4x256x512, .f32⟩
  | .hbm, ⟨13, _⟩ => ⟨S4x256x512, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwSquare.lean ====
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSquareRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DSquare.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSquareRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGate.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2048x2048 : Shape := ⟨2, ![2048, 2048]⟩
abbrev S2048x4096 : Shape := ⟨2, ![2048, 4096]⟩
abbrev S_ : Shape := ⟨0, ![]⟩
abbrev S4x2048x1024 : Shape := ⟨3, ![4, 2048, 1024]⟩
abbrev S2048x4x1024 : Shape := ⟨3, ![2048, 4, 1024]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S4x2048x1024, .f32⟩
  | .hbm, ⟨4, _⟩ => ⟨S2048x2048, .f32⟩
  | .hbm, ⟨5, _⟩ => ⟨S2048x4x1024, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwBranch.lean ====
abbrev S2048x512 : Shape := ⟨2, ![2048, 512]⟩
abbrev S2048x2048 : Shape := ⟨2, ![2048, 2048]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S1x512x512, .bf16⟩
  | .local _ .vmem, ⟨4, _⟩ => ⟨S1x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBranchRefIdeal.lean ====
abbrev S2048x512 : Shape := ⟨2, ![2048, 512]⟩
abbrev S2048x2048 : Shape := ⟨2, ![2048, 2048]⟩
abbrev S_ : Shape := ⟨0, ![]⟩
abbrev S4x512x512 : Shape := ⟨3, ![4, 512, 512]⟩
abbrev S512x4x512 : Shape := ⟨3, ![512, 4, 512]⟩
abbrev S512x2048 : Shape := ⟨2, ![512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .f32⟩
  | .hbm, ⟨3, _⟩ => ⟨S4x512x512, .f32⟩
  | .hbm, ⟨4, _⟩ => ⟨S2048x512, .f32⟩
  | .hbm, ⟨5, _⟩ => ⟨S512x4x512, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S512x2048, .f32⟩
  | .hbm, ⟨11, _⟩ => ⟨S512x4x512, .f32⟩
  | .hbm, ⟨12, _⟩ => ⟨S4x512x512, .f32⟩
  | .hbm, ⟨13, _⟩ => ⟨S4x512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DBranch.lean ====
abbrev S2048x2048 : Shape := ⟨2, ![2048, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .bf16⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DBranchRefIdeal.lean ====
abbrev S2048x2048 : Shape := ⟨2, ![2048, 2048]⟩
abbrev S4x512x512 : Shape := ⟨3, ![4, 512, 512]⟩
abbrev S_ : Shape := ⟨0, ![]⟩
abbrev S2048x512 : Shape := ⟨2, ![2048, 512]⟩
abbrev S512x4x512 : Shape := ⟨3, ![512, 4, 512]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x512, .bf16⟩
  | .hbm, ⟨2, _⟩ => ⟨S_, .f32⟩
  | .hbm, ⟨3, _⟩ => ⟨S2048x512, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwQkv.lean ====
abbrev S2048x2048 : Shape := ⟨2, ![2048, 2048]⟩
abbrev S2048x6144 : Shape := ⟨2, ![2048, 6144]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwLogit.lean ====
abbrev S2048x2048 : Shape := ⟨2, ![2048, 2048]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLogitRefIdeal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DuLogit.lean ====
abbrev S2048x128 : Shape := ⟨2, ![2048, 128]⟩
abbrev S2048x2048 : Shape := ⟨2, ![2048, 2048]⟩
abbrev S512x128 : Shape := ⟨2, ![512, 128]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S2048x2048, .f32⟩
  | .local _ .vmem, ⟨0, _⟩ => ⟨S2048x128, .bf16⟩
  | .local _ .vmem, ⟨1, _⟩ => ⟨S512x128, .bf16⟩
  | .local _ .vmem, ⟨2, _⟩ => ⟨S512x128, .bf16⟩
  | .local _ .vmem, ⟨3, _⟩ => ⟨S2048x512, .f32⟩
  | .local _ .vmem, ⟨4, _⟩ => ⟨S2048x512, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuLogitRefIdeal.lean ====
abbrev S2048x128 : Shape := ⟨2, ![2048, 128]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x128, .bf16⟩
  | .hbm, ⟨2, _⟩ => ⟨S_, .f32⟩
  | .hbm, ⟨3, _⟩ => ⟨S2048x2048, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x2048, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DuGate.lean ====
abbrev S2048x4096 : Shape := ⟨2, ![2048, 4096]⟩
abbrev S4x2048x1024 : Shape := ⟨3, ![4, 2048, 1024]⟩
abbrev S2048x2048 : Shape := ⟨2, ![2048, 2048]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuGateRefIdeal.lean ====
abbrev S2048x4096 : Shape := ⟨2, ![2048, 4096]⟩
abbrev S4x2048x1024 : Shape := ⟨3, ![4, 2048, 1024]⟩
abbrev S2048x2048 : Shape := ⟨2, ![2048, 2048]⟩
abbrev S_ : Shape := ⟨0, ![]⟩
abbrev S2048x4x1024 : Shape := ⟨3, ![2048, 4, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x2048, .f32⟩
  | .hbm, ⟨11, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DuQkv.lean ====
abbrev S2048x6144 : Shape := ⟨2, ![2048, 6144]⟩
abbrev S2048x6148 : Shape := ⟨2, ![2048, 6148]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S2048x6148, .bf16⟩
  | .hbm, ⟨2, _⟩ => ⟨S2048x2048, .f32⟩
  | .hbm, ⟨3, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuQkvRefIdeal.lean ====
abbrev S2048x6144 : Shape := ⟨2, ![2048, 6144]⟩
abbrev S2048x6148 : Shape := ⟨2, ![2048, 6148]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6148, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x6148, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S2048x4096 : Shape := ⟨2, ![2048, 4096]⟩
abbrev S2048x2048 : Shape := ⟨2, ![2048, 2048]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S2048x4096 : Shape := ⟨2, ![2048, 4096]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DMerge.lean ====
abbrev S2048x2048 : Shape := ⟨2, ![2048, 2048]⟩
abbrev S2048x4096 : Shape := ⟨2, ![2048, 4096]⟩
abbrev S1x4096 : Shape := ⟨2, ![1, 4096]⟩
abbrev S_ : Shape := ⟨0, ![]⟩
abbrev S256x2048 : Shape := ⟨2, ![256, 2048]⟩
abbrev S256x4096 : Shape := ⟨2, ![256, 4096]⟩
abbrev S4096 : Shape := ⟨1, ![4096]⟩

abbrev nBuf : Space → Nat
  | .hbm => 20
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S1x4096, .f32⟩
  | .hbm, ⟨3, _⟩ => ⟨S2048x2048, .bf16⟩
  | .hbm, ⟨4, _⟩ => ⟨S2048x2048, .bf16⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .bf16⟩
  | .hbm, ⟨16, _⟩ => ⟨S2048x2048, .bf16⟩
  | .hbm, ⟨17, _⟩ => ⟨S2048x2048, .bf16⟩
  | .hbm, ⟨18, _⟩ => ⟨S2048x4096, .bf16⟩
  | .hbm, ⟨19, _⟩ => ⟨S1x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | .local _ .vmem, ⟨16, _⟩ => ⟨S1x4096, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32_18 : BitVec 32 := 0#32
  let v36 : BitVec 1 := Scalar.cmpi .sgt arg0 c0_i32_18
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DMergeRefIdeal.lean ====
abbrev S2048x2048 : Shape := ⟨2, ![2048, 2048]⟩
abbrev S2048x4096 : Shape := ⟨2, ![2048, 4096]⟩
abbrev S1x4096 : Shape := ⟨2, ![1, 4096]⟩
abbrev S_ : Shape := ⟨0, ![]⟩
abbrev S4096 : Shape := ⟨1, ![4096]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S1x4096, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x4096, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S2048x2048, .bf16⟩
  | .hbm, ⟨41, _⟩ => ⟨S2048x2048, .bf16⟩
  | .hbm, ⟨42, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== DPle.lean ====
abbrev S2048x2048 : Shape := ⟨2, ![2048, 2048]⟩
abbrev S_ : Shape := ⟨0, ![]⟩
abbrev S512x2048 : Shape := ⟨2, ![512, 2048]⟩

abbrev nBuf : Space → Nat
  | .hbm => 14
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DPleRefIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Adamw.lean ====
abbrev S344x128 : Shape := ⟨2, ![344, 128]⟩
abbrev S2752x128 : Shape := ⟨2, ![2752, 128]⟩

abbrev nBuf : Space → Nat
  | .hbm => 8
  | .vmem => 8
  | .smem => 0
  | _ => 0

abbrev bufTy : (tb : Table) → Fin (tcTables nBuf tb) → BufTy
  | .hbm, ⟨0, _⟩ => ⟨S344x128, .f32⟩
  | .hbm, ⟨1, _⟩ => ⟨S2752x128, .f32⟩
  | .hbm, ⟨2, _⟩ => ⟨S344x128, .f32⟩
  | .hbm, ⟨3, _⟩ => ⟨S344x128, .f32⟩
  | .hbm, ⟨4, _⟩ => ⟨S344x128, .f32⟩
  | .hbm, ⟨5, _⟩ => ⟨S344x128, .f32⟩
  | .hbm, ⟨6, _⟩ => ⟨S344x128, .f32⟩
  | .hbm, ⟨7, _⟩ => ⟨S344x128, .f32⟩
  | .local _ .vmem, ⟨0, _⟩ => ⟨S344x128, .f32⟩
  | .local _ .vmem, ⟨1, _⟩ => ⟨S2752x128, .f32⟩
  | .local _ .vmem, ⟨2, _⟩ => ⟨S344x128, .f32⟩
  | .local _ .vmem, ⟨3, _⟩ => ⟨S344x128, .f32⟩
  | .local _ .vmem, ⟨4, _⟩ => ⟨S344x128, .f32⟩
  | .local _ .vmem, ⟨5, _⟩ => ⟨S344x128, .f32⟩
  | .local _ .vmem, ⟨6, _⟩ => ⟨S344x128, .f32⟩
  | .local _ .vmem, ⟨7, _⟩ => ⟨S344x128, .f32⟩
  | _, _ => ⟨S344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S344x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2752x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S344x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S344x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S344x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S344x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S344x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S344x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamwRefIdeal.lean ====
abbrev S344x128 : Shape := ⟨2, ![344, 128]⟩
abbrev S2752x128 : Shape := ⟨2, ![2752, 128]⟩
abbrev S8x344x128 : Shape := ⟨3, ![8, 344, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S344x128, .f32⟩
  | .hbm, ⟨1, _⟩ => ⟨S2752x128, .f32⟩
  | .hbm, ⟨2, _⟩ => ⟨S344x128, .f32⟩
  | .hbm, ⟨3, _⟩ => ⟨S344x128, .f32⟩
  | .hbm, ⟨4, _⟩ => ⟨S8x344x128, .f32⟩
  | .hbm, ⟨5, _⟩ => ⟨S_, .f32⟩
  | .hbm, ⟨6, _⟩ => ⟨S344x128, .f32⟩
  | .hbm, ⟨7, _⟩ => ⟨S_, .f32⟩
  | .hbm, ⟨8, _⟩ => ⟨S344x128, .f32⟩
  | .hbm, ⟨9, _⟩ => ⟨S344x128, .f32⟩
  | .hbm, ⟨10, _⟩ => ⟨S_, .f32⟩
  | .hbm, ⟨11, _⟩ => ⟨S344x128, .f32⟩
  | .hbm, ⟨12, _⟩ => ⟨S344x128, .f32⟩
  | .hbm, ⟨13, _⟩ => ⟨S344x128, .f32⟩
  | .hbm, ⟨14, _⟩ => ⟨S_, .f32⟩
  | .hbm, ⟨15, _⟩ => ⟨S344x128, .f32⟩
  | .hbm, ⟨16, _⟩ => ⟨S344x128, .f32⟩
  | .hbm, ⟨17, _⟩ => ⟨S344x128, .f32⟩
  | .hbm, ⟨18, _⟩ => ⟨S_, .f32⟩
  | .hbm, ⟨19, _⟩ => ⟨S344x128, .f32⟩
  | .hbm, ⟨20, _⟩ => ⟨S344x128, .f32⟩
  | .hbm, ⟨21, _⟩ => ⟨S344x128, .f32⟩
  | .hbm, ⟨22, _⟩ => ⟨S_, .f32⟩
  | .hbm, ⟨23, _⟩ => ⟨S344x128, .f32⟩
  | .hbm, ⟨24, _⟩ => ⟨S344x128, .f32⟩
  | .hbm, ⟨25, _⟩ => ⟨S_, .f32⟩
  | .hbm, ⟨26, _⟩ => ⟨S344x128, .f32⟩
  | .hbm, ⟨27, _⟩ => ⟨S344x128, .f32⟩
  | .hbm, ⟨28, _⟩ => ⟨S344x128, .f32⟩
  | .hbm, ⟨29, _⟩ => ⟨S_, .f32⟩
  | .hbm, ⟨30, _⟩ => ⟨S344x128, .f32⟩
  | .hbm, ⟨31, _⟩ => ⟨S344x128, .f32⟩
  | .hbm, ⟨32, _⟩ => ⟨S344x128, .f32⟩
  | .hbm, ⟨33, _⟩ => ⟨S_, .f32⟩
  | .hbm, ⟨34, _⟩ => ⟨S344x128, .f32⟩
  | .hbm, ⟨35, _⟩ => ⟨S344x128, .f32⟩
  | .hbm, ⟨36, _⟩ => ⟨S344x128, .f32⟩
  | .hbm, ⟨37, _⟩ => ⟨S_, .f32⟩
  | .hbm, ⟨38, _⟩ => ⟨S344x128, .f32⟩
  | .hbm, ⟨39, _⟩ => ⟨S344x128, .f32⟩
  | _, _ => ⟨S344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DNorm.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DNormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S1x128, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x128, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_17 : BitVec 32 := 0#32
  let v53 : BitVec 1 := Scalar.cmpi .ne v52 c0_i32_17
  v53

def k0_cond2 (i : grid0.Coords) : BitVec 1 :=
  let arg0 : BitVec 32 := BitVec.ofNat 32 (i 0).val
  let c0_i32_18 : BitVec 32 := 0#32
  let v54 : BitVec 1 := Scalar.cmpi .sgt arg0 c0_i32_18
  let v55 : BitVec 32 := Scalar.extui v54
  let c0_i32_19 : BitVec 32 := 0#32
  let v56 : BitVec 1 := Scalar.cmpi .ne v55 c0_i32_19
  v56

def k0_cond3 (i : grid0.Coords) : BitVec 1 :=
  let arg0 : BitVec 32 := BitVec.ofNat 32 (i 0).val
  let c0_i32_20 : BitVec 32 := 0#32
  let v57 : BitVec 1 := Scalar.cmpi .eq arg0 c0_i32_20
  let v58 : BitVec 32 := Scalar.extui v57
  let c0_i32_21 : BitVec 32 := 0#32
  let v59 : BitVec 1 := Scalar.cmpi .ne v58 c0_i32_21
  v59

def k0_cond4 (i : grid0.Coords) : BitVec 1 :=
  let arg0 : BitVec 32 := BitVec.ofNat 32 (i 0).val
  let c0_i32_22 : BitVec 32 := 0#32
  let v60 : BitVec 1 := Scalar.cmpi .sgt arg0 c0_i32_22
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Rope.lean ====
abbrev S2048x6144 : Shape := ⟨2, ![2048, 6144]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x1536 : Shape := ⟨2, ![2048, 1536]⟩
abbrev S512x512 : Shape := ⟨2, ![512, 512]⟩
abbrev S512x128 : Shape := ⟨2, ![512, 128]⟩

abbrev nBuf : Space → Nat
  | .hbm => 26
  | .vmem => 12
  | .smem => 0
  | _ => 0

abbrev bufTy : (tb : Table) → Fin (tcTables nBuf tb) → BufTy
  | .hbm, ⟨0, _⟩ => ⟨S2048x6144, .bf16⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S2048, .f32⟩
  | .hbm, ⟨10, _⟩ => ⟨S2048x1, .f32⟩
  | .hbm, ⟨11, _⟩ => ⟨S1x16, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S_, .f32⟩
  | .hbm, ⟨18, _⟩ => ⟨S2048x96, .f32⟩
  | .hbm, ⟨19, _⟩ => ⟨S2048x128, .f32⟩
  | .hbm, ⟨20, _⟩ => ⟨S2048x16, .f32⟩
  | .hbm, ⟨21, _⟩ => ⟨S_, .f32⟩
  | .hbm, ⟨22, _⟩ => ⟨S2048x96, .f32⟩
  | .hbm, ⟨23, _⟩ => ⟨S2048x128, .f32⟩
  | .hbm, ⟨24, _⟩ => ⟨S2048x1536, .bf16⟩
  | .hbm, ⟨25, _⟩ => ⟨S2048x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S2048x6144 : Shape := ⟨2, ![2048, 6144]⟩
abbrev S2048x1536 : Shape := ⟨2, ![2048, 1536]⟩
abbrev S2048x12x128 : Shape := ⟨3, ![2048, 12, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x12x16 : Shape := ⟨3, ![2048, 12, 16]⟩
abbrev S2048x12x96 : Shape := ⟨3, ![2048, 12, 96]⟩

abbrev nBuf : Space → Nat
  | .hbm => 75
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x1536, .bf16⟩
  | .hbm, ⟨2, _⟩ => ⟨S2048x1536, .f32⟩
  | .hbm, ⟨3, _⟩ => ⟨S2048x1536, .bf16⟩
  | .hbm, ⟨4, _⟩ => ⟨S2048x1536, .f32⟩
  | .hbm, ⟨5, _⟩ => ⟨S2048x12x128, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x1x16, .f32⟩
  | .hbm, ⟨22, _⟩ => ⟨S2048x16, .f32⟩
  | .hbm, ⟨23, _⟩ => ⟨S2048x1x16, .f32⟩
  | .hbm, ⟨24, _⟩ => ⟨S2048x12x16, .f32⟩
  | .hbm, ⟨25, _⟩ => ⟨S2048x12x16, .f32⟩
  | .hbm, ⟨26, _⟩ => ⟨S2048x12x16, .f32⟩
  | .hbm, ⟨27, _⟩ => ⟨S2048x12x16, .f32⟩
  | .hbm, ⟨28, _⟩ => ⟨S2048x12x16, .f32⟩
  | .hbm, ⟨29, _⟩ => ⟨S2048x12x16, .f32⟩
  | .hbm, ⟨30, _⟩ => ⟨S2048x12x16, .f32⟩
  | .hbm, ⟨31, _⟩ => ⟨S2048x12x16, .f32⟩
  | .hbm, ⟨32, _⟩ => ⟨S2048x12x16, .f32⟩
  | .hbm, ⟨33, _⟩ => ⟨S2048x12x16, .f32⟩
  | .hbm, ⟨34, _⟩ => ⟨S2048x12x16, .f32⟩
  | .hbm, ⟨35, _⟩ => ⟨S2048x12x16, .f32⟩
  | .hbm, ⟨36, _⟩ => ⟨S2048x12x96, .f32⟩
  | .hbm, ⟨37, _⟩ => ⟨S2048x12x128, .f32⟩
  | .hbm, ⟨38, _⟩ => ⟨S2048x1536, .f32⟩
  | .hbm, ⟨39, _⟩ => ⟨S2048x1536, .bf16⟩
  | .hbm, ⟨40, _⟩ => ⟨S2048x12x128, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S2048, .f32⟩
  | .hbm, ⟨50, _⟩ => ⟨S2048x1, .f32⟩
  | .hbm, ⟨51, _⟩ => ⟨S1x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x1x16, .f32⟩
  | .hbm, ⟨57, _⟩ => ⟨S2048x16, .f32⟩
  | .hbm, ⟨58, _⟩ => ⟨S2048x1x16, .f32⟩
  | .hbm, ⟨59, _⟩ => ⟨S2048x12x16, .f32⟩
  | .hbm, ⟨60, _⟩ => ⟨S2048x12x16, .f32⟩
  | .hbm, ⟨61, _⟩ => ⟨S2048x12x16, .f32⟩
  | .hbm, ⟨62, _⟩ => ⟨S2048x12x16, .f32⟩
  | .hbm, ⟨63, _⟩ => ⟨S2048x12x16, .f32⟩
  | .hbm, ⟨64, _⟩ => ⟨S2048x12x16, .f32⟩
  | .hbm, ⟨65, _⟩ => ⟨S2048x12x16, .f32⟩
  | .hbm, ⟨66, _⟩ => ⟨S2048x12x16, .f32⟩
  | .hbm, ⟨67, _⟩ => ⟨S2048x12x16, .f32⟩
  | .hbm, ⟨68, _⟩ => ⟨S2048x12x16, .f32⟩
  | .hbm, ⟨69, _⟩ => ⟨S2048x12x16, .f32⟩
  | .hbm, ⟨70, _⟩ => ⟨S2048x12x16, .f32⟩
  | .hbm, ⟨71, _⟩ => ⟨S2048x12x96, .f32⟩
  | .hbm, ⟨72, _⟩ => ⟨S2048x12x128, .f32⟩
  | .hbm, ⟨73, _⟩ => ⟨S2048x1536, .f32⟩
  | .hbm, ⟨74, _⟩ => ⟨S2048x1536, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_1 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩

abbrev nD : Nat := 1
abbrev τ : Topo := Topo.v7x

variable {F : FTy → Type} [FloatOps F]
-- ==== DRope.lean ====
abbrev S2048x1536 : Shape := ⟨2, ![2048, 1536]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S512x512 : Shape := ⟨2, ![512, 512]⟩
abbrev S512x128 : Shape := ⟨2, ![512, 128]⟩

abbrev nBuf : Space → Nat
  | .hbm => 27
  | .vmem => 12
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S2048, .f32⟩
  | .hbm, ⟨11, _⟩ => ⟨S2048x1, .f32⟩
  | .hbm, ⟨12, _⟩ => ⟨S1x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S_, .f32⟩
  | .hbm, ⟨19, _⟩ => ⟨S2048x96, .f32⟩
  | .hbm, ⟨20, _⟩ => ⟨S2048x128, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S2048x128, .f32⟩
  | .hbm, ⟨25, _⟩ => ⟨S2048x1536, .bf16⟩
  | .hbm, ⟨26, _⟩ => ⟨S2048x1536, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DRopeRefIdeal.lean ====
abbrev S2048x1536 : Shape := ⟨2, ![2048, 1536]⟩
abbrev S_ : Shape := ⟨0, ![]⟩
abbrev S2048x12x128 : Shape := ⟨3, ![2048, 12, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x12x16 : Shape := ⟨3, ![2048, 12, 16]⟩
abbrev S2048x12x96 : Shape := ⟨3, ![2048, 12, 96]⟩

abbrev nBuf : Space → Nat
  | .hbm => 90
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S_, .f32⟩
  | .hbm, ⟨3, _⟩ => ⟨S2048x1536, .f32⟩
  | .hbm, ⟨4, _⟩ => ⟨S2048x12x128, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S2048, .f32⟩
  | .hbm, ⟨14, _⟩ => ⟨S2048x1, .f32⟩
  | .hbm, ⟨15, _⟩ => ⟨S1x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x1x16, .f32⟩
  | .hbm, ⟨21, _⟩ => ⟨S2048x16, .f32⟩
  | .hbm, ⟨22, _⟩ => ⟨S2048x1x16, .f32⟩
  | .hbm, ⟨23, _⟩ => ⟨S2048x12x16, .f32⟩
  | .hbm, ⟨24, _⟩ => ⟨S2048x12x16, .f32⟩
  | .hbm, ⟨25, _⟩ => ⟨S2048x12x16, .f32⟩
  | .hbm, ⟨26, _⟩ => ⟨S2048x12x16, .f32⟩
  | .hbm, ⟨27, _⟩ => ⟨S2048x12x16, .f32⟩
  | .hbm, ⟨28, _⟩ => ⟨S2048x12x16, .f32⟩
  | .hbm, ⟨29, _⟩ => ⟨S2048x12x16, .f32⟩
  | .hbm, ⟨30, _⟩ => ⟨S2048x12x16, .f32⟩
  | .hbm, ⟨31, _⟩ => ⟨S2048x12x16, .f32⟩
  | .hbm, ⟨32, _⟩ => ⟨S2048x12x16, .f32⟩
  | .hbm, ⟨33, _⟩ => ⟨S2048x12x16, .f32⟩
  | .hbm, ⟨34, _⟩ => ⟨S2048x12x16, .f32⟩
  | .hbm, ⟨35, _⟩ => ⟨S2048x12x96, .f32⟩
  | .hbm, ⟨36, _⟩ => ⟨S2048x12x128, .f32⟩
  | .hbm, ⟨37, _⟩ => ⟨S2048x1536, .f32⟩
  | .hbm, ⟨38, _⟩ => ⟨S2048x1536, .f32⟩
  | .hbm, ⟨39, _⟩ => ⟨S2048x12x128, .f32⟩
  | .hbm, ⟨40, _⟩ => ⟨S2048x12x16, .f32⟩
  | .hbm, ⟨41, _⟩ => ⟨S2048x12x16, .f32⟩
  | .hbm, ⟨42, _⟩ => ⟨S2048x12x96, .f32⟩
  | .hbm, ⟨43, _⟩ => ⟨S_, .f32⟩
  | .hbm, ⟨44, _⟩ => ⟨S2048x12x128, .f32⟩
  | .hbm, ⟨45, _⟩ => ⟨S2048x12x16, .f32⟩
  | .hbm, ⟨46, _⟩ => ⟨S2048x12x16, .f32⟩
  | .hbm, ⟨47, _⟩ => ⟨S2048x12x16, .f32⟩
  | .hbm, ⟨48, _⟩ => ⟨S2048x12x16, .f32⟩
  | .hbm, ⟨49, _⟩ => ⟨S2048x12x16, .f32⟩
  | .hbm, ⟨50, _⟩ => ⟨S2048x12x16, .f32⟩
  | .hbm, ⟨51, _⟩ => ⟨S2048x12x16, .f32⟩
  | .hbm, ⟨52, _⟩ => ⟨S2048x12x16, .f32⟩
  | .hbm, ⟨53, _⟩ => ⟨S2048x12x16, .f32⟩
  | .hbm, ⟨54, _⟩ => ⟨S2048x12x16, .f32⟩
  | .hbm, ⟨55, _⟩ => ⟨S2048x12x16, .f32⟩
  | .hbm, ⟨56, _⟩ => ⟨S_, .f32⟩
  | .hbm, ⟨57, _⟩ => ⟨S2048x12x128, .f32⟩
  | .hbm, ⟨58, _⟩ => ⟨S2048x12x128, .f32⟩
  | .hbm, ⟨59, _⟩ => ⟨S_, .f32⟩
  | .hbm, ⟨60, _⟩ => ⟨S2048x12x128, .f32⟩
  | .hbm, ⟨61, _⟩ => ⟨S2048x12x128, .f32⟩
  | .hbm, ⟨62, _⟩ => ⟨S2048x1536, .f32⟩
  | .hbm, ⟨63, _⟩ => ⟨S2048x1536, .bf16⟩
  | .hbm, ⟨64, _⟩ => ⟨S2048x1536, .f32⟩
  | .hbm, ⟨65, _⟩ => ⟨S2048x12x128, .f32⟩
  | .hbm, ⟨66, _⟩ => ⟨S2048x12x16, .f32⟩
  | .hbm, ⟨67, _⟩ => ⟨S2048x12x16, .f32⟩
  | .hbm, ⟨68, _⟩ => ⟨S2048x12x96, .f32⟩
  | .hbm, ⟨69, _⟩ => ⟨S_, .f32⟩
  | .hbm, ⟨70, _⟩ => ⟨S2048x12x128, .f32⟩
  | .hbm, ⟨71, _⟩ => ⟨S2048x12x16, .f32⟩
  | .hbm, ⟨72, _⟩ => ⟨S2048x12x16, .f32⟩
  | .hbm, ⟨73, _⟩ => ⟨S2048x12x16, .f32⟩
  | .hbm, ⟨74, _⟩ => ⟨S2048x12x16, .f32⟩
  | .hbm, ⟨75, _⟩ => ⟨S2048x12x16, .f32⟩
  | .hbm, ⟨76, _⟩ => ⟨S2048x12x16, .f32⟩
  | .hbm, ⟨77, _⟩ => ⟨S2048x12x16, .f32⟩
  | .hbm, ⟨78, _⟩ => ⟨S2048x12x16, .f32⟩
  | .hbm, ⟨79, _⟩ => ⟨S2048x12x16, .f32⟩
  | .hbm, ⟨80, _⟩ => ⟨S2048x12x16, .f32⟩
  | .hbm, ⟨81, _⟩ => ⟨S2048x12x16, .f32⟩
  | .hbm, ⟨82, _⟩ => ⟨S_, .f32⟩
  | .hbm, ⟨83, _⟩ => ⟨S2048x12x128, .f32⟩
  | .hbm, ⟨84, _⟩ => ⟨S2048x12x128, .f32⟩
  | .hbm, ⟨85, _⟩ => ⟨S_, .f32⟩
  | .hbm, ⟨86, _⟩ => ⟨S2048x12x128, .f32⟩
  | .hbm, ⟨87, _⟩ => ⟨S2048x12x128, .f32⟩
  | .hbm, ⟨88, _⟩ => ⟨S2048x1536, .f32⟩
  | .hbm, ⟨89, _⟩ => ⟨S2048x1536, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_5 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_6 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩

abbrev nD : Nat := 1
abbrev τ : Topo := Topo.v7x

variable {F : FTy → Type} [FloatOps F]
-- ==== Mix.lean ====
abbrev S3x2048x512 : Shape := ⟨3, ![3, 2048, 512]⟩
abbrev S2048x512 : Shape := ⟨2, ![2048, 512]⟩
abbrev S3x256x512 : Shape := ⟨3, ![3, 256, 512]⟩
abbrev S256x512 : Shape := ⟨2, ![256, 512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S3x2048x512, .bf16⟩
  | .hbm, ⟨1, _⟩ => ⟨S3x2048x512, .f32⟩
  | .hbm, ⟨2, _⟩ => ⟨S2048x512, .bf16⟩
  | .local _ .vmem, ⟨0, _⟩ => ⟨S3x256x512, .bf16⟩
  | .local _ .vmem, ⟨1, _⟩ => ⟨S3x256x512, .bf16⟩
  | .local _ .vmem, ⟨2, _⟩ => ⟨S3x256x512, .f32⟩
  | .local _ .vmem, ⟨3, _⟩ => ⟨S3x256x512, .f32⟩
  | .local _ .vmem, ⟨4, _⟩ => ⟨S256x512, .bf16⟩
  | .local _ .vmem, ⟨5, _⟩ => ⟨S256x512, .bf16⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixRefIdeal.lean ====
abbrev S3x2048x512 : Shape := ⟨3, ![3, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 21
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S3x2048x512, .f32⟩
  | .hbm, ⟨2, _⟩ => ⟨S_, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S1x2048x512, .f32⟩
  | .hbm, ⟨8, _⟩ => ⟨S3x2048x512, .f32⟩
  | .hbm, ⟨9, _⟩ => ⟨S3x2048x512, .f32⟩
  | .hbm, ⟨10, _⟩ => ⟨S3x2048x512, .f32⟩
  | .hbm, ⟨11, _⟩ => ⟨S_, .f32⟩
  | .hbm, ⟨12, _⟩ => ⟨S2048x512, .f32⟩
  | .hbm, ⟨13, _⟩ => ⟨S1x2048x512, .f32⟩
  | .hbm, ⟨14, _⟩ => ⟨S3x2048x512, .f32⟩
  | .hbm, ⟨15, _⟩ => ⟨S3x2048x512, .f32⟩
  | .hbm, ⟨16, _⟩ => ⟨S3x2048x512, .f32⟩
  | .hbm, ⟨17, _⟩ => ⟨S3x2048x512, .f32⟩
  | .hbm, ⟨18, _⟩ => ⟨S_, .f32⟩
  | .hbm, ⟨19, _⟩ => ⟨S2048x512, .f32⟩
  | .hbm, ⟨20, _⟩ => ⟨S2048x512, .bf16⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Mlp.Up.lean ====
/- The MLP's first product: the kernel's two arrays are the reference's relu and its square. -/
module

public import proofs.«01_k».proof.Defs
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Mlp

open Cert.UpIdeal Cert.UpIdeal.Gen
open Cert.UpRefIdeal.Read

variable (m : (ℓ : Loc nD τ sig) → Buf (Elt Ideal) ℓ)

/-- The windows' block indices at every grid point. -/
theorem idx : ∀ t : Fin cfg0.N, win0_0.index t = ![0, 0] ∧ win0_1.index t = ![t.val / 4, 0, t.val % 4] ∧ win0_2.index t = ![0, t.val]
    ∧ win0_3.index t = ![0, t.val] ∧ t.val < 16 :=
  (by decide +kernel : ∀ t : Fin grid0.N, _)

/-- The relu, in a block. -/
theorem point_relu (c : Dev nD) (t : Fin cfg0.N) (y) : k0_pay2 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, k0_pay2, val_main_v6, val_main_v5, val_main_v4, val_main_v3, val_main_v2, val_main_v1, val_main_v0, val_main_call0_v0, val_main_call0_cst]
  blk_point [iblk, V, idx t]

/-- The relu's square, in a block. -/
theorem point_square (c : Dev nD) (t : Fin cfg0.N) (y) : k0_pay3 (iblk m c 0 t) (iblk m c 1 t) y
    = val_main_v8 (F := Ideal) (m ((c : Thread nD τ).loc main_arg0)) (m ((c : Thread nD τ).loc main_arg1)) (((cfg0.win 3).blk t).view.emb y) := by
  pointwise [k0_pay1, k0_pay3, val_main_v8, val_main_v7, val_main_v5, val_main_v4, val_main_v3, val_main_v2, val_main_v1, val_main_v0, val_main_call0_v0, val_main_call0_cst]
  blk_point [iblk, V, idx t]

theorem final_relu (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_relu m c t y

theorem final_square (c : Dev nD) : (dats m 0 c).arrAt 3 (cfgs 0).N
    = val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_square m c t y

/-- Kernel and reference end with equal results. -/
theorem algebraic : Cert.algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run m' g'
    · exact (final_relu m c).symm
    · exact (final_square m c).symm

theorem frame_reference : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩)
    (Cert.UpRefIdeal.Value.run m ρ)

end Cert.UpIdeal.Mlp

end
-- ==== Proof.Mlp.Down.lean ====
/- The MLP's second product and the residual added: the kernel's array is the reference's. -/
module

public import proofs.«01_k».proof.Defs
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Mlp

open Cert.DownIdeal Cert.DownIdeal.Gen
open Cert.DownRefIdeal.Read

variable (m : (ℓ : Loc nD τ sig) → Buf (Elt Ideal) ℓ)

/-- The windows' block indices at every grid point. -/
theorem idx : ∀ t : Fin cfg0.N, win0_0.index t = ![t.val / 8, t.val % 2] ∧ win0_1.index t = ![t.val % 2, t.val / 2 % 4]
    ∧ win0_2.index t = ![t.val / 8, t.val / 2 % 4] ∧ win0_3.index t = ![t.val / 8, t.val / 2 % 4] ∧ t.val < 16 :=
  (by decide +kernel : ∀ t : Fin grid0.N, _)

/-- The first half's product, as stored. -/
theorem first_half (x : Vec Ideal S1024x4096 .bf16) (w : Vec Ideal S4096x512 .bf16) (j : S1024x512.Idx) :
    k0_pay2 (F := Ideal) x w j = (0 : EReal) + ∑ k : Fin 4096, x (ix2 (j 0) k) * w (ix2 k (j 1)) := by
  pointwise [k0_pay2, k0_pay1]

/-- The second half's product, added to what is held. -/
theorem second_half (x : Vec Ideal S1024x4096 .bf16) (w : Vec Ideal S4096x512 .bf16) (acc : Vec Ideal S1024x512 .f32) (j : S1024x512.Idx) :
    k0_pay3 (F := Ideal) x w acc j = acc j + ∑ k : Fin 4096, x (ix2 (j 0) k) * w (ix2 k (j 1)) := by
  pointwise [k0_pay3, k0_pay1]

/-- At the second half the result is what is held plus the block of the residual stream. -/
theorem out_eq (c : Dev nD) (t : Fin cfg0.N) (h : t.val % 2 = 1) (y : S1024x512.Idx) :
    (outsAt0 m c t.val t.isLt).1 y = ((outsAt0 m c t.val t.isLt).2 y + iblk m c 2 t y : EReal) := by
  rw [outsAt0_B m c t (by omega) h h]
  frame_out
  pointwise [k0_pay4]

/-- What is held at the second half: the product over the whole inner axis. -/
theorem held (c : Dev nD) (t : Fin cfg0.N) (h : t.val % 2 = 1) (y : S1024x512.Idx) :
    (outsAt0 m c t.val t.isLt).2 y = (0 : EReal) + ∑ s : Fin 2, ∑ k : Fin 4096,
      (show Vec Ideal S1024x4096 .bf16 from iblk m c 0 ⟨2 * (t.val / 2) + s.val, Pipeline.run_point_lt_of_flush t h s⟩) (ix2 (y 0) k)
        * (show Vec Ideal S4096x512 .bf16 from iblk m c 1 ⟨2 * (t.val / 2) + s.val, Pipeline.run_point_lt_of_flush t h s⟩) (ix2 k (y 1)) :=
  Pipeline.eq_sum_fin_of_reset_step_apply_of_flush (M := EReal) (fun n h => (outsAt0 m c n h).2) 2 (fun _ => 0)
    (fun t j => ∑ k : Fin 4096, (show Vec Ideal S1024x4096 .bf16 from iblk m c 0 t) (ix2 (j 0) k)
      * (show Vec Ideal S4096x512 .bf16 from iblk m c 1 t) (ix2 k (j 1)))
    (fun t h j => by rw [outsAt0_A m c t h (by omega) (by omega)]; frame_out; exact first_half _ _ j)
    (fun t h j => by rw [outsAt0_B m c t h (by omega) (by omega)]; frame_out; rw [(Memref.isWhole_whole _).read_unread]; exact second_half _ _ _ j)
    t h y

theorem final (c : Dev nD) : (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h : t.val % 2 = 1 := (flush0_3 t).mp hf
  rw [after0_3]
  refine (out_eq m c t h y).trans ?_
  rw [held m c t h y, zero_add]
  pointwise [val_main_v0, val_main_v1, val_main_v2, val_main_v3]
  refine (add_comm _ _).trans (congrArg₂ (· + ·) ?_ ?_)
  · blk_ext [iblk, V, idx t]
  · refine Fin.sum_mul_add_congr fun s k hl => ?_
    blk_point [iblk, V, idx t, idx ⟨_, Pipeline.run_point_lt_of_flush t h s⟩]

/-- Kernel and reference end with equal results. -/
theorem algebraic : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    exact (final m c).symm

theorem frame_reference : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run m ρ)

end Cert.DownIdeal.Mlp

end
-- ==== Proof.Mlp.Dact.lean ====
/- The gradient at the MLP's first product: the kernel's array is the reference's. -/
module

public import proofs.«01_k».proof.Defs
public import proofs.«01_k».proof.Proof.Gen.DactIdeal.Frame
public import proofs.«01_k».proof.Proof.Gen.DactIdeal.Value
public import proofs.«01_k».proof.Proof.Gen.DactRefIdeal.Run
public import proofs.«01_k».proof.Proof.Gen.DactRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DactIdeal.Mlp

open Cert.DactIdeal Cert.DactIdeal.Gen
open Cert.DactRefIdeal.Read

variable (m : (ℓ : Loc nD τ sig) → Buf (Elt Ideal) ℓ)

/-- The windows' block indices at every grid point. -/
theorem idx : ∀ t : Fin cfg0.N, win0_0.index t = ![0, 0] ∧ win0_1.index t = ![t.val, 0] ∧ win0_2.index t = ![0, t.val] ∧ win0_3.index t = ![0, t.val] ∧ t.val < 16 :=
  (by decide +kernel : ∀ t : Fin grid0.N, _)

/-- The block of the clipped activation that the host hands over, entry by entry. -/
theorem relu_read (c : Dev nD) (t : Fin cfg0.N) (y) : iblk m c 2 t y
    = max (α := EReal) (m ((c : Thread nD τ).loc main_arg0) (((cfg0.win 3).blk t).view.emb y)) 0 := by
  blk_simp [iblk]
  entry_read
  pointwise
  blk_point [idx t]

/-- What a point stores is the reference's result at the block's place. -/
theorem point (c : Dev nD) (t : Fin cfg0.N) (y) : k0_pay1 (iblk m c 0 t) (iblk m c 1 t) (iblk m c 2 t) y
    = val_main_v14 (F := Ideal) (m ((c : Thread nD τ).loc main_arg0)) (m ((c : Thread nD τ).loc main_arg1)) (m ((c : Thread nD τ).loc main_arg2)) (((cfg0.win 3).blk t).view.emb y) := by
  pointwise [k0_pay1, val_main_call0_cst, val_main_call0_v0, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14]
  rw [relu_read m c t y]
  split
  · blk_point [iblk, V, idx t]
  · rename_i h
    rw [max_eq_right (not_lt.mp h), mul_zero, mul_zero]

theorem final (c : Dev nD) : (dats m 0 c).arrAt 3 (cfgs 0).N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Kernel and reference end with equal results. -/
theorem algebraic : Cert.algebraic_DactIdeal_DactRefIdeal (hDactIdeal := Cert.DactIdeal.Gen.facts) (hDactRefIdeal := Cert.DactRefIdeal.Gen.facts) := by
  pair_intro
  · run_from Cert.DactIdeal.Gen.run_main m g
  · run_from Cert.DactRefIdeal.Value.run m' g'
    exact (final m c).symm

theorem frame_reference : Cert.quiescent_DactRefIdeal (hDactRefIdeal := Cert.DactRefIdeal.Gen.facts) := fun m ρ _ =>
  (θ_run Cert.DactRefIdeal.defs _ _).mono (fun r h => ⟨fun c => (h c).2, sem_eq_zero_of_no_sems (by decide) r.2⟩)
    (Cert.DactRefIdeal.Value.run m ρ)

end Cert.DactIdeal.Mlp

end
-- ==== Proof.Mlp.DwDown.lean ====
/- The gradient of the MLP's second weight: the kernel's array is the reference's. -/
module

public import proofs.«01_k».proof.Defs
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDownIdeal.Mlp

open Cert.DwDownIdeal Cert.DwDownIdeal.Gen
open Cert.DwDownRefIdeal.Read

variable (m : (ℓ : Loc nD τ sig) → Buf (Elt Ideal) ℓ)

/-- The windows' block indices at every grid point. -/
theorem idx : ∀ t : Fin cfg0.N, win0_0.index t = ![0, t.val] ∧ win0_1.index t = ![0, 0] ∧ win0_2.index t = ![t.val, 0] ∧ t.val < 8 :=
  (by decide +kernel : ∀ t : Fin grid0.N, _)

/-- What a point stores is the reference's result at the block's place. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6]
  refine Finset.sum_congr rfl fun k _ => (mul_comm _ _).trans ?_
  blk_point [iblk, V, idx t]

theorem final (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwDownIdeal_DwDownRefIdeal (hDwDownIdeal := Cert.DwDownIdeal.Gen.facts) (hDwDownRefIdeal := Cert.DwDownRefIdeal.Gen.facts) := by
  pair_intro
  · run_from Cert.DwDownIdeal.Gen.run_main m g
  · run_from Cert.DwDownRefIdeal.Value.run m' g'
    exact (final m c).symm

theorem frame_reference : Cert.quiescent_DwDownRefIdeal (hDwDownRefIdeal := Cert.DwDownRefIdeal.Gen.facts) := fun m ρ _ =>
  (θ_run Cert.DwDownRefIdeal.defs _ _).mono (fun r h => ⟨fun c => (h c).2, sem_eq_zero_of_no_sems (by decide) r.2⟩)
    (Cert.DwDownRefIdeal.Value.run m ρ)

end Cert.DwDownIdeal.Mlp

end
-- ==== Proof.Mlp.DwUp.lean ====
/- The gradient of the MLP's first weight, in four chunks of columns: the kernel's array is the reference's. -/
module

public import proofs.«01_k».proof.Defs
public import proofs.«01_k».proof.Proof.Gen.DwUpIdeal.Frame
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUpIdeal.Mlp

open Cert.DwUpIdeal Cert.DwUpIdeal.Gen
open Cert.DwUpRefIdeal.Read

variable (m : (ℓ : Loc nD τ sig) → Buf (Elt Ideal) ℓ)

/-- The windows' block indices at every grid point. -/
theorem idx : ∀ t : Fin cfg0.N, win0_0.index t = ![0, t.val / 4] ∧ win0_1.index t = ![0, t.val % 4] ∧ win0_2.index t = ![t.val % 4, t.val / 4, 0] ∧ t.val < 8 :=
  (by decide +kernel : ∀ t : Fin grid0.N, _)

/-- What a point stores is the reference's result at the block's place. -/
theorem point (c : Dev nD) (t : Fin cfg0.N) (y) : k0_pay1 (iblk m c 0 t) (iblk m c 1 t) y
    = val_main_v10 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6, val_main_v7, val_main_v8, val_main_v9, val_main_v10]
  refine Finset.sum_congr rfl fun k _ => (mul_comm _ _).trans ?_
  blk_point [iblk, V, idx t]

theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwUpIdeal_DwUpRefIdeal (hDwUpIdeal := Cert.DwUpIdeal.Gen.facts) (hDwUpRefIdeal := Cert.DwUpRefIdeal.Gen.facts) := by
  pair_intro
  · run_from Cert.DwUpIdeal.Gen.run_main m g
  · run_from Cert.DwUpRefIdeal.Value.run m' g'
    exact (final m c).symm

theorem frame_reference : Cert.quiescent_DwUpRefIdeal (hDwUpRefIdeal := Cert.DwUpRefIdeal.Gen.facts) := fun m ρ _ =>
  (θ_run Cert.DwUpRefIdeal.defs _ _).mono (fun r h => ⟨fun c => (h c).2, sem_eq_zero_of_no_sems (by decide) r.2⟩)
    (Cert.DwUpRefIdeal.Value.run m ρ)

end Cert.DwUpIdeal.Mlp

end
-- ==== Proof.Mlp.Dm.lean ====
/- The gradient at the MLP's input: the kernel's array is the reference's. -/
module

public import proofs.«01_k».proof.Defs
public import proofs.«01_k».proof.Proof.Gen.DmIdeal.Frame
public import proofs.«01_k».proof.Proof.Gen.DmIdeal.Value
public import proofs.«01_k».proof.Proof.Gen.DmRefIdeal.Run
public import proofs.«01_k».proof.Proof.Gen.DmRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DmIdeal.Mlp

open Cert.DmIdeal Cert.DmIdeal.Gen
open Cert.DmRefIdeal.Read

variable (m : (ℓ : Loc nD τ sig) → Buf (Elt Ideal) ℓ)

/-- The windows' block indices at every grid point. -/
theorem idx : ∀ t : Fin cfg0.N, win0_0.index t = ![0, t.val % 4] ∧ win0_1.index t = ![t.val % 4, t.val / 4, 0]
    ∧ win0_2.index t = ![0, t.val / 4] ∧ t.val < 16 :=
  (by decide +kernel : ∀ t : Fin grid0.N, _)

/-- The first chunk's product, as stored. -/
theorem first_chunk (x : Vec Ideal S2048x2048 .bf16) (w : Vec Ideal S1x512x2048 .bf16) (j : S2048x512.Idx) :
    k0_pay2 (F := Ideal) x w j = (0 : EReal) + ∑ k : Fin 2048, x (ix2 (j 0) k) * w (ix3 0 (j 1) k) := by
  pointwise [k0_pay2, k0_pay1]

/-- A later chunk's product, added to what is held. -/
theorem later_chunk (x : Vec Ideal S2048x2048 .bf16) (w : Vec Ideal S1x512x2048 .bf16) (acc : Vec Ideal S2048x512 .f32) (j : S2048x512.Idx) :
    k0_pay3 (F := Ideal) x w acc j = acc j + ∑ k : Fin 2048, x (ix2 (j 0) k) * w (ix3 0 (j 1) k) := by
  pointwise [k0_pay3, k0_pay1]

/-- At the last chunk the result is what is held. -/
theorem out_eq (c : Dev nD) (t : Fin cfg0.N) (h : t.val % 4 = 3) (y : S2048x512.Idx) :
    (outsAt0 m c t.val t.isLt).1 y = (outsAt0 m c t.val t.isLt).2 y := by
  rw [outsAt0_C m c t (by omega) (by omega) h]
  frame_out
  pointwise [k0_pay4]

/-- What is held at the last chunk: the product over the whole inner axis. -/
theorem held (c : Dev nD) (t : Fin cfg0.N) (h : t.val % 4 = 3) (y : S2048x512.Idx) :
    (outsAt0 m c t.val t.isLt).2 y = (0 : EReal) + ∑ s : Fin 4, ∑ k : Fin 2048,
      (show Vec Ideal S2048x2048 .bf16 from iblk m c 0 ⟨4 * (t.val / 4) + s.val, Pipeline.run_point_lt_of_flush t h s⟩) (ix2 (y 0) k)
        * (show Vec Ideal S1x512x2048 .bf16 from iblk m c 1 ⟨4 * (t.val / 4) + s.val, Pipeline.run_point_lt_of_flush t h s⟩) (ix3 0 (y 1) k) :=
  Pipeline.eq_sum_fin_of_reset_step_apply_of_flush (M := EReal) (fun n h => (outsAt0 m c n h).2) 4 (fun _ => 0)
    (fun t j => ∑ k : Fin 2048, (show Vec Ideal S2048x2048 .bf16 from iblk m c 0 t) (ix2 (j 0) k)
      * (show Vec Ideal S1x512x2048 .bf16 from iblk m c 1 t) (ix3 0 (j 1) k))
    (fun t h j => by rw [outsAt0_A m c t h (by omega) (by omega)]; frame_out; exact first_chunk _ _ j)
    (fun t h j => by
      by_cases h3 : t.val % 4 = 3
      · rw [outsAt0_C m c t h (by omega) h3]; frame_out; rw [(Memref.isWhole_whole _).read_unread]; exact later_chunk _ _ _ j
      · rw [outsAt0_B m c t h (by omega) h3]; frame_out; rw [(Memref.isWhole_whole _).read_unread]; exact later_chunk _ _ _ j)
    t h y

theorem final (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  have h : t.val % 4 = 3 := (flush0_2 t).mp hf
  rw [after0_2]
  refine (out_eq m c t h y).trans ?_
  rw [held m c t h y, zero_add]
  pointwise [val_main_v1, val_main_v2, val_main_v3, val_main_v5, val_main_v6, val_main_v7]
  refine Fin.sum_mul_add_congr fun s k hl => ?_
  blk_point [iblk, V, idx t, idx ⟨_, Pipeline.run_point_lt_of_flush t h s⟩]

/-- Kernel and reference end with equal results. -/
theorem algebraic : Cert.algebraic_DmIdeal_DmRefIdeal (hDmIdeal := Cert.DmIdeal.Gen.facts) (hDmRefIdeal := Cert.DmRefIdeal.Gen.facts) := by
  pair_intro
  · run_from Cert.DmIdeal.Gen.run_main m g
  · run_from Cert.DmRefIdeal.Value.run m' g'
    exact (final m c).symm

theorem frame_reference : Cert.quiescent_DmRefIdeal (hDmRefIdeal := Cert.DmRefIdeal.Gen.facts) := fun m ρ _ =>
  (θ_run Cert.DmRefIdeal.defs _ _).mono (fun r h => ⟨fun c => (h c).2, sem_eq_zero_of_no_sems (by decide) r.2⟩)
    (Cert.DmRefIdeal.Value.run m ρ)

end Cert.DmIdeal.Mlp

end
-- ==== Proof.Layer.Qkv.lean ====
/- Queries, keys and values, the product with the first columns of the mixing weight: kernel and reference give the same array. -/
module

public import proofs.«01_k».proof.Defs
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Layer

open Cert.QkvIdeal Cert.QkvIdeal.Gen
open Cert.QkvRefIdeal.Read

variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![0, t.val] ∧ t.val < 12 :=
  (by decide +kernel : ∀ t : Fin grid0.N, _)

/-- The block of the weight that the point reads, entry by entry: no block is cut. -/
theorem weight_read (c : Dev nD) (t : Fin cfg0.N) (j : S2048x512.Idx) : X0_1 m c t j
    = m ((c : Thread nD τ).loc main_arg1) (ix2 (j 0) ⟨512 * t.val + (j 1).val, by have := (idx t).2.2.2; have h : (j 1).val < 512 := (j 1).isLt; omega⟩) := by
  unfold X0_1 Pipeline.Window.fill
  rw [dif_pos (moved0_1 t j)]
  blk_ext [iblk, V, idx t]

/-- What a point stores is the reference's result at the block's place. -/
theorem point (c : Dev nD) (t : Fin cfg0.N) (y) : k0_pay1 (iblk m c 0 t) (X0_1 m c t) y
    = val_main_v4 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4]
  simp only [weight_read m c t]
  blk_point [iblk, V, idx t]

theorem final (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

/-- Kernel and reference end with equal results. -/
theorem algebraic : Cert.algebraic_QkvIdeal_QkvRefIdeal (hQkvIdeal := Cert.QkvIdeal.Gen.facts) (hQkvRefIdeal := Cert.QkvRefIdeal.Gen.facts) := by
  pair_intro
  · run_from Cert.QkvIdeal.Gen.run_main m g
  · run_from Cert.QkvRefIdeal.Value.run m' g'
    exact (final m c).symm

theorem frame_reference : Cert.quiescent_QkvRefIdeal (hQkvRefIdeal := Cert.QkvRefIdeal.Gen.facts) := fun m ρ _ =>
  (θ_run Cert.QkvRefIdeal.defs _ _).mono (fun r h => ⟨fun c => (h c).2, sem_eq_zero_of_no_sems (by decide) r.2⟩)
    (Cert.QkvRefIdeal.Value.run m ρ)

end Cert.QkvIdeal.Layer

end
-- ==== Proof.Layer.Logit.lean ====
/- The forget logits of the FoX branch, the product with the weight padded to 128 columns: kernel and reference give the same array. -/
module

public import proofs.«01_k».proof.Defs
public import proofs.«01_k».proof.Proof.Gen.LogitIdeal.Frame
public import proofs.«01_k».proof.Proof.Gen.LogitIdeal.Value
public import proofs.«01_k».proof.Proof.Gen.LogitRefIdeal.Run
public import proofs.«01_k».proof.Proof.Gen.LogitRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LogitIdeal.Layer

open Cert.LogitIdeal Cert.LogitIdeal.Gen
open Cert.LogitRefIdeal.Read

variable (m : (ℓ : Loc nD τ sig) → Buf (Elt Ideal) ℓ)

/-- The windows' block indices at every grid point. -/
theorem idx : ∀ t : Fin cfg0.N, win0_0.index t = ![0, 0] ∧ win0_1.index t = ![0, 0] ∧ win0_2.index t = ![0, 0] ∧ t.val < 1 :=
  (by decide +kernel : ∀ t : Fin grid0.N, _)

/-- What a point stores is the reference's result at the block's place. -/
theorem point (c : Dev nD) (t : Fin cfg0.N) (y) : k0_pay1 (iblk m c 0 t) (iblk m c 1 t) y
    = val_main_v2 (F := Ideal) (m ((c : Thread nD τ).loc main_arg0)) (m ((c : Thread nD τ).loc main_arg1)) (((cfg0.win 2).blk t).view.emb y) := by
  pointwise [k0_pay1, val_main_v0, val_main_v1, val_main_v2]
  blk_point [iblk, V, idx t]

theorem final (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_LogitIdeal_LogitRefIdeal (hLogitIdeal := Cert.LogitIdeal.Gen.facts) (hLogitRefIdeal := Cert.LogitRefIdeal.Gen.facts) := by
  pair_intro
  · run_from Cert.LogitIdeal.Gen.run_main m g
  · run_from Cert.LogitRefIdeal.Value.run m' g'
    exact (final m c).symm

theorem frame_reference : Cert.quiescent_LogitRefIdeal (hLogitRefIdeal := Cert.LogitRefIdeal.Gen.facts) := fun m ρ _ =>
  (θ_run Cert.LogitRefIdeal.defs _ _).mono (fun r h => ⟨fun c => (h c).2, sem_eq_zero_of_no_sems (by decide) r.2⟩)
    (Cert.LogitRefIdeal.Value.run m ρ)

end Cert.LogitIdeal.Layer

end
-- ==== Proof.Layer.Gate.lean ====
/- The gate of the two branches, the sigmoid of a product plus a row: kernel and reference give the same array. -/
module

public import proofs.«01_k».proof.Defs
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Layer

open Cert.GateIdeal Cert.GateIdeal.Gen
open Cert.GateRefIdeal.Read

variable (m : (ℓ : Loc nD τ sig) → Buf (Elt Ideal) ℓ)

/-- The windows' block indices at every grid point. -/
theorem idx : ∀ t : Fin cfg0.N, win0_0.index t = ![0, 0] ∧ win0_1.index t = ![t.val / 2, 0, t.val % 2] ∧ win0_2.index t = ![0, t.val] ∧ win0_3.index t = ![0, t.val] ∧ t.val < 8 :=
  (by decide +kernel : ∀ t : Fin grid0.N, _)

/-- What a point stores is the reference's result at the block's place. -/
theorem point (c : Dev nD) (t : Fin cfg0.N) (y) : k0_pay1 (iblk m c 0 t) (iblk m c 1 t) (iblk m c 2 t) y
    = val_main_v13 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3, val_main_v4, val_main_v5, val_main_v6, val_main_v7, val_main_v8, val_main_cst, val_main_v9, val_main_v10, val_main_cst_0, val_main_v11, val_main_v12, val_main_v13]
  refine congrArg (fun z => Ideal.div 1 (1 + Ideal.exp z)) ?_
  rw [zero_sub]
  refine congrArg (fun z : EReal => -z) (congrArg₂ (· + ·) ?_ ?_)
  · blk_point [iblk, V, idx t]
  · blk_ext [iblk, V, idx t]

theorem final (c : Dev nD) : (dats m 0 c).arrAt 3 (cfgs 0).N = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Kernel and reference end with equal results. -/
theorem algebraic : Cert.algebraic_GateIdeal_GateRefIdeal (hGateIdeal := Cert.GateIdeal.Gen.facts) (hGateRefIdeal := Cert.GateRefIdeal.Gen.facts) := by
  pair_intro
  · run_from Cert.GateIdeal.Gen.run_main m g
  · run_from Cert.GateRefIdeal.Value.run m' g'
    exact (final m c).symm

theorem frame_reference : Cert.quiescent_GateRefIdeal (hGateRefIdeal := Cert.GateRefIdeal.Gen.facts) := fun m ρ _ =>
  (θ_run Cert.GateRefIdeal.defs _ _).mono (fun r h => ⟨fun c => (h c).2, sem_eq_zero_of_no_sems (by decide) r.2⟩)
    (Cert.GateRefIdeal.Value.run m ρ)

end Cert.GateIdeal.Layer

end
-- ==== Proof.Layer.Branch.lean ====
/- A branch's product with its output weight: kernel and reference give the same array. -/
module

public import proofs.«01_k».proof.Defs
public import proofs.«01_k».proof.Proof.Gen.BranchIdeal.Frame
public import proofs.«01_k».proof.Proof.Gen.BranchIdeal.Value
public import proofs.«01_k».proof.Proof.Gen.BranchRefIdeal.Run
public import proofs.«01_k».proof.Proof.Gen.BranchRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BranchIdeal.Layer

open Cert.BranchIdeal Cert.BranchIdeal.Gen
open Cert.BranchRefIdeal.Read

variable (m : (ℓ : Loc nD τ sig) → Buf (Elt Ideal) ℓ)

/-- The windows' block indices at every grid point. -/
theorem idx : ∀ t : Fin cfg0.N, win0_0.index t = ![0, 0] ∧ win0_1.index t = ![t.val, 0, 0] ∧ win0_2.index t = ![0, t.val] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v5 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5]
  blk_point [iblk, V, idx t]

theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_BranchIdeal_BranchRefIdeal (hBranchIdeal := Cert.BranchIdeal.Gen.facts) (hBranchRefIdeal := Cert.BranchRefIdeal.Gen.facts) := by
  pair_intro
  · run_from Cert.BranchIdeal.Gen.run_main m g
  · run_from Cert.BranchRefIdeal.Value.run m' g'
    exact (final m c).symm

theorem frame_reference : Cert.quiescent_BranchRefIdeal (hBranchRefIdeal := Cert.BranchRefIdeal.Gen.facts) := fun m ρ _ =>
  (θ_run Cert.BranchRefIdeal.defs _ _).mono (fun r h => ⟨fun c => (h c).2, sem_eq_zero_of_no_sems (by decide) r.2⟩)
    (Cert.BranchRefIdeal.Value.run m ρ)

end Cert.BranchIdeal.Layer

end
-- ==== Proof.Layer.Out.lean ====
/- The attention half's output product plus the residual stream: kernel and reference give the same array. -/
module

public import proofs.«01_k».proof.Defs
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Layer

open Cert.OutIdeal Cert.OutIdeal.Gen
open Cert.OutRefIdeal.Read

variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![0, t.val] ∧ win0_3.index t = ![0, t.val] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) (iblk m c 2 t) y
    = val_main_v3 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3]
  blk_point [iblk, V, idx t]

theorem final (c : Dev nD) : (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Kernel and reference end with equal results. -/
theorem algebraic : Cert.algebraic_OutIdeal_OutRefIdeal (hOutIdeal := Cert.OutIdeal.Gen.facts) (hOutRefIdeal := Cert.OutRefIdeal.Gen.facts) := by
  pair_intro
  · run_from Cert.OutIdeal.Gen.run_main m g
  · run_from Cert.OutRefIdeal.Value.run m' g'
    exact (final m c).symm

theorem frame_reference : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run m ρ)

end Cert.OutIdeal.Layer

end
-- ==== Proof.Layer.PleGate.lean ====
/- The gate of the per-layer embeddings: kernel and reference give the same array. -/
module

public import proofs.«01_k».proof.Defs
public import proofs.«01_k».proof.Proof.Gen.PleGateIdeal.Frame
public import proofs.«01_k».proof.Proof.Gen.PleGateIdeal.Value
public import proofs.«01_k».proof.Proof.Gen.PleGateRefIdeal.Run
public import proofs.«01_k».proof.Proof.Gen.PleGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleGateIdeal.Layer

open Cert.PleGateIdeal Cert.PleGateIdeal.Gen
open Cert.PleGateRefIdeal.Read

variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![0, t.val] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v9 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_cst, val_main_v5, val_main_v6, val_main_cst_0, val_main_v7, val_main_v8, val_main_v9]
  rw [zero_sub]
  blk_point [iblk, V, idx t]

theorem final (c : Dev nD) : (dats m 0 c).arrAt 2 (cfgs 0).N = val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_PleGateIdeal_PleGateRefIdeal (hPleGateIdeal := Cert.PleGateIdeal.Gen.facts) (hPleGateRefIdeal := Cert.PleGateRefIdeal.Gen.facts) := by
  pair_intro
  · run_from Cert.PleGateIdeal.Gen.run_main m g
  · run_from Cert.PleGateRefIdeal.Value.run m' g'
    exact (final m c).symm

theorem frame_reference : Cert.quiescent_PleGateRefIdeal (hPleGateRefIdeal := Cert.PleGateRefIdeal.Gen.facts) := fun m ρ _ =>
  (θ_run Cert.PleGateRefIdeal.defs _ _).mono (fun r h => ⟨fun c => (h c).2, sem_eq_zero_of_no_sems (by decide) r.2⟩)
    (Cert.PleGateRefIdeal.Value.run m ρ)

end Cert.PleGateIdeal.Layer

end
-- ==== Proof.Layer.Ple.lean ====
/- The per-layer embeddings: their product, and the residual stream plus the gated product: kernel and reference give the same arrays. -/
module

public import proofs.«01_k».proof.Defs
public import proofs.«01_k».proof.Proof.Gen.PleIdeal.Frame
public import proofs.«01_k».proof.Proof.Gen.PleIdeal.Value
public import proofs.«01_k».proof.Proof.Gen.PleRefIdeal.Run
public import proofs.«01_k».proof.Proof.Gen.PleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Layer

open Cert.PleIdeal Cert.PleIdeal.Gen
open Cert.PleRefIdeal.Read

variable (m : (ℓ : Loc nD τ sig) → Buf (Elt Ideal) ℓ)

/-- The windows' block indices at every grid point. -/
theorem idx : ∀ t : Fin cfg0.N, win0_0.index t = ![0, 0] ∧ win0_1.index t = ![t.val / 2, 0, t.val % 2] ∧ win0_2.index t = ![0, t.val] ∧ win0_3.index t = ![0, t.val] ∧ win0_4.index t = ![0, t.val] ∧ win0_5.index t = ![0, t.val] ∧ t.val < 8 :=
  (by decide +kernel : ∀ t : Fin grid0.N, _)

/-- What a point stores is the reference's result at the block's place. -/
theorem point_4 (c : Dev nD) (t : Fin cfg0.N) (y) : k0_pay2 (iblk m c 0 t) (iblk m c 1 t) (iblk m c 2 t) (iblk m c 3 t) y
    = val_main_v7 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay2, val_main_v0, val_main_v1, val_main_v2, val_main_v3, val_main_v4, val_main_v5, val_main_v6, val_main_v7, val_main_v8]
  refine congrArg₂ (· + ·) ?_ (congrArg₂ (· * ·) ?_ ?_)
  · blk_ext [iblk, V, idx t]
  · blk_ext [iblk, V, idx t]
  · blk_point [iblk, V, idx t]

theorem final_4 (c : Dev nD) : (dats m 0 c).arrAt 4 (cfgs 0).N = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_4 m c t y

/-- What a point stores is the reference's result at the block's place. -/
theorem point_5 (c : Dev nD) (t : Fin cfg0.N) (y) : k0_pay3 (iblk m c 0 t) (iblk m c 1 t) y
    = val_main_v8 (F := Ideal) (m ((c : Thread nD τ).loc main_arg0)) (m ((c : Thread nD τ).loc main_arg1)) (((cfg0.win 5).blk t).view.emb y) := by
  pointwise [k0_pay3, val_main_v0, val_main_v1, val_main_v2, val_main_v3, val_main_v4, val_main_v5, val_main_v6, val_main_v7, val_main_v8]
  blk_point [iblk, V, idx t]

theorem final_5 (c : Dev nD) : (dats m 0 c).arrAt 5 (cfgs 0).N = val_main_v8 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_5 m c t y

/-- Kernel and reference end with equal results. -/
theorem algebraic : Cert.algebraic_PleIdeal_PleRefIdeal (hPleIdeal := Cert.PleIdeal.Gen.facts) (hPleRefIdeal := Cert.PleRefIdeal.Gen.facts) := by
  pair_intro
  · run_from Cert.PleIdeal.Gen.run_main m g
  · run_from Cert.PleRefIdeal.Value.run m' g'
    · exact (final_4 m c).symm
    · exact (final_5 m c).symm

theorem frame_reference : Cert.quiescent_PleRefIdeal (hPleRefIdeal := Cert.PleRefIdeal.Gen.facts) := fun m ρ _ =>
  (θ_run Cert.PleRefIdeal.defs _ _).mono (fun r h => ⟨fun c => (h c).2.2, sem_eq_zero_of_no_sems (by decide) r.2⟩)
    (Cert.PleRefIdeal.Value.run m ρ)

end Cert.PleIdeal.Layer

end
-- ==== Proof.Layer.DwPle.lean ====
/- The gradient of the per-layer embedding's weight: kernel and reference give the same array. -/
module

public import proofs.«01_k».proof.Defs
public import proofs.«01_k».proof.Proof.Gen.DwPleIdeal.Frame
public import proofs.«01_k».proof.Proof.Gen.DwPleIdeal.Value
public import proofs.«01_k».proof.Proof.Gen.DwPleRefIdeal.Run
public import proofs.«01_k».proof.Proof.Gen.DwPleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwPleIdeal.Layer

open Cert.DwPleIdeal Cert.DwPleIdeal.Gen
open Cert.DwPleRefIdeal.Read

variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![t.val, 0, 0] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v10 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6, val_main_v7, val_main_v8, val_main_v9, val_main_v10]
  refine Finset.sum_congr rfl fun k _ => (mul_comm _ _).trans ?_
  blk_point [iblk, V, idx t]

theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwPleIdeal_DwPleRefIdeal (hDwPleIdeal := Cert.DwPleIdeal.Gen.facts) (hDwPleRefIdeal := Cert.DwPleRefIdeal.Gen.facts) := by
  pair_intro
  · run_from Cert.DwPleIdeal.Gen.run_main m g
  · run_from Cert.DwPleRefIdeal.Value.run m' g'
    exact (final m c).symm

theorem frame_reference : Cert.quiescent_DwPleRefIdeal (hDwPleRefIdeal := Cert.DwPleRefIdeal.Gen.facts) := fun m ρ _ =>
  (θ_run Cert.DwPleRefIdeal.defs _ _).mono (fun r h => ⟨fun c => (h c).2, sem_eq_zero_of_no_sems (by decide) r.2⟩)
    (Cert.DwPleRefIdeal.Value.run m ρ)

end Cert.DwPleIdeal.Layer

end
-- ==== Proof.Layer.DwSquare.lean ====
/- The gradient of a square weight: kernel and reference give the same array. -/
module

public import proofs.«01_k».proof.Defs
public import proofs.«01_k».proof.Proof.Gen.DwSquareIdeal.Frame
public import proofs.«01_k».proof.Proof.Gen.DwSquareIdeal.Value
public import proofs.«01_k».proof.Proof.Gen.DwSquareRefIdeal.Run
public import proofs.«01_k».proof.Proof.Gen.DwSquareRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwSquareIdeal.Layer

open Cert.DwSquareIdeal Cert.DwSquareIdeal.Gen
open Cert.DwSquareRefIdeal.Read

variable (m : (ℓ : Loc nD τ sig) → Buf (Elt Ideal) ℓ)

/-- The windows' block indices at every grid point. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- What a point stores is the reference's result at the block's place. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6]
  refine Finset.sum_congr rfl fun k _ => (mul_comm _ _).trans ?_
  blk_point [iblk, V, idx t]

theorem final (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwSquareIdeal_DwSquareRefIdeal (hDwSquareIdeal := Cert.DwSquareIdeal.Gen.facts) (hDwSquareRefIdeal := Cert.DwSquareRefIdeal.Gen.facts) := by
  pair_intro
  · run_from Cert.DwSquareIdeal.Gen.run_main m g
  · run_from Cert.DwSquareRefIdeal.Value.run m' g'
    exact (final m c).symm

theorem frame_reference : Cert.quiescent_DwSquareRefIdeal (hDwSquareRefIdeal := Cert.DwSquareRefIdeal.Gen.facts) := fun m ρ _ =>
  (θ_run Cert.DwSquareRefIdeal.defs _ _).mono (fun r h => ⟨fun c => (h c).2, sem_eq_zero_of_no_sems (by decide) r.2⟩)
    (Cert.DwSquareRefIdeal.Value.run m ρ)

end Cert.DwSquareIdeal.Layer

end
-- ==== Proof.Layer.DSquare.lean ====
/- The gradient at the left operand of a product with a square weight: kernel and reference give the same array. -/
module

public import proofs.«01_k».proof.Defs
public import proofs.«01_k».proof.Proof.Gen.DSquareIdeal.Frame
public import proofs.«01_k».proof.Proof.Gen.DSquareIdeal.Value
public import proofs.«01_k».proof.Proof.Gen.DSquareRefIdeal.Run
public import proofs.«01_k».proof.Proof.Gen.DSquareRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DSquareIdeal.Layer

open Cert.DSquareIdeal Cert.DSquareIdeal.Gen
open Cert.DSquareRefIdeal.Read

variable (m : (ℓ : Loc nD τ sig) → Buf (Elt Ideal) ℓ)

/-- The windows' block indices at every grid point. -/
theorem idx : ∀ t : Fin cfg0.N, win0_0.index t = ![0, 0] ∧ win0_1.index t = ![t.val, 0] ∧ win0_2.index t = ![0, t.val] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v5 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5]
  blk_point [iblk, V, idx t]

theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DSquareIdeal_DSquareRefIdeal (hDSquareIdeal := Cert.DSquareIdeal.Gen.facts) (hDSquareRefIdeal := Cert.DSquareRefIdeal.Gen.facts) := by
  pair_intro
  · run_from Cert.DSquareIdeal.Gen.run_main m g
  · run_from Cert.DSquareRefIdeal.Value.run m' g'
    exact (final m c).symm

theorem frame_reference : Cert.quiescent_DSquareRefIdeal (hDSquareRefIdeal := Cert.DSquareRefIdeal.Gen.facts) := fun m ρ _ =>
  (θ_run Cert.DSquareRefIdeal.defs _ _).mono (fun r h => ⟨fun c => (h c).2, sem_eq_zero_of_no_sems (by decide) r.2⟩)
    (Cert.DSquareRefIdeal.Value.run m ρ)

end Cert.DSquareIdeal.Layer

end
-- ==== Proof.Layer.DwGate.lean ====
/- The gradient of the gate's weight: kernel and reference give the same array. -/
module

public import proofs.«01_k».proof.Defs
public import proofs.«01_k».proof.Proof.Gen.DwGateIdeal.Frame
public import proofs.«01_k».proof.Proof.Gen.DwGateIdeal.Value
public import proofs.«01_k».proof.Proof.Gen.DwGateRefIdeal.Run
public import proofs.«01_k».proof.Proof.Gen.DwGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwGateIdeal.Layer

open Cert.DwGateIdeal Cert.DwGateIdeal.Gen
open Cert.DwGateRefIdeal.Read

variable (m : (ℓ : Loc nD τ sig) → Buf (Elt Ideal) ℓ)

/-- The windows' block indices at every grid point. -/
theorem idx : ∀ t : Fin cfg0.N, win0_0.index t = ![0, t.val / 4] ∧ win0_1.index t = ![0, t.val % 4] ∧ win0_2.index t = ![t.val % 4, t.val / 4, 0] ∧ t.val < 8 :=
  (by decide +kernel : ∀ t : Fin grid0.N, _)

/-- What a point stores is the reference's result at the block's place. -/
theorem point (c : Dev nD) (t : Fin cfg0.N) (y) : k0_pay1 (iblk m c 0 t) (iblk m c 1 t) y
    = val_main_v10 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6, val_main_v7, val_main_v8, val_main_v9, val_main_v10]
  refine Finset.sum_congr rfl fun k _ => (mul_comm _ _).trans ?_
  blk_point [iblk, V, idx t]

theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwGateIdeal_DwGateRefIdeal (hDwGateIdeal := Cert.DwGateIdeal.Gen.facts) (hDwGateRefIdeal := Cert.DwGateRefIdeal.Gen.facts) := by
  pair_intro
  · run_from Cert.DwGateIdeal.Gen.run_main m g
  · run_from Cert.DwGateRefIdeal.Value.run m' g'
    exact (final m c).symm

theorem frame_reference : Cert.quiescent_DwGateRefIdeal (hDwGateRefIdeal := Cert.DwGateRefIdeal.Gen.facts) := fun m ρ _ =>
  (θ_run Cert.DwGateRefIdeal.defs _ _).mono (fun r h => ⟨fun c => (h c).2, sem_eq_zero_of_no_sems (by decide) r.2⟩)
    (Cert.DwGateRefIdeal.Value.run m ρ)

end Cert.DwGateIdeal.Layer

end
-- ==== Proof.Layer.DwBranch.lean ====
/- The gradient of a branch's output weight: kernel and reference give the same array. -/
module

public import proofs.«01_k».proof.Defs
public import proofs.«01_k».proof.Proof.Gen.DwBranchIdeal.Frame
public import proofs.«01_k».proof.Proof.Gen.DwBranchIdeal.Value
public import proofs.«01_k».proof.Proof.Gen.DwBranchRefIdeal.Run
public import proofs.«01_k».proof.Proof.Gen.DwBranchRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwBranchIdeal.Layer

open Cert.DwBranchIdeal Cert.DwBranchIdeal.Gen
open Cert.DwBranchRefIdeal.Read

variable (m : (ℓ : Loc nD τ sig) → Buf (Elt Ideal) ℓ)

/-- The windows' block indices at every grid point. -/
theorem idx : ∀ t : Fin cfg0.N, win0_0.index t = ![0, 0] ∧ win0_1.index t = ![0, t.val] ∧ win0_2.index t = ![t.val, 0, 0] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v10 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6, val_main_v7, val_main_v8, val_main_v9, val_main_v10]
  refine Finset.sum_congr rfl fun k _ => (mul_comm _ _).trans ?_
  blk_point [iblk, V, idx t]

theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwBranchIdeal_DwBranchRefIdeal (hDwBranchIdeal := Cert.DwBranchIdeal.Gen.facts) (hDwBranchRefIdeal := Cert.DwBranchRefIdeal.Gen.facts) := by
  pair_intro
  · run_from Cert.DwBranchIdeal.Gen.run_main m g
  · run_from Cert.DwBranchRefIdeal.Value.run m' g'
    exact (final m c).symm

theorem frame_reference : Cert.quiescent_DwBranchRefIdeal (hDwBranchRefIdeal := Cert.DwBranchRefIdeal.Gen.facts) := fun m ρ _ =>
  (θ_run Cert.DwBranchRefIdeal.defs _ _).mono (fun r h => ⟨fun c => (h c).2, sem_eq_zero_of_no_sems (by decide) r.2⟩)
    (Cert.DwBranchRefIdeal.Value.run m ρ)

end Cert.DwBranchIdeal.Layer

end
-- ==== Proof.Layer.DBranch.lean ====
/- The gradient at a branch through its output weight, in four chunks: kernel and reference give the same array. -/
module

public import proofs.«01_k».proof.Defs
public import proofs.«01_k».proof.Proof.Gen.DBranchIdeal.Frame
public import proofs.«01_k».proof.Proof.Gen.DBranchIdeal.Value
public import proofs.«01_k».proof.Proof.Gen.DBranchRefIdeal.Run
public import proofs.«01_k».proof.Proof.Gen.DBranchRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DBranchIdeal.Layer

open Cert.DBranchIdeal Cert.DBranchIdeal.Gen
open Cert.DBranchRefIdeal.Read

variable (m : (ℓ : Loc nD τ sig) → Buf (Elt Ideal) ℓ)

/-- The windows' block indices at every grid point. -/
theorem idx : ∀ t : Fin cfg0.N, win0_0.index t = ![0, t.val] ∧ win0_1.index t = ![t.val, 0, 0] ∧ win0_2.index t = ![0, 0] ∧ t.val < 4 :=
  (by decide +kernel : ∀ t : Fin grid0.N, _)

/-- The first chunk's product, as stored. -/
theorem first_chunk (x : Vec Ideal S2048x512 .bf16) (w : Vec Ideal S1x512x512 .bf16) (j : S2048x512.Idx) :
    k0_pay2 (F := Ideal) x w j = (0 : EReal) + ∑ k : Fin 512, x (ix2 (j 0) k) * w (ix3 0 (j 1) k) := by
  pointwise [k0_pay2, k0_pay1]

/-- A later chunk's product, added to what is held. -/
theorem later_chunk (x : Vec Ideal S2048x512 .bf16) (w : Vec Ideal S1x512x512 .bf16) (acc : Vec Ideal S2048x512 .f32) (j : S2048x512.Idx) :
    k0_pay3 (F := Ideal) x w acc j = acc j + ∑ k : Fin 512, x (ix2 (j 0) k) * w (ix3 0 (j 1) k) := by
  pointwise [k0_pay3, k0_pay1]

/-- At the last chunk the result is what is held. -/
theorem out_eq (c : Dev nD) (t : Fin cfg0.N) (h : t.val % 4 = 3) (y : S2048x512.Idx) :
    (outsAt0 m c t.val t.isLt).1 y = (outsAt0 m c t.val t.isLt).2 y := by
  rw [outsAt0_C m c t (by omega) (by omega) h]
  frame_out
  pointwise [k0_pay4]

/-- What is held at the last chunk: the product over the whole inner axis. -/
theorem held (c : Dev nD) (t : Fin cfg0.N) (h : t.val % 4 = 3) (y : S2048x512.Idx) :
    (outsAt0 m c t.val t.isLt).2 y = (0 : EReal) + ∑ s : Fin 4, ∑ k : Fin 512,
      (show Vec Ideal S2048x512 .bf16 from iblk m c 0 ⟨4 * (t.val / 4) + s.val, Pipeline.run_point_lt_of_flush t h s⟩) (ix2 (y 0) k)
        * (show Vec Ideal S1x512x512 .bf16 from iblk m c 1 ⟨4 * (t.val / 4) + s.val, Pipeline.run_point_lt_of_flush t h s⟩) (ix3 0 (y 1) k) :=
  Pipeline.eq_sum_fin_of_reset_step_apply_of_flush (M := EReal) (fun n h => (outsAt0 m c n h).2) 4 (fun _ => 0)
    (fun t j => ∑ k : Fin 512, (show Vec Ideal S2048x512 .bf16 from iblk m c 0 t) (ix2 (j 0) k)
      * (show Vec Ideal S1x512x512 .bf16 from iblk m c 1 t) (ix3 0 (j 1) k))
    (fun t h j => by rw [outsAt0_A m c t h (by have := (idx t).2.2.2; omega) (by omega)]; frame_out; exact first_chunk _ _ j)
    (fun t h j => by
      by_cases h3 : t.val % 4 = 3
      · rw [outsAt0_C m c t h (by omega) h3]; frame_out; rw [(Memref.isWhole_whole _).read_unread]; exact later_chunk _ _ _ j
      · rw [outsAt0_B m c t h (by omega) h3]; frame_out; rw [(Memref.isWhole_whole _).read_unread]; exact later_chunk _ _ _ j)
    t h y

theorem final (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  have h : t.val % 4 = 3 := (flush0_2 t).mp hf
  rw [after0_2]
  refine (out_eq m c t h y).trans ?_
  rw [held m c t h y, zero_add]
  pointwise [val_main_cst, val_main_v0, val_main_v1, val_main_v2, val_main_v3, val_main_v4, val_main_v5, val_main_v6, val_main_v7]
  refine Fin.sum_mul_add_congr fun s k hl => ?_
  blk_point [iblk, V, idx t, idx ⟨_, Pipeline.run_point_lt_of_flush t h s⟩]

/-- Kernel and reference end with equal results. -/
theorem algebraic : Cert.algebraic_DBranchIdeal_DBranchRefIdeal (hDBranchIdeal := Cert.DBranchIdeal.Gen.facts) (hDBranchRefIdeal := Cert.DBranchRefIdeal.Gen.facts) := by
  pair_intro
  · run_from Cert.DBranchIdeal.Gen.run_main m g
  · run_from Cert.DBranchRefIdeal.Value.run m' g'
    exact (final m c).symm

theorem frame_reference : Cert.quiescent_DBranchRefIdeal (hDBranchRefIdeal := Cert.DBranchRefIdeal.Gen.facts) := fun m ρ _ =>
  (θ_run Cert.DBranchRefIdeal.defs _ _).mono (fun r h => ⟨fun c => (h c).2, sem_eq_zero_of_no_sems (by decide) r.2⟩)
    (Cert.DBranchRefIdeal.Value.run m ρ)

end Cert.DBranchIdeal.Layer

end
-- ==== Proof.Layer.DwQkv.lean ====
/- The gradient of the weight of queries, keys and values: kernel and reference give the same array. -/
module

public import proofs.«01_k».proof.Defs
public import proofs.«01_k».proof.Proof.Gen.DwQkvIdeal.Frame
public import proofs.«01_k».proof.Proof.Gen.DwQkvIdeal.Value
public import proofs.«01_k».proof.Proof.Gen.DwQkvRefIdeal.Run
public import proofs.«01_k».proof.Proof.Gen.DwQkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Layer

open Cert.DwQkvIdeal Cert.DwQkvIdeal.Gen
open Cert.DwQkvRefIdeal.Read

variable (m : (ℓ : Loc nD τ sig) → Buf (Elt Ideal) ℓ)

/-- The windows' block indices at every grid point. -/
theorem idx : ∀ t : Fin cfg0.N, win0_0.index t = ![0, t.val / 3] ∧ win0_1.index t = ![0, t.val % 3] ∧ win0_2.index t = ![t.val / 3, t.val % 3] ∧ t.val < 6 :=
  (by decide +kernel : ∀ t : Fin grid0.N, _)

/-- What a point stores is the reference's result at the block's place. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6]
  refine Finset.sum_congr rfl fun k _ => (mul_comm _ _).trans ?_
  blk_point [iblk, V, idx t]

theorem final (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwQkvIdeal_DwQkvRefIdeal (hDwQkvIdeal := Cert.DwQkvIdeal.Gen.facts) (hDwQkvRefIdeal := Cert.DwQkvRefIdeal.Gen.facts) := by
  pair_intro
  · run_from Cert.DwQkvIdeal.Gen.run_main m g
  · run_from Cert.DwQkvRefIdeal.Value.run m' g'
    exact (final m c).symm

theorem frame_reference : Cert.quiescent_DwQkvRefIdeal (hDwQkvRefIdeal := Cert.DwQkvRefIdeal.Gen.facts) := fun m ρ _ =>
  (θ_run Cert.DwQkvRefIdeal.defs _ _).mono (fun r h => ⟨fun c => (h c).2, sem_eq_zero_of_no_sems (by decide) r.2⟩)
    (Cert.DwQkvRefIdeal.Value.run m ρ)

end Cert.DwQkvIdeal.Layer

end
-- ==== Proof.Layer.DwLogit.lean ====
/- The gradient of the forget logits' padded weight: kernel and reference give the same array. -/
module

public import proofs.«01_k».proof.Defs
public import proofs.«01_k».proof.Proof.Gen.DwLogitIdeal.Frame
public import proofs.«01_k».proof.Proof.Gen.DwLogitIdeal.Value
public import proofs.«01_k».proof.Proof.Gen.DwLogitRefIdeal.Run
public import proofs.«01_k».proof.Proof.Gen.DwLogitRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwLogitIdeal.Layer

open Cert.DwLogitIdeal Cert.DwLogitIdeal.Gen
open Cert.DwLogitRefIdeal.Read

variable (m : (ℓ : Loc nD τ sig) → Buf (Elt Ideal) ℓ)

/-- The windows' block indices at every grid point. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- What a point stores is the reference's result at the block's place. -/
theorem point (c : Dev nD) (t : Fin cfg0.N) (y) : k0_pay1 (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6]
  refine Finset.sum_congr rfl fun k _ => (mul_comm _ _).trans ?_
  blk_point [iblk, V, idx t]

theorem final (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DwLogitIdeal_DwLogitRefIdeal (hDwLogitIdeal := Cert.DwLogitIdeal.Gen.facts) (hDwLogitRefIdeal := Cert.DwLogitRefIdeal.Gen.facts) := by
  pair_intro
  · run_from Cert.DwLogitIdeal.Gen.run_main m g
  · run_from Cert.DwLogitRefIdeal.Value.run m' g'
    exact (final m c).symm

theorem frame_reference : Cert.quiescent_DwLogitRefIdeal (hDwLogitRefIdeal := Cert.DwLogitRefIdeal.Gen.facts) := fun m ρ _ =>
  (θ_run Cert.DwLogitRefIdeal.defs _ _).mono (fun r h => ⟨fun c => (h c).2, sem_eq_zero_of_no_sems (by decide) r.2⟩)
    (Cert.DwLogitRefIdeal.Value.run m ρ)

end Cert.DwLogitIdeal.Layer

end
-- ==== Proof.Layer.DuLogit.lean ====
/- The gradient at the layer's input through the forget logits: kernel and reference give the same array. -/
module

public import proofs.«01_k».proof.Defs
public import proofs.«01_k».proof.Proof.Gen.DuLogitIdeal.Frame
public import proofs.«01_k».proof.Proof.Gen.DuLogitIdeal.Value
public import proofs.«01_k».proof.Proof.Gen.DuLogitRefIdeal.Run
public import proofs.«01_k».proof.Proof.Gen.DuLogitRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DuLogitIdeal.Layer

open Cert.DuLogitIdeal Cert.DuLogitIdeal.Gen
open Cert.DuLogitRefIdeal.Read

variable (m : (ℓ : Loc nD τ sig) → Buf (Elt Ideal) ℓ)

/-- The windows' block indices at every grid point. -/
theorem idx : ∀ t : Fin cfg0.N, win0_0.index t = ![0, 0] ∧ win0_1.index t = ![t.val, 0] ∧ win0_2.index t = ![0, t.val] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v4 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4]
  blk_point [iblk, V, idx t]

theorem final (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_DuLogitIdeal_DuLogitRefIdeal (hDuLogitIdeal := Cert.DuLogitIdeal.Gen.facts) (hDuLogitRefIdeal := Cert.DuLogitRefIdeal.Gen.facts) := by
  pair_intro
  · run_from Cert.DuLogitIdeal.Gen.run_main m g
  · run_from Cert.DuLogitRefIdeal.Value.run m' g'
    exact (final m c).symm

theorem frame_reference : Cert.quiescent_DuLogitRefIdeal (hDuLogitRefIdeal := Cert.DuLogitRefIdeal.Gen.facts) := fun m ρ _ =>
  (θ_run Cert.DuLogitRefIdeal.defs _ _).mono (fun r h => ⟨fun c => (h c).2, sem_eq_zero_of_no_sems (by decide) r.2⟩)
    (Cert.DuLogitRefIdeal.Value.run m ρ)

end Cert.DuLogitIdeal.Layer

end
-- ==== Proof.Layer.DuGate.lean ====
/- The gradient at the layer's input through the gate, in four chunks, added to what came before: kernel and reference give the same array. -/
module

public import proofs.«01_k».proof.Defs
public import proofs.«01_k».proof.Proof.Gen.DuGateIdeal.Frame
public import proofs.«01_k».proof.Proof.Gen.DuGateIdeal.Value
public import proofs.«01_k».proof.Proof.Gen.DuGateRefIdeal.Run
public import proofs.«01_k».proof.Proof.Gen.DuGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DuGateIdeal.Layer

open Cert.DuGateIdeal Cert.DuGateIdeal.Gen
open Cert.DuGateRefIdeal.Read

variable (m : (ℓ : Loc nD τ sig) → Buf (Elt Ideal) ℓ)

/-- The windows' block indices at every grid point. -/
theorem idx : ∀ t : Fin cfg0.N, win0_0.index t = ![0, t.val % 4] ∧ win0_1.index t = ![t.val % 4, t.val / 4, 0] ∧ win0_2.index t = ![0, t.val / 4] ∧ win0_3.index t = ![0, t.val / 4] ∧ t.val < 16 :=
  (by decide +kernel : ∀ t : Fin grid0.N, _)

/-- The first chunk's product, as stored. -/
theorem first_chunk (x : Vec Ideal S2048x1024 .bf16) (w : Vec Ideal S1x512x1024 .bf16) (j : S2048x512.Idx) :
    k0_pay2 (F := Ideal) x w j = (0 : EReal) + ∑ k : Fin 1024, x (ix2 (j 0) k) * w (ix3 0 (j 1) k) := by
  pointwise [k0_pay2, k0_pay1]

/-- A later chunk's product, added to what is held. -/
theorem later_chunk (x : Vec Ideal S2048x1024 .bf16) (w : Vec Ideal S1x512x1024 .bf16) (acc : Vec Ideal S2048x512 .f32) (j : S2048x512.Idx) :
    k0_pay3 (F := Ideal) x w acc j = acc j + ∑ k : Fin 1024, x (ix2 (j 0) k) * w (ix3 0 (j 1) k) := by
  pointwise [k0_pay3, k0_pay1]

/-- At the last chunk the result is what is held, plus the block of the added array. -/
theorem out_eq (c : Dev nD) (t : Fin cfg0.N) (h : t.val % 4 = 3) (y : S2048x512.Idx) :
    (outsAt0 m c t.val t.isLt).1 y = ((outsAt0 m c t.val t.isLt).2 y + iblk m c 2 t y : EReal) := by
  rw [outsAt0_C m c t (by omega) (by omega) h]
  frame_out
  pointwise [k0_pay4]

/-- What is held at the last chunk: the product over the whole inner axis. -/
theorem held (c : Dev nD) (t : Fin cfg0.N) (h : t.val % 4 = 3) (y : S2048x512.Idx) :
    (outsAt0 m c t.val t.isLt).2 y = (0 : EReal) + ∑ s : Fin 4, ∑ k : Fin 1024,
      (show Vec Ideal S2048x1024 .bf16 from iblk m c 0 ⟨4 * (t.val / 4) + s.val, Pipeline.run_point_lt_of_flush t h s⟩) (ix2 (y 0) k)
        * (show Vec Ideal S1x512x1024 .bf16 from iblk m c 1 ⟨4 * (t.val / 4) + s.val, Pipeline.run_point_lt_of_flush t h s⟩) (ix3 0 (y 1) k) :=
  Pipeline.eq_sum_fin_of_reset_step_apply_of_flush (M := EReal) (fun n h => (outsAt0 m c n h).2) 4 (fun _ => 0)
    (fun t j => ∑ k : Fin 1024, (show Vec Ideal S2048x1024 .bf16 from iblk m c 0 t) (ix2 (j 0) k)
      * (show Vec Ideal S1x512x1024 .bf16 from iblk m c 1 t) (ix3 0 (j 1) k))
    (fun t h j => by rw [outsAt0_A m c t h (by omega) (by omega)]; frame_out; exact first_chunk _ _ j)
    (fun t h j => by
      by_cases h3 : t.val % 4 = 3
      · rw [outsAt0_C m c t h (by omega) h3]; frame_out; rw [(Memref.isWhole_whole _).read_unread]; exact later_chunk _ _ _ j
      · rw [outsAt0_B m c t h (by omega) h3]; frame_out; rw [(Memref.isWhole_whole _).read_unread]; exact later_chunk _ _ _ j)
    t h y

theorem final (c : Dev nD) : (dats m 0 c).arrAt 3 (cfgs 0).N = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h : t.val % 4 = 3 := (flush0_3 t).mp hf
  rw [after0_3]
  refine (out_eq m c t h y).trans ?_
  rw [held m c t h y, zero_add]
  pointwise [val_main_cst, val_main_v0, val_main_v1, val_main_v2, val_main_v3, val_main_v4, val_main_v5, val_main_v6, val_main_v7]
  refine (add_comm _ _).trans (congrArg₂ (· + ·) ?_ ?_)
  · blk_ext [iblk, V, idx t]
  · refine Fin.sum_mul_add_congr fun s k hl => ?_
    blk_point [iblk, V, idx t, idx ⟨_, Pipeline.run_point_lt_of_flush t h s⟩]

/-- Kernel and reference end with equal results. -/
theorem algebraic : Cert.algebraic_DuGateIdeal_DuGateRefIdeal (hDuGateIdeal := Cert.DuGateIdeal.Gen.facts) (hDuGateRefIdeal := Cert.DuGateRefIdeal.Gen.facts) := by
  pair_intro
  · run_from Cert.DuGateIdeal.Gen.run_main m g
  · run_from Cert.DuGateRefIdeal.Value.run m' g'
    exact (final m c).symm

theorem frame_reference : Cert.quiescent_DuGateRefIdeal (hDuGateRefIdeal := Cert.DuGateRefIdeal.Gen.facts) := fun m ρ _ =>
  (θ_run Cert.DuGateRefIdeal.defs _ _).mono (fun r h => ⟨fun c => (h c).2, sem_eq_zero_of_no_sems (by decide) r.2⟩)
    (Cert.DuGateRefIdeal.Value.run m ρ)

end Cert.DuGateIdeal.Layer

end
-- ==== Proof.Layer.DuQkv.lean ====
/- The gradient at the layer's input through queries, keys and values, in three chunks, added to what came before: kernel and reference give the same array. -/
module

public import proofs.«01_k».proof.Defs
public import proofs.«01_k».proof.Proof.Gen.DuQkvIdeal.Frame
public import proofs.«01_k».proof.Proof.Gen.DuQkvIdeal.Value
public import proofs.«01_k».proof.Proof.Gen.DuQkvRefIdeal.Run
public import proofs.«01_k».proof.Proof.Gen.DuQkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DuQkvIdeal.Layer

open Cert.DuQkvIdeal Cert.DuQkvIdeal.Gen
open Cert.DuQkvRefIdeal.Read

variable (m : (ℓ : Loc nD τ sig) → Buf (Elt Ideal) ℓ)

/-- The windows' block indices at every grid point. -/
theorem idx : ∀ t : Fin cfg0.N, win0_0.index t = ![0, t.val % 3] ∧ win0_1.index t = ![t.val / 3, t.val % 3] ∧ win0_2.index t = ![0, t.val / 3] ∧ win0_3.index t = ![0, t.val / 3] ∧ t.val < 12 :=
  (by decide +kernel : ∀ t : Fin grid0.N, _)

/-- The block of the weight that the point reads, entry by entry: no block is cut. -/
theorem weight_read (c : Dev nD) (t : Fin cfg0.N) (j : S512x2048.Idx) : X0_1 m c t j
    = m ((c : Thread nD τ).loc main_arg1) (ix2 ⟨512 * (t.val / 3) + (j 0).val, by have := (idx t).2.2.2.2; have h : (j 0).val < 512 := (j 0).isLt; omega⟩
      ⟨2048 * (t.val % 3) + (j 1).val, by have h : (j 1).val < 2048 := (j 1).isLt; omega⟩) := by
  unfold X0_1 Pipeline.Window.fill
  rw [dif_pos (moved0_1 t j)]
  blk_ext [iblk, V, idx t]

/-- The first chunk's product, as stored. -/
theorem first_chunk (x : Vec Ideal S2048x2048 .bf16) (w : Vec Ideal S512x2048 .bf16) (j : S2048x512.Idx) :
    k0_pay2 (F := Ideal) x w j = (0 : EReal) + ∑ k : Fin 2048, x (ix2 (j 0) k) * w (ix2 (j 1) k) := by
  pointwise [k0_pay2, k0_pay1]

/-- A later chunk's product, added to what is held. -/
theorem later_chunk (x : Vec Ideal S2048x2048 .bf16) (w : Vec Ideal S512x2048 .bf16) (acc : Vec Ideal S2048x512 .f32) (j : S2048x512.Idx) :
    k0_pay3 (F := Ideal) x w acc j = acc j + ∑ k : Fin 2048, x (ix2 (j 0) k) * w (ix2 (j 1) k) := by
  pointwise [k0_pay3, k0_pay1]

/-- At the last chunk the result is what is held, plus the block of the added array. -/
theorem out_eq (c : Dev nD) (t : Fin cfg0.N) (h : t.val % 3 = 2) (y : S2048x512.Idx) :
    (outsAt0 m c t.val t.isLt).1 y = ((outsAt0 m c t.val t.isLt).2 y + iblk m c 2 t y : EReal) := by
  rw [outsAt0_C m c t (by omega) (by omega) h]
  frame_out
  pointwise [k0_pay4]

/-- What is held at the last chunk: the product over the whole inner axis. -/
theorem held (c : Dev nD) (t : Fin cfg0.N) (h : t.val % 3 = 2) (y : S2048x512.Idx) :
    (outsAt0 m c t.val t.isLt).2 y = (0 : EReal) + ∑ s : Fin 3, ∑ k : Fin 2048,
      (show Vec Ideal S2048x2048 .bf16 from iblk m c 0 ⟨3 * (t.val / 3) + s.val, Pipeline.run_point_lt_of_flush t h s⟩) (ix2 (y 0) k)
        * (show Vec Ideal S512x2048 .bf16 from X0_1 m c ⟨3 * (t.val / 3) + s.val, Pipeline.run_point_lt_of_flush t h s⟩) (ix2 (y 1) k) :=
  Pipeline.eq_sum_fin_of_reset_step_apply_of_flush (M := EReal) (fun n h => (outsAt0 m c n h).2) 3 (fun _ => 0)
    (fun t j => ∑ k : Fin 2048, (show Vec Ideal S2048x2048 .bf16 from iblk m c 0 t) (ix2 (j 0) k)
      * (show Vec Ideal S512x2048 .bf16 from X0_1 m c t) (ix2 (j 1) k))
    (fun t h j => by rw [outsAt0_A m c t h (by omega) (by omega)]; frame_out; exact first_chunk _ _ j)
    (fun t h j => by
      by_cases h3 : t.val % 3 = 2
      · rw [outsAt0_C m c t h (by omega) h3]; frame_out; rw [(Memref.isWhole_whole _).read_unread]; exact later_chunk _ _ _ j
      · rw [outsAt0_B m c t h (by omega) h3]; frame_out; rw [(Memref.isWhole_whole _).read_unread]; exact later_chunk _ _ _ j)
    t h y

theorem final (c : Dev nD) : (dats m 0 c).arrAt 3 (cfgs 0).N = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h : t.val % 3 = 2 := (flush0_3 t).mp hf
  rw [after0_3]
  refine (out_eq m c t h y).trans ?_
  rw [held m c t h y, zero_add]
  pointwise [val_main_cst, val_main_v0, val_main_v1, val_main_v2, val_main_v3, val_main_v4, val_main_v5, val_main_v6, val_main_v7]
  refine (add_comm _ _).trans (congrArg₂ (· + ·) ?_ ?_)
  · blk_ext [iblk, V, idx t]
  · refine Fin.sum_mul_add_congr fun s k hl => ?_
    simp only [weight_read m c]
    blk_point [iblk, V, idx t, idx ⟨_, Pipeline.run_point_lt_of_flush t h s⟩]

/-- Kernel and reference end with equal results. -/
theorem algebraic : Cert.algebraic_DuQkvIdeal_DuQkvRefIdeal (hDuQkvIdeal := Cert.DuQkvIdeal.Gen.facts) (hDuQkvRefIdeal := Cert.DuQkvRefIdeal.Gen.facts) := by
  pair_intro
  · run_from Cert.DuQkvIdeal.Gen.run_main m g
  · run_from Cert.DuQkvRefIdeal.Value.run m' g'
    exact (final m c).symm

theorem frame_reference : Cert.quiescent_DuQkvRefIdeal (hDuQkvRefIdeal := Cert.DuQkvRefIdeal.Gen.facts) := fun m ρ _ =>
  (θ_run Cert.DuQkvRefIdeal.defs _ _).mono (fun r h => ⟨fun c => (h c).2, sem_eq_zero_of_no_sems (by decide) r.2⟩)
    (Cert.DuQkvRefIdeal.Value.run m ρ)

end Cert.DuQkvIdeal.Layer

end
-- ==== Proof.Layer.Merge.lean ====
/- The two branches merged under their gates: kernel and reference give the same array. -/
module

public import proofs.«01_k».proof.Defs
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Layer

open Cert.MergeIdeal Cert.MergeIdeal.Gen
open Cert.MergeRefIdeal.Read

variable (m : (ℓ : Loc nD τ sig) → Buf (Elt Ideal) ℓ)

/-- The windows' block indices at every grid point. -/
theorem idx : ∀ t : Fin cfg0.N, win0_0.index t = ![t.val, 0] ∧ win0_1.index t = ![t.val, 1] ∧ win0_2.index t = ![t.val, 0] ∧ win0_3.index t = ![t.val, 0] ∧ win0_4.index t = ![t.val, 0] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) (iblk m c 2 t) (iblk m c 3 t) y
    = val_main_v8 (F := Ideal) (m ((c : Thread nD τ).loc main_arg0)) (m ((c : Thread nD τ).loc main_arg1)) (m ((c : Thread nD τ).loc main_arg2)) (((cfg0.win 4).blk t).view.emb y) := by
  pointwise [k0_pay1, val_main_v0, val_main_v1, val_main_v2, val_main_v3, val_main_v4, val_main_v5, val_main_v6, val_main_v7, val_main_v8]
  blk_point [iblk, V, idx t]

theorem final (c : Dev nD) : (dats m 0 c).arrAt 4 (cfgs 0).N = val_main_v8 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

/-- Kernel and reference end with equal results. -/
theorem algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    exact (final m c).symm

theorem frame_reference : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run m ρ)

end Cert.MergeIdeal.Layer

end
-- ==== Proof.Layer.DMerge.lean ====
/- The gradient of the merge of the two branches: kernel and reference give the same arrays. -/
module

public import proofs.«01_k».proof.Defs
public import proofs.«01_k».proof.Proof.Gen.DMergeIdeal.Frame
public import proofs.«01_k».proof.Proof.Gen.DMergeIdeal.Value
public import proofs.«01_k».proof.Proof.Gen.DMergeRefIdeal.Run
public import proofs.«01_k».proof.Proof.Gen.DMergeRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DMergeIdeal.Layer

open Cert.DMergeIdeal Cert.DMergeIdeal.Gen
open Cert.DMergeRefIdeal.Read

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 1] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ t.val < 8 :=
  (by decide +kernel : ∀ t : Fin grid0.N, _)

/-- The gate's value at an entry, from the two summands it is formed of. -/
abbrev gate (x b : EReal) : EReal := Ideal.div 1 (1 + Ideal.exp (-(x + b)))

/-- The first branch's block of the gates that the host hands over, entry by entry. -/
theorem gate_read₁ (c : Dev nD) (t : Fin cfg0.N) (y : S256x2048.Idx) : iblk m c 1 t y
    = gate (m ((c : Thread nD τ).loc main_arg1) (ix2 ⟨256 * t.val + (y 0).val, by have := (idx t).2.2.2.2.2.2.2.2.2; have h : (y 0).val < 256 := (y 0).isLt; omega⟩ ⟨(y 1).val, by have h : (y 1).val < 2048 := (y 1).isLt; omega⟩)) (m ((c : Thread nD τ).loc main_arg2) (ix2 0 ⟨(y 1).val, by have h : (y 1).val < 2048 := (y 1).isLt; omega⟩)) := by
  blk_simp [iblk]
  entry_read
  pointwise [gate]
  blk_point [idx t]

/-- The second branch's block of the gates that the host hands over, entry by entry. -/
theorem gate_read₂ (c : Dev nD) (t : Fin cfg0.N) (y : S256x2048.Idx) : iblk m c 2 t y
    = gate (m ((c : Thread nD τ).loc main_arg1) (ix2 ⟨256 * t.val + (y 0).val, by have := (idx t).2.2.2.2.2.2.2.2.2; have h : (y 0).val < 256 := (y 0).isLt; omega⟩ ⟨2048 + (y 1).val, by have h : (y 1).val < 2048 := (y 1).isLt; omega⟩)) (m ((c : Thread nD τ).loc main_arg2) (ix2 0 ⟨2048 + (y 1).val, by have h : (y 1).val < 2048 := (y 1).isLt; omega⟩)) := by
  blk_simp [iblk]
  entry_read
  pointwise [gate]
  blk_point [idx t]

theorem point_5 (c : Dev nD) (t : Fin cfg0.N) (y) : k0_pay7 (iblk m c 0 t) (iblk m c 1 t) y
    = val_main_v29 (F := Ideal) (m ((c : Thread nD τ).loc main_arg0)) (m ((c : Thread nD τ).loc main_arg1)) (m ((c : Thread nD τ).loc main_arg2)) (((cfg0.win 5).blk t).view.emb y) := by
  pointwise [k0_pay2, k0_pay3, k0_pay4, k0_pay7, k0_pay8, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_v29, val_main_v30, val_main_v31]
  rw [gate_read₁ m c t y, mul_comm]
  refine congrArg₂ (· * ·) ?_ ?_
  · unfold gate
    blk_point [iblk, V, idx t]
  · blk_ext [iblk, V, idx t]

theorem final_5 (c : Dev nD) : (dats m 0 c).arrAt 5 (cfgs 0).N = val_main_v29 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  by_cases h : t.val % 8 = 0
  · rw [outsAt0_A m c t h (by have := (idx t).2.2.2.2.2.2.2.2.2; omega)]; frame_out; exact point_5 m c t y
  · rw [outsAt0_B m c t h (by omega)]; frame_out; exact point_5 m c t y

theorem point_6 (c : Dev nD) (t : Fin cfg0.N) (y) : k0_pay8 (iblk m c 0 t) (iblk m c 2 t) y
    = val_main_v30 (F := Ideal) (m ((c : Thread nD τ).loc main_arg0)) (m ((c : Thread nD τ).loc main_arg1)) (m ((c : Thread nD τ).loc main_arg2)) (((cfg0.win 6).blk t).view.emb y) := by
  pointwise [k0_pay2, k0_pay3, k0_pay4, k0_pay7, k0_pay8, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_v29, val_main_v30, val_main_v31]
  rw [gate_read₂ m c t y, mul_comm]
  refine congrArg₂ (· * ·) ?_ ?_
  · unfold gate
    blk_point [iblk, V, idx t]
  · blk_ext [iblk, V, idx t]

theorem final_6 (c : Dev nD) : (dats m 0 c).arrAt 6 (cfgs 0).N = val_main_v30 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  by_cases h : t.val % 8 = 0
  · rw [outsAt0_A m c t h (by have := (idx t).2.2.2.2.2.2.2.2.2; omega)]; frame_out; exact point_6 m c t y
  · rw [outsAt0_B m c t h (by omega)]; frame_out; exact point_6 m c t y

/-- On the first branch's columns. -/
theorem ref_left (x0 : Vec Ideal S2048x2048 .bf16) (x1 : Vec Ideal S2048x4096 .f32) (x2 : Vec Ideal S1x4096 .f32) (x3 x4 : Vec Ideal S2048x2048 .bf16)
    (i : S2048x4096.Idx) (h : (i 1).val < 2048) : val_main_v26 (F := Ideal) x0 x1 x2 x3 x4 i
    = x0 (ix2 (i 0) ⟨(i 1).val, by have : (i 1).val < 4096 := (i 1).isLt; omega⟩) * x3 (ix2 (i 0) ⟨(i 1).val, by have : (i 1).val < 4096 := (i 1).isLt; omega⟩)
      * (gate (x1 i) (x2 (ix2 0 (i 1))) * (1 - gate (x1 i) (x2 (ix2 0 (i 1))))) := by
  have hi : (i 1).val < 4096 := (i 1).isLt
  pointwise [gate, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_v29, val_main_v30, val_main_v31]
  rw [dif_neg (by omega), dif_pos h, zero_add]

theorem pay_left (v0 v1 v2 v3 v4 : Vec Ideal S256x2048 .bf16) (i : S256x4096.Idx) (h : (i 1).val < 2048) :
    k0_pay5 (F := Ideal) v0 v1 v2 v3 v4 i
    = v0 (ix2 (i 0) ⟨(i 1).val, by have : (i 1).val < 4096 := (i 1).isLt; omega⟩) * v3 (ix2 (i 0) ⟨(i 1).val, by have : (i 1).val < 4096 := (i 1).isLt; omega⟩)
      * (v1 (ix2 (i 0) ⟨(i 1).val, by have : (i 1).val < 4096 := (i 1).isLt; omega⟩) * (1 - v1 (ix2 (i 0) ⟨(i 1).val, by have : (i 1).val < 4096 := (i 1).isLt; omega⟩))) := by
  pointwise [k0_pay5, k0_pay2, k0_pay3, k0_pay4]
  rw [dif_pos h, mul_assoc]

/-- On the second branch's columns. -/
theorem ref_right (x0 : Vec Ideal S2048x2048 .bf16) (x1 : Vec Ideal S2048x4096 .f32) (x2 : Vec Ideal S1x4096 .f32) (x3 x4 : Vec Ideal S2048x2048 .bf16)
    (i : S2048x4096.Idx) (h : ¬(i 1).val < 2048) : val_main_v26 (F := Ideal) x0 x1 x2 x3 x4 i
    = x0 (ix2 (i 0) ⟨(i 1).val - 2048, by have : (i 1).val < 4096 := (i 1).isLt; omega⟩) * x4 (ix2 (i 0) ⟨(i 1).val - 2048, by have : (i 1).val < 4096 := (i 1).isLt; omega⟩)
      * (gate (x1 i) (x2 (ix2 0 (i 1))) * (1 - gate (x1 i) (x2 (ix2 0 (i 1))))) := by
  have hi : (i 1).val < 4096 := (i 1).isLt
  pointwise [gate, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_v19, val_main_v20, val_main_cst_2, val_main_v21, val_main_v22, val_main_v23, val_main_cst_3, val_main_v24, val_main_v25, val_main_v26, val_main_cst_4, val_main_v27, val_main_v28, val_main_v29, val_main_v30, val_main_v31]
  rw [dif_pos (by omega), dif_neg h, add_zero]

theorem pay_right (v0 v1 v2 v3 v4 : Vec Ideal S256x2048 .bf16) (i : S256x4096.Idx) (h : ¬(i 1).val < 2048) :
    k0_pay5 (F := Ideal) v0 v1 v2 v3 v4 i
    = v0 (ix2 (i 0) ⟨(i 1).val - 2048, by have : (i 1).val < 4096 := (i 1).isLt; omega⟩) * v4 (ix2 (i 0) ⟨(i 1).val - 2048, by have : (i 1).val < 4096 := (i 1).isLt; omega⟩)
      * (v2 (ix2 (i 0) ⟨(i 1).val - 2048, by have : (i 1).val < 4096 := (i 1).isLt; omega⟩) * (1 - v2 (ix2 (i 0) ⟨(i 1).val - 2048, by have : (i 1).val < 4096 := (i 1).isLt; omega⟩))) := by
  pointwise [k0_pay5, k0_pay2, k0_pay3, k0_pay4]
  rw [dif_neg h, mul_assoc]

/-- The gradient at the gates' argument, as a point computes it, is the reference's at the block's place. -/
theorem gate_grad (c : Dev nD) (t : Fin cfg0.N) (y : S256x4096.Idx) : k0_pay5 (iblk m c 0 t) (iblk m c 1 t) (iblk m c 2 t) (iblk m c 3 t) (iblk m c 4 t) y
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have e : ((((cfg0.win 7).blk t).view.emb y) 1).val = (y 1).val := by
    show win0_7.index t (1 : Fin 2) * 4096 + 1 * (y 1).val = (y 1).val
    rw [(idx t).2.2.2.2.2.2.2.1]; simp
  have hy : (y 1).val < 4096 := (y 1).isLt
  by_cases h : (y 1).val < 2048
  · refine (pay_left _ _ _ _ _ y h).trans (Eq.trans ?_ (ref_left _ _ _ _ _ _ (lt_of_eq_of_lt e h)).symm)
    rw [gate_read₁ m c t]
    refine congrArg₂ (· * ·) (congrArg₂ (· * ·) ?_ ?_) ?_
    · blk_ext [iblk, V, idx t]
    · blk_ext [iblk, V, idx t]
    · blk_point [iblk, V, idx t, gate]
  · refine (pay_right _ _ _ _ _ y h).trans (Eq.trans ?_ (ref_right _ _ _ _ _ _ (fun h' => h (lt_of_eq_of_lt e.symm h'))).symm)
    rw [gate_read₂ m c t]
    refine congrArg₂ (· * ·) (congrArg₂ (· * ·) ?_ ?_) ?_
    · blk_ext [iblk, V, idx t]
    · blk_ext [iblk, V, idx t]
    · blk_point [iblk, V, idx t, gate]

theorem final_7 (c : Dev nD) : (dats m 0 c).arrAt 7 (cfgs 0).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 8 = 0
  · rw [outsAt0_A m c t h (by have := (idx t).2.2.2.2.2.2.2.2.2; omega)]; frame_out; exact gate_grad m c t y
  · rw [outsAt0_B m c t h (by omega)]; frame_out; exact gate_grad m c t y

/-- The sum over the rows of a point's block, as stored at the first point. -/
theorem first_rows (x0 x1 x2 x3 x4 : Vec Ideal S256x2048 .bf16) (j : S1x4096.Idx) :
    k0_pay6 (F := Ideal) x0 x1 x2 x3 x4 j = (0 : EReal) + ∑ r : Fin 256, k0_pay5 (F := Ideal) x0 x1 x2 x3 x4 (ix2 r (j 1)) := by
  pointwise [k0_pay6]

/-- The sum over the rows of a later point's block, added to what is held. -/
theorem later_rows (x0 x1 x2 x3 x4 : Vec Ideal S256x2048 .bf16) (acc : Vec Ideal S1x4096 .f32) (j : S1x4096.Idx) :
    k0_pay1 (F := Ideal) (k0_pay6 x0 x1 x2 x3 x4) acc j = acc j + ∑ r : Fin 256, k0_pay5 (F := Ideal) x0 x1 x2 x3 x4 (ix2 r (j 1)) := by
  pointwise [k0_pay1, k0_pay6]

/-- What is held at the last point: the sum over all rows. -/
theorem held (c : Dev nD) (t : Fin cfg0.N) (h : t.val % 8 = 7) (y : S1x4096.Idx) :
    (outsAt0 m c t.val t.isLt).2.2.2 y = (0 : EReal) + ∑ s : Fin 8, ∑ r : Fin 256,
      k0_pay5 (F := Ideal) (iblk m c 0 ⟨8 * (t.val / 8) + s.val, Pipeline.run_point_lt_of_flush t h s⟩) (iblk m c 1 ⟨8 * (t.val / 8) + s.val, Pipeline.run_point_lt_of_flush t h s⟩) (iblk m c 2 ⟨8 * (t.val / 8) + s.val, Pipeline.run_point_lt_of_flush t h s⟩) (iblk m c 3 ⟨8 * (t.val / 8) + s.val, Pipeline.run_point_lt_of_flush t h s⟩) (iblk m c 4 ⟨8 * (t.val / 8) + s.val, Pipeline.run_point_lt_of_flush t h s⟩) (ix2 r (y 1)) :=
  Pipeline.eq_sum_fin_of_reset_step_apply_of_flush (M := EReal) (fun n h => (outsAt0 m c n h).2.2.2) 8 (fun _ => 0)
    (fun t j => ∑ r : Fin 256, k0_pay5 (F := Ideal) (iblk m c 0 t) (iblk m c 1 t) (iblk m c 2 t) (iblk m c 3 t) (iblk m c 4 t) (ix2 r (j 1)))
    (fun t h j => by rw [outsAt0_A m c t h (by have := (idx t).2.2.2.2.2.2.2.2.2; omega)]; frame_out; exact first_rows _ _ _ _ _ j)
    (fun t h j => by rw [outsAt0_B m c t h (by omega)]; frame_out; exact later_rows _ _ _ _ _ _ j)
    t h y

theorem final_8 (c : Dev nD) : (dats m 0 c).arrAt 8 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have h : t.val % 8 = 7 := (flush0_8 t).mp hf
  rw [after0_8]
  refine (held m c t h y).trans ?_
  rw [zero_add]
  pointwise [val_main_v28, val_main_v27, val_main_cst_4]
  refine Fin.sum_mul_add_congr fun s k hl => ?_
  refine (gate_grad m c _ _).trans ?_
  blk_ext [idx t, idx ⟨_, Pipeline.run_point_lt_of_flush t h s⟩]

/-- Kernel and reference end with equal results. -/
theorem algebraic : Cert.algebraic_DMergeIdeal_DMergeRefIdeal (hDMergeIdeal := Cert.DMergeIdeal.Gen.facts) (hDMergeRefIdeal := Cert.DMergeRefIdeal.Gen.facts) := by
  pair_intro
  · run_from Cert.DMergeIdeal.Gen.run_main m g
  · run_from Cert.DMergeRefIdeal.Value.run m' g'
    · exact (final_5 m c).symm
    · exact (final_6 m c).symm
    · exact (final_7 m c).symm
    · exact (final_8 m c).symm

theorem frame_reference : Cert.quiescent_DMergeRefIdeal (hDMergeRefIdeal := Cert.DMergeRefIdeal.Gen.facts) := fun m ρ _ =>
  (θ_run Cert.DMergeRefIdeal.defs _ _).mono (fun r h => ⟨fun c => (h c).2.2.2.2, sem_eq_zero_of_no_sems (by decide) r.2⟩)
    (Cert.DMergeRefIdeal.Value.run m ρ)

end Cert.DMergeIdeal.Layer

end
-- ==== Proof.Layer.DPle.lean ====
/- The gradients of the gated per-layer embeddings: kernel and reference give the same arrays. -/
module

public import proofs.«01_k».proof.Defs
public import proofs.«01_k».proof.Proof.Gen.DPleIdeal.Frame
public import proofs.«01_k».proof.Proof.Gen.DPleIdeal.Value
public import proofs.«01_k».proof.Proof.Gen.DPleRefIdeal.Run
public import proofs.«01_k».proof.Proof.Gen.DPleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DPleIdeal.Layer

open Cert.DPleIdeal Cert.DPleIdeal.Gen
open Cert.DPleRefIdeal.Read

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ t.val < 4 :=
  (by decide +kernel : ∀ t : Fin grid0.N, _)

/-- The block of the gate that the host hands over, entry by entry. -/
theorem gate_read (c : Dev nD) (t : Fin cfg0.N) (y) : iblk m c 1 t y
    = Ideal.div 1 (1 + Ideal.exp (Neg.neg (α := EReal) (m ((c : Thread nD τ).loc main_arg1) (((cfg0.win 3).blk t).view.emb y)))) := by
  blk_simp [iblk]
  entry_read
  pointwise
  blk_point [idx t]

/-- What a point stores is the reference's result at the block's place. -/
theorem point_3 (c : Dev nD) (t : Fin cfg0.N) (y) : k0_pay2 (iblk m c 0 t) (iblk m c 1 t) y
    = val_main_v14 (F := Ideal) (m ((c : Thread nD τ).loc main_arg0)) (m ((c : Thread nD τ).loc main_arg1)) (((cfg0.win 3).blk t).view.emb y) := by
  pointwise [k0_pay2, k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  rw [gate_read m c t y, mul_comm]
  refine congrArg₂ (· * ·) ?_ ?_ <;> blk_point [iblk, V, idx t]

theorem final_3 (c : Dev nD) : (dats m 0 c).arrAt 3 (cfgs 0).N = val_main_v14 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_3 m c t y

/-- What a point stores is the reference's result at the block's place. -/
theorem point_4 (c : Dev nD) (t : Fin cfg0.N) (y) : k0_pay3 (iblk m c 0 t) (iblk m c 1 t) (iblk m c 2 t) y
    = val_main_v15 (F := Ideal) (m ((c : Thread nD τ).loc main_arg0)) (m ((c : Thread nD τ).loc main_arg1)) (m ((c : Thread nD τ).loc main_arg2)) (((cfg0.win 4).blk t).view.emb y) := by
  pointwise [k0_pay3, k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  rw [gate_read m c t y, mul_assoc]
  refine congrArg₂ (· * ·) (congrArg₂ (· * ·) ?_ ?_) ?_ <;> blk_point [iblk, V, idx t]

theorem final_4 (c : Dev nD) : (dats m 0 c).arrAt 4 (cfgs 0).N = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_4 m c t y

/-- Kernel and reference end with equal results. -/
theorem algebraic : Cert.algebraic_DPleIdeal_DPleRefIdeal (hDPleIdeal := Cert.DPleIdeal.Gen.facts) (hDPleRefIdeal := Cert.DPleRefIdeal.Gen.facts) := by
  pair_intro
  · run_from Cert.DPleIdeal.Gen.run_main m g
  · run_from Cert.DPleRefIdeal.Value.run m' g'
    · exact (final_3 m c).symm
    · exact (final_4 m c).symm

theorem frame_reference : Cert.quiescent_DPleRefIdeal (hDPleRefIdeal := Cert.DPleRefIdeal.Gen.facts) := fun m ρ _ =>
  (θ_run Cert.DPleRefIdeal.defs _ _).mono (fun r h => ⟨fun c => (h c).2.2, sem_eq_zero_of_no_sems (by decide) r.2⟩)
    (Cert.DPleRefIdeal.Value.run m ρ)

end Cert.DPleIdeal.Layer

end
-- ==== Proof.Layer.Norm.lean ====
/- The root-mean-square norm: kernel and reference give the same array. -/
module

public import proofs.«01_k».proof.Defs
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Layer

open Cert.NormIdeal Cert.NormIdeal.Gen
open Cert.NormRefIdeal.Read

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- What a point stores is the reference's result at the block's place. -/
theorem point (c : Dev nD) (t : Fin cfg0.N) (y) : k0_pay1 (iblk m c 0 t) (iblk m c 1 t) y
    = val_main_v12 (F := Ideal) (m ((c : Thread nD τ).loc main_arg0)) (m ((c : Thread nD τ).loc main_arg1)) (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

theorem final (c : Dev nD) : (dats m 0 c).arrAt 2 (cfgs 0).N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Value.run m' g'
    exact (final m c).symm

theorem frame_reference : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run m ρ)

end Cert.NormIdeal.Layer

end
-- ==== Proof.Layer.Adamw.lean ====
/- The optimiser's step on the packed small weights: kernel and reference give the same arrays. -/
module

public import proofs.«01_k».proof.Defs
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwIdeal.Layer

open Cert.AdamwIdeal Cert.AdamwIdeal.Gen
open Cert.AdamwRefIdeal.Read

variable (m : (ℓ : Loc nD τ sig) → Buf (Elt Ideal) ℓ)

/-- The sum of the eight devices' gradients, read from the packed array. -/
theorem sum_eq (g : Vec Ideal S2752x128 .f32) (y : S344x128.Idx) :
    k0_pay2 (F := Ideal) (View.ld g r0_0) (View.ld g r0_1) (View.ld g r0_2) (View.ld g r0_3) (View.ld g r0_4) (View.ld g r0_5) (View.ld g r0_6) (View.ld g r0_7) y
      = val_main_v1 (F := Ideal) g y := by
  pointwise [k0_pay2, val_main_v0, val_main_cst, val_main_v1]
  rw [Fin.sum_univ_eight]
  blk_point

theorem final_4 (c : Dev nD) : Cert.AdamwIdeal.Value.G4 (m ((c : Thread nD τ).loc main_arg0)) (m ((c : Thread nD τ).loc main_arg1)) (m ((c : Thread nD τ).loc main_arg2)) (m ((c : Thread nD τ).loc main_arg3)) = val_main_v1 (F := Ideal) (m ((c : Thread nD τ).loc main_arg1)) := by
  funext y
  pointwise [Cert.AdamwIdeal.Value.G4, k0_pay1, k0_pay3, k0_pay4, k0_pay5, k0_pay6, k0_pay7, sum_eq, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

theorem final_5 (c : Dev nD) : Cert.AdamwIdeal.Value.G5 (m ((c : Thread nD τ).loc main_arg0)) (m ((c : Thread nD τ).loc main_arg1)) (m ((c : Thread nD τ).loc main_arg2)) (m ((c : Thread nD τ).loc main_arg3)) = val_main_v25 (F := Ideal) (m ((c : Thread nD τ).loc main_arg0)) (m ((c : Thread nD τ).loc main_arg1)) (m ((c : Thread nD τ).loc main_arg2)) (m ((c : Thread nD τ).loc main_arg3)) := by
  funext y
  pointwise [Cert.AdamwIdeal.Value.G5, k0_pay1, k0_pay3, k0_pay4, k0_pay5, k0_pay6, k0_pay7, sum_eq, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

theorem final_6 (c : Dev nD) : Cert.AdamwIdeal.Value.G6 (m ((c : Thread nD τ).loc main_arg0)) (m ((c : Thread nD τ).loc main_arg1)) (m ((c : Thread nD τ).loc main_arg2)) (m ((c : Thread nD τ).loc main_arg3)) = val_main_v6 (F := Ideal) (m ((c : Thread nD τ).loc main_arg1)) (m ((c : Thread nD τ).loc main_arg2)) := by
  funext y
  pointwise [Cert.AdamwIdeal.Value.G6, k0_pay1, k0_pay3, k0_pay4, k0_pay5, k0_pay6, k0_pay7, sum_eq, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

theorem final_7 (c : Dev nD) : Cert.AdamwIdeal.Value.G7 (m ((c : Thread nD τ).loc main_arg0)) (m ((c : Thread nD τ).loc main_arg1)) (m ((c : Thread nD τ).loc main_arg2)) (m ((c : Thread nD τ).loc main_arg3)) = val_main_v12 (F := Ideal) (m ((c : Thread nD τ).loc main_arg1)) (m ((c : Thread nD τ).loc main_arg3)) := by
  funext y
  pointwise [Cert.AdamwIdeal.Value.G7, k0_pay1, k0_pay3, k0_pay4, k0_pay5, k0_pay6, k0_pay7, sum_eq, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

/-- Kernel and reference end with equal results. -/
theorem algebraic : Cert.algebraic_AdamwIdeal_AdamwRefIdeal (hAdamwIdeal := Cert.AdamwIdeal.Gen.facts) (hAdamwRefIdeal := Cert.AdamwRefIdeal.Gen.facts) := by
  pair_intro
  · run_from Cert.AdamwIdeal.Value.run m g
  · run_from Cert.AdamwRefIdeal.Value.run m' g'
    · exact (final_4 m c).symm
    · exact (final_5 m c).symm
    · exact (final_6 m c).symm
    · exact (final_7 m c).symm

theorem frame_reference : Cert.quiescent_AdamwRefIdeal (hAdamwRefIdeal := Cert.AdamwRefIdeal.Gen.facts) := fun m ρ _ =>
  (θ_run Cert.AdamwRefIdeal.defs _ _).mono (fun r h => ⟨fun c => (h c).2.2.2.2, sem_eq_zero_of_no_sems (by decide) r.2⟩)
    (Cert.AdamwRefIdeal.Value.run m ρ)

end Cert.AdamwIdeal.Layer

end
-- ==== Proof.Layer.NormGrad.lean ====
/- The gradient of the root-mean-square norm over the extended reals: the kernel's closed form and the derivative step by step. -/
module

public import Idealize.ShloMosaic.Lib.Pipeline.ValueKit
public import Idealize.ShloMosaic.Lib.Claim

@[expose] public section

noncomputable section

open Idealize.ShloMosaic

namespace Cert.NormGrad

theorem ofBits_width : Ideal.ofBits FTy.f32 1157627904#32 = ((2048 : ℝ) : EReal) := by
  simp [Ideal.ofBits, Ideal.ieee]
  rw [← EReal.coe_mul]
  norm_num

theorem ofBits_minus_half : Ideal.ofBits FTy.f32 3204448256#32 = ((-(1 / 2) : ℝ) : EReal) := by
  simp [Ideal.ofBits, Ideal.ieee]
  rw [← EReal.coe_mul]
  norm_num

theorem ofBits_eps_pos : 0 < Ideal.ofBits FTy.f32 897988541#32 := by
  simp [Ideal.ofBits, Ideal.ieee]
  rw [← EReal.coe_mul]
  exact_mod_cast (by norm_num)

theorem mul_self_nonneg (x : EReal) : 0 ≤ x * x := by
  induction x with
  | bot => simp
  | top => simp
  | coe r => rw [← EReal.coe_mul]; exact_mod_cast _root_.mul_self_nonneg r

/-- Twice a number, infinities included. -/
theorem add_self (x : EReal) : x + x = 2 * x := by
  induction x with
  | bot => rw [EReal.mul_bot_of_pos (by norm_num)]; rfl
  | top => rw [EReal.mul_top_of_pos (by norm_num)]; rfl
  | coe r => rw [show (2 : EReal) = ((2 : ℝ) : EReal) from rfl, ← EReal.coe_mul, ← EReal.coe_add, two_mul]

/-- The mean of the squares plus the small constant is positive. -/
theorem mean_pos {n : ℕ} (x : Fin n → EReal) :
    0 < Ideal.div (∑ k, x k * x k) (Ideal.ofBits FTy.f32 1157627904#32) + Ideal.ofBits FTy.f32 897988541#32 := by
  have h : 0 ≤ Ideal.div (∑ k, x k * x k) (Ideal.ofBits FTy.f32 1157627904#32) := by
    rw [ofBits_width, Ideal.div_coe (by norm_num)]
    exact mul_nonneg (Finset.sum_nonneg fun k _ => mul_self_nonneg _) (by exact_mod_cast (by norm_num : (0 : ℝ) ≤ 1 / 2048))
  exact lt_of_lt_of_le ofBits_eps_pos (le_add_of_nonneg_left h)

/-- The cube of the inverse root. -/
theorem cube (u : EReal) (h : 0 < u) : Ideal.div (Ideal.rsqrt u) u = Ideal.rsqrt u * Ideal.rsqrt u * Ideal.rsqrt u := by
  induction u with
  | bot => simp at h
  | top => simp [Ideal.div]
  | coe r =>
    have hr : 0 < r := by exact_mod_cast h
    rw [Ideal.rsqrt_coe, if_neg (not_lt.mpr hr.le), if_neg hr.ne', Ideal.div_coe hr.ne', ← EReal.coe_mul, ← EReal.coe_mul, ← EReal.coe_mul]
    congr 1
    have hs : Real.sqrt r * Real.sqrt r = r := Real.mul_self_sqrt hr.le
    rw [mul_assoc, ← mul_inv, hs, mul_comm, one_div, mul_comm]

theorem half_twice : (-1 : EReal) = 2 * ((-(1 / 2) : ℝ) : EReal) := by
  rw [show (2 : EReal) = ((2 : ℝ) : EReal) from rfl, ← EReal.coe_mul]
  norm_num

/-- The gradient of the norm at an entry: `r` the inverse root, `S` the row's sum of the entries by their cotangents. -/
theorem norm_grad (x y u S : EReal) (h : 0 < u) :
    y * Ideal.rsqrt u
      + x * ∑ _k : Fin 1, Ideal.div (S * (Ideal.ofBits FTy.f32 3204448256#32 * Ideal.div (Ideal.rsqrt u) u)) (Ideal.ofBits FTy.f32 1157627904#32)
      + (∑ _k : Fin 1, Ideal.div (S * (Ideal.ofBits FTy.f32 3204448256#32 * Ideal.div (Ideal.rsqrt u) u)) (Ideal.ofBits FTy.f32 1157627904#32)) * x
    = Ideal.rsqrt u * y - x * (Ideal.rsqrt u * Ideal.rsqrt u * Ideal.rsqrt u) * Ideal.div S (Ideal.ofBits FTy.f32 1157627904#32) := by
  rw [add_assoc, Fin.sum_univ_one, cube u h, ofBits_width, ofBits_minus_half, Ideal.div_coe (by norm_num), Ideal.div_coe (by norm_num),
    sub_eq_add_neg, mul_comm y]
  congr 1
  generalize Ideal.rsqrt u * Ideal.rsqrt u * Ideal.rsqrt u = q
  generalize (((1 / 2048 : ℝ)) : EReal) = d
  rw [mul_comm _ x, add_self, ← neg_one_mul (x * q * (S * d)), half_twice]
  ac_rfl

end Cert.NormGrad

end
-- ==== Proof.Layer.DNorm.lean ====
/- The gradient of the root-mean-square norm: kernel and reference give the same arrays. -/
module

public import proofs.«01_k».proof.Defs
public import proofs.«01_k».proof.Proof.Gen.DNormIdeal.Frame
public import proofs.«01_k».proof.Proof.Gen.DNormIdeal.Value
public import proofs.«01_k».proof.Proof.Gen.DNormRefIdeal.Run
public import proofs.«01_k».proof.Proof.Gen.DNormRefIdeal.Read
public import Idealize.ShloMosaic.Lib.Pipeline.ValueKit
public import Idealize.ShloMosaic.Lib.Claim
public import proofs.«01_k».proof.Proof.Layer.NormGrad

@[expose] public section

set_option maxRecDepth 16384

noncomputable section

open Idealize.ShloMosaic Idealize.ShloMosaic.TcCoe Idealize.SL.Sem
open Idealize.ShloMosaic.Pipeline (Dat)

namespace Cert.DNormIdeal.Layer

open Cert.DNormIdeal Cert.DNormIdeal.Gen
open Cert.DNormRefIdeal.Read

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] ∧ t.val < 4 :=
  (by decide +kernel : ∀ t : Fin grid0.N, _)

/-- The gradient at an entry: `y` its scaled cotangent, `u` the row's mean square, `S` the row's sum of the entries by their cotangents. -/
def grad (x y u S : EReal) : EReal :=
  Ideal.rsqrt u * y - x * (Ideal.rsqrt u * Ideal.rsqrt u * Ideal.rsqrt u) * Ideal.div S (Ideal.ofBits FTy.f32 1157627904#32)

/-- A row's mean square plus the small constant. -/
def mean (x : Fin 2048 → EReal) : EReal :=
  Ideal.div (∑ k, x k * x k) (Ideal.ofBits FTy.f32 1157627904#32) + Ideal.ofBits FTy.f32 897988541#32

theorem pay_eq (x : Vec Ideal S512x2048 .f32) (g : Vec Ideal S1x2048 .f32) (d : Vec Ideal S512x2048 .bf16) (r : Vec Ideal S512x2048 .f32) (y) :
    k0_pay4 (F := Ideal) x g d r y = r y + grad (x y) (d y * g (ix2 0 (y 1))) (mean fun k => x (ix2 (y 0) k))
      (∑ k : Fin 2048, x (ix2 (y 0) k) * (d (ix2 (y 0) k) * g (ix2 0 k))) := by
  pointwise [k0_pay2, k0_pay3, k0_pay4, grad, mean]

theorem ref_eq (x : Vec Ideal S2048x2048 .f32) (g : Vec Ideal S1x2048 .f32) (d : Vec Ideal S2048x2048 .bf16) (r : Vec Ideal S2048x2048 .f32) (y) :
    val_main_v35 (F := Ideal) x g d r y = r y + grad (x y) (d y * g (ix2 0 (y 1))) (mean fun k => x (ix2 (y 0) k))
      (∑ k : Fin 2048, x (ix2 (y 0) k) * (d (ix2 (y 0) k) * g (ix2 0 k))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_v21, val_main_cst_4, val_main_v22, val_main_v23, val_main_v24, val_main_v25, val_main_v26, val_main_cst_5, val_main_v27, val_main_v28, val_main_cst_6, val_main_v29, val_main_v30, val_main_v31, val_main_v32, val_main_v33, val_main_v34, val_main_v35, val_main_v36, val_main_v37]
  exact congrArg (r y + ·) (Cert.NormGrad.norm_grad _ _ _ _ (Cert.NormGrad.mean_pos _))

theorem point (c : Dev nD) (t : Fin cfg0.N) (y) : k0_pay4 (iblk m c 0 t) (iblk m c 1 t) (iblk m c 2 t) (iblk m c 3 t) y
    = val_main_v35 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine (pay_eq _ _ _ _ y).trans (Eq.trans ?_ (ref_eq _ _ _ _ _).symm)
  refine congrArg₂ (· + ·) ?_ (congr (congr (congrArg₂ grad ?_ (congrArg₂ (· * ·) ?_ ?_)) (congrArg mean (funext fun k => ?_)))
    (Finset.sum_congr rfl fun k _ => congrArg₂ (· * ·) ?_ (congrArg₂ (· * ·) ?_ ?_)))
  all_goals blk_ext [iblk, V, idx t]

theorem final_4 (c : Dev nD) : (dats m 0 c).arrAt 4 (cfgs 0).N = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 4 = 0
  · rw [outsAt0_A m c t h (by have := (idx t).2.2.2.2.2.2.2; omega)]; frame_out; exact point m c t y
  · rw [outsAt0_B m c t h (by omega)]; frame_out; exact point m c t y

theorem final_5 (c : Dev nD) : (dats m 0 c).arrAt 5 (cfgs 0).N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 4 = 0
  · rw [outsAt0_A m c t h (by have := (idx t).2.2.2.2.2.2.2; omega)]; frame_out; exact point m c t y
  · rw [outsAt0_B m c t h (by omega)]; frame_out; exact point m c t y

/-- A row's contribution to the gain's gradient at a column. -/
abbrev term (x : Vec Ideal S512x2048 .f32) (d : Vec Ideal S512x2048 .bf16) (r : Fin 512) (j : Fin 2048) : EReal :=
  d (ix2 r j) * x (ix2 r j) * Ideal.rsqrt (Ideal.div (∑ k : Fin 2048, x (ix2 r k) * x (ix2 r k)) (Ideal.ofBits FTy.f32 1157627904#32) + Ideal.ofBits FTy.f32 897988541#32)

/-- The sum over the rows of a point's block, as stored at the first point. -/
theorem first_rows (x : Vec Ideal S512x2048 .f32) (d : Vec Ideal S512x2048 .bf16) (j : S1x2048.Idx) :
    k0_pay5 (F := Ideal) x d j = (0 : EReal) + ∑ r : Fin 512, term x d r (j 1) := by
  rw [zero_add]
  pointwise [k0_pay2, k0_pay3, k0_pay5, term]

/-- The sum over the rows of a later point's block, added to what is held. -/
theorem later_rows (x : Vec Ideal S512x2048 .f32) (d : Vec Ideal S512x2048 .bf16) (acc : Vec Ideal S1x2048 .f32) (j : S1x2048.Idx) :
    k0_pay1 (F := Ideal) (k0_pay5 x d) acc j = acc j + ∑ r : Fin 512, term x d r (j 1) := by
  pointwise [k0_pay1, k0_pay2, k0_pay3, k0_pay5, term]

/-- What is held at the last point: the sum over all rows. -/
theorem held (c : Dev nD) (t : Fin cfg0.N) (h : t.val % 4 = 3) (y : S1x2048.Idx) :
    (outsAt0 m c t.val t.isLt).2.2 y = (0 : EReal) + ∑ s : Fin 4, ∑ r : Fin 512, term (iblk m c 0 ⟨4 * (t.val / 4) + s.val, Pipeline.run_point_lt_of_flush t h s⟩) (iblk m c 2 ⟨4 * (t.val / 4) + s.val, Pipeline.run_point_lt_of_flush t h s⟩) r (y 1) :=
  Pipeline.eq_sum_fin_of_reset_step_apply_of_flush (M := EReal) (fun n h => (outsAt0 m c n h).2.2) 4 (fun _ => 0)
    (fun t j => ∑ r : Fin 512, term (iblk m c 0 t) (iblk m c 2 t) r (j 1))
    (fun t h j => by rw [outsAt0_A m c t h (by have := (idx t).2.2.2.2.2.2.2; omega)]; frame_out; exact first_rows _ _ j)
    (fun t h j => by rw [outsAt0_B m c t h (by omega)]; frame_out; exact later_rows _ _ _ j)
    t h y

theorem final_6 (c : Dev nD) : (dats m 0 c).arrAt 6 (cfgs 0).N = val_main_v18 (F := Ideal) (m ((c : Thread nD τ).loc main_arg0)) (m ((c : Thread nD τ).loc main_arg2)) := by
  refine (dats m 0 c).arrAt_eq_of_covers 6 _ (by decide +kernel) fun t hf y => ?_
  blk_simp
  have h : t.val % 4 = 3 := (flush0_6 t).mp hf
  rw [after0_6]
  refine (held m c t h y).trans ?_
  rw [zero_add]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_v21, val_main_cst_4, val_main_v22, val_main_v23, val_main_v24, val_main_v25, val_main_v26, val_main_cst_5, val_main_v27, val_main_v28, val_main_cst_6, val_main_v29, val_main_v30, val_main_v31, val_main_v32, val_main_v33, val_main_v34, val_main_v35, val_main_v36, val_main_v37]
  refine Fin.sum_mul_add_congr fun s k hl => ?_
  refine Eq.trans (Eq.trans (mul_assoc _ _ _) (mul_comm _ _)) ?_
  refine congrArg₂ (· * ·) ?_ ?_
  · blk_point [iblk, V, idx t, idx ⟨_, Pipeline.run_point_lt_of_flush t h s⟩]
  · blk_point [iblk, V, idx t, idx ⟨_, Pipeline.run_point_lt_of_flush t h s⟩]

/-- Kernel and reference end with equal results. -/
theorem algebraic : Cert.algebraic_DNormIdeal_DNormRefIdeal (hDNormIdeal := Cert.DNormIdeal.Gen.facts) (hDNormRefIdeal := Cert.DNormRefIdeal.Gen.facts) := by
  pair_intro
  · run_from Cert.DNormIdeal.Gen.run_main m g
  · refine (θ_run Cert.DNormRefIdeal.defs _ _).mono (fun r h c => ?_) (Cert.DNormRefIdeal.Value.run m' g')
    obtain ⟨h0, h1, h2, hl⟩ := h c
    obtain ⟨a0, a1, a2, a3⟩ := hagree c
    refine ⟨h0.trans ?_, h1.trans ?_, h2.trans ?_, hl⟩
    · rw [val_main_v35_eq, a0, a1, a2, a3]; exact (final_4 m c).symm
    · rw [val_main_v37_eq, a0, a1, a2, a3]; exact (final_5 m c).symm
    · rw [val_main_v18_eq, a0, a2]; exact (final_6 m c).symm

theorem frame_reference : Cert.quiescent_DNormRefIdeal (hDNormRefIdeal := Cert.DNormRefIdeal.Gen.facts) := fun m ρ _ =>
  (θ_run Cert.DNormRefIdeal.defs _ _).mono (fun r h => ⟨fun c => (h c).2.2.2, sem_eq_zero_of_no_sems (by decide) r.2⟩)
    (Cert.DNormRefIdeal.Value.run m ρ)

end Cert.DNormIdeal.Layer

end
-- ==== Proof.Layer.Loss.lean ====
/- The loss head, half the mean square distance of the normed rows from their targets, and its gradients: kernel and reference give the same arrays. -/
module

public import proofs.«01_k».proof.Defs
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Claim
public import proofs.«01_k».proof.Proof.Layer.NormGrad

@[expose] public section

set_option maxRecDepth 16384

noncomputable section

open Idealize.ShloMosaic Idealize.ShloMosaic.TcCoe Idealize.SL.Sem
open Idealize.ShloMosaic.Pipeline (Dat)

namespace Cert.LossIdeal.Layer

open Cert.LossIdeal Cert.LossIdeal.Gen
open Cert.LossRefIdeal.Read

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] ∧ t.val < 4 :=
  (by decide +kernel : ∀ t : Fin grid0.N, _)

/-- A row's mean square plus the small constant. -/
def mean (x : Fin 2048 → EReal) : EReal :=
  Ideal.div (∑ k, x k * x k) (Ideal.ofBits FTy.f32 1157627904#32) + Ideal.ofBits FTy.f32 897988541#32

/-- An entry's distance from its target: `r` the row's inverse root. -/
def err (x g a r : EReal) : EReal := x * r * g - a

/-- The gradient of half a mean square at an entry, as the kernel has it: the distance over the width. -/
def cot (e : EReal) : EReal := e * Ideal.ofBits FTy.f32 973078528#32

/-- The same as the reference has it: half of the two factors' shares. -/
def cot2 (e : EReal) : EReal :=
  e * Ideal.div (Ideal.ofBits FTy.f32 1056964608#32) (Ideal.ofBits FTy.f32 1157627904#32)
    + Ideal.div (Ideal.ofBits FTy.f32 1056964608#32) (Ideal.ofBits FTy.f32 1157627904#32) * e

theorem ofBits_half : Ideal.ofBits FTy.f32 1056964608#32 = ((1 / 2 : ℝ) : EReal) := by
  simp [Ideal.ofBits, Ideal.ieee]
  rw [← EReal.coe_mul]
  norm_num

theorem ofBits_step : Ideal.ofBits FTy.f32 973078528#32 = ((1 / 2048 : ℝ) : EReal) := by
  simp [Ideal.ofBits, Ideal.ieee]
  rw [← EReal.coe_mul]
  norm_num

theorem cot2_eq : cot2 = cot := by
  funext e
  unfold cot cot2
  rw [ofBits_half, ofBits_step, Cert.NormGrad.ofBits_width, Ideal.div_coe (by norm_num), ← EReal.coe_mul,
    mul_comm _ e, Cert.NormGrad.add_self, mul_left_comm, show (2 : EReal) = ((2 : ℝ) : EReal) from rfl, ← EReal.coe_mul]
  norm_num

/-- A factor goes into a sum of entries none of which is negative. -/
theorem mul_sum_nonneg {ι : Type} (S : Finset ι) (a : EReal) (f : ι → EReal) (hf : ∀ i, 0 ≤ f i) : a * ∑ i ∈ S, f i = ∑ i ∈ S, a * f i := by
  classical
  induction S using Finset.induction_on with
  | empty => simp
  | insert i S hi ih =>
    rw [Finset.sum_insert hi, Finset.sum_insert hi, EReal.left_distrib_of_nonneg (hf i) (Finset.sum_nonneg fun i _ => hf i), ih]

/-- The gradient at an entry: `y` its scaled cotangent, `u` the row's mean square, `S` the row's sum of the entries by their cotangents. -/
def grad (x y u S : EReal) : EReal :=
  Ideal.rsqrt u * y - x * (Ideal.rsqrt u * Ideal.rsqrt u * Ideal.rsqrt u) * Ideal.div S (Ideal.ofBits FTy.f32 1157627904#32)

/-- The gradient at an entry, of its row, the row's targets and the gain, under a cotangent of the distance. -/
def gradAt (d : EReal → EReal) (x g a : Fin 2048 → EReal) (xj gj aj : EReal) : EReal :=
  grad xj (d (err xj gj aj (Ideal.rsqrt (mean x))) * gj) (mean x)
    (∑ k, x k * (d (err (x k) (g k) (a k) (Ideal.rsqrt (mean x))) * g k))

theorem pay_eq (x : Vec Ideal S512x2048 .f32) (g : Vec Ideal S1x2048 .f32) (a : Vec Ideal S512x2048 .f32) (y) :
    k0_pay9 (F := Ideal) x g a y = gradAt cot (fun k => x (ix2 (y 0) k)) (fun k => g (ix2 0 k)) (fun k => a (ix2 (y 0) k)) (x y) (g (ix2 0 (y 1))) (a y) := by
  pointwise [k0_pay5, k0_pay6, k0_pay8, k0_pay9, gradAt, grad, mean, err, cot]

theorem ref_eq (x : Vec Ideal S2048x2048 .f32) (g : Vec Ideal S1x2048 .f32) (a : Vec Ideal S2048x2048 .f32) (y) :
    val_main_v48 (F := Ideal) x g a y = gradAt cot2 (fun k => x (ix2 (y 0) k)) (fun k => g (ix2 0 k)) (fun k => a (ix2 (y 0) k)) (x y) (g (ix2 0 (y 1))) (a y) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_cst_4, val_main_v18, val_main_v19, val_main_cst_5, val_main_v20, val_main_cst_6, val_main_v21, val_main_cst_7, val_main_cst_8, val_main_v22, val_main_v23, val_main_cst_9, val_main_v24, val_main_v25, val_main_v26, val_main_v27, val_main_v28, val_main_v29, val_main_v30, val_main_cst_10, val_main_v31, val_main_v32, val_main_v33, val_main_v34, val_main_v35, val_main_cst_11, val_main_v36, val_main_v37, val_main_v38, val_main_v39, val_main_v40, val_main_cst_12, val_main_v41, val_main_v42, val_main_cst_13, val_main_v43, val_main_v44, val_main_v45, val_main_v46, val_main_v47, val_main_v48, val_main_v49]
  exact Cert.NormGrad.norm_grad _ _ _ _ (Cert.NormGrad.mean_pos _)

theorem point (c : Dev nD) (t : Fin cfg0.N) (y) : k0_pay9 (iblk m c 0 t) (iblk m c 1 t) (iblk m c 2 t) y
    = val_main_v48 (F := Ideal) (m ((c : Thread nD τ).loc main_arg0)) (m ((c : Thread nD τ).loc main_arg1)) (m ((c : Thread nD τ).loc main_arg2)) (((cfg0.win 3).blk t).view.emb y) := by
  refine (pay_eq _ _ _ y).trans (Eq.trans ?_ (ref_eq _ _ _ _).symm)
  rw [cot2_eq]
  refine congr (congr (congr (congr (congrArg₂ (gradAt cot) (funext fun k => ?_) (funext fun k => ?_)) (funext fun k => ?_)) ?_) ?_) ?_
  all_goals blk_ext [iblk, V, idx t]

theorem final_3 (c : Dev nD) : (dats m 0 c).arrAt 3 (cfgs 0).N = val_main_v48 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 4 = 0
  · rw [outsAt0_A m c t h (by have := (idx t).2.2.2.2.2.2; omega) h (by have := (idx t).2.2.2.2.2.2; omega)]; frame_out; exact point m c t y
  · rw [outsAt0_B m c t h (by omega) h (by omega)]; frame_out; exact point m c t y

/-- Half the mean square distance of a row. -/
abbrev rowLoss (x : Vec Ideal S512x2048 .f32) (g : Vec Ideal S1x2048 .f32) (a : Vec Ideal S512x2048 .f32) (r : Fin 512) : EReal :=
  Ideal.ofBits FTy.f32 1056964608#32 * Ideal.div (∑ k : Fin 2048, err (x (ix2 r k)) (g (ix2 0 k)) (a (ix2 r k)) (Ideal.rsqrt (mean fun k => x (ix2 r k)))
    * err (x (ix2 r k)) (g (ix2 0 k)) (a (ix2 r k)) (Ideal.rsqrt (mean fun k => x (ix2 r k)))) (Ideal.ofBits FTy.f32 1157627904#32)

/-- A mean of squares is not negative. -/
theorem mean_nonneg {n : ℕ} (x : Fin n → EReal) : 0 ≤ Ideal.div (∑ k, x k * x k) (Ideal.ofBits FTy.f32 1157627904#32) := by
  rw [Cert.NormGrad.ofBits_width, Ideal.div_coe (by norm_num)]
  exact mul_nonneg (Finset.sum_nonneg fun k _ => Cert.NormGrad.mul_self_nonneg _) (by exact_mod_cast (by norm_num : (0 : ℝ) ≤ 1 / 2048))

/-- The loss of a point's block, as stored at the first point. -/
theorem first_loss (x : Vec Ideal S512x2048 .f32) (g : Vec Ideal S1x2048 .f32) (a : Vec Ideal S512x2048 .f32) (j : S1x128.Idx) :
    k0_pay2 (F := Ideal) (k0_pay7 x g a) j = (0 : EReal) + ∑ r : Fin 512, rowLoss x g a r := by
  rw [zero_add, ← mul_sum_nonneg _ _ _ fun r => mean_nonneg _]
  pointwise [k0_pay2, k0_pay5, k0_pay6, k0_pay7, err, mean]

/-- The loss of a later point's block, added to what is held. -/
theorem later_loss (x : Vec Ideal S512x2048 .f32) (g : Vec Ideal S1x2048 .f32) (a : Vec Ideal S512x2048 .f32) (acc : Vec Ideal S1x128 .f32) (j : S1x128.Idx) :
    k0_pay3 (F := Ideal) (k0_pay7 x g a) acc j = acc j + ∑ r : Fin 512, rowLoss x g a r := by
  have e : k0_pay3 (F := Ideal) (k0_pay7 x g a) acc j = acc j + k0_pay2 (F := Ideal) (k0_pay7 x g a) j := by
    generalize k0_pay7 (F := Ideal) x g a = b
    pointwise [k0_pay3]
  rw [e, first_loss, zero_add]

/-- What is held at the last point: the loss of all rows. -/
theorem held_loss (c : Dev nD) (t : Fin cfg0.N) (h : t.val % 4 = 3) (y : S1x128.Idx) :
    (outsAt0 m c t.val t.isLt).2.1 y = (0 : EReal) + ∑ s : Fin 4, ∑ r : Fin 512, rowLoss (iblk m c 0 ⟨4 * (t.val / 4) + s.val, Pipeline.run_point_lt_of_flush t h s⟩) (iblk m c 1 ⟨4 * (t.val / 4) + s.val, Pipeline.run_point_lt_of_flush t h s⟩) (iblk m c 2 ⟨4 * (t.val / 4) + s.val, Pipeline.run_point_lt_of_flush t h s⟩) r :=
  Pipeline.eq_sum_fin_of_reset_step_apply_of_flush (M := EReal) (fun n h => (outsAt0 m c n h).2.1) 4 (fun _ => 0)
    (fun t j => ∑ r : Fin 512, rowLoss (iblk m c 0 t) (iblk m c 1 t) (iblk m c 2 t) r)
    (fun t h j => by rw [outsAt0_A m c t h (by have := (idx t).2.2.2.2.2.2; omega) h (by have := (idx t).2.2.2.2.2.2; omega)]; frame_out; exact first_loss _ _ _ j)
    (fun t h j => by rw [outsAt0_B m c t h (by omega) h (by omega)]; frame_out; exact later_loss _ _ _ _ j)
    t h y

theorem ref_loss (x : Vec Ideal S2048x2048 .f32) (g : Vec Ideal S1x2048 .f32) (a : Vec Ideal S2048x2048 .f32) (y) :
    val_main_v49 (F := Ideal) x g a y = ∑ r : Fin 2048, Ideal.ofBits FTy.f32 1056964608#32 * Ideal.div (∑ k : Fin 2048, err (x (ix2 r k)) (g (ix2 0 k)) (a (ix2 r k)) (Ideal.rsqrt (mean fun k => x (ix2 r k)))
    * err (x (ix2 r k)) (g (ix2 0 k)) (a (ix2 r k)) (Ideal.rsqrt (mean fun k => x (ix2 r k)))) (Ideal.ofBits FTy.f32 1157627904#32) := by
  rw [← mul_sum_nonneg _ _ _ fun r => mean_nonneg _]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_cst_4, val_main_v18, val_main_v19, val_main_cst_5, val_main_v20, val_main_cst_6, val_main_v21, val_main_cst_7, val_main_cst_8, val_main_v22, val_main_v23, val_main_cst_9, val_main_v24, val_main_v25, val_main_v26, val_main_v27, val_main_v28, val_main_v29, val_main_v30, val_main_cst_10, val_main_v31, val_main_v32, val_main_v33, val_main_v34, val_main_v35, val_main_cst_11, val_main_v36, val_main_v37, val_main_v38, val_main_v39, val_main_v40, val_main_cst_12, val_main_v41, val_main_v42, val_main_cst_13, val_main_v43, val_main_v44, val_main_v45, val_main_v46, val_main_v47, val_main_v48, val_main_v49, err, mean]

theorem final_4 (c : Dev nD) : (dats m 0 c).arrAt 4 (cfgs 0).N = val_main_v49 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have h : t.val % 4 = 3 := (flush0_4 t).mp hf
  rw [after0_4]
  refine (held_loss m c t h y).trans (Eq.trans ?_ (ref_loss _ _ _ _).symm)
  rw [zero_add]
  refine Fin.sum_mul_add_congr fun s k hl => ?_
  have e : ∀ x x' g g' a a' : Fin 2048 → EReal, x = x' → g = g' → a = a' →
      Ideal.div (∑ k, err (x k) (g k) (a k) (Ideal.rsqrt (mean x)) * err (x k) (g k) (a k) (Ideal.rsqrt (mean x))) (Ideal.ofBits FTy.f32 1157627904#32)
      = Ideal.div (∑ k, err (x' k) (g' k) (a' k) (Ideal.rsqrt (mean x')) * err (x' k) (g' k) (a' k) (Ideal.rsqrt (mean x'))) (Ideal.ofBits FTy.f32 1157627904#32) := by
    rintro _ _ _ _ _ _ rfl rfl rfl; rfl
  refine congrArg (Ideal.ofBits FTy.f32 1056964608#32 * ·) (e _ _ _ _ _ _ (funext fun k => ?_) (funext fun k => ?_) (funext fun k => ?_))
  all_goals blk_point [iblk, V, idx t, idx ⟨_, Pipeline.run_point_lt_of_flush t h s⟩]

/-- A row's contribution to the gain's gradient at a column. -/
abbrev term (x : Vec Ideal S512x2048 .f32) (g : Vec Ideal S1x2048 .f32) (a : Vec Ideal S512x2048 .f32) (r : Fin 512) (j : Fin 2048) : EReal :=
  cot (err (x (ix2 r j)) (g (ix2 0 j)) (a (ix2 r j)) (Ideal.rsqrt (mean fun k => x (ix2 r k)))) * x (ix2 r j) * Ideal.rsqrt (mean fun k => x (ix2 r k))

/-- The sum over the rows of a point's block, as stored at the first point. -/
theorem first_rows (x : Vec Ideal S512x2048 .f32) (g : Vec Ideal S1x2048 .f32) (a : Vec Ideal S512x2048 .f32) (j : S1x2048.Idx) :
    k0_pay1 (F := Ideal) x (k0_pay5 x) (k0_pay8 x g a) j = (0 : EReal) + ∑ r : Fin 512, term x g a r (j 1) := by
  rw [zero_add]
  pointwise [k0_pay1, k0_pay5, k0_pay6, k0_pay8, term, cot, err, mean]

/-- The sum over the rows of a later point's block, added to what is held. -/
theorem later_rows (x : Vec Ideal S512x2048 .f32) (g : Vec Ideal S1x2048 .f32) (a : Vec Ideal S512x2048 .f32) (acc : Vec Ideal S1x2048 .f32) (j : S1x2048.Idx) :
    k0_pay4 (F := Ideal) x (k0_pay5 x) (k0_pay8 x g a) acc j = acc j + ∑ r : Fin 512, term x g a r (j 1) := by
  have e : k0_pay4 (F := Ideal) x (k0_pay5 x) (k0_pay8 x g a) acc j = acc j + k0_pay1 (F := Ideal) x (k0_pay5 x) (k0_pay8 x g a) j := by
    generalize k0_pay5 (F := Ideal) x = b
    generalize k0_pay8 (F := Ideal) x g a = d
    pointwise [k0_pay4]
  rw [e, first_rows, zero_add]

/-- What is held at the last point: the sum over all rows. -/
theorem held (c : Dev nD) (t : Fin cfg0.N) (h : t.val % 4 = 3) (y : S1x2048.Idx) :
    (outsAt0 m c t.val t.isLt).2.2 y = (0 : EReal) + ∑ s : Fin 4, ∑ r : Fin 512, term (iblk m c 0 ⟨4 * (t.val / 4) + s.val, Pipeline.run_point_lt_of_flush t h s⟩) (iblk m c 1 ⟨4 * (t.val / 4) + s.val, Pipeline.run_point_lt_of_flush t h s⟩) (iblk m c 2 ⟨4 * (t.val / 4) + s.val, Pipeline.run_point_lt_of_flush t h s⟩) r (y 1) :=
  Pipeline.eq_sum_fin_of_reset_step_apply_of_flush (M := EReal) (fun n h => (outsAt0 m c n h).2.2) 4 (fun _ => 0)
    (fun t j => ∑ r : Fin 512, term (iblk m c 0 t) (iblk m c 1 t) (iblk m c 2 t) r (j 1))
    (fun t h j => by rw [outsAt0_A m c t h (by have := (idx t).2.2.2.2.2.2; omega) h (by have := (idx t).2.2.2.2.2.2; omega)]; frame_out; exact first_rows _ _ _ j)
    (fun t h j => by rw [outsAt0_B m c t h (by omega) h (by omega)]; frame_out; exact later_rows _ _ _ _ j)
    t h y

theorem ref_rows (x : Vec Ideal S2048x2048 .f32) (g : Vec Ideal S1x2048 .f32) (a : Vec Ideal S2048x2048 .f32) (y) :
    val_main_v32 (F := Ideal) x g a y = ∑ r : Fin 2048, x (ix2 r (y 1)) * Ideal.rsqrt (mean fun k => x (ix2 r k))
      * cot2 (err (x (ix2 r (y 1))) (g (ix2 0 (y 1))) (a (ix2 r (y 1))) (Ideal.rsqrt (mean fun k => x (ix2 r k)))) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_cst_4, val_main_v18, val_main_v19, val_main_cst_5, val_main_v20, val_main_cst_6, val_main_v21, val_main_cst_7, val_main_cst_8, val_main_v22, val_main_v23, val_main_cst_9, val_main_v24, val_main_v25, val_main_v26, val_main_v27, val_main_v28, val_main_v29, val_main_v30, val_main_cst_10, val_main_v31, val_main_v32, val_main_v33, val_main_v34, val_main_v35, val_main_cst_11, val_main_v36, val_main_v37, val_main_v38, val_main_v39, val_main_v40, val_main_cst_12, val_main_v41, val_main_v42, val_main_cst_13, val_main_v43, val_main_v44, val_main_v45, val_main_v46, val_main_v47, val_main_v48, val_main_v49, cot2, err, mean]

theorem final_5 (c : Dev nD) : (dats m 0 c).arrAt 5 (cfgs 0).N = val_main_v32 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  have h : t.val % 4 = 3 := (flush0_5 t).mp hf
  rw [after0_5]
  refine (held m c t h y).trans (Eq.trans ?_ (ref_rows _ _ _ _).symm)
  rw [zero_add, cot2_eq]
  refine Fin.sum_mul_add_congr fun s k hl => ?_
  refine Eq.trans (Eq.trans (mul_assoc _ _ _) (mul_comm _ _)) ?_
  have e : ∀ x x' : Fin 2048 → EReal, x = x' → ∀ p p' g g' a a' : EReal, p = p' → g = g' → a = a' →
      p * Ideal.rsqrt (mean x) * cot (err p g a (Ideal.rsqrt (mean x))) = p' * Ideal.rsqrt (mean x') * cot (err p' g' a' (Ideal.rsqrt (mean x'))) := by
    rintro _ _ rfl _ _ _ _ _ _ rfl rfl rfl; rfl
  refine e _ _ (funext fun k => ?_) _ _ _ _ _ _ ?_ ?_ ?_
  all_goals blk_point [iblk, V, idx t, idx ⟨_, Pipeline.run_point_lt_of_flush t h s⟩]

/-- Kernel and reference end with equal results. -/
theorem algebraic : Cert.algebraic_LossIdeal_LossRefIdeal (hLossIdeal := Cert.LossIdeal.Gen.facts) (hLossRefIdeal := Cert.LossRefIdeal.Gen.facts) := by
  pair_intro
  · run_from Cert.LossIdeal.Gen.run_main m g
  · refine (θ_run Cert.LossRefIdeal.defs _ _).mono (fun r h c => ?_) (Cert.LossRefIdeal.Value.run m' g')
    obtain ⟨h0, h1, h2, hl⟩ := h c
    obtain ⟨a0, a1, a2⟩ := hagree c
    refine ⟨h0.trans ?_, h1.trans ?_, h2.trans ?_, hl⟩
    · rw [val_main_v48_eq, a0, a1, a2]; exact (final_3 m c).symm
    · rw [val_main_v49_eq, a0, a1, a2]; exact (final_4 m c).symm
    · rw [val_main_v32_eq, a0, a1, a2]; exact (final_5 m c).symm

theorem frame_reference : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run m ρ)

end Cert.LossIdeal.Layer

end
-- ==== Proof.Layer.Turn.lean ====
/- A head's rotation: thirty-two of its columns turned in pairs by tables of cosines and sines, the others kept. -/
module

public import Idealize.ShloMosaic.Lib.Claim
public import Idealize.ShloMosaic.Lib.Pipeline.ValueKit

@[expose] public section

noncomputable section

open Idealize.ShloMosaic

namespace Cert.Turn

/-- A table's entry: two pieces of sixteen columns, then a constant. -/
def tab (a b : ℕ → EReal) (z : EReal) (l : Fin 128) : EReal :=
  if l.val < 16 then a l.val else if l.val - 16 < 16 then b (l.val - 16) else z

/-- A column by its entry of one table plus its partner column by the entry of the other. -/
def lane (u : Fin 128 → EReal) (c s : EReal) (l : Fin 128) : EReal :=
  u l * c + (if l.val < 16 then u ⟨(l.val + 16) % 128, Nat.mod_lt _ (by decide)⟩ else u ⟨(l.val + 112) % 128, Nat.mod_lt _ (by decide)⟩) * s

/-- The rotation of a head's columns. -/
def turned (u : Fin 128 → EReal) (cs sn : ℕ → EReal) (l : Fin 128) : EReal :=
  if l.val < 16 then u l * cs l.val - u ⟨(l.val + 16) % 128, Nat.mod_lt _ (by decide)⟩ * sn l.val
  else if l.val - 16 < 16 then u l * cs (l.val - 16) + u ⟨(l.val + 112) % 128, Nat.mod_lt _ (by decide)⟩ * sn (l.val - 16)
  else u l

/-- Under the tables of cosines and signed sines the columns are rotated. -/
theorem lane_turned (u : Fin 128 → EReal) (cs sn : ℕ → EReal) (l : Fin 128) :
    lane u (tab cs cs 1 l) (tab (fun n => -sn n) sn 0 l) l = turned u cs sn l := by
  unfold lane tab turned
  split_ifs
  · rw [mul_comm _ (-_), EReal.neg_mul, mul_comm (sn _), sub_eq_add_neg]
  · rfl
  · rw [mul_one, mul_zero, add_zero]

/-- The choice between a column's two partners. -/
theorem partner (n : ℕ) (hn : n < 128) (p q : EReal) :
    Scalar.select (IntOp.cmpi CmpIPredicate.slt (BitVec.ofNat 32 n) 16#32) p q = if n < 16 then p else q := by
  have h : ∀ l : Fin 128, IntOp.cmpi CmpIPredicate.slt (BitVec.ofNat 32 l.val) 16#32 = if l.val < 16 then 1#1 else 0#1 := by decide +kernel
  rw [h ⟨n, hn⟩]
  by_cases hl : n < 16
  · simp [hl, Scalar.select]
  · simp [hl, Scalar.select]

/-- The form the columns are computed in. -/
theorem lane_of (u : Fin 128 → EReal) (n : ℕ) (l : Fin 128) (a p q c c' s s' : EReal) (hn : n = l.val) (ha : a = u l)
    (hp : p = u ⟨(l.val + 16) % 128, Nat.mod_lt _ (by decide)⟩) (hq : q = u ⟨(l.val + 112) % 128, Nat.mod_lt _ (by decide)⟩) (hc : c = c') (hs : s = s') :
    a * c + Scalar.select (IntOp.cmpi CmpIPredicate.slt (BitVec.ofNat 32 n) 16#32) p q * s = lane u c' s' l := by
  subst hn ha hp hq hc hs
  rw [partner _ l.isLt, lane]

theorem turned_congr (u u' : Fin 128 → EReal) (cs cs' sn sn' : ℕ → EReal) (l l' : Fin 128) (hu : ∀ k, u k = u' k) (hc : ∀ n, cs n = cs' n)
    (hs : ∀ n, sn n = sn' n) (hl : l.val = l'.val) : turned u cs sn l = turned u' cs' sn' l' := by
  rw [funext hu, funext hc, funext hs, Fin.ext hl]

/-- Two places with equal coordinates are one. -/
theorem ix2_congr {a b : ℕ} (i i' : Fin a) (j j' : Fin b) (hi : i.val = i'.val) (hj : j.val = j'.val) : (ix2 i j : Shape.Idx ⟨2, ![a, b]⟩) = ix2 i' j' := by
  rw [Fin.ext hi, Fin.ext hj]

theorem head_col (n b y q l : ℕ) (h : q = 512 * b + y) : n + 512 * b + (y / 128 * 128 + l) = n + q / 128 * 128 + l := by omega

/-- The rotation the other way. -/
def back (u : Fin 128 → EReal) (cs sn : ℕ → EReal) (l : Fin 128) : EReal :=
  if l.val < 16 then u l * cs l.val + u ⟨(l.val + 16) % 128, Nat.mod_lt _ (by decide)⟩ * sn l.val
  else if l.val - 16 < 16 then u l * cs (l.val - 16) + -(u ⟨(l.val + 112) % 128, Nat.mod_lt _ (by decide)⟩ * sn (l.val - 16))
  else u l

/-- Under the tables with the sines' signs changed the columns are rotated the other way. -/
theorem lane_back (u : Fin 128 → EReal) (cs sn : ℕ → EReal) (l : Fin 128) :
    lane u (tab cs cs 1 l) (-1 * tab (fun n => -sn n) sn 0 l) l = back u cs sn l := by
  unfold lane tab back
  split_ifs
  · rw [EReal.neg_mul, one_mul, neg_neg]
  · rw [EReal.neg_mul, one_mul, mul_comm _ (-_), EReal.neg_mul, mul_comm (sn _)]
  · rw [mul_zero, mul_one, mul_zero, add_zero]

theorem back_congr (u u' : Fin 128 → EReal) (cs cs' sn sn' : ℕ → EReal) (l l' : Fin 128) (hu : ∀ k, u k = u' k) (hc : ∀ n, cs n = cs' n)
    (hs : ∀ n, sn n = sn' n) (hl : l.val = l'.val) : back u cs sn l = back u' cs' sn' l' := by
  rw [funext hu, funext hc, funext hs, Fin.ext hl]

/-- The form the columns are computed in with a sign before the partner. -/
theorem lane_of_signed (w : EReal) (u : Fin 128 → EReal) (n : ℕ) (l : Fin 128) (a p q c c' s s' : EReal) (hn : n = l.val) (ha : a = u l)
    (hp : p = u ⟨(l.val + 16) % 128, Nat.mod_lt _ (by decide)⟩) (hq : q = u ⟨(l.val + 112) % 128, Nat.mod_lt _ (by decide)⟩) (hc : c = c') (hs : s = s') :
    a * c + w * Scalar.select (IntOp.cmpi CmpIPredicate.slt (BitVec.ofNat 32 n) 16#32) p q * s = lane u c' (w * s') l := by
  rw [mul_comm w, mul_assoc]
  exact lane_of u n l a p q c c' (w * s) (w * s') hn ha hp hq hc (congrArg (w * ·) hs)

theorem low_eq (p s q c : EReal) : 0 + 0 + (p * s + q * c) = q * c + p * s := by rw [zero_add, zero_add, add_comm]

theorem mid_eq (p s q c : EReal) : 0 + (q * c + -p * s) + 0 = q * c + -(p * s) := by rw [zero_add, add_zero, EReal.neg_mul]

theorem top_eq (q : EReal) : q + 0 + 0 = q := by rw [add_zero, add_zero]

theorem head_col' (b y q l : ℕ) (h : q = 512 * b + y) : 512 * b + (y / 128 * 128 + l) = q / 128 * 128 + l := by omega

end Cert.Turn

end
-- ==== Proof.Layer.Rope.lean ====
/- The rotation of queries and keys by their positions: kernel and reference give the same arrays. -/
module

public import proofs.«01_k».proof.Defs
public import proofs.«01_k».proof.Proof.Gen.RopeIdeal.Frame
public import proofs.«01_k».proof.Proof.Gen.RopeIdeal.Value
public import proofs.«01_k».proof.Proof.Gen.RopeRefIdeal.Run
public import proofs.«01_k».proof.Proof.Gen.RopeRefIdeal.Read
public import Idealize.ShloMosaic.Lib.Pipeline.ValueKit
public import Idealize.ShloMosaic.Lib.Claim
public import proofs.«01_k».proof.Proof.Layer.Turn

@[expose] public section

set_option maxRecDepth 16384
noncomputable section

open Idealize.ShloMosaic Idealize.ShloMosaic.TcCoe Idealize.SL.Sem
open Idealize.ShloMosaic.Pipeline (Dat)

namespace Cert.RopeIdeal.Layer

open Cert.RopeIdeal Cert.RopeIdeal.Gen
open Cert.RopeRefIdeal.Read

variable (m : (ℓ : Loc nD τ sig) → Buf (Elt Ideal) ℓ)

/-- The angle of a position at a frequency. -/
def angle (r n : ℕ) : EReal :=
  FloatOps.sitofp (F := Ideal) FTy.f32 (BitVec.ofNat 32 r) * Ideal.pow (Ideal.ofBits FTy.f32 1223959552#32)
    (Ideal.div (-FloatOps.sitofp (F := Ideal) FTy.f32 (BitVec.ofNat 32 n)) (Ideal.ofBits FTy.f32 1098907648#32))

/-- The angles of the positions at the frequencies. -/
def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (y : S2048x16.Idx) : angles y = angle (y 0).val (y 1).val := by
  pointwise [angles, angle]

/-- A table: two pieces of sixteen columns and a constant. -/
def table (a b : FVec Ideal S2048x16 .f32) (z : BitVec 32) : FVec Ideal S2048x128 .f32 :=
  concatenate S2048x128 1 [⟨S2048x16, a⟩, ⟨S2048x16, b⟩, ⟨S2048x96, broadcastInDim S2048x96 ![] bcast_S_S2048x96 (constant S_ .f32 z)⟩] concatenates_S2048x16_S2048x16_S2048x96_S2048x128_d1

theorem table_apply (a b : FVec Ideal S2048x16 .f32) (z : BitVec 32) (r : Fin 2048) (j : Fin 128) : table a b z (ix2 r j)
    = if h : j.val < 16 then a (ix2 r ⟨j.val, h⟩) else if h : j.val - 16 < 16 then b (ix2 r ⟨j.val - 16, h⟩) else Ideal.ofBits FTy.f32 z := by
  pointwise [table]

theorem cos_table (c : Dev nD) : V m c main_v15 = table (Host.cos angles) (Host.cos angles) 0x3F800000#32 := by
  show StableHlo.after hostOps0 _ (Proc.devRef .tc main_v15) = _
  after_results_simp <;> (try dsimp only [Matrix.cons_val]) <;> (try after_results_simp) <;> rfl

theorem sin_table (c : Dev nD) : V m c main_v18 = table (Host.negf (Host.sin angles)) (Host.sin angles) 0x00000000#32 := by
  show StableHlo.after hostOps0 _ (Proc.devRef .tc main_v18) = _
  after_results_simp <;> (try dsimp only [Matrix.cons_val]) <;> (try after_results_simp) <;> rfl

open Cert.Turn

/-- The windows' block indices at every grid point. -/
theorem idx : ∀ t : Fin cfg0.N, win0_0.index t = ![t.val / 3, t.val % 3] ∧ win0_1.index t = ![t.val / 3, 4 + t.val % 3] ∧ win0_2.index t = ![t.val / 3, 0] ∧ win0_3.index t = ![t.val / 3, 0] ∧ win0_4.index t = ![t.val / 3, t.val % 3] ∧ win0_5.index t = ![t.val / 3, t.val % 3] ∧ t.val < 12 :=
  (by decide +kernel : ∀ t : Fin grid0.N, _)

/-- The column of a head that a block's column is. -/
abbrev col (y : S512x512.Idx) : Fin 128 := ⟨(y 1).val % 128, Nat.mod_lt _ (by decide)⟩

/-- The columns of a block's head. -/
abbrev head (v : Vec Ideal S512x512 .bf16) (y : S512x512.Idx) (l : Fin 128) : EReal :=
  v (ix2 (y 0) ⟨(y 1).val / 128 * 128 + l.val, by have h : (y 1).val < 512 := (y 1).isLt; omega⟩)

theorem pay_q (v : Vec Ideal S512x512 .bf16) (c s : Vec Ideal S512x128 .f32) (y) :
    k0_pay1 (F := Ideal) (k0_pay11 v (k0_pay3 c) (k0_pay4 s) (k0_pay5 v c s) (k0_pay6 v c s) (k0_pay7 v) (k0_pay8 v c) k0_pay9 (k0_pay10 v) 16#32) y
      = lane (head v y) (c (ix2 (y 0) (col y))) (s (ix2 (y 0) (col y))) (col y) := by
  have h : (y 1).val < 512 := (y 1).isLt
  have e : ∀ a b : Fin 512, a.val = b.val → v (ix2 (y 0) a) = v (ix2 (y 0) b) := fun a b h => by rw [Fin.ext h]
  have e' : ∀ b : Fin 512, (y 1).val = b.val → v y = v (ix2 (y 0) b) := fun b h => by rw [← Fin.ext h]; exact congrArg v (eq_ix2 y)
  have f : ∀ (w : Vec Ideal S512x128 .f32) (a b : Fin 128), a.val = b.val → w (ix2 (y 0) a) = w (ix2 (y 0) b) := fun w a b h => by rw [Fin.ext h]
  pointwise [k0_pay1, k0_pay3, k0_pay4, k0_pay5, k0_pay6, k0_pay7, k0_pay8, k0_pay9, k0_pay10, k0_pay11]
  split_ifs
  all_goals refine lane_of (head v y) _ (col y) _ _ _ _ _ _ _ ?_ ?_ ?_ ?_ ?_ ?_
  all_goals first | refine e _ _ ?_ | refine f _ _ _ ?_ | refine e' _ ?_ | skip
  all_goals (dsimp only; omega)

theorem pay_k (v : Vec Ideal S512x512 .bf16) (c s : Vec Ideal S512x128 .f32) (y) :
    k0_pay2 (F := Ideal) v (k0_pay3 c) (k0_pay4 s) (k0_pay12 v (k0_pay3 c) (k0_pay4 s)) (k0_pay13 v (k0_pay3 c) (k0_pay4 s)) (k0_pay14 v) y
      = lane (head v y) (c (ix2 (y 0) (col y))) (s (ix2 (y 0) (col y))) (col y) := by
  have h : (y 1).val < 512 := (y 1).isLt
  have e : ∀ a b : Fin 512, a.val = b.val → v (ix2 (y 0) a) = v (ix2 (y 0) b) := fun a b h => by rw [Fin.ext h]
  have e' : ∀ b : Fin 512, (y 1).val = b.val → v y = v (ix2 (y 0) b) := fun b h => by rw [← Fin.ext h]; exact congrArg v (eq_ix2 y)
  have f : ∀ (w : Vec Ideal S512x128 .f32) (a b : Fin 128), a.val = b.val → w (ix2 (y 0) a) = w (ix2 (y 0) b) := fun w a b h => by rw [Fin.ext h]
  pointwise [k0_pay2, k0_pay3, k0_pay4, k0_pay12, k0_pay13, k0_pay14]
  split_ifs
  all_goals refine lane_of (head v y) _ (col y) _ _ _ _ _ _ _ ?_ ?_ ?_ ?_ ?_ ?_
  all_goals first | refine e _ _ ?_ | refine f _ _ _ ?_ | refine e' _ ?_ | skip
  all_goals (dsimp only; omega)

/-- The cosine of a position at a frequency. -/
def cosAt (r n : ℕ) : EReal := Ideal.cos (angle r n)

/-- The sine of a position at a frequency. -/
def sinAt (r n : ℕ) : EReal := Ideal.sin (angle r n)

theorem cos_entry (r : Fin 2048) (j : Fin 128) : table (Host.cos angles) (Host.cos angles) 0x3F800000#32 (ix2 r j) = tab (cosAt r.val) (cosAt r.val) 1 j := by
  rw [table_apply, Ideal.ofBits_one_f32]
  pointwise [angles_apply, tab, cosAt]
  split_ifs <;> rfl

theorem sin_entry (r : Fin 2048) (j : Fin 128) : table (Host.negf (Host.sin angles)) (Host.sin angles) 0x00000000#32 (ix2 r j) = tab (fun n => -sinAt r.val n) (sinAt r.val) 0 j := by
  rw [table_apply, Ideal.ofBits_zero_f32]
  pointwise [angles_apply, tab, sinAt]
  split_ifs <;> rfl

theorem cos_read (c : Dev nD) (t : Fin cfg0.N) (r : Fin 512) (j : Fin 128) : iblk m c 2 t (ix2 r j)
    = tab (cosAt (512 * (t.val / 3) + r.val)) (cosAt (512 * (t.val / 3) + r.val)) 1 j := by
  have h := (idx t).2.2.2.2.2.2
  refine Eq.trans ?_ (cos_entry ⟨512 * (t.val / 3) + r.val, by omega⟩ j)
  blk_simp [iblk]
  rw [cos_table]
  blk_ext [idx t]

theorem sin_read (c : Dev nD) (t : Fin cfg0.N) (r : Fin 512) (j : Fin 128) : iblk m c 3 t (ix2 r j)
    = tab (fun n => -sinAt (512 * (t.val / 3) + r.val) n) (sinAt (512 * (t.val / 3) + r.val)) 0 j := by
  have h := (idx t).2.2.2.2.2.2
  refine Eq.trans ?_ (sin_entry ⟨512 * (t.val / 3) + r.val, by omega⟩ j)
  blk_simp [iblk]
  rw [sin_table]
  blk_ext [idx t]

theorem entry_z (c : Dev nD) : V m c main_arg0 = m ((c : Thread nD τ).loc main_arg0) := by
  show StableHlo.after hostOps0 _ (Proc.devRef .tc main_arg0) = _
  after_results_simp

theorem z_read (c : Dev nD) (t : Fin cfg0.N) (y : S512x512.Idx) : iblk m c 0 t y
    = m ((c : Thread nD τ).loc main_arg0) (ix2 ⟨512 * (t.val / 3) + (y 0).val, by have := (idx t).2.2.2.2.2.2; have h : (y 0).val < 512 := (y 0).isLt; omega⟩ ⟨0 + 512 * (t.val % 3) + (y 1).val, by have h : (y 1).val < 512 := (y 1).isLt; omega⟩) := by
  blk_simp [iblk]
  rw [entry_z]
  blk_ext [idx t]

theorem k_read (c : Dev nD) (t : Fin cfg0.N) (y : S512x512.Idx) : iblk m c 1 t y
    = m ((c : Thread nD τ).loc main_arg0) (ix2 ⟨512 * (t.val / 3) + (y 0).val, by have := (idx t).2.2.2.2.2.2; have h : (y 0).val < 512 := (y 0).isLt; omega⟩ ⟨2048 + 512 * (t.val % 3) + (y 1).val, by have h : (y 1).val < 512 := (y 1).isLt; omega⟩) := by
  blk_simp [iblk]
  rw [entry_z]
  blk_ext [idx t]
  try omega

/-- The columns of the head that holds a column, from a first column on. -/
abbrev cols (x : Vec Ideal S2048x6144 .bf16) (n : Fin 4609) (y : S2048x1536.Idx) (l : Fin 128) : EReal :=
  x (ix2 (y 0) ⟨n.val + (y 1).val / 128 * 128 + l.val, by have h : (y 1).val < 1536 := (y 1).isLt; omega⟩)

theorem ref_q (x : Vec Ideal S2048x6144 .bf16) (y) : val_main_v36 (F := Ideal) x y = turned (cols x 0 y) (cosAt (y 0).val) (sinAt (y 0).val) ⟨(y 1).val % 128, Nat.mod_lt _ (by decide)⟩ := by
  have h : (y 1).val < 1536 := (y 1).isLt
  have e : ∀ a b : Fin 6144, a.val = b.val → x (ix2 (y 0) a) = x (ix2 (y 0) b) := fun a b h => by rw [Fin.ext h]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0]
  unfold turned
  split_ifs <;> first
    | exact congrArg₂ _ (congrArg₂ _ (e _ _ (by dsimp only; omega)) rfl) (congrArg₂ _ (e _ _ (by dsimp only; omega)) rfl)
    | exact e _ _ (by dsimp only; omega)

theorem ref_k (x : Vec Ideal S2048x6144 .bf16) (y) : val_main_v69 (F := Ideal) x y = turned (cols x 2048 y) (cosAt (y 0).val) (sinAt (y 0).val) ⟨(y 1).val % 128, Nat.mod_lt _ (by decide)⟩ := by
  have h : (y 1).val < 1536 := (y 1).isLt
  have e : ∀ a b : Fin 6144, a.val = b.val → x (ix2 (y 0) a) = x (ix2 (y 0) b) := fun a b h => by rw [Fin.ext h]
  pointwise [val_main_v0, val_main_v1, val_main_v2, val_main_v3, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_cst_1, val_main_cst_2]
  unfold turned
  split_ifs <;> first
    | exact congrArg₂ _ (congrArg₂ _ (e _ _ (by dsimp only; omega)) rfl) (congrArg₂ _ (e _ _ (by dsimp only; omega)) rfl)
    | exact e _ _ (by dsimp only; omega)

/-- What a point stores of the queries is the reference's result at the block's place. -/
theorem point_4 (c : Dev nD) (t : Fin cfg0.N) (y) : lane (head (iblk m c 0 t) y) (iblk m c 2 t (ix2 (y 0) (col y))) (iblk m c 3 t (ix2 (y 0) (col y))) (col y)
    = val_main_v36 (F := Ideal) (m ((c : Thread nD τ).loc main_arg0)) (((cfg0.win 4).blk t).view.emb y) := by
  refine (congrArg₂ (fun a b => lane _ a b _) (cos_read m c t (y 0) (col y)) (sin_read m c t (y 0) (col y))).trans ?_
  dsimp only
  rw [lane_turned]
  refine Eq.trans ?_ (ref_q _ _).symm
  have h : (y 1).val < 512 := (y 1).isLt
  have e0 : ((((cfg0.win 4).blk t).view.emb y) 0).val = 512 * (t.val / 3) + (y 0).val := by blk_simp [idx t]; omega
  have e1 : ((((cfg0.win 4).blk t).view.emb y) 1).val = 512 * (t.val % 3) + (y 1).val := by blk_simp [idx t]; omega
  have e2 : ((((cfg0.win 4).blk t).view.emb y) 1).val % 128 = (y 1).val % 128 := by omega
  refine turned_congr _ _ _ _ _ _ _ _ (fun l => ?_) (fun l => ?_) (fun l => ?_) e2.symm
  · refine (z_read m c t _).trans (congrArg _ (ix2_congr _ _ _ _ e0.symm ?_))
    exact head_col 0 _ _ _ _ e1
  · exact congrArg (cosAt · l) e0.symm
  · exact congrArg (sinAt · l) e0.symm

/-- What a point stores of the keys is the reference's result at the block's place. -/
theorem point_5 (c : Dev nD) (t : Fin cfg0.N) (y) : lane (head (iblk m c 1 t) y) (iblk m c 2 t (ix2 (y 0) (col y))) (iblk m c 3 t (ix2 (y 0) (col y))) (col y)
    = val_main_v69 (F := Ideal) (m ((c : Thread nD τ).loc main_arg0)) (((cfg0.win 5).blk t).view.emb y) := by
  refine (congrArg₂ (fun a b => lane _ a b _) (cos_read m c t (y 0) (col y)) (sin_read m c t (y 0) (col y))).trans ?_
  dsimp only
  rw [lane_turned]
  refine Eq.trans ?_ (ref_k _ _).symm
  have h : (y 1).val < 512 := (y 1).isLt
  have e0 : ((((cfg0.win 5).blk t).view.emb y) 0).val = 512 * (t.val / 3) + (y 0).val := by blk_simp [idx t]; omega
  have e1 : ((((cfg0.win 5).blk t).view.emb y) 1).val = 512 * (t.val % 3) + (y 1).val := by blk_simp [idx t]; omega
  have e2 : ((((cfg0.win 5).blk t).view.emb y) 1).val % 128 = (y 1).val % 128 := by omega
  refine turned_congr _ _ _ _ _ _ _ _ (fun l => ?_) (fun l => ?_) (fun l => ?_) e2.symm
  · refine (k_read m c t _).trans (congrArg _ (ix2_congr _ _ _ _ e0.symm ?_))
    exact head_col 2048 _ _ _ _ e1
  · exact congrArg (cosAt · l) e0.symm
  · exact congrArg (sinAt · l) e0.symm

theorem final_4 (c : Dev nD) : (dats m 0 c).arrAt 4 (cfgs 0).N = val_main_v36 (F := Ideal) (m ((c : Thread nD τ).loc main_arg0)) := by
  refine (dats m 0 c).arrAt_eq_of_covers 4 _ (by decide +kernel) fun t _ y => ?_
  blk_simp
  rw [after0_4]; unfold_out out0_4; frame_out
  exact (pay_q _ _ _ y).trans (point_4 m c t y)

theorem final_5 (c : Dev nD) : (dats m 0 c).arrAt 5 (cfgs 0).N = val_main_v69 (F := Ideal) (m ((c : Thread nD τ).loc main_arg0)) := by
  refine (dats m 0 c).arrAt_eq_of_covers 5 _ (by decide +kernel) fun t _ y => ?_
  blk_simp
  rw [after0_5]; unfold_out out0_5; frame_out
  exact (pay_k _ _ _ y).trans (point_5 m c t y)

theorem algebraic : Cert.algebraic_RopeIdeal_RopeRefIdeal (hRopeIdeal := Cert.RopeIdeal.Gen.facts) (hRopeRefIdeal := Cert.RopeRefIdeal.Gen.facts) := by
  pair_intro
  · run_from Cert.RopeIdeal.Gen.run_main m g
  · refine (θ_run Cert.RopeRefIdeal.defs _ _).mono (fun r h c => ?_) (Cert.RopeRefIdeal.Value.run m' g')
    obtain ⟨h0, h1, hl⟩ := h c
    have a0 := hagree c
    refine ⟨h0.trans ?_, h1.trans ?_, hl⟩
    · rw [val_main_v36_eq, a0]; exact (final_4 m c).symm
    · rw [val_main_v69_eq, a0]; exact (final_5 m c).symm

theorem frame_reference : Cert.quiescent_RopeRefIdeal (hRopeRefIdeal := Cert.RopeRefIdeal.Gen.facts) := fun m ρ _ =>
  (θ_run Cert.RopeRefIdeal.defs _ _).mono (fun r h => ⟨fun c => (h c).2.2, sem_eq_zero_of_no_sems (by decide) r.2⟩)
    (Cert.RopeRefIdeal.Value.run m ρ)

end Cert.RopeIdeal.Layer

end
-- ==== Proof.Layer.DRope.lean ====
/- The rotation of the gradients of queries and keys back from their positions: kernel and reference give the same arrays. -/
module

public import proofs.«01_k».proof.Defs
public import proofs.«01_k».proof.Proof.Gen.DRopeIdeal.Frame
public import proofs.«01_k».proof.Proof.Gen.DRopeIdeal.Value
public import proofs.«01_k».proof.Proof.Gen.DRopeRefIdeal.Run
public import proofs.«01_k».proof.Proof.Gen.DRopeRefIdeal.Read
public import Idealize.ShloMosaic.Lib.Pipeline.ValueKit
public import Idealize.ShloMosaic.Lib.Claim
public import proofs.«01_k».proof.Proof.Layer.Turn

@[expose] public section

set_option maxRecDepth 16384
noncomputable section

open Idealize.ShloMosaic Idealize.ShloMosaic.TcCoe Idealize.SL.Sem
open Idealize.ShloMosaic.Pipeline (Dat)

namespace Cert.DRopeIdeal.Layer

open Cert.DRopeIdeal Cert.DRopeIdeal.Gen
open Cert.DRopeRefIdeal.Read

variable (m : (ℓ : Loc nD τ sig) → Buf (Elt Ideal) ℓ)

/-- The angle of a position at a frequency. -/
def angle (r n : ℕ) : EReal :=
  FloatOps.sitofp (F := Ideal) FTy.f32 (BitVec.ofNat 32 r) * Ideal.pow (Ideal.ofBits FTy.f32 1223959552#32)
    (Ideal.div (-FloatOps.sitofp (F := Ideal) FTy.f32 (BitVec.ofNat 32 n)) (Ideal.ofBits FTy.f32 1098907648#32))

/-- The angles of the positions at the frequencies. -/
def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (y : S2048x16.Idx) : angles y = angle (y 0).val (y 1).val := by
  pointwise [angles, angle]

/-- A table: two pieces of sixteen columns and a constant. -/
def table (a b : FVec Ideal S2048x16 .f32) (z : BitVec 32) : FVec Ideal S2048x128 .f32 :=
  concatenate S2048x128 1 [⟨S2048x16, a⟩, ⟨S2048x16, b⟩, ⟨S2048x96, broadcastInDim S2048x96 ![] bcast_S_S2048x96 (constant S_ .f32 z)⟩] concatenates_S2048x16_S2048x16_S2048x96_S2048x128_d1

theorem table_apply (a b : FVec Ideal S2048x16 .f32) (z : BitVec 32) (r : Fin 2048) (j : Fin 128) : table a b z (ix2 r j)
    = if h : j.val < 16 then a (ix2 r ⟨j.val, h⟩) else if h : j.val - 16 < 16 then b (ix2 r ⟨j.val - 16, h⟩) else Ideal.ofBits FTy.f32 z := by
  pointwise [table]

theorem cos_table (c : Dev nD) : V m c main_v15 = table (Host.cos angles) (Host.cos angles) 0x3F800000#32 := by
  show StableHlo.after hostOps0 _ (Proc.devRef .tc main_v15) = _
  after_results_simp <;> (try dsimp only [Matrix.cons_val]) <;> (try after_results_simp) <;> rfl

theorem sin_table (c : Dev nD) : V m c main_v18 = table (Host.negf (Host.sin angles)) (Host.sin angles) 0x00000000#32 := by
  show StableHlo.after hostOps0 _ (Proc.devRef .tc main_v18) = _
  after_results_simp <;> (try dsimp only [Matrix.cons_val]) <;> (try after_results_simp) <;> rfl

open Cert.Turn

/-- The windows' block indices at every grid point. -/
theorem idx : ∀ t : Fin cfg0.N, win0_0.index t = ![t.val / 3, t.val % 3] ∧ win0_1.index t = ![t.val / 3, t.val % 3] ∧ win0_2.index t = ![t.val / 3, 0] ∧ win0_3.index t = ![t.val / 3, 0] ∧ win0_4.index t = ![t.val / 3, t.val % 3] ∧ win0_5.index t = ![t.val / 3, t.val % 3] ∧ t.val < 12 :=
  (by decide +kernel : ∀ t : Fin grid0.N, _)

/-- The column of a head that a block's column is. -/
abbrev col (y : S512x512.Idx) : Fin 128 := ⟨(y 1).val % 128, Nat.mod_lt _ (by decide)⟩

/-- The sign the sines are taken with. -/
theorem sign_eq : Ideal.ofBits FTy.f32 3212836864#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The columns of a block's head. -/
abbrev head (v : Vec Ideal S512x512 .bf16) (y : S512x512.Idx) (l : Fin 128) : EReal :=
  v (ix2 (y 0) ⟨(y 1).val / 128 * 128 + l.val, by have h : (y 1).val < 512 := (y 1).isLt; omega⟩)

theorem pay_q (v : Vec Ideal S512x512 .bf16) (c s : Vec Ideal S512x128 .f32) (y) :
    k0_pay1 (F := Ideal) (k0_pay11 v (k0_pay3 c) (k0_pay4 s) (k0_pay5 v c s) (k0_pay6 v c s) (k0_pay7 v) (k0_pay8 v c) k0_pay9 (k0_pay10 v) 16#32) y
      = lane (head v y) (c (ix2 (y 0) (col y))) (-1 * s (ix2 (y 0) (col y))) (col y) := by
  have h : (y 1).val < 512 := (y 1).isLt
  have e : ∀ a b : Fin 512, a.val = b.val → v (ix2 (y 0) a) = v (ix2 (y 0) b) := fun a b h => by rw [Fin.ext h]
  have e' : ∀ b : Fin 512, (y 1).val = b.val → v y = v (ix2 (y 0) b) := fun b h => by rw [← Fin.ext h]; exact congrArg v (eq_ix2 y)
  have f : ∀ (w : Vec Ideal S512x128 .f32) (a b : Fin 128), a.val = b.val → w (ix2 (y 0) a) = w (ix2 (y 0) b) := fun w a b h => by rw [Fin.ext h]
  rw [← sign_eq]
  pointwise [k0_pay1, k0_pay3, k0_pay4, k0_pay5, k0_pay6, k0_pay7, k0_pay8, k0_pay9, k0_pay10, k0_pay11]
  split_ifs
  all_goals refine lane_of_signed _ (head v y) _ (col y) _ _ _ _ _ _ _ ?_ ?_ ?_ ?_ ?_ ?_
  all_goals first | refine e _ _ ?_ | refine f _ _ _ ?_ | refine e' _ ?_ | skip
  all_goals (dsimp only; omega)

theorem pay_k (v : Vec Ideal S512x512 .bf16) (c s : Vec Ideal S512x128 .f32) (y) :
    k0_pay2 (F := Ideal) v (k0_pay3 c) (k0_pay4 s) (k0_pay12 v (k0_pay3 c) (k0_pay4 s)) (k0_pay13 v (k0_pay3 c) (k0_pay4 s)) (k0_pay14 v) y
      = lane (head v y) (c (ix2 (y 0) (col y))) (-1 * s (ix2 (y 0) (col y))) (col y) := by
  have h : (y 1).val < 512 := (y 1).isLt
  have e : ∀ a b : Fin 512, a.val = b.val → v (ix2 (y 0) a) = v (ix2 (y 0) b) := fun a b h => by rw [Fin.ext h]
  have e' : ∀ b : Fin 512, (y 1).val = b.val → v y = v (ix2 (y 0) b) := fun b h => by rw [← Fin.ext h]; exact congrArg v (eq_ix2 y)
  have f : ∀ (w : Vec Ideal S512x128 .f32) (a b : Fin 128), a.val = b.val → w (ix2 (y 0) a) = w (ix2 (y 0) b) := fun w a b h => by rw [Fin.ext h]
  rw [← sign_eq]
  pointwise [k0_pay2, k0_pay3, k0_pay4, k0_pay12, k0_pay13, k0_pay14]
  split_ifs
  all_goals refine lane_of_signed _ (head v y) _ (col y) _ _ _ _ _ _ _ ?_ ?_ ?_ ?_ ?_ ?_
  all_goals first | refine e _ _ ?_ | refine f _ _ _ ?_ | refine e' _ ?_ | skip
  all_goals (dsimp only; omega)

/-- The cosine of a position at a frequency. -/
def cosAt (r n : ℕ) : EReal := Ideal.cos (angle r n)

/-- The sine of a position at a frequency. -/
def sinAt (r n : ℕ) : EReal := Ideal.sin (angle r n)

theorem cos_entry (r : Fin 2048) (j : Fin 128) : table (Host.cos angles) (Host.cos angles) 0x3F800000#32 (ix2 r j) = tab (cosAt r.val) (cosAt r.val) 1 j := by
  rw [table_apply, Ideal.ofBits_one_f32]
  pointwise [angles_apply, tab, cosAt]
  split_ifs <;> rfl

theorem sin_entry (r : Fin 2048) (j : Fin 128) : table (Host.negf (Host.sin angles)) (Host.sin angles) 0x00000000#32 (ix2 r j) = tab (fun n => -sinAt r.val n) (sinAt r.val) 0 j := by
  rw [table_apply, Ideal.ofBits_zero_f32]
  pointwise [angles_apply, tab, sinAt]
  split_ifs <;> rfl

theorem cos_read (c : Dev nD) (t : Fin cfg0.N) (r : Fin 512) (j : Fin 128) : iblk m c 2 t (ix2 r j)
    = tab (cosAt (512 * (t.val / 3) + r.val)) (cosAt (512 * (t.val / 3) + r.val)) 1 j := by
  have h := (idx t).2.2.2.2.2.2
  refine Eq.trans ?_ (cos_entry ⟨512 * (t.val / 3) + r.val, by omega⟩ j)
  blk_simp [iblk]
  rw [cos_table]
  blk_ext [idx t]

theorem sin_read (c : Dev nD) (t : Fin cfg0.N) (r : Fin 512) (j : Fin 128) : iblk m c 3 t (ix2 r j)
    = tab (fun n => -sinAt (512 * (t.val / 3) + r.val) n) (sinAt (512 * (t.val / 3) + r.val)) 0 j := by
  have h := (idx t).2.2.2.2.2.2
  refine Eq.trans ?_ (sin_entry ⟨512 * (t.val / 3) + r.val, by omega⟩ j)
  blk_simp [iblk]
  rw [sin_table]
  blk_ext [idx t]

theorem entry_z (c : Dev nD) : V m c main_arg0 = m ((c : Thread nD τ).loc main_arg0) := by
  show StableHlo.after hostOps0 _ (Proc.devRef .tc main_arg0) = _
  after_results_simp

theorem entry_k (c : Dev nD) : V m c main_arg1 = m ((c : Thread nD τ).loc main_arg1) := by
  show StableHlo.after hostOps0 _ (Proc.devRef .tc main_arg1) = _
  after_results_simp

theorem z_read (c : Dev nD) (t : Fin cfg0.N) (y : S512x512.Idx) : iblk m c 0 t y
    = m ((c : Thread nD τ).loc main_arg0) (ix2 ⟨512 * (t.val / 3) + (y 0).val, by have := (idx t).2.2.2.2.2.2; have h : (y 0).val < 512 := (y 0).isLt; omega⟩ ⟨512 * (t.val % 3) + (y 1).val, by have h : (y 1).val < 512 := (y 1).isLt; omega⟩) := by
  blk_simp [iblk]
  rw [entry_z]
  blk_ext [idx t]

theorem k_read (c : Dev nD) (t : Fin cfg0.N) (y : S512x512.Idx) : iblk m c 1 t y
    = m ((c : Thread nD τ).loc main_arg1) (ix2 ⟨512 * (t.val / 3) + (y 0).val, by have := (idx t).2.2.2.2.2.2; have h : (y 0).val < 512 := (y 0).isLt; omega⟩ ⟨512 * (t.val % 3) + (y 1).val, by have h : (y 1).val < 512 := (y 1).isLt; omega⟩) := by
  blk_simp [iblk]
  rw [entry_k]
  blk_ext [idx t]
  try omega

/-- The columns of the head that holds a column. -/
abbrev cols (x : Vec Ideal S2048x1536 .bf16) (y : S2048x1536.Idx) (l : Fin 128) : EReal :=
  x (ix2 (y 0) ⟨(y 1).val / 128 * 128 + l.val, by have h : (y 1).val < 1536 := (y 1).isLt; omega⟩)

theorem ref_q (x : Vec Ideal S2048x1536 .bf16) (y) : val_main_v55 (F := Ideal) x y = back (cols x y) (cosAt (y 0).val) (sinAt (y 0).val) ⟨(y 1).val % 128, Nat.mod_lt _ (by decide)⟩ := by
  have h : (y 1).val < 1536 := (y 1).isLt
  have e : ∀ a b : Fin 1536, a.val = b.val → x (ix2 (y 0) a) = x (ix2 (y 0) b) := fun a b h => by rw [Fin.ext h]
  have e' : ∀ b : Fin 1536, (y 1).val = b.val → x y = x (ix2 (y 0) b) := fun b h => by rw [← Fin.ext h]; exact congrArg x (eq_ix2 y)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7]
  unfold back
  split_ifs
  all_goals first
    | exact (low_eq _ _ _ _).trans (congrArg₂ _ (congrArg₂ _ (e' _ (by dsimp only; omega)) rfl) (congrArg₂ _ (e _ _ (by dsimp only; omega)) rfl))
    | exact (mid_eq _ _ _ _).trans (congrArg₂ _ (congrArg₂ _ (e _ _ (by dsimp only; omega)) rfl) (congrArg Neg.neg (congrArg₂ _ (e _ _ (by dsimp only; omega)) rfl)))
    | exact (top_eq _).trans (e _ _ (by dsimp only; omega))
    | (exfalso; dsimp only at *; omega)

theorem ref_k (x : Vec Ideal S2048x1536 .bf16) (y) : val_main_v78 (F := Ideal) x y = back (cols x y) (cosAt (y 0).val) (sinAt (y 0).val) ⟨(y 1).val % 128, Nat.mod_lt _ (by decide)⟩ := by
  have h : (y 1).val < 1536 := (y 1).isLt
  have e : ∀ a b : Fin 1536, a.val = b.val → x (ix2 (y 0) a) = x (ix2 (y 0) b) := fun a b h => by rw [Fin.ext h]
  have e' : ∀ b : Fin 1536, (y 1).val = b.val → x y = x (ix2 (y 0) b) := fun b h => by rw [← Fin.ext h]; exact congrArg x (eq_ix2 y)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst, val_main_cst_0, val_main_cst_1, val_main_cst_2, val_main_cst_3, val_main_cst_4, val_main_cst_5, val_main_cst_6, val_main_cst_7]
  unfold back
  split_ifs
  all_goals first
    | exact (low_eq _ _ _ _).trans (congrArg₂ _ (congrArg₂ _ (e' _ (by dsimp only; omega)) rfl) (congrArg₂ _ (e _ _ (by dsimp only; omega)) rfl))
    | exact (mid_eq _ _ _ _).trans (congrArg₂ _ (congrArg₂ _ (e _ _ (by dsimp only; omega)) rfl) (congrArg Neg.neg (congrArg₂ _ (e _ _ (by dsimp only; omega)) rfl)))
    | exact (top_eq _).trans (e _ _ (by dsimp only; omega))
    | (exfalso; dsimp only at *; omega)

/-- What a point stores of the queries is the reference's result at the block's place. -/
theorem point_4 (c : Dev nD) (t : Fin cfg0.N) (y) : lane (head (iblk m c 0 t) y) (iblk m c 2 t (ix2 (y 0) (col y))) (-1 * iblk m c 3 t (ix2 (y 0) (col y))) (col y)
    = val_main_v55 (F := Ideal) (m ((c : Thread nD τ).loc main_arg0)) (((cfg0.win 4).blk t).view.emb y) := by
  refine (congrArg₂ (fun a b => lane _ a (-1 * b) _) (cos_read m c t (y 0) (col y)) (sin_read m c t (y 0) (col y))).trans ?_
  dsimp only
  rw [lane_back]
  refine Eq.trans ?_ (ref_q _ _).symm
  have h : (y 1).val < 512 := (y 1).isLt
  have e0 : ((((cfg0.win 4).blk t).view.emb y) 0).val = 512 * (t.val / 3) + (y 0).val := by blk_simp [idx t]; omega
  have e1 : ((((cfg0.win 4).blk t).view.emb y) 1).val = 512 * (t.val % 3) + (y 1).val := by blk_simp [idx t]; omega
  have e2 : ((((cfg0.win 4).blk t).view.emb y) 1).val % 128 = (y 1).val % 128 := by omega
  refine back_congr _ _ _ _ _ _ _ _ (fun l => ?_) (fun l => ?_) (fun l => ?_) e2.symm
  · refine (z_read m c t _).trans (congrArg _ (ix2_congr _ _ _ _ e0.symm ?_))
    exact head_col' _ _ _ _ e1
  · exact congrArg (cosAt · l) e0.symm
  · exact congrArg (sinAt · l) e0.symm

/-- What a point stores of the keys is the reference's result at the block's place. -/
theorem point_5 (c : Dev nD) (t : Fin cfg0.N) (y) : lane (head (iblk m c 1 t) y) (iblk m c 2 t (ix2 (y 0) (col y))) (-1 * iblk m c 3 t (ix2 (y 0) (col y))) (col y)
    = val_main_v78 (F := Ideal) (m ((c : Thread nD τ).loc main_arg1)) (((cfg0.win 5).blk t).view.emb y) := by
  refine (congrArg₂ (fun a b => lane _ a (-1 * b) _) (cos_read m c t (y 0) (col y)) (sin_read m c t (y 0) (col y))).trans ?_
  dsimp only
  rw [lane_back]
  refine Eq.trans ?_ (ref_k _ _).symm
  have h : (y 1).val < 512 := (y 1).isLt
  have e0 : ((((cfg0.win 5).blk t).view.emb y) 0).val = 512 * (t.val / 3) + (y 0).val := by blk_simp [idx t]; omega
  have e1 : ((((cfg0.win 5).blk t).view.emb y) 1).val = 512 * (t.val % 3) + (y 1).val := by blk_simp [idx t]; omega
  have e2 : ((((cfg0.win 5).blk t).view.emb y) 1).val % 128 = (y 1).val % 128 := by omega
  refine back_congr _ _ _ _ _ _ _ _ (fun l => ?_) (fun l => ?_) (fun l => ?_) e2.symm
  · refine (k_read m c t _).trans (congrArg _ (ix2_congr _ _ _ _ e0.symm ?_))
    exact head_col' _ _ _ _ e1
  · exact congrArg (cosAt · l) e0.symm
  · exact congrArg (sinAt · l) e0.symm

theorem final_4 (c : Dev nD) : (dats m 0 c).arrAt 4 (cfgs 0).N = val_main_v55 (F := Ideal) (m ((c : Thread nD τ).loc main_arg0)) := by
  refine (dats m 0 c).arrAt_eq_of_covers 4 _ (by decide +kernel) fun t _ y => ?_
  blk_simp
  rw [after0_4]; unfold_out out0_4; frame_out
  exact (pay_q _ _ _ y).trans (point_4 m c t y)

theorem final_5 (c : Dev nD) : (dats m 0 c).arrAt 5 (cfgs 0).N = val_main_v78 (F := Ideal) (m ((c : Thread nD τ).loc main_arg1)) := by
  refine (dats m 0 c).arrAt_eq_of_covers 5 _ (by decide +kernel) fun t _ y => ?_
  blk_simp
  rw [after0_5]; unfold_out out0_5; frame_out
  exact (pay_k _ _ _ y).trans (point_5 m c t y)

theorem algebraic : Cert.algebraic_DRopeIdeal_DRopeRefIdeal (hDRopeIdeal := Cert.DRopeIdeal.Gen.facts) (hDRopeRefIdeal := Cert.DRopeRefIdeal.Gen.facts) := by
  pair_intro
  · run_from Cert.DRopeIdeal.Gen.run_main m g
  · refine (θ_run Cert.DRopeRefIdeal.defs _ _).mono (fun r h c => ?_) (Cert.DRopeRefIdeal.Value.run m' g')
    obtain ⟨h0, h1, hl⟩ := h c
    obtain ⟨a0, a1⟩ := hagree c
    refine ⟨h0.trans ?_, h1.trans ?_, hl⟩
    · rw [val_main_v55_eq, a0]; exact (final_4 m c).symm
    · rw [val_main_v78_eq, a1]; exact (final_5 m c).symm

theorem frame_reference : Cert.quiescent_DRopeRefIdeal (hDRopeRefIdeal := Cert.DRopeRefIdeal.Gen.facts) := fun m ρ _ =>
  (θ_run Cert.DRopeRefIdeal.defs _ _).mono (fun r h => ⟨fun c => (h c).2.2, sem_eq_zero_of_no_sems (by decide) r.2⟩)
    (Cert.DRopeRefIdeal.Value.run m ρ)

end Cert.DRopeIdeal.Layer

end
-- ==== Proof.Layer.Mix.lean ====
/- The mixture of the three dilation groups by their softmax denominators: kernel and reference give the same array. -/
module

public import proofs.«01_k».proof.Defs
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Layer

open Cert.MixIdeal Cert.MixIdeal.Gen
open Cert.MixRefIdeal.Read

variable (m : (ℓ : Loc nD τ sig) → Buf (Elt Ideal) ℓ)

/-- The windows' block indices at every grid point. -/
theorem idx : ∀ t : Fin cfg0.N, win0_0.index t = ![0, t.val, 0] ∧ win0_1.index t = ![0, t.val, 0] ∧ win0_2.index t = ![t.val, 0] ∧ t.val < 8 :=
  (by decide +kernel : ∀ t : Fin grid0.N, _)

/-- The mixture at one entry, of the groups' values and log denominators there. -/
def mixed (o l : Fin 3 → EReal) : EReal :=
  ∑ g, Ideal.div (Ideal.exp (l g - Finset.univ.fold max (Ideal.ofBits FTy.f32 4286578688#32) l))
    (∑ h, Ideal.exp (l h - Finset.univ.fold max (Ideal.ofBits FTy.f32 4286578688#32) l)) * o g

/-- A maximum that starts at a value is at least that value. -/
theorem low_le (l : Fin 3 → EReal) : Ideal.ofBits FTy.f32 4286578688#32 ≤ Finset.univ.fold max (Ideal.ofBits FTy.f32 4286578688#32) l :=
  (Finset.le_fold_max _).mpr (Or.inl le_rfl)

theorem ref_max (l : Vec Ideal S3x2048x512 .f32) (y) :
    val_main_v0 (F := Ideal) l y = Finset.univ.fold max (Ideal.ofBits FTy.f32 4286578688#32) (fun g : Fin 3 => l (ix3 g (y 0) (y 1))) := by
  pointwise [val_main_v0, val_main_cst]

theorem ref_max' (l : Vec Ideal S3x2048x512 .f32) (y) :
    val_main_v2 (F := Ideal) l y = Finset.univ.fold max (Ideal.ofBits FTy.f32 4286578688#32) (fun g : Fin 3 => l (ix3 g (y 0) (y 1))) := by
  rw [val_main_v2_apply, val_main_v1_apply, val_main_cst_0_apply, ref_max]
  have h := low_le (fun g : Fin 3 => l (ix3 g (y 0) (y 1)))
  revert h
  generalize Finset.univ.fold max (Ideal.ofBits FTy.f32 4286578688#32) (fun g : Fin 3 => l (ix3 g (y 0) (y 1))) = a
  exact fun h => max_eq_right h

/-- A group's weight, not yet divided. -/
theorem ref_exp (l : Vec Ideal S3x2048x512 .f32) (y) :
    val_main_v6 (F := Ideal) l y = Ideal.exp (l y - Finset.univ.fold max (Ideal.ofBits FTy.f32 4286578688#32) (fun g : Fin 3 => l (ix3 g (y 1) (y 2)))) := by
  pointwise [val_main_v3, val_main_v4, val_main_v5, val_main_v6, ref_max']

theorem pay_eq (o : Vec Ideal S3x256x512 .bf16) (l : Vec Ideal S3x256x512 .f32) (y) :
    k0_pay1 (F := Ideal) o l y = mixed (fun g => o (ix3 g (y 0) (y 1))) (fun g => l (ix3 g (y 0) (y 1))) := by
  pointwise [k0_pay1, mixed]

theorem ref_eq (o : Vec Ideal S3x2048x512 .bf16) (l : Vec Ideal S3x2048x512 .f32) (y) :
    val_main_v14 (F := Ideal) o l y = mixed (fun g => o (ix3 g (y 0) (y 1))) (fun g => l (ix3 g (y 0) (y 1))) := by
  pointwise [val_main_cst_1, val_main_v7, val_main_v8, val_main_v9, val_main_v10, val_main_v11, val_main_v12, val_main_cst_2, val_main_v13, val_main_v14, ref_exp]
  simp only [mixed]

/-- What a point stores is the reference's result at the block's place. -/
theorem point (c : Dev nD) (t : Fin cfg0.N) (y) : k0_pay1 (iblk m c 0 t) (iblk m c 1 t) y
    = val_main_v14 (F := Ideal) (m ((c : Thread nD τ).loc main_arg0)) (m ((c : Thread nD τ).loc main_arg1)) (((cfg0.win 2).blk t).view.emb y) := by
  refine (pay_eq _ _ y).trans (Eq.trans ?_ (ref_eq _ _ _).symm)
  refine congrArg₂ mixed (funext fun g => ?_) (funext fun g => ?_)
  · blk_ext [iblk, V, idx t]
  · blk_ext [iblk, V, idx t]

theorem final (c : Dev nD) : (dats m 0 c).arrAt 2 (cfgs 0).N = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Kernel and reference end with equal results. -/
theorem algebraic : Cert.algebraic_MixIdeal_MixRefIdeal (hMixIdeal := Cert.MixIdeal.Gen.facts) (hMixRefIdeal := Cert.MixRefIdeal.Gen.facts) := by
  pair_intro
  · run_from Cert.MixIdeal.Gen.run_main m g
  · refine (θ_run Cert.MixRefIdeal.defs _ _).mono (fun r h c => ?_) (Cert.MixRefIdeal.Value.run m' g')
    obtain ⟨h0, hl⟩ := h c
    obtain ⟨a0, a1⟩ := hagree c
    refine ⟨h0.trans ?_, hl⟩
    · rw [val_main_v14_eq, a0, a1]; exact (final m c).symm

theorem frame_reference : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run m ρ)

end Cert.MixIdeal.Layer

end
-- ==== Proof.Fox.Real.lean ====
/- Forgetting attention's backward pass over the real numbers: one head, its arrays as functions of row and feature
   numbers, and the facts about them that both programs' values are compared by. -/
module

public import Idealize.ShloMosaic.PureOps.Ideal.Laws
public import Mathlib.Analysis.SpecialFunctions.Log.Basic

@[expose] public section

noncomputable section

namespace Cert.FoxReal

open Idealize.ShloMosaic Finset

/-! ## Sums of real numbers among the extended ones -/

/-- A finite sum of real numbers, taken among the extended reals, is the real sum. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The scale of the scores, the float nearest to one over the root of the head's width, as a real number. -/
def sc : ℝ := (Ideal.ofBits FTy.f32 0x3DB504F3#32).toReal

theorem ofBits_sc : Ideal.ofBits FTy.f32 0x3DB504F3#32 = (sc : EReal) := by
  unfold sc
  rw [EReal.coe_toReal]
  · simp [Ideal.ofBits, Ideal.ieee]
    try exact EReal.coe_ne_top _
  · simp [Ideal.ofBits, Ideal.ieee]
    try exact EReal.coe_ne_bot _

/-! ## One head's gradients -/

variable (q k v dy : ℕ → ℕ → ℝ) (c : ℕ → ℝ)

/-- The score of query row `i` against key row `j`: the scaled product and the sum of the log-gates between them. -/
def score (i j : ℕ) : ℝ := (∑ d ∈ range 128, q i d * k j d) * sc + c i - c j

/-- The sum over a row's visible keys of the exponentials of its scores. -/
def mass (i : ℕ) : ℝ := ∑ j ∈ range (i + 1), Real.exp (score q k c i j)

/-- The logarithm of a row's mass. -/
def lse (i : ℕ) : ℝ := Real.log (mass q k c i)

/-- The attention's weights: a key after the query has none. -/
def prob (i j : ℕ) : ℝ := if j ≤ i then Real.exp (score q k c i j - lse q k c i) else 0

/-- The gradient of the weights. -/
def dprob (i j : ℕ) : ℝ := ∑ d ∈ range 128, dy i d * v j d

/-- The gradient of the scores. -/
def dscore (i j : ℕ) : ℝ :=
  prob q k c i j * (dprob v dy i j - ∑ j' ∈ range 2048, prob q k c i j' * dprob v dy i j')

/-- The gradient of the queries. -/
def gq (i d : ℕ) : ℝ := (∑ j ∈ range 2048, dscore q k v dy c i j * k j d) * sc

/-- The gradient of the keys from the query rows before `n`. -/
def gk (n j d : ℕ) : ℝ := (∑ i ∈ range n, dscore q k v dy c i j * q i d) * sc

/-- The gradient of the values from the query rows before `n`. -/
def gv (n j d : ℕ) : ℝ := ∑ i ∈ range n, prob q k c i j * dy i d

/-- The gradient of the cumulated log-gates from the query rows before `n`. -/
def gc (n j : ℕ) : ℝ := - ∑ i ∈ range n, dscore q k v dy c i j

theorem mass_pos (i : ℕ) : 0 < mass q k c i :=
  Finset.sum_pos (fun _ _ => Real.exp_pos _) ⟨0, by simp⟩

theorem prob_after {i j : ℕ} (h : i < j) : prob q k c i j = 0 := if_neg (by omega)

theorem dscore_after {i j : ℕ} (h : i < j) : dscore q k v dy c i j = 0 := by
  unfold dscore; rw [prob_after q k c h, zero_mul]

/-- The visible keys' weights are the exponentials of the scores over the row's mass. -/
theorem prob_visible {i j : ℕ} (h : j ≤ i) : prob q k c i j = Real.exp (score q k c i j) / mass q k c i := by
  unfold prob lse
  rw [if_pos h, Real.exp_sub, Real.exp_log (mass_pos q k c i)]

/-- A row's exponentials of the scores less any number `m`, over the visible keys, sum to the row's mass over `exp m`. -/
theorem sum_shifted (i n : ℕ) (h : i < n) (m : ℝ) :
    ∑ j ∈ range n, (if j ≤ i then Real.exp (score q k c i j - m) else 0) = mass q k c i / Real.exp m := by
  rw [← Finset.sum_subset (s₁ := range (i + 1))]
  · unfold mass
    rw [Finset.sum_div]
    refine Finset.sum_congr rfl fun j hj => ?_
    rw [if_pos (by have := Finset.mem_range.mp hj; omega), Real.exp_sub]
  · intro j hj
    have := Finset.mem_range.mp hj
    exact Finset.mem_range.mpr (by omega)
  · intro j _ hj
    exact if_neg fun hle => hj (Finset.mem_range.mpr (by omega))

/-- A row's weights sum to one. -/
theorem sum_prob (i n : ℕ) (h : i < n) : ∑ j ∈ range n, prob q k c i j = 1 := by
  have := sum_shifted q k c i n h (lse q k c i)
  unfold prob
  rw [this]
  unfold lse
  rw [Real.exp_log (mass_pos q k c i)]
  exact div_self (mass_pos q k c i).ne'

/-- The log-sum as the forward pass keeps it, a number `m` and the logarithm of the shifted sum. -/
theorem lse_shifted (i n : ℕ) (h : i < n) (m : ℝ) :
    m + Real.log (∑ j ∈ range n, (if j ≤ i then Real.exp (score q k c i j - m) else 0)) = lse q k c i := by
  rw [sum_shifted q k c i n h, Real.log_div (mass_pos q k c i).ne' (Real.exp_pos m).ne', Real.log_exp]
  unfold lse
  ring

/-- A sum over all keys that vanishes after the query's row, cut at any later row. -/
theorem sum_cut {i n : ℕ} (h : i < n) (hn : n ≤ 2048) (f : ℕ → ℝ) (hf : ∀ j, i < j → f j = 0) :
    ∑ j ∈ range n, f j = ∑ j ∈ range 2048, f j := by
  refine Finset.sum_subset (fun j hj => ?_) fun j _ hj => hf j ?_
  · have := Finset.mem_range.mp hj
    exact Finset.mem_range.mpr (by omega)
  · exact Nat.lt_of_lt_of_le h (Nat.le_of_not_lt fun hlt => hj (Finset.mem_range.mpr hlt))

/-- The gradients of the scores of one row sum to zero, as the weights sum to one. -/
theorem sum_dscore (i : ℕ) (h : i < 2048) : ∑ j ∈ range 2048, dscore q k v dy c i j = 0 := by
  unfold dscore
  simp only [mul_sub, Finset.sum_sub_distrib, ← Finset.sum_mul]
  rw [sum_prob q k c i 2048 h]
  ring

theorem gk_zero (j d : ℕ) : gk q k v dy c 0 j d = 0 := by unfold gk; simp
theorem gv_zero (j d : ℕ) : gv q k dy c 0 j d = 0 := by unfold gv; simp
theorem gc_zero (j : ℕ) : gc q k v dy c 0 j = 0 := by unfold gc; simp

/-- The keys' gradient after another tile of 512 query rows. -/
theorem gk_tile (n j d : ℕ) : gk q k v dy c (n + 512) j d
    = gk q k v dy c n j d + (∑ i ∈ range 512, dscore q k v dy c (n + i) j * q (n + i) d) * sc := by
  unfold gk
  rw [Finset.sum_range_add]
  ring

/-- The values' gradient after another tile of 512 query rows. -/
theorem gv_tile (n j d : ℕ) : gv q k dy c (n + 512) j d
    = gv q k dy c n j d + ∑ i ∈ range 512, prob q k c (n + i) j * dy (n + i) d := by
  unfold gv
  rw [Finset.sum_range_add]

/-- The log-gates' gradient after another tile of 512 query rows. -/
theorem gc_tile (n j : ℕ) : gc q k v dy c (n + 512) j
    = gc q k v dy c n j - ∑ i ∈ range 512, dscore q k v dy c (n + i) j := by
  unfold gc
  rw [Finset.sum_range_add]
  ring

/-- Keys after a tile get nothing from it. -/
theorem gk_after {n j : ℕ} (h : n + 512 ≤ j) (d : ℕ) : gk q k v dy c (n + 512) j d = gk q k v dy c n j d := by
  rw [gk_tile, Finset.sum_eq_zero, zero_mul, add_zero]
  intro i hi
  have := Finset.mem_range.mp hi
  rw [dscore_after q k v dy c (by omega), zero_mul]
theorem gv_after {n j : ℕ} (h : n + 512 ≤ j) (d : ℕ) : gv q k dy c (n + 512) j d = gv q k dy c n j d := by
  rw [gv_tile, Finset.sum_eq_zero, add_zero]
  intro i hi
  have := Finset.mem_range.mp hi
  rw [prob_after q k c (by omega), zero_mul]
theorem gc_after {n j : ℕ} (h : n + 512 ≤ j) : gc q k v dy c (n + 512) j = gc q k v dy c n j := by
  rw [gc_tile, Finset.sum_eq_zero, sub_zero]
  intro i hi
  have := Finset.mem_range.mp hi
  exact dscore_after q k v dy c (by omega)

end Cert.FoxReal

end
-- ==== Proof.Fox.Lift.lean ====
/- Arrays of real numbers, and what the kernel's lines compute of them: each equation of the backward pass, from the
   extended reals of the program to the real numbers of `Cert.FoxReal`. -/
module

public import Idealize.ShloMosaic.Lib.Pipeline.ValueKit
public import Idealize.ShloMosaic.Lib.Affine
public import proofs.«01_k».proof.Proof.Fox.Real

@[expose] public section

set_option maxRecDepth 16384

noncomputable section

namespace Cert.FoxReal

open Idealize.ShloMosaic Finset

/-- The matrix of the real numbers `f i j`. -/
def mat (a b : ℕ) (f : ℕ → ℕ → ℝ) : (⟨2, ![a, b]⟩ : Shape).Idx → EReal := fun i => ((f (i 0).val (i 1).val : ℝ) : EReal)

/-- The column of the real numbers `f i`. -/
def col (a : ℕ) (f : ℕ → ℝ) : (⟨3, ![1, a, 1]⟩ : Shape).Idx → EReal := fun i => ((f (i 1).val : ℝ) : EReal)

/-- The row of the real numbers `f j`. -/
def row (b : ℕ) (f : ℕ → ℝ) : (⟨3, ![1, 1, b]⟩ : Shape).Idx → EReal := fun i => ((f (i 2).val : ℝ) : EReal)

theorem mat_at {a b : ℕ} (f : ℕ → ℕ → ℝ) (i : Fin a) (j : Fin b) : mat a b f (ix2 i j) = ((f i.val j.val : ℝ) : EReal) := rfl
theorem col_at {a : ℕ} (f : ℕ → ℝ) (x z : Fin 1) (i : Fin a) : col a f (ix3 x i z) = ((f i.val : ℝ) : EReal) := rfl
theorem row_at {b : ℕ} (f : ℕ → ℝ) (x z : Fin 1) (j : Fin b) : row b f (ix3 x z j) = ((f j.val : ℝ) : EReal) := rfl

/-- Two matrices with the same entries. -/
theorem ext2 {a b : ℕ} {α : Type} {f g : (⟨2, ![a, b]⟩ : Shape).Idx → α} (h : ∀ (i : Fin a) (j : Fin b), f (ix2 i j) = g (ix2 i j)) : f = g := by
  funext x
  have e : x = ix2 (x 0) (x 1) := by
    funext t
    match t with
    | ⟨0, _⟩ => rfl
    | ⟨1, _⟩ => rfl
  rw [e]
  exact h (x 0) (x 1)

/-- Two rows with the same entries. -/
theorem ext_row {b : ℕ} {α : Type} {f g : (⟨3, ![1, 1, b]⟩ : Shape).Idx → α} (h : ∀ j : Fin b, f (ix3 0 0 j) = g (ix3 0 0 j)) : f = g := by
  funext x
  have e : x = ix3 0 0 (x 2) := by
    funext t
    match t with
    | ⟨0, _⟩ => exact Subsingleton.elim (α := Fin 1) _ _
    | ⟨1, _⟩ => exact Subsingleton.elim (α := Fin 1) _ _
    | ⟨2, _⟩ => rfl
  rw [e]
  exact h (x 2)

/-- A product of two real vectors. -/
theorem dot_val (n : ℕ) (f g : ℕ → ℝ) :
    ∑ x : Fin n, ((f x.val : ℝ) : EReal) * ((g x.val : ℝ) : EReal) = ((∑ x ∈ range n, f x * g x : ℝ) : EReal) := by
  simp only [← EReal.coe_mul]
  rw [coe_sum, Finset.sum_range]

theorem sum_val (n : ℕ) (f : ℕ → ℝ) : ∑ x : Fin n, ((f x.val : ℝ) : EReal) = ((∑ x ∈ range n, f x : ℝ) : EReal) := by
  rw [coe_sum, Finset.sum_range]

/-- The causal mask's comparison, of key number `j` with query number `n + i`. -/
theorem visible (n i j : ℕ) (hi : n + i < 2 ^ 31) (hj : j < 2 ^ 31) (a b : EReal) :
    Scalar.select (IntOp.cmpi CmpIPredicate.sle (BitVec.ofNat 32 j) (IntOp.addi (BitVec.ofNat 32 n) (BitVec.ofNat 32 i))) a b
      = if j ≤ n + i then a else b := by
  have key : IntOp.cmpi CmpIPredicate.sle (BitVec.ofNat 32 j) (IntOp.addi (BitVec.ofNat 32 n) (BitVec.ofNat 32 i)) = 1#1 ↔ j ≤ n + i := by
    rw [IntOp.cmpi_sle]
    unfold IntOp.addi
    rw [← BitVec.ofNat_add]
    have h1 : (BitVec.ofNat 32 j).toInt = j := by
      rw [BitVec.toInt_ofNat']; exact Int.bmod_eq_of_le (by omega) (by omega)
    have h2 : (BitVec.ofNat 32 (n + i)).toInt = ((n + i : ℕ) : ℤ) := by
      rw [BitVec.toInt_ofNat']; exact Int.bmod_eq_of_le (by omega) (by omega)
    rw [h1, h2]
    omega
  unfold Scalar.select
  by_cases h : j ≤ n + i
  · rw [if_pos h]; exact if_pos (key.mpr h)
  · rw [if_neg h]; exact if_neg fun hh => h (key.mp hh)

variable (q k v dy : ℕ → ℕ → ℝ) (c : ℕ → ℝ)

/-- A weight, from the row's log-sum. -/
theorem prob_val (n i j : ℕ) (hi : n + i < 2048) (hj : j < 2048) (M : EReal) (hM : M = ⊥) :
    Ideal.exp (Scalar.select (IntOp.cmpi CmpIPredicate.sle (BitVec.ofNat 32 j) (IntOp.addi (BitVec.ofNat 32 n) (BitVec.ofNat 32 i)))
      ((∑ x : Fin 128, ((q (n + i) x.val : ℝ) : EReal) * ((k j x.val : ℝ) : EReal)) * Ideal.ofBits FTy.f32 0x3DB504F3#32
        + ((c (n + i) : ℝ) : EReal) - ((c j : ℝ) : EReal)) M - ((lse q k c (n + i) : ℝ) : EReal))
      = ((prob q k c (n + i) j : ℝ) : EReal) := by
  rw [visible n i j (by omega) (by omega), dot_val 128 (q (n + i)) (k j), ofBits_sc, hM]
  unfold prob
  split
  · rw [← EReal.coe_mul, ← EReal.coe_add, ← EReal.coe_sub, ← EReal.coe_sub, Ideal.exp_coe]
    rfl
  · rw [EReal.bot_sub]
    simp

/-- The gradient of a score, from the weights of the row's first `n` keys, all the visible ones among them. -/
theorem dscore_val (n r j : ℕ) (hr : r < n) (hn : n ≤ 2048) :
    ((prob q k c r j : ℝ) : EReal) * (∑ x : Fin 128, ((dy r x.val : ℝ) : EReal) * ((v j x.val : ℝ) : EReal)
      - ∑ x : Fin n, ((prob q k c r x.val : ℝ) : EReal) * ∑ y : Fin 128, ((dy r y.val : ℝ) : EReal) * ((v x.val y.val : ℝ) : EReal))
      = ((dscore q k v dy c r j : ℝ) : EReal) := by
  simp only [fun x => dot_val 128 (dy r) (v x)]
  rw [dot_val n (prob q k c r) (fun x => ∑ y ∈ range 128, dy r y * v x y), ← EReal.coe_sub, ← EReal.coe_mul]
  unfold dscore dprob
  rw [sum_cut hr hn _ fun j hj => by rw [prob_after q k c hj, zero_mul]]

/-- The gradient of a query, from the row's first `n` keys. -/
theorem gq_val (n r d : ℕ) (hr : r < n) (hn : n ≤ 2048) :
    (∑ x : Fin n, ((dscore q k v dy c r x.val : ℝ) : EReal) * ((k x.val d : ℝ) : EReal)) * Ideal.ofBits FTy.f32 0x3DB504F3#32
      = ((gq q k v dy c r d : ℝ) : EReal) := by
  rw [dot_val n (dscore q k v dy c r) (fun x => k x d), ofBits_sc, ← EReal.coe_mul]
  unfold gq
  rw [sum_cut hr hn _ fun j hj => by rw [dscore_after q k v dy c hj, zero_mul]]

/-- The keys' gradient, a tile of query rows added. -/
theorem gk_val (n j d : ℕ) :
    ((gk q k v dy c n j d : ℝ) : EReal)
      + (∑ x : Fin 512, ((dscore q k v dy c (n + x.val) j : ℝ) : EReal) * ((q (n + x.val) d : ℝ) : EReal)) * Ideal.ofBits FTy.f32 0x3DB504F3#32
      = ((gk q k v dy c (n + 512) j d : ℝ) : EReal) := by
  rw [dot_val 512 (fun x => dscore q k v dy c (n + x) j) (fun x => q (n + x) d), ofBits_sc, ← EReal.coe_mul, ← EReal.coe_add, gk_tile]

/-- The values' gradient, a tile of query rows added. -/
theorem gv_val (n j d : ℕ) :
    ((gv q k dy c n j d : ℝ) : EReal)
      + ∑ x : Fin 512, ((prob q k c (n + x.val) j : ℝ) : EReal) * ((dy (n + x.val) d : ℝ) : EReal)
      = ((gv q k dy c (n + 512) j d : ℝ) : EReal) := by
  rw [dot_val 512 (fun x => prob q k c (n + x) j) (fun x => dy (n + x) d), ← EReal.coe_add, gv_tile]

/-- The log-gates' gradient, a tile of query rows added. -/
theorem gc_val (n j : ℕ) :
    ((gc q k v dy c n j : ℝ) : EReal) - ∑ x : Fin 512, ((dscore q k v dy c (n + x.val) j : ℝ) : EReal)
      = ((gc q k v dy c (n + 512) j : ℝ) : EReal) := by
  rw [sum_val 512 (fun x => dscore q k v dy c (n + x) j), ← EReal.coe_sub, gc_tile]

end Cert.FoxReal

end
-- ==== Proof.Fox.Points.lean ====
/- The grid points of the attention gradient: branches, idle windows and buffers. -/
module

public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Which branch of the body a grid point takes -/

/-- The body's branch 1 is taken exactly at the points whose query tile is 0. -/
theorem branch1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The body's branch 2 is taken exactly at the points whose query tile is 0. -/
theorem branch2 : ∀ t : Fin cfg0.N, k0_cond2 (grid0.coords t) = 1#1 ↔ t.val % 4 = 0 :=
  (by decide +kernel : ∀ t : Fin grid0.N, k0_cond2 (grid0.coords t) = 1#1 ↔ t.val % 4 = 0)

/-- The body's branch 3 is taken exactly at the points whose query tile is 1. -/
theorem branch3 : ∀ t : Fin cfg0.N, k0_cond3 (grid0.coords t) = 1#1 ↔ t.val % 4 = 1 :=
  (by decide +kernel : ∀ t : Fin grid0.N, k0_cond3 (grid0.coords t) = 1#1 ↔ t.val % 4 = 1)

/-- The body's branch 4 is taken exactly at the points whose query tile is 2. -/
theorem branch4 : ∀ t : Fin cfg0.N, k0_cond4 (grid0.coords t) = 1#1 ↔ t.val % 4 = 2 :=
  (by decide +kernel : ∀ t : Fin grid0.N, k0_cond4 (grid0.coords t) = 1#1 ↔ t.val % 4 = 2)

/-- The body's branch 5 is taken exactly at the points whose query tile is 3. -/
theorem branch5 : ∀ t : Fin cfg0.N, k0_cond5 (grid0.coords t) = 1#1 ↔ t.val % 4 = 3 :=
  (by decide +kernel : ∀ t : Fin grid0.N, k0_cond5 (grid0.coords t) = 1#1 ↔ t.val % 4 = 3)

/-- The body's branch 6 is taken exactly at the points whose query tile is 3. -/
theorem branch6 : ∀ t : Fin cfg0.N, k0_cond6 (grid0.coords t) = 1#1 ↔ t.val % 4 = 3 :=
  (by decide +kernel : ∀ t : Fin grid0.N, k0_cond6 (grid0.coords t) = 1#1 ↔ t.val % 4 = 3)

/-! ## Which points leave an output window alone -/

/-- Every point stores its own block of the query gradient. -/
theorem live_dq : ∀ t : Fin cfg0.N, cfg0.idle 8 (cfg0.grid.coords t) = false :=
  (by decide +kernel : ∀ t : Fin grid0.N, idle0 8 (grid0.coords t) = false)
/-- The key gradient's block is stored at a head's last query tile only. -/
theorem idle_dk : ∀ t : Fin cfg0.N, cfg0.idle 9 (cfg0.grid.coords t) = !decide (t.val % 4 = 3) :=
  (by decide +kernel : ∀ t : Fin grid0.N, idle0 9 (grid0.coords t) = !decide (t.val % 4 = 3))
/-- The value gradient's block is stored at a head's last query tile only. -/
theorem idle_dv : ∀ t : Fin cfg0.N, cfg0.idle 10 (cfg0.grid.coords t) = !decide (t.val % 4 = 3) :=
  (by decide +kernel : ∀ t : Fin grid0.N, idle0 10 (grid0.coords t) = !decide (t.val % 4 = 3))
/-- Every point stores into the gate gradient's block. -/
theorem live_dc : ∀ t : Fin cfg0.N, cfg0.idle 11 (cfg0.grid.coords t) = false :=
  (by decide +kernel : ∀ t : Fin grid0.N, idle0 11 (grid0.coords t) = false)

/-! ## The buffers the body is handed at a point -/

/-- Window 0's staging buffer at point `t`, and that it is a whole buffer. -/
abbrev buf0 (t : Fin cfg0.N) : Memref sig .tc .vmem S512x128 .bf16 := win0_0.stage (cfg0.slots t 0)
abbrev whole0 (t : Fin cfg0.N) : (buf0 t).IsWhole := hstage0_0 ((cfg0.slots t 0).cast nbuf0_0)
/-- Window 1's staging buffer at point `t`, and that it is a whole buffer. -/
abbrev buf1 (t : Fin cfg0.N) : Memref sig .tc .vmem S2048x128 .bf16 := win0_1.stage (cfg0.slots t 1)
abbrev whole1 (t : Fin cfg0.N) : (buf1 t).IsWhole := hstage0_1 ((cfg0.slots t 1).cast nbuf0_1)
/-- Window 2's staging buffer at point `t`, and that it is a whole buffer. -/
abbrev buf2 (t : Fin cfg0.N) : Memref sig .tc .vmem S2048x128 .bf16 := win0_2.stage (cfg0.slots t 2)
abbrev whole2 (t : Fin cfg0.N) : (buf2 t).IsWhole := hstage0_2 ((cfg0.slots t 2).cast nbuf0_2)
/-- Window 3's staging buffer at point `t`, and that it is a whole buffer. -/
abbrev buf3 (t : Fin cfg0.N) : Memref sig .tc .vmem S1x512x1 .f32 := win0_3.stage (cfg0.slots t 3)
abbrev whole3 (t : Fin cfg0.N) : (buf3 t).IsWhole := hstage0_3 ((cfg0.slots t 3).cast nbuf0_3)
/-- Window 4's staging buffer at point `t`, and that it is a whole buffer. -/
abbrev buf4 (t : Fin cfg0.N) : Memref sig .tc .vmem S1x1x2048 .f32 := win0_4.stage (cfg0.slots t 4)
abbrev whole4 (t : Fin cfg0.N) : (buf4 t).IsWhole := hstage0_4 ((cfg0.slots t 4).cast nbuf0_4)
/-- Window 5's staging buffer at point `t`, and that it is a whole buffer. -/
abbrev buf5 (t : Fin cfg0.N) : Memref sig .tc .vmem S1x512x1 .f32 := win0_5.stage (cfg0.slots t 5)
abbrev whole5 (t : Fin cfg0.N) : (buf5 t).IsWhole := hstage0_5 ((cfg0.slots t 5).cast nbuf0_5)
/-- Window 6's staging buffer at point `t`, and that it is a whole buffer. -/
abbrev buf6 (t : Fin cfg0.N) : Memref sig .tc .vmem S512x128 .bf16 := win0_6.stage (cfg0.slots t 6)
abbrev whole6 (t : Fin cfg0.N) : (buf6 t).IsWhole := hstage0_6 ((cfg0.slots t 6).cast nbuf0_6)
/-- Window 7's staging buffer at point `t`, and that it is a whole buffer. -/
abbrev buf7 (t : Fin cfg0.N) : Memref sig .tc .vmem S512x128 .bf16 := win0_7.stage (cfg0.slots t 7)
abbrev whole7 (t : Fin cfg0.N) : (buf7 t).IsWhole := hstage0_7 ((cfg0.slots t 7).cast nbuf0_7)
/-- Window 8's staging buffer at point `t`, and that it is a whole buffer. -/
abbrev buf8 (t : Fin cfg0.N) : Memref sig .tc .vmem S512x128 .bf16 := win0_8.stage (cfg0.slots t 8)
abbrev whole8 (t : Fin cfg0.N) : (buf8 t).IsWhole := hstage0_8 ((cfg0.slots t 8).cast nbuf0_8)
/-- Window 9's staging buffer at point `t`, and that it is a whole buffer. -/
abbrev buf9 (t : Fin cfg0.N) : Memref sig .tc .vmem S2048x128 .bf16 := win0_9.stage (cfg0.slots t 9)
abbrev whole9 (t : Fin cfg0.N) : (buf9 t).IsWhole := hstage0_9 ((cfg0.slots t 9).cast nbuf0_9)
/-- Window 10's staging buffer at point `t`, and that it is a whole buffer. -/
abbrev buf10 (t : Fin cfg0.N) : Memref sig .tc .vmem S2048x128 .bf16 := win0_10.stage (cfg0.slots t 10)
abbrev whole10 (t : Fin cfg0.N) : (buf10 t).IsWhole := hstage0_10 ((cfg0.slots t 10).cast nbuf0_10)
/-- Window 11's staging buffer at point `t`, and that it is a whole buffer. -/
abbrev buf11 (t : Fin cfg0.N) : Memref sig .tc .vmem S1x1x2048 .f32 := win0_11.stage (cfg0.slots t 11)
abbrev whole11 (t : Fin cfg0.N) : (buf11 t).IsWhole := hstage0_11 ((cfg0.slots t 11).cast nbuf0_11)

/-- The accumulator of the key gradient. -/
abbrev accK : Memref sig .tc .vmem S2048x128 .f32 := Memref.whole cc0_scratch0
/-- The accumulator of the value gradient. -/
abbrev accV : Memref sig .tc .vmem S2048x128 .f32 := Memref.whole cc0_scratch1

/-- The region's own resources: the two accumulators at some contents and the generator register. -/
theorem region_eq (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl

end Cert.KernelIdeal.Fox

end
-- ==== Proof.Fox.Step.lean ====
/- What one query tile of the forgetting attention's backward kernel stores: a tile of dq, and the accumulators of dk,
dv and dc on the keys the tile sees. -/
module

public import Idealize.ShloMosaic.Lib.WritesUnit
public import Idealize.ShloMosaic.Lib.WholeRead
public import proofs.«01_k».proof.Proof.Fox.Points
public import proofs.«01_k».proof.Proof.Gen.KernelIdeal.Skeleton

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- `new` on a leading block of the buffer, `old` elsewhere. -/
def over {s : Shape} {α : Type} (off size : Fin s.rank → ℕ) (inb : ∀ a, off a + size a ≤ s.size a)
    (new : (Rect.unit off size inb).shape.Idx → α) (old : s.Idx → α) : s.Idx → α :=
  fun y => if h : ∀ a, off a ≤ (y a).val ∧ (y a).val < off a + size a then new (Rect.unitLocal (s := s) (off := off) (size := size) y h) else old y

theorem read_writes_over {sig : RefSig} {Val : EltTy → Type} {κ : Kind} {sp : Space} {s : Shape} {e : EltTy} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f ((⟨Rect.unit off size inb, w⟩ : View.Piece Val s e) :: L))
      = over off size inb w (v.read Val (v.writes Val f L)) := by
  funext y
  exact View.read_writes_cons_unit v f inb w L y rfl

/-- A whole block replaces everything. -/
theorem over_whole {s : Shape} {α : Type} (off : Fin s.rank → ℕ) (h0 : off = fun _ => 0) (inb : ∀ a, off a + s.size a ≤ s.size a)
    (new : s.Idx → α) (old : s.Idx → α) : over off s.size inb new old = new := by
  subst h0
  funext y
  unfold over
  rw [dif_pos (fun a => ⟨Nat.zero_le _, by have := (y a).isLt; simpa using this⟩)]
  rfl

theorem readAt_part {sig : RefSig} {Val : EltTy → Type} {κ : Kind} {sp : Space} {s : Shape} {e : EltTy}
    {m : Memref sig κ sp s e} (h : m.IsWhole) (X : s.Idx → Val e) (r : Rect s) :
    View.readAt Val m.view r.toLoadRect (h.unread X) = View.ld X r := by
  funext x
  exact Memref.IsWhole.readAt_unread h X _ x

theorem read_nil {sig : RefSig} {Val : EltTy → Type} {κ : Kind} {sp : Space} {s : Shape} {e : EltTy}
    {m : Memref sig κ sp s e} (h : m.IsWhole) (X : s.Idx → Val e) :
    m.view.read Val (m.view.writes Val (h.unread X) []) = X :=
  h.read_unread X

theorem readCov_part {sig : RefSig} {Val : EltTy → Type} [∀ e, Nonempty (Val e)] {κ : Kind} {sp : Space} {s : Shape} {e : EltTy}
    (v : View sig κ sp s e) (L : List (View.Piece Val s e)) (r : Rect s) :
    v.readCov L r.toLoadRect = View.ld (v.read Val (v.writes Val v.junk L)) r := rfl

theorem ld_whole {s : Shape} {e : EltTy} {Val : EltTy → Type} (X : s.Idx → Val e) (off : Fin s.rank → ℕ) (h0 : off = fun _ => 0)
    (inb : ∀ a, off a + s.size a ≤ s.size a) : View.ld X (Rect.unit off s.size inb) = X := by
  subst h0
  funext x
  show X _ = X x
  congr 1
  funext a
  apply Fin.ext
  simp [Rect.unit]

theorem zero2 : (![0, 0] : Fin 2 → ℕ) = fun _ => 0 := by decide
theorem zero3 : (![0, 0, 0] : Fin 3 → ℕ) = fun _ => 0 := by decide

theorem ldq (x : Vec F S512x128 .bf16) (inb : ∀ a, (![0, 0] : Fin _ → ℕ) a + S512x128.size a ≤ S512x128.size a) :
    View.ld (Val := Elt F) (S := S512x128) (e' := .bf16) x (Rect.unit ![0, 0] S512x128.size inb) = x :=
  ld_whole x _ zero2 inb

theorem ovq (x : Vec F S512x128 .bf16) (old : Vec F S512x128 .bf16) (inb : ∀ a, (![0, 0] : Fin _ → ℕ) a + S512x128.size a ≤ S512x128.size a) :
    over (s := S512x128) ![0, 0] S512x128.size inb x old = x :=
  over_whole _ zero2 inb x old

theorem ovlq (x : Vec F S512x128 .bf16) (old : Vec F S512x128 .bf16) (inb : ∀ a, (![0, 0] : Fin _ → ℕ) a + (![512, 128] : Fin _ → ℕ) a ≤ S512x128.size a) :
    over (s := S512x128) ![0, 0] ![512, 128] inb x old = x :=
  ovq x old inb

theorem ldk (x : Vec F S2048x128 .bf16) (inb : ∀ a, (![0, 0] : Fin _ → ℕ) a + S2048x128.size a ≤ S2048x128.size a) :
    View.ld (Val := Elt F) (S := S2048x128) (e' := .bf16) x (Rect.unit ![0, 0] S2048x128.size inb) = x :=
  ld_whole x _ zero2 inb

theorem ovk (x : Vec F S2048x128 .bf16) (old : Vec F S2048x128 .bf16) (inb : ∀ a, (![0, 0] : Fin _ → ℕ) a + S2048x128.size a ≤ S2048x128.size a) :
    over (s := S2048x128) ![0, 0] S2048x128.size inb x old = x :=
  over_whole _ zero2 inb x old

theorem ovlk (x : Vec F S2048x128 .bf16) (old : Vec F S2048x128 .bf16) (inb : ∀ a, (![0, 0] : Fin _ → ℕ) a + (![2048, 128] : Fin _ → ℕ) a ≤ S2048x128.size a) :
    over (s := S2048x128) ![0, 0] ![2048, 128] inb x old = x :=
  ovk x old inb

theorem lda (x : Vec F S2048x128 .f32) (inb : ∀ a, (![0, 0] : Fin _ → ℕ) a + S2048x128.size a ≤ S2048x128.size a) :
    View.ld (Val := Elt F) (S := S2048x128) (e' := .f32) x (Rect.unit ![0, 0] S2048x128.size inb) = x :=
  ld_whole x _ zero2 inb

theorem ova (x : Vec F S2048x128 .f32) (old : Vec F S2048x128 .f32) (inb : ∀ a, (![0, 0] : Fin _ → ℕ) a + S2048x128.size a ≤ S2048x128.size a) :
    over (s := S2048x128) ![0, 0] S2048x128.size inb x old = x :=
  over_whole _ zero2 inb x old

theorem ovla (x : Vec F S2048x128 .f32) (old : Vec F S2048x128 .f32) (inb : ∀ a, (![0, 0] : Fin _ → ℕ) a + (![2048, 128] : Fin _ → ℕ) a ≤ S2048x128.size a) :
    over (s := S2048x128) ![0, 0] ![2048, 128] inb x old = x :=
  ova x old inb

theorem ldc (x : Vec F S1x512x1 .f32) (inb : ∀ a, (![0, 0, 0] : Fin _ → ℕ) a + S1x512x1.size a ≤ S1x512x1.size a) :
    View.ld (Val := Elt F) (S := S1x512x1) (e' := .f32) x (Rect.unit ![0, 0, 0] S1x512x1.size inb) = x :=
  ld_whole x _ zero3 inb

theorem ovc (x : Vec F S1x512x1 .f32) (old : Vec F S1x512x1 .f32) (inb : ∀ a, (![0, 0, 0] : Fin _ → ℕ) a + S1x512x1.size a ≤ S1x512x1.size a) :
    over (s := S1x512x1) ![0, 0, 0] S1x512x1.size inb x old = x :=
  over_whole _ zero3 inb x old

theorem ovlc (x : Vec F S1x512x1 .f32) (old : Vec F S1x512x1 .f32) (inb : ∀ a, (![0, 0, 0] : Fin _ → ℕ) a + (![1, 512, 1] : Fin _ → ℕ) a ≤ S1x512x1.size a) :
    over (s := S1x512x1) ![0, 0, 0] ![1, 512, 1] inb x old = x :=
  ovc x old inb

theorem ldd (x : Vec F S1x1x2048 .f32) (inb : ∀ a, (![0, 0, 0] : Fin _ → ℕ) a + S1x1x2048.size a ≤ S1x1x2048.size a) :
    View.ld (Val := Elt F) (S := S1x1x2048) (e' := .f32) x (Rect.unit ![0, 0, 0] S1x1x2048.size inb) = x :=
  ld_whole x _ zero3 inb

theorem ovd (x : Vec F S1x1x2048 .f32) (old : Vec F S1x1x2048 .f32) (inb : ∀ a, (![0, 0, 0] : Fin _ → ℕ) a + S1x1x2048.size a ≤ S1x1x2048.size a) :
    over (s := S1x1x2048) ![0, 0, 0] S1x1x2048.size inb x old = x :=
  over_whole _ zero3 inb x old

theorem ovld (x : Vec F S1x1x2048 .f32) (old : Vec F S1x1x2048 .f32) (inb : ∀ a, (![0, 0, 0] : Fin _ → ℕ) a + (![1, 1, 2048] : Fin _ → ℕ) a ≤ S1x1x2048.size a) :
    over (s := S1x1x2048) ![0, 0, 0] ![1, 1, 2048] inb x old = x :=
  ovd x old inb

/-- Query tile 0: the tile of dq it stores. -/
def dqA (q : Vec F S512x128 .bf16) (k v : Vec F S2048x128 .bf16) (cq : Vec F S1x512x1 .f32) (ck : Vec F S1x1x2048 .f32) (lse : Vec F S1x512x1 .f32) (dy : Vec F S512x128 .bf16) : Vec F S512x128 .bf16 :=
  k0_pay4 (k0_pay25 q (View.ld k (Rect.unit (s := S2048x128) ![0, 0] S512x128.size inb_S2048x128_S512x128_0_0)) (View.ld v (Rect.unit (s := S2048x128) ![0, 0] S512x128.size inb_S2048x128_S512x128_0_0)) dy cq (View.ld ck (Rect.unit (s := S1x1x2048) ![0, 0, 0] S1x1x512.size inb_S1x1x2048_S1x1x512_0_0_0)) lse)

/-- Query tile 0: the dk accumulator after it, the accumulator before it being `x`. -/
def dkA (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S512x128.size inb_S2048x128_S512x128_0_0 (k0_pay5 q (k0_pay24 q (View.ld k (Rect.unit (s := S2048x128) ![0, 0] S512x128.size inb_S2048x128_S512x128_0_0)) (View.ld v (Rect.unit (s := S2048x128) ![0, 0] S512x128.size inb_S2048x128_S512x128_0_0)) dy cq (View.ld ck (Rect.unit (s := S1x1x2048) ![0, 0, 0] S1x1x512.size inb_S1x1x2048_S1x1x512_0_0_0)) lse) (View.ld x (Rect.unit (s := S2048x128) ![0, 0] S512x128.size inb_S2048x128_S512x128_0_0))) x

/-- Query tile 0: the dv accumulator after it, the accumulator before it being `x`. -/
def dvA (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S512x128.size inb_S2048x128_S512x128_0_0 (k0_pay6 dy (k0_pay22 q (View.ld k (Rect.unit (s := S2048x128) ![0, 0] S512x128.size inb_S2048x128_S512x128_0_0)) cq (View.ld ck (Rect.unit (s := S1x1x2048) ![0, 0, 0] S1x1x512.size inb_S1x1x2048_S1x1x512_0_0_0)) lse) (View.ld x (Rect.unit (s := S2048x128) ![0, 0] S512x128.size inb_S2048x128_S512x128_0_0))) x

/-- Query tile 0: dc after it, dc before it being `x`. -/
def dcA (q : Vec F S512x128 .bf16) (k v : Vec F S2048x128 .bf16) (cq : Vec F S1x512x1 .f32) (ck : Vec F S1x1x2048 .f32) (lse : Vec F S1x512x1 .f32) (dy : Vec F S512x128 .bf16) (x : Vec F S1x1x2048 .f32) : Vec F S1x1x2048 .f32 :=
  over (s := S1x1x2048) ![0, 0, 0] S1x1x512.size inb_S1x1x2048_S1x1x512_0_0_0 (k0_pay7 (k0_pay23 q (View.ld k (Rect.unit (s := S2048x128) ![0, 0] S512x128.size inb_S2048x128_S512x128_0_0)) (View.ld v (Rect.unit (s := S2048x128) ![0, 0] S512x128.size inb_S2048x128_S512x128_0_0)) dy cq (View.ld ck (Rect.unit (s := S1x1x2048) ![0, 0, 0] S1x1x512.size inb_S1x1x2048_S1x1x512_0_0_0)) lse) (View.ld x (Rect.unit (s := S1x1x2048) ![0, 0, 0] S1x1x512.size inb_S1x1x2048_S1x1x512_0_0_0))) x

/-- Query tile 1: the tile of dq it stores. -/
def dqB (q : Vec F S512x128 .bf16) (k v : Vec F S2048x128 .bf16) (cq : Vec F S1x512x1 .f32) (ck : Vec F S1x1x2048 .f32) (lse : Vec F S1x512x1 .f32) (dy : Vec F S512x128 .bf16) : Vec F S512x128 .bf16 :=
  k0_pay8 (k0_pay29 q (View.ld k (Rect.unit (s := S2048x128) ![0, 0] S1024x128.size inb_S2048x128_S1024x128_0_0)) (View.ld v (Rect.unit (s := S2048x128) ![0, 0] S1024x128.size inb_S2048x128_S1024x128_0_0)) dy cq (View.ld ck (Rect.unit (s := S1x1x2048) ![0, 0, 0] S1x1x1024.size inb_S1x1x2048_S1x1x1024_0_0_0)) lse)

/-- Query tile 1: the dk accumulator after it, the accumulator before it being `x`. -/
def dkB (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S1024x128.size inb_S2048x128_S1024x128_0_0 (k0_pay9 q (k0_pay28 q (View.ld k (Rect.unit (s := S2048x128) ![0, 0] S1024x128.size inb_S2048x128_S1024x128_0_0)) (View.ld v (Rect.unit (s := S2048x128) ![0, 0] S1024x128.size inb_S2048x128_S1024x128_0_0)) dy cq (View.ld ck (Rect.unit (s := S1x1x2048) ![0, 0, 0] S1x1x1024.size inb_S1x1x2048_S1x1x1024_0_0_0)) lse) (View.ld x (Rect.unit (s := S2048x128) ![0, 0] S1024x128.size inb_S2048x128_S1024x128_0_0))) x

/-- Query tile 1: the dv accumulator after it, the accumulator before it being `x`. -/
def dvB (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S1024x128.size inb_S2048x128_S1024x128_0_0 (k0_pay10 dy (k0_pay26 q (View.ld k (Rect.unit (s := S2048x128) ![0, 0] S1024x128.size inb_S2048x128_S1024x128_0_0)) cq (View.ld ck (Rect.unit (s := S1x1x2048) ![0, 0, 0] S1x1x1024.size inb_S1x1x2048_S1x1x1024_0_0_0)) lse) (View.ld x (Rect.unit (s := S2048x128) ![0, 0] S1024x128.size inb_S2048x128_S1024x128_0_0))) x

/-- Query tile 1: dc after it, dc before it being `x`. -/
def dcB (q : Vec F S512x128 .bf16) (k v : Vec F S2048x128 .bf16) (cq : Vec F S1x512x1 .f32) (ck : Vec F S1x1x2048 .f32) (lse : Vec F S1x512x1 .f32) (dy : Vec F S512x128 .bf16) (x : Vec F S1x1x2048 .f32) : Vec F S1x1x2048 .f32 :=
  over (s := S1x1x2048) ![0, 0, 0] S1x1x1024.size inb_S1x1x2048_S1x1x1024_0_0_0 (k0_pay11 (k0_pay27 q (View.ld k (Rect.unit (s := S2048x128) ![0, 0] S1024x128.size inb_S2048x128_S1024x128_0_0)) (View.ld v (Rect.unit (s := S2048x128) ![0, 0] S1024x128.size inb_S2048x128_S1024x128_0_0)) dy cq (View.ld ck (Rect.unit (s := S1x1x2048) ![0, 0, 0] S1x1x1024.size inb_S1x1x2048_S1x1x1024_0_0_0)) lse) (View.ld x (Rect.unit (s := S1x1x2048) ![0, 0, 0] S1x1x1024.size inb_S1x1x2048_S1x1x1024_0_0_0))) x

/-- Query tile 2: the tile of dq it stores. -/
def dqC (q : Vec F S512x128 .bf16) (k v : Vec F S2048x128 .bf16) (cq : Vec F S1x512x1 .f32) (ck : Vec F S1x1x2048 .f32) (lse : Vec F S1x512x1 .f32) (dy : Vec F S512x128 .bf16) : Vec F S512x128 .bf16 :=
  k0_pay12 (k0_pay33 q (View.ld k (Rect.unit (s := S2048x128) ![0, 0] S1536x128.size inb_S2048x128_S1536x128_0_0)) (View.ld v (Rect.unit (s := S2048x128) ![0, 0] S1536x128.size inb_S2048x128_S1536x128_0_0)) dy cq (View.ld ck (Rect.unit (s := S1x1x2048) ![0, 0, 0] S1x1x1536.size inb_S1x1x2048_S1x1x1536_0_0_0)) lse)

/-- Query tile 2: the dk accumulator after it, the accumulator before it being `x`. -/
def dkC (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S1536x128.size inb_S2048x128_S1536x128_0_0 (k0_pay13 q (k0_pay32 q (View.ld k (Rect.unit (s := S2048x128) ![0, 0] S1536x128.size inb_S2048x128_S1536x128_0_0)) (View.ld v (Rect.unit (s := S2048x128) ![0, 0] S1536x128.size inb_S2048x128_S1536x128_0_0)) dy cq (View.ld ck (Rect.unit (s := S1x1x2048) ![0, 0, 0] S1x1x1536.size inb_S1x1x2048_S1x1x1536_0_0_0)) lse) (View.ld x (Rect.unit (s := S2048x128) ![0, 0] S1536x128.size inb_S2048x128_S1536x128_0_0))) x

/-- Query tile 2: the dv accumulator after it, the accumulator before it being `x`. -/
def dvC (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  over (s := S2048x128) ![0, 0] S1536x128.size inb_S2048x128_S1536x128_0_0 (k0_pay14 dy (k0_pay30 q (View.ld k (Rect.unit (s := S2048x128) ![0, 0] S1536x128.size inb_S2048x128_S1536x128_0_0)) cq (View.ld ck (Rect.unit (s := S1x1x2048) ![0, 0, 0] S1x1x1536.size inb_S1x1x2048_S1x1x1536_0_0_0)) lse) (View.ld x (Rect.unit (s := S2048x128) ![0, 0] S1536x128.size inb_S2048x128_S1536x128_0_0))) x

/-- Query tile 2: dc after it, dc before it being `x`. -/
def dcC (q : Vec F S512x128 .bf16) (k v : Vec F S2048x128 .bf16) (cq : Vec F S1x512x1 .f32) (ck : Vec F S1x1x2048 .f32) (lse : Vec F S1x512x1 .f32) (dy : Vec F S512x128 .bf16) (x : Vec F S1x1x2048 .f32) : Vec F S1x1x2048 .f32 :=
  over (s := S1x1x2048) ![0, 0, 0] S1x1x1536.size inb_S1x1x2048_S1x1x1536_0_0_0 (k0_pay15 (k0_pay31 q (View.ld k (Rect.unit (s := S2048x128) ![0, 0] S1536x128.size inb_S2048x128_S1536x128_0_0)) (View.ld v (Rect.unit (s := S2048x128) ![0, 0] S1536x128.size inb_S2048x128_S1536x128_0_0)) dy cq (View.ld ck (Rect.unit (s := S1x1x2048) ![0, 0, 0] S1x1x1536.size inb_S1x1x2048_S1x1x1536_0_0_0)) lse) (View.ld x (Rect.unit (s := S1x1x2048) ![0, 0, 0] S1x1x1536.size inb_S1x1x2048_S1x1x1536_0_0_0))) x

/-- Query tile 3: the tile of dq it stores. -/
def dqD (q : Vec F S512x128 .bf16) (k v : Vec F S2048x128 .bf16) (cq : Vec F S1x512x1 .f32) (ck : Vec F S1x1x2048 .f32) (lse : Vec F S1x512x1 .f32) (dy : Vec F S512x128 .bf16) : Vec F S512x128 .bf16 :=
  k0_pay16 (k0_pay37 q k v dy cq ck lse)

/-- Query tile 3: the dk accumulator after it, the accumulator before it being `x`. -/
def dkD (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  k0_pay17 q (k0_pay36 q k v dy cq ck lse) x

/-- Query tile 3: the dv accumulator after it, the accumulator before it being `x`. -/
def dvD (q : Vec F S512x128 .bf16) (k v : Vec F S2048x128 .bf16) (cq : Vec F S1x512x1 .f32) (ck : Vec F S1x1x2048 .f32) (lse : Vec F S1x512x1 .f32) (dy : Vec F S512x128 .bf16) (x : Vec F S2048x128 .f32) : Vec F S2048x128 .f32 :=
  k0_pay18 dy (k0_pay34 q k cq ck lse) x

/-- Query tile 3: dc after it, dc before it being `x`. -/
def dcD (q : Vec F S512x128 .bf16) (k v : Vec F S2048x128 .bf16) (cq : Vec F S1x512x1 .f32) (ck : Vec F S1x1x2048 .f32) (lse : Vec F S1x512x1 .f32) (dy : Vec F S512x128 .bf16) (x : Vec F S1x1x2048 .f32) : Vec F S1x1x2048 .f32 :=
  k0_pay19 (k0_pay35 q k v dy cq ck lse) x

end Cert.KernelIdeal.Fox

end
-- ==== Proof.Fox.Tile.lean ====
/- What one query tile computes of arrays of real numbers: the equations of the backward pass at its rows. -/
module

public import Idealize.ShloMosaic.Lib.Pipeline.ValueKit
public import proofs.«01_k».proof.Proof.Fox.Lift
public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

variable (q k v dy : ℕ → ℕ → ℝ) (c : ℕ → ℝ)

/-- The mask is negative infinity. -/
theorem mask_bot : Named.named (F := Ideal) κ "mask" (φ := .f32) 0xF149F2CA#32 = ⊥ := rfl

/-! ## A leading block of a real array -/

/-- A leading block of a matrix that is read. -/
theorem ld_mat {K : ℕ} (f : ℕ → ℕ → ℝ) (inb : ∀ a, (![0, 0] : Fin 2 → ℕ) a + (![K, 128] : Fin 2 → ℕ) a ≤ S2048x128.size a) :
    (fun x => mat 2048 128 f ((Rect.unit (s := S2048x128) ![0, 0] ![K, 128] inb).idx x)) = mat K 128 f := by
  funext x
  show ((f (0 + 1 * (x 0).val) (0 + 1 * (x 1).val) : ℝ) : EReal) = _
  simp only [Nat.zero_add, Nat.one_mul]
  rfl

/-- A leading part of a row that is read. -/
theorem ld_row {K : ℕ} (f : ℕ → ℝ) (inb : ∀ a, (![0, 0, 0] : Fin 3 → ℕ) a + (![1, 1, K] : Fin 3 → ℕ) a ≤ S1x1x2048.size a) :
    (fun x => row 2048 f ((Rect.unit (s := S1x1x2048) ![0, 0, 0] ![1, 1, K] inb).idx x)) = row K f := by
  funext x
  show ((f (0 + 1 * (x 2).val) : ℝ) : EReal) = _
  simp only [Nat.zero_add, Nat.one_mul]
  rfl

/-- A leading block of a matrix that is replaced, the entries after it being the same already. -/
theorem over_mat {K : ℕ} (f g : ℕ → ℕ → ℝ) (h : ∀ j d, K ≤ j → f j d = g j d) (inb : ∀ a, (![0, 0] : Fin 2 → ℕ) a + (![K, 128] : Fin 2 → ℕ) a ≤ S2048x128.size a) :
    over (s := S2048x128) ![0, 0] ![K, 128] inb (mat K 128 g) (mat 2048 128 f) = mat 2048 128 g := by
  funext y
  unfold over
  split
  · rename_i hy
    show ((g ((y 0).val - 0) ((y 1).val - 0) : ℝ) : EReal) = _
    rfl
  · rename_i hy
    show ((f (y 0).val (y 1).val : ℝ) : EReal) = ((g (y 0).val (y 1).val : ℝ) : EReal)
    rw [h _ _ (Nat.le_of_not_lt fun hlt => hy fun a => ?_)]
    match a with
    | ⟨0, _⟩ => exact ⟨Nat.zero_le _, by show (y 0).val < 0 + K; omega⟩
    | ⟨1, _⟩ => exact ⟨Nat.zero_le _, by have := (y 1).isLt; show (y 1).val < 0 + 128; simpa using this⟩

/-- A leading part of a row that is replaced, the entries after it being the same already. -/
theorem over_row {K : ℕ} (f g : ℕ → ℝ) (h : ∀ j, K ≤ j → f j = g j) (inb : ∀ a, (![0, 0, 0] : Fin 3 → ℕ) a + (![1, 1, K] : Fin 3 → ℕ) a ≤ S1x1x2048.size a) :
    over (s := S1x1x2048) ![0, 0, 0] ![1, 1, K] inb (row K g) (row 2048 f) = row 2048 g := by
  funext y
  unfold over
  split
  · rename_i hy
    show ((g ((y 2).val - 0) : ℝ) : EReal) = _
    rfl
  · rename_i hy
    show ((f (y 2).val : ℝ) : EReal) = ((g (y 2).val : ℝ) : EReal)
    rw [h _ (Nat.le_of_not_lt fun hlt => hy fun a => ?_)]
    match a with
    | ⟨0, _⟩ => exact ⟨Nat.zero_le _, by have := (y 0).isLt; show (y 0).val < 0 + 1; simpa using this⟩
    | ⟨1, _⟩ => exact ⟨Nat.zero_le _, by have := (y 1).isLt; show (y 1).val < 0 + 1; simpa using this⟩
    | ⟨2, _⟩ => exact ⟨Nat.zero_le _, by show (y 2).val < 0 + K; omega⟩

/-! ## Query tile 0 -/

theorem probA : k0_pay22 (F := Ideal) (mat 512 128 (fun i => q (0 + i))) (mat 512 128 k) (col 512 (fun i => c (0 + i))) (row 512 c) (col 512 (fun i => (lse q k c) (0 + i))) = mat 512 512 (fun i => (prob q k c) (0 + i)) := by
  refine ext2 fun i j => ?_
  pointwise [k0_pay22]
  simp only [mat_at, col_at, row_at, Nat.zero_add]
  simpa only [Nat.zero_add] using prob_val q k c 0 i.val j.val (by omega) (by omega) _ mask_bot

theorem dscoreA : k0_pay23 (F := Ideal) (mat 512 128 (fun i => q (0 + i))) (mat 512 128 k) (mat 512 128 v) (mat 512 128 (fun i => dy (0 + i))) (col 512 (fun i => c (0 + i))) (row 512 c) (col 512 (fun i => (lse q k c) (0 + i))) = mat 512 512 (fun i => (dscore q k v dy c) (0 + i)) := by
  unfold k0_pay23
  rw [probA q k c]
  refine ext2 fun i j => ?_
  pointwise []
  simp only [mat_at, Nat.zero_add]
  simpa only [Nat.zero_add] using dscore_val q k v dy c 512 (0 + i.val) j.val (by omega) (by omega)

theorem dscorebA : k0_pay24 (F := Ideal) (mat 512 128 (fun i => q (0 + i))) (mat 512 128 k) (mat 512 128 v) (mat 512 128 (fun i => dy (0 + i))) (col 512 (fun i => c (0 + i))) (row 512 c) (col 512 (fun i => (lse q k c) (0 + i))) = mat 512 512 (fun i => (dscore q k v dy c) (0 + i)) :=
  dscoreA q k v dy c

theorem gqA : k0_pay4 (F := Ideal) (k0_pay25 (mat 512 128 (fun i => q (0 + i))) (mat 512 128 k) (mat 512 128 v) (mat 512 128 (fun i => dy (0 + i))) (col 512 (fun i => c (0 + i))) (row 512 c) (col 512 (fun i => (lse q k c) (0 + i)))) = mat 512 128 (fun i => (gq q k v dy c) (0 + i)) := by
  unfold k0_pay25
  rw [dscorebA q k v dy c]
  refine ext2 fun i d => ?_
  pointwise [k0_pay4]
  simp only [mat_at, Nat.zero_add]
  simpa only [Nat.zero_add] using gq_val q k v dy c 512 (0 + i.val) d.val (by omega) (by omega)

theorem gkA : k0_pay5 (F := Ideal) (mat 512 128 (fun i => q (0 + i))) (mat 512 512 (fun i => (dscore q k v dy c) (0 + i))) (mat 512 128 (gk q k v dy c 0)) = mat 512 128 (gk q k v dy c 512) := by
  refine ext2 fun j d => ?_
  pointwise [k0_pay5]
  simp only [mat_at, Nat.zero_add]
  simpa only [Nat.zero_add] using gk_val q k v dy c 0 j.val d.val

theorem gvA : k0_pay6 (F := Ideal) (mat 512 128 (fun i => dy (0 + i))) (mat 512 512 (fun i => (prob q k c) (0 + i))) (mat 512 128 (gv q k dy c 0)) = mat 512 128 (gv q k dy c 512) := by
  refine ext2 fun j d => ?_
  pointwise [k0_pay6]
  simp only [mat_at, Nat.zero_add]
  simpa only [Nat.zero_add] using gv_val q k dy c 0 j.val d.val

theorem gcA : k0_pay7 (F := Ideal) (mat 512 512 (fun i => (dscore q k v dy c) (0 + i))) (row 512 (gc q k v dy c 0)) = row 512 (gc q k v dy c 512) := by
  refine ext_row fun j => ?_
  pointwise [k0_pay7]
  simp only [mat_at, row_at, Nat.zero_add]
  simpa only [Nat.zero_add] using gc_val q k v dy c 0 j.val

/-! ## Query tile 1 -/

theorem probB : k0_pay26 (F := Ideal) (mat 512 128 (fun i => q (512 + i))) (mat 1024 128 k) (col 512 (fun i => c (512 + i))) (row 1024 c) (col 512 (fun i => (lse q k c) (512 + i))) = mat 512 1024 (fun i => (prob q k c) (512 + i)) := by
  refine ext2 fun i j => ?_
  pointwise [k0_pay26]
  simp only [mat_at, col_at, row_at, Nat.zero_add]
  simpa only [Nat.zero_add] using prob_val q k c 512 i.val j.val (by omega) (by omega) _ mask_bot

theorem dscoreB : k0_pay27 (F := Ideal) (mat 512 128 (fun i => q (512 + i))) (mat 1024 128 k) (mat 1024 128 v) (mat 512 128 (fun i => dy (512 + i))) (col 512 (fun i => c (512 + i))) (row 1024 c) (col 512 (fun i => (lse q k c) (512 + i))) = mat 512 1024 (fun i => (dscore q k v dy c) (512 + i)) := by
  unfold k0_pay27
  rw [probB q k c]
  refine ext2 fun i j => ?_
  pointwise []
  simp only [mat_at, Nat.zero_add]
  simpa only [Nat.zero_add] using dscore_val q k v dy c 1024 (512 + i.val) j.val (by omega) (by omega)

theorem dscorebB : k0_pay28 (F := Ideal) (mat 512 128 (fun i => q (512 + i))) (mat 1024 128 k) (mat 1024 128 v) (mat 512 128 (fun i => dy (512 + i))) (col 512 (fun i => c (512 + i))) (row 1024 c) (col 512 (fun i => (lse q k c) (512 + i))) = mat 512 1024 (fun i => (dscore q k v dy c) (512 + i)) :=
  dscoreB q k v dy c

theorem gqB : k0_pay8 (F := Ideal) (k0_pay29 (mat 512 128 (fun i => q (512 + i))) (mat 1024 128 k) (mat 1024 128 v) (mat 512 128 (fun i => dy (512 + i))) (col 512 (fun i => c (512 + i))) (row 1024 c) (col 512 (fun i => (lse q k c) (512 + i)))) = mat 512 128 (fun i => (gq q k v dy c) (512 + i)) := by
  unfold k0_pay29
  rw [dscorebB q k v dy c]
  refine ext2 fun i d => ?_
  pointwise [k0_pay8]
  simp only [mat_at, Nat.zero_add]
  simpa only [Nat.zero_add] using gq_val q k v dy c 1024 (512 + i.val) d.val (by omega) (by omega)

theorem gkB : k0_pay9 (F := Ideal) (mat 512 128 (fun i => q (512 + i))) (mat 512 1024 (fun i => (dscore q k v dy c) (512 + i))) (mat 1024 128 (gk q k v dy c 512)) = mat 1024 128 (gk q k v dy c 1024) := by
  refine ext2 fun j d => ?_
  pointwise [k0_pay9]
  simp only [mat_at, Nat.zero_add]
  simpa only [Nat.zero_add] using gk_val q k v dy c 512 j.val d.val

theorem gvB : k0_pay10 (F := Ideal) (mat 512 128 (fun i => dy (512 + i))) (mat 512 1024 (fun i => (prob q k c) (512 + i))) (mat 1024 128 (gv q k dy c 512)) = mat 1024 128 (gv q k dy c 1024) := by
  refine ext2 fun j d => ?_
  pointwise [k0_pay10]
  simp only [mat_at, Nat.zero_add]
  simpa only [Nat.zero_add] using gv_val q k dy c 512 j.val d.val

theorem gcB : k0_pay11 (F := Ideal) (mat 512 1024 (fun i => (dscore q k v dy c) (512 + i))) (row 1024 (gc q k v dy c 512)) = row 1024 (gc q k v dy c 1024) := by
  refine ext_row fun j => ?_
  pointwise [k0_pay11]
  simp only [mat_at, row_at, Nat.zero_add]
  simpa only [Nat.zero_add] using gc_val q k v dy c 512 j.val

/-! ## Query tile 2 -/

theorem probC : k0_pay30 (F := Ideal) (mat 512 128 (fun i => q (1024 + i))) (mat 1536 128 k) (col 512 (fun i => c (1024 + i))) (row 1536 c) (col 512 (fun i => (lse q k c) (1024 + i))) = mat 512 1536 (fun i => (prob q k c) (1024 + i)) := by
  refine ext2 fun i j => ?_
  pointwise [k0_pay30]
  simp only [mat_at, col_at, row_at, Nat.zero_add]
  simpa only [Nat.zero_add] using prob_val q k c 1024 i.val j.val (by omega) (by omega) _ mask_bot

theorem dscoreC : k0_pay31 (F := Ideal) (mat 512 128 (fun i => q (1024 + i))) (mat 1536 128 k) (mat 1536 128 v) (mat 512 128 (fun i => dy (1024 + i))) (col 512 (fun i => c (1024 + i))) (row 1536 c) (col 512 (fun i => (lse q k c) (1024 + i))) = mat 512 1536 (fun i => (dscore q k v dy c) (1024 + i)) := by
  unfold k0_pay31
  rw [probC q k c]
  refine ext2 fun i j => ?_
  pointwise []
  simp only [mat_at, Nat.zero_add]
  simpa only [Nat.zero_add] using dscore_val q k v dy c 1536 (1024 + i.val) j.val (by omega) (by omega)

theorem dscorebC : k0_pay32 (F := Ideal) (mat 512 128 (fun i => q (1024 + i))) (mat 1536 128 k) (mat 1536 128 v) (mat 512 128 (fun i => dy (1024 + i))) (col 512 (fun i => c (1024 + i))) (row 1536 c) (col 512 (fun i => (lse q k c) (1024 + i))) = mat 512 1536 (fun i => (dscore q k v dy c) (1024 + i)) :=
  dscoreC q k v dy c

theorem gqC : k0_pay12 (F := Ideal) (k0_pay33 (mat 512 128 (fun i => q (1024 + i))) (mat 1536 128 k) (mat 1536 128 v) (mat 512 128 (fun i => dy (1024 + i))) (col 512 (fun i => c (1024 + i))) (row 1536 c) (col 512 (fun i => (lse q k c) (1024 + i)))) = mat 512 128 (fun i => (gq q k v dy c) (1024 + i)) := by
  unfold k0_pay33
  rw [dscorebC q k v dy c]
  refine ext2 fun i d => ?_
  pointwise [k0_pay12]
  simp only [mat_at, Nat.zero_add]
  simpa only [Nat.zero_add] using gq_val q k v dy c 1536 (1024 + i.val) d.val (by omega) (by omega)

theorem gkC : k0_pay13 (F := Ideal) (mat 512 128 (fun i => q (1024 + i))) (mat 512 1536 (fun i => (dscore q k v dy c) (1024 + i))) (mat 1536 128 (gk q k v dy c 1024)) = mat 1536 128 (gk q k v dy c 1536) := by
  refine ext2 fun j d => ?_
  pointwise [k0_pay13]
  simp only [mat_at, Nat.zero_add]
  simpa only [Nat.zero_add] using gk_val q k v dy c 1024 j.val d.val

theorem gvC : k0_pay14 (F := Ideal) (mat 512 128 (fun i => dy (1024 + i))) (mat 512 1536 (fun i => (prob q k c) (1024 + i))) (mat 1536 128 (gv q k dy c 1024)) = mat 1536 128 (gv q k dy c 1536) := by
  refine ext2 fun j d => ?_
  pointwise [k0_pay14]
  simp only [mat_at, Nat.zero_add]
  simpa only [Nat.zero_add] using gv_val q k dy c 1024 j.val d.val

theorem gcC : k0_pay15 (F := Ideal) (mat 512 1536 (fun i => (dscore q k v dy c) (1024 + i))) (row 1536 (gc q k v dy c 1024)) = row 1536 (gc q k v dy c 1536) := by
  refine ext_row fun j => ?_
  pointwise [k0_pay15]
  simp only [mat_at, row_at, Nat.zero_add]
  simpa only [Nat.zero_add] using gc_val q k v dy c 1024 j.val

/-! ## Query tile 3 -/

theorem probD : k0_pay34 (F := Ideal) (mat 512 128 (fun i => q (1536 + i))) (mat 2048 128 k) (col 512 (fun i => c (1536 + i))) (row 2048 c) (col 512 (fun i => (lse q k c) (1536 + i))) = mat 512 2048 (fun i => (prob q k c) (1536 + i)) := by
  refine ext2 fun i j => ?_
  pointwise [k0_pay34]
  simp only [mat_at, col_at, row_at, Nat.zero_add]
  simpa only [Nat.zero_add] using prob_val q k c 1536 i.val j.val (by omega) (by omega) _ mask_bot

theorem dscoreD : k0_pay35 (F := Ideal) (mat 512 128 (fun i => q (1536 + i))) (mat 2048 128 k) (mat 2048 128 v) (mat 512 128 (fun i => dy (1536 + i))) (col 512 (fun i => c (1536 + i))) (row 2048 c) (col 512 (fun i => (lse q k c) (1536 + i))) = mat 512 2048 (fun i => (dscore q k v dy c) (1536 + i)) := by
  unfold k0_pay35
  rw [probD q k c]
  refine ext2 fun i j => ?_
  pointwise []
  simp only [mat_at, Nat.zero_add]
  simpa only [Nat.zero_add] using dscore_val q k v dy c 2048 (1536 + i.val) j.val (by omega) (by omega)

theorem dscorebD : k0_pay36 (F := Ideal) (mat 512 128 (fun i => q (1536 + i))) (mat 2048 128 k) (mat 2048 128 v) (mat 512 128 (fun i => dy (1536 + i))) (col 512 (fun i => c (1536 + i))) (row 2048 c) (col 512 (fun i => (lse q k c) (1536 + i))) = mat 512 2048 (fun i => (dscore q k v dy c) (1536 + i)) :=
  dscoreD q k v dy c

theorem gqD : k0_pay16 (F := Ideal) (k0_pay37 (mat 512 128 (fun i => q (1536 + i))) (mat 2048 128 k) (mat 2048 128 v) (mat 512 128 (fun i => dy (1536 + i))) (col 512 (fun i => c (1536 + i))) (row 2048 c) (col 512 (fun i => (lse q k c) (1536 + i)))) = mat 512 128 (fun i => (gq q k v dy c) (1536 + i)) := by
  unfold k0_pay37
  rw [dscorebD q k v dy c]
  refine ext2 fun i d => ?_
  pointwise [k0_pay16]
  simp only [mat_at, Nat.zero_add]
  simpa only [Nat.zero_add] using gq_val q k v dy c 2048 (1536 + i.val) d.val (by omega) (by omega)

theorem gkD : k0_pay17 (F := Ideal) (mat 512 128 (fun i => q (1536 + i))) (mat 512 2048 (fun i => (dscore q k v dy c) (1536 + i))) (mat 2048 128 (gk q k v dy c 1536)) = mat 2048 128 (gk q k v dy c 2048) := by
  refine ext2 fun j d => ?_
  pointwise [k0_pay17]
  simp only [mat_at, Nat.zero_add]
  simpa only [Nat.zero_add] using gk_val q k v dy c 1536 j.val d.val

theorem gvD : k0_pay18 (F := Ideal) (mat 512 128 (fun i => dy (1536 + i))) (mat 512 2048 (fun i => (prob q k c) (1536 + i))) (mat 2048 128 (gv q k dy c 1536)) = mat 2048 128 (gv q k dy c 2048) := by
  refine ext2 fun j d => ?_
  pointwise [k0_pay18]
  simp only [mat_at, Nat.zero_add]
  simpa only [Nat.zero_add] using gv_val q k dy c 1536 j.val d.val

theorem gcD : k0_pay19 (F := Ideal) (mat 512 2048 (fun i => (dscore q k v dy c) (1536 + i))) (row 2048 (gc q k v dy c 1536)) = row 2048 (gc q k v dy c 2048) := by
  refine ext_row fun j => ?_
  pointwise [k0_pay19]
  simp only [mat_at, row_at, Nat.zero_add]
  simpa only [Nat.zero_add] using gc_val q k v dy c 1536 j.val

end Cert.KernelIdeal.Fox

end
-- ==== Proof.Fox.TileFold.lean ====
/- A query tile over the whole buffers of a head: the stored tile of dq, and the three accumulators after it. -/
module

public import proofs.«01_k».proof.Proof.Fox.Tile

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

variable (q k v dy : ℕ → ℕ → ℝ) (c : ℕ → ℝ)

/-! ## A leading part of a real array, read and replaced -/

theorem ldmb {K : ℕ} (f : ℕ → ℕ → ℝ) (inb : ∀ a, (![0, 0] : Fin 2 → ℕ) a + (⟨2, ![K, 128]⟩ : Shape).size a ≤ S2048x128.size a) :
    View.ld (Val := Elt Ideal) (S := S2048x128) (e' := .bf16) (mat 2048 128 f) (Rect.unit (s := S2048x128) ![0, 0] (⟨2, ![K, 128]⟩ : Shape).size inb) = mat K 128 f :=
  ld_mat f inb

theorem ldmf {K : ℕ} (f : ℕ → ℕ → ℝ) (inb : ∀ a, (![0, 0] : Fin 2 → ℕ) a + (⟨2, ![K, 128]⟩ : Shape).size a ≤ S2048x128.size a) :
    View.ld (Val := Elt Ideal) (S := S2048x128) (e' := .f32) (mat 2048 128 f) (Rect.unit (s := S2048x128) ![0, 0] (⟨2, ![K, 128]⟩ : Shape).size inb) = mat K 128 f :=
  ld_mat f inb

theorem ldr {K : ℕ} (f : ℕ → ℝ) (inb : ∀ a, (![0, 0, 0] : Fin 3 → ℕ) a + (⟨3, ![1, 1, K]⟩ : Shape).size a ≤ S1x1x2048.size a) :
    View.ld (Val := Elt Ideal) (S := S1x1x2048) (e' := .f32) (row 2048 f) (Rect.unit (s := S1x1x2048) ![0, 0, 0] (⟨3, ![1, 1, K]⟩ : Shape).size inb) = row K f :=
  ld_row f inb

/-! ## The accumulators at a head's start -/

theorem start_gk : k0_pay1 (F := Ideal) = mat 2048 128 (gk q k v dy c 0) := by
  refine ext2 fun i j => ?_
  rw [mat_at, gk_zero]
  pointwise [k0_pay1]
  exact EReal.coe_zero.symm

theorem start_gv : k0_pay2 (F := Ideal) = mat 2048 128 (gv q k dy c 0) := by
  refine ext2 fun i j => ?_
  rw [mat_at, gv_zero]
  pointwise [k0_pay2]
  exact EReal.coe_zero.symm

theorem start_gc : k0_pay3 (F := Ideal) = row 2048 (gc q k v dy c 0) := by
  refine ext_row fun j => ?_
  rw [row_at, gc_zero]
  pointwise [k0_pay3]
  exact EReal.coe_zero.symm

/-! ## Query tile 0 -/

theorem dqA_real : dqA (F := Ideal) (mat 512 128 (fun i => q (0 + i))) (mat 2048 128 k) (mat 2048 128 v) (col 512 (fun i => c (0 + i))) (row 2048 c) (col 512 (fun i => (lse q k c) (0 + i))) (mat 512 128 (fun i => dy (0 + i))) = mat 512 128 (fun i => (gq q k v dy c) (0 + i)) := by
  unfold dqA
  rw [ldmb k, ldmb v, ldr c]
  exact gqA q k v dy c

theorem dkA_real : dkA (F := Ideal) (mat 512 128 (fun i => q (0 + i))) (mat 2048 128 k) (mat 2048 128 v) (col 512 (fun i => c (0 + i))) (row 2048 c) (col 512 (fun i => (lse q k c) (0 + i))) (mat 512 128 (fun i => dy (0 + i))) (mat 2048 128 (gk q k v dy c 0)) = mat 2048 128 (gk q k v dy c 512) := by
  unfold dkA
  rw [ldmb k, ldmb v, ldr c, ldmf (gk q k v dy c 0), dscorebA q k v dy c, gkA q k v dy c]
  exact over_mat _ _ (fun j d h => (gk_after q k v dy c h d).symm) _

theorem dvA_real : dvA (F := Ideal) (mat 512 128 (fun i => q (0 + i))) (mat 2048 128 k) (mat 2048 128 v) (col 512 (fun i => c (0 + i))) (row 2048 c) (col 512 (fun i => (lse q k c) (0 + i))) (mat 512 128 (fun i => dy (0 + i))) (mat 2048 128 (gv q k dy c 0)) = mat 2048 128 (gv q k dy c 512) := by
  unfold dvA
  rw [ldmb k, ldr c, ldmf (gv q k dy c 0), probA q k c, gvA q k dy c]
  exact over_mat _ _ (fun j d h => (gv_after q k dy c h d).symm) _

theorem dcA_real : dcA (F := Ideal) (mat 512 128 (fun i => q (0 + i))) (mat 2048 128 k) (mat 2048 128 v) (col 512 (fun i => c (0 + i))) (row 2048 c) (col 512 (fun i => (lse q k c) (0 + i))) (mat 512 128 (fun i => dy (0 + i))) (row 2048 (gc q k v dy c 0)) = row 2048 (gc q k v dy c 512) := by
  unfold dcA
  rw [ldmb k, ldmb v, ldr c, ldr (gc q k v dy c 0), dscoreA q k v dy c, gcA q k v dy c]
  exact over_row _ _ (fun j h => (gc_after q k v dy c h).symm) _

/-! ## Query tile 1 -/

theorem dqB_real : dqB (F := Ideal) (mat 512 128 (fun i => q (512 + i))) (mat 2048 128 k) (mat 2048 128 v) (col 512 (fun i => c (512 + i))) (row 2048 c) (col 512 (fun i => (lse q k c) (512 + i))) (mat 512 128 (fun i => dy (512 + i))) = mat 512 128 (fun i => (gq q k v dy c) (512 + i)) := by
  unfold dqB
  rw [ldmb k, ldmb v, ldr c]
  exact gqB q k v dy c

theorem dkB_real : dkB (F := Ideal) (mat 512 128 (fun i => q (512 + i))) (mat 2048 128 k) (mat 2048 128 v) (col 512 (fun i => c (512 + i))) (row 2048 c) (col 512 (fun i => (lse q k c) (512 + i))) (mat 512 128 (fun i => dy (512 + i))) (mat 2048 128 (gk q k v dy c 512)) = mat 2048 128 (gk q k v dy c 1024) := by
  unfold dkB
  rw [ldmb k, ldmb v, ldr c, ldmf (gk q k v dy c 512), dscorebB q k v dy c, gkB q k v dy c]
  exact over_mat _ _ (fun j d h => (gk_after q k v dy c h d).symm) _

theorem dvB_real : dvB (F := Ideal) (mat 512 128 (fun i => q (512 + i))) (mat 2048 128 k) (mat 2048 128 v) (col 512 (fun i => c (512 + i))) (row 2048 c) (col 512 (fun i => (lse q k c) (512 + i))) (mat 512 128 (fun i => dy (512 + i))) (mat 2048 128 (gv q k dy c 512)) = mat 2048 128 (gv q k dy c 1024) := by
  unfold dvB
  rw [ldmb k, ldr c, ldmf (gv q k dy c 512), probB q k c, gvB q k dy c]
  exact over_mat _ _ (fun j d h => (gv_after q k dy c h d).symm) _

theorem dcB_real : dcB (F := Ideal) (mat 512 128 (fun i => q (512 + i))) (mat 2048 128 k) (mat 2048 128 v) (col 512 (fun i => c (512 + i))) (row 2048 c) (col 512 (fun i => (lse q k c) (512 + i))) (mat 512 128 (fun i => dy (512 + i))) (row 2048 (gc q k v dy c 512)) = row 2048 (gc q k v dy c 1024) := by
  unfold dcB
  rw [ldmb k, ldmb v, ldr c, ldr (gc q k v dy c 512), dscoreB q k v dy c, gcB q k v dy c]
  exact over_row _ _ (fun j h => (gc_after q k v dy c h).symm) _

/-! ## Query tile 2 -/

theorem dqC_real : dqC (F := Ideal) (mat 512 128 (fun i => q (1024 + i))) (mat 2048 128 k) (mat 2048 128 v) (col 512 (fun i => c (1024 + i))) (row 2048 c) (col 512 (fun i => (lse q k c) (1024 + i))) (mat 512 128 (fun i => dy (1024 + i))) = mat 512 128 (fun i => (gq q k v dy c) (1024 + i)) := by
  unfold dqC
  rw [ldmb k, ldmb v, ldr c]
  exact gqC q k v dy c

theorem dkC_real : dkC (F := Ideal) (mat 512 128 (fun i => q (1024 + i))) (mat 2048 128 k) (mat 2048 128 v) (col 512 (fun i => c (1024 + i))) (row 2048 c) (col 512 (fun i => (lse q k c) (1024 + i))) (mat 512 128 (fun i => dy (1024 + i))) (mat 2048 128 (gk q k v dy c 1024)) = mat 2048 128 (gk q k v dy c 1536) := by
  unfold dkC
  rw [ldmb k, ldmb v, ldr c, ldmf (gk q k v dy c 1024), dscorebC q k v dy c, gkC q k v dy c]
  exact over_mat _ _ (fun j d h => (gk_after q k v dy c h d).symm) _

theorem dvC_real : dvC (F := Ideal) (mat 512 128 (fun i => q (1024 + i))) (mat 2048 128 k) (mat 2048 128 v) (col 512 (fun i => c (1024 + i))) (row 2048 c) (col 512 (fun i => (lse q k c) (1024 + i))) (mat 512 128 (fun i => dy (1024 + i))) (mat 2048 128 (gv q k dy c 1024)) = mat 2048 128 (gv q k dy c 1536) := by
  unfold dvC
  rw [ldmb k, ldr c, ldmf (gv q k dy c 1024), probC q k c, gvC q k dy c]
  exact over_mat _ _ (fun j d h => (gv_after q k dy c h d).symm) _

theorem dcC_real : dcC (F := Ideal) (mat 512 128 (fun i => q (1024 + i))) (mat 2048 128 k) (mat 2048 128 v) (col 512 (fun i => c (1024 + i))) (row 2048 c) (col 512 (fun i => (lse q k c) (1024 + i))) (mat 512 128 (fun i => dy (1024 + i))) (row 2048 (gc q k v dy c 1024)) = row 2048 (gc q k v dy c 1536) := by
  unfold dcC
  rw [ldmb k, ldmb v, ldr c, ldr (gc q k v dy c 1024), dscoreC q k v dy c, gcC q k v dy c]
  exact over_row _ _ (fun j h => (gc_after q k v dy c h).symm) _

/-! ## Query tile 3 -/

theorem dqD_real : dqD (F := Ideal) (mat 512 128 (fun i => q (1536 + i))) (mat 2048 128 k) (mat 2048 128 v) (col 512 (fun i => c (1536 + i))) (row 2048 c) (col 512 (fun i => (lse q k c) (1536 + i))) (mat 512 128 (fun i => dy (1536 + i))) = mat 512 128 (fun i => (gq q k v dy c) (1536 + i)) := by
  unfold dqD
  exact gqD q k v dy c

theorem dkD_real : dkD (F := Ideal) (mat 512 128 (fun i => q (1536 + i))) (mat 2048 128 k) (mat 2048 128 v) (col 512 (fun i => c (1536 + i))) (row 2048 c) (col 512 (fun i => (lse q k c) (1536 + i))) (mat 512 128 (fun i => dy (1536 + i))) (mat 2048 128 (gk q k v dy c 1536)) = mat 2048 128 (gk q k v dy c 2048) := by
  unfold dkD
  rw [dscorebD q k v dy c]
  exact gkD q k v dy c

theorem dvD_real : dvD (F := Ideal) (mat 512 128 (fun i => q (1536 + i))) (mat 2048 128 k) (mat 2048 128 v) (col 512 (fun i => c (1536 + i))) (row 2048 c) (col 512 (fun i => (lse q k c) (1536 + i))) (mat 512 128 (fun i => dy (1536 + i))) (mat 2048 128 (gv q k dy c 1536)) = mat 2048 128 (gv q k dy c 2048) := by
  unfold dvD
  rw [probD q k c]
  exact gvD q k dy c

theorem dcD_real : dcD (F := Ideal) (mat 512 128 (fun i => q (1536 + i))) (mat 2048 128 k) (mat 2048 128 v) (col 512 (fun i => c (1536 + i))) (row 2048 c) (col 512 (fun i => (lse q k c) (1536 + i))) (mat 512 128 (fun i => dy (1536 + i))) (row 2048 (gc q k v dy c 1536)) = row 2048 (gc q k v dy c 2048) := by
  unfold dcD
  rw [dscoreD q k v dy c]
  exact gcD q k v dy c

end Cert.KernelIdeal.Fox

end
-- ==== Proof.Fox.Data.lean ====
/- What the grid points leave, and the proof data of the pipeline. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The operands' blocks at a point -/

/-- Window 0's block at point `t`. -/
abbrev blk0 (c : Dev nD) (t : Fin cfg0.N) : Vec F S512x128 .bf16 := iblk m c 0 t

/-- Window 1's block at point `t`. -/
abbrev blk1 (c : Dev nD) (t : Fin cfg0.N) : Vec F S2048x128 .bf16 := iblk m c 1 t

/-- Window 2's block at point `t`. -/
abbrev blk2 (c : Dev nD) (t : Fin cfg0.N) : Vec F S2048x128 .bf16 := iblk m c 2 t

/-- Window 3's block at point `t`. -/
abbrev blk3 (c : Dev nD) (t : Fin cfg0.N) : Vec F S1x512x1 .f32 := iblk m c 3 t

/-- Window 4's block at point `t`. -/
abbrev blk4 (c : Dev nD) (t : Fin cfg0.N) : Vec F S1x1x2048 .f32 := iblk m c 4 t

/-- Window 5's block at point `t`. -/
abbrev blk5 (c : Dev nD) (t : Fin cfg0.N) : Vec F S1x512x1 .f32 := iblk m c 5 t

/-- Window 6's block at point `t`. -/
abbrev blk6 (c : Dev nD) (t : Fin cfg0.N) : Vec F S512x128 .bf16 := iblk m c 6 t

/-- Window 7's block at point `t`. -/
abbrev blk7 (c : Dev nD) (t : Fin cfg0.N) : Vec F S512x128 .bf16 := iblk m c 7 t

/-! ## What the points leave -/

/-- The accumulators of dk, dv and dc. -/
abbrev Acc (F : FTy → Type) := Vec F S2048x128 .f32 × Vec F S2048x128 .f32 × Vec F S1x1x2048 .f32

/-- The accumulators after point `t`, from those before it: the first query tile of a head starts from zero. -/
def stepAt (c : Dev nD) (t : Fin cfg0.N) (a : Acc F) : Acc F :=
  if t.val % 4 = 0 then (dkA (blk0 m c t) (blk1 m c t) (blk2 m c t) (blk3 m c t) (blk4 m c t) (blk5 m c t) (blk7 m c t) k0_pay1, dvA (blk0 m c t) (blk1 m c t) (blk2 m c t) (blk3 m c t) (blk4 m c t) (blk5 m c t) (blk7 m c t) k0_pay2, dcA (blk0 m c t) (blk1 m c t) (blk2 m c t) (blk3 m c t) (blk4 m c t) (blk5 m c t) (blk7 m c t) k0_pay3)
  else if t.val % 4 = 1 then (dkB (blk0 m c t) (blk1 m c t) (blk2 m c t) (blk3 m c t) (blk4 m c t) (blk5 m c t) (blk7 m c t) a.1, dvB (blk0 m c t) (blk1 m c t) (blk2 m c t) (blk3 m c t) (blk4 m c t) (blk5 m c t) (blk7 m c t) a.2.1, dcB (blk0 m c t) (blk1 m c t) (blk2 m c t) (blk3 m c t) (blk4 m c t) (blk5 m c t) (blk7 m c t) a.2.2)
  else if t.val % 4 = 2 then (dkC (blk0 m c t) (blk1 m c t) (blk2 m c t) (blk3 m c t) (blk4 m c t) (blk5 m c t) (blk7 m c t) a.1, dvC (blk0 m c t) (blk1 m c t) (blk2 m c t) (blk3 m c t) (blk4 m c t) (blk5 m c t) (blk7 m c t) a.2.1, dcC (blk0 m c t) (blk1 m c t) (blk2 m c t) (blk3 m c t) (blk4 m c t) (blk5 m c t) (blk7 m c t) a.2.2)
  else (dkD (blk0 m c t) (blk1 m c t) (blk2 m c t) (blk3 m c t) (blk4 m c t) (blk5 m c t) (blk7 m c t) a.1, dvD (blk0 m c t) (blk1 m c t) (blk2 m c t) (blk3 m c t) (blk4 m c t) (blk5 m c t) (blk7 m c t) a.2.1, dcD (blk0 m c t) (blk1 m c t) (blk2 m c t) (blk3 m c t) (blk4 m c t) (blk5 m c t) (blk7 m c t) a.2.2)

/-- The accumulators after point `n`. -/
def accAt (c : Dev nD) : (n : ℕ) → n < cfg0.N → Acc F
  | 0, h => stepAt m c ⟨0, h⟩ (k0_pay1, k0_pay2, k0_pay3)
  | n + 1, h => stepAt m c ⟨n + 1, h⟩ (accAt c n (Nat.lt_of_succ_lt h))

/-- The tile of dq that point `t` stores. -/
def dqAt (c : Dev nD) (t : Fin cfg0.N) : Vec F S512x128 .bf16 :=
  if t.val % 4 = 0 then dqA (blk0 m c t) (blk1 m c t) (blk2 m c t) (blk3 m c t) (blk4 m c t) (blk5 m c t) (blk7 m c t)
  else if t.val % 4 = 1 then dqB (blk0 m c t) (blk1 m c t) (blk2 m c t) (blk3 m c t) (blk4 m c t) (blk5 m c t) (blk7 m c t)
  else if t.val % 4 = 2 then dqC (blk0 m c t) (blk1 m c t) (blk2 m c t) (blk3 m c t) (blk4 m c t) (blk5 m c t) (blk7 m c t)
  else dqD (blk0 m c t) (blk1 m c t) (blk2 m c t) (blk3 m c t) (blk4 m c t) (blk5 m c t) (blk7 m c t)

theorem accAt_pos (c : Dev nD) (t : Fin cfg0.N) (h : t.val ≠ 0) :
    accAt m c t.val t.isLt = stepAt m c t (accAt m c (t.val - 1) (by have := t.isLt; omega)) := by
  obtain ⟨n, hn⟩ := t
  cases n with
  | zero => exact absurd rfl h
  | succ n => rfl

/-- At a head's first query tile. -/
theorem accAt_A (c : Dev nD) (t : Fin cfg0.N) (h : t.val % 4 = 0) :
    accAt m c t.val t.isLt = (dkA (blk0 m c t) (blk1 m c t) (blk2 m c t) (blk3 m c t) (blk4 m c t) (blk5 m c t) (blk7 m c t) k0_pay1, dvA (blk0 m c t) (blk1 m c t) (blk2 m c t) (blk3 m c t) (blk4 m c t) (blk5 m c t) (blk7 m c t) k0_pay2, dcA (blk0 m c t) (blk1 m c t) (blk2 m c t) (blk3 m c t) (blk4 m c t) (blk5 m c t) (blk7 m c t) k0_pay3) := by
  obtain ⟨n, hn⟩ := t
  cases n with
  | zero => unfold accAt stepAt; rw [if_pos h]
  | succ n => exact if_pos h

/-- At a head's query tile 1. -/
theorem accAt_B (c : Dev nD) (t : Fin cfg0.N) (h : t.val % 4 = 1) (a : Acc F)
    (ha : accAt m c (t.val - 1) (by have := t.isLt; omega) = a) :
    accAt m c t.val t.isLt = (dkB (blk0 m c t) (blk1 m c t) (blk2 m c t) (blk3 m c t) (blk4 m c t) (blk5 m c t) (blk7 m c t) a.1, dvB (blk0 m c t) (blk1 m c t) (blk2 m c t) (blk3 m c t) (blk4 m c t) (blk5 m c t) (blk7 m c t) a.2.1, dcB (blk0 m c t) (blk1 m c t) (blk2 m c t) (blk3 m c t) (blk4 m c t) (blk5 m c t) (blk7 m c t) a.2.2) := by
  rw [accAt_pos m c t (by omega), ha]
  unfold stepAt
  rw [if_neg (by omega), if_pos h]

/-- At a head's query tile 2. -/
theorem accAt_C (c : Dev nD) (t : Fin cfg0.N) (h : t.val % 4 = 2) (a : Acc F)
    (ha : accAt m c (t.val - 1) (by have := t.isLt; omega) = a) :
    accAt m c t.val t.isLt = (dkC (blk0 m c t) (blk1 m c t) (blk2 m c t) (blk3 m c t) (blk4 m c t) (blk5 m c t) (blk7 m c t) a.1, dvC (blk0 m c t) (blk1 m c t) (blk2 m c t) (blk3 m c t) (blk4 m c t) (blk5 m c t) (blk7 m c t) a.2.1, dcC (blk0 m c t) (blk1 m c t) (blk2 m c t) (blk3 m c t) (blk4 m c t) (blk5 m c t) (blk7 m c t) a.2.2) := by
  rw [accAt_pos m c t (by omega), ha]
  unfold stepAt
  rw [if_neg (by omega), if_neg (by omega), if_pos h]

/-- At a head's query tile 3. -/
theorem accAt_D (c : Dev nD) (t : Fin cfg0.N) (h : t.val % 4 = 3) (a : Acc F)
    (ha : accAt m c (t.val - 1) (by have := t.isLt; omega) = a) :
    accAt m c t.val t.isLt = (dkD (blk0 m c t) (blk1 m c t) (blk2 m c t) (blk3 m c t) (blk4 m c t) (blk5 m c t) (blk7 m c t) a.1, dvD (blk0 m c t) (blk1 m c t) (blk2 m c t) (blk3 m c t) (blk4 m c t) (blk5 m c t) (blk7 m c t) a.2.1, dcD (blk0 m c t) (blk1 m c t) (blk2 m c t) (blk3 m c t) (blk4 m c t) (blk5 m c t) (blk7 m c t) a.2.2) := by
  rw [accAt_pos m c t (by omega), ha]
  unfold stepAt
  rw [if_neg (by omega), if_neg (by omega), if_neg (by omega)]

theorem dqAt_A (c : Dev nD) (t : Fin cfg0.N) (h : t.val % 4 = 0) : dqAt m c t = dqA (blk0 m c t) (blk1 m c t) (blk2 m c t) (blk3 m c t) (blk4 m c t) (blk5 m c t) (blk7 m c t) := by
  unfold dqAt
  rw [if_pos h]

theorem dqAt_B (c : Dev nD) (t : Fin cfg0.N) (h : t.val % 4 = 1) : dqAt m c t = dqB (blk0 m c t) (blk1 m c t) (blk2 m c t) (blk3 m c t) (blk4 m c t) (blk5 m c t) (blk7 m c t) := by
  unfold dqAt
  rw [if_neg (by omega), if_pos h]

theorem dqAt_C (c : Dev nD) (t : Fin cfg0.N) (h : t.val % 4 = 2) : dqAt m c t = dqC (blk0 m c t) (blk1 m c t) (blk2 m c t) (blk3 m c t) (blk4 m c t) (blk5 m c t) (blk7 m c t) := by
  unfold dqAt
  rw [if_neg (by omega), if_neg (by omega), if_pos h]

theorem dqAt_D (c : Dev nD) (t : Fin cfg0.N) (h : t.val % 4 = 3) : dqAt m c t = dqD (blk0 m c t) (blk1 m c t) (blk2 m c t) (blk3 m c t) (blk4 m c t) (blk5 m c t) (blk7 m c t) := by
  unfold dqAt
  rw [if_neg (by omega), if_neg (by omega), if_neg (by omega)]

/-! ## The pipeline's proof data -/

/-- Before the first point the region's resources; after point `n` the two accumulators at that point's contents. -/
def inv (c : Dev nD) : (n : ℕ) → n ≤ cfg0.N → sProp 𝕄
  | 0, _ => Pipeline.ΦA spec0 c
  | n + 1, hn => iprop(iprop(owns (c : Thread nD τ) accK fullShare (accAt m c n hn).1 ∗ owns (c : Thread nD τ) accV fullShare (accAt m c n hn).2.1) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accK fullShare (accAt m c n hn).1 ∗ owns (c : Thread nD τ) accV fullShare (accAt m c n hn).2.1) ∗ (∃ r, prngReg c r)) := rfl

theorem inv_pos (c : Dev nD) (n : ℕ) (h : n ≤ cfg0.N) (hz : n ≠ 0) :
    inv m c n h = iprop(iprop(owns (c : Thread nD τ) accK fullShare (accAt m c (n - 1) (by omega)).1 ∗ owns (c : Thread nD τ) accV fullShare (accAt m c (n - 1) (by omega)).2.1) ∗ (∃ r, prngReg c r)) := by
  cases n with
  | zero => exact absurd rfl hz
  | succ n => rfl

/-- After the body at a point each input's buffer holds its block, dq's its tile, dc's the accumulated gate gradient; dk's
and dv's hold the accumulators rounded (at a head's last tile, where they are stored). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => k0_pay20 (accAt m c t.val t.isLt).1
    | ⟨10, _⟩ => k0_pay21 (accAt m c t.val t.isLt).2.1
    | ⟨11, _⟩ => (accAt m c t.val t.isLt).2.2
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d

theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d

theorem after8 (c : Dev nD) (t : Fin cfg0.N) : (dats m 0 c).after 8 t = dqAt m c t := by dsimp only [dats]
theorem after9 (c : Dev nD) (t : Fin cfg0.N) : (dats m 0 c).after 9 t = k0_pay20 (accAt m c t.val t.isLt).1 := by dsimp only [dats]
theorem after10 (c : Dev nD) (t : Fin cfg0.N) : (dats m 0 c).after 10 t = k0_pay21 (accAt m c t.val t.isLt).2.1 := by dsimp only [dats]
theorem after11 (c : Dev nD) (t : Fin cfg0.N) : (dats m 0 c).after 11 t = (accAt m c t.val t.isLt).2.2 := by dsimp only [dats]

theorem flush11 : ∀ t : Fin cfg0.N, (cfg0.win 11).flush t = decide (t.val % 4 = 3) :=
  fun t => by
    by_cases h : t.val % 4 = 3
    · rw [(flush0_11 t).mpr h, decide_eq_true h]
    · rw [decide_eq_false h]
      exact Bool.eq_false_iff.mpr fun h' => h ((flush0_11 t).mp h')

/-- Past a head's first tile dc's buffer holds what the tile before left. -/
theorem before11 (c : Dev nD) (t : Fin cfg0.N) (h : t.val % 4 ≠ 0) (d) :
    (dats m 0 c).before 11 t d = (accAt m c (t.val - 1) (by have := t.isLt; omega)).2.2 := by
  rw [(dats m 0 c).before_of_pos 11 t (by omega) ((cfg0.win 11).fetch_out rfl t) d, flush11, if_neg (by simp only [decide_eq_true_eq]; omega)]
  unfold Dat.left
  rw [live_dc]
  exact after11 m c _

end Cert.KernelIdeal.Fox

end
-- ==== Proof.Fox.Head.lean ====
/- The blocks of a grid point, of arrays of real numbers. -/
module

public import Idealize.ShloMosaic.Lib.Pipeline.ValueKit
public import proofs.«01_k».proof.Proof.Fox.TileFold
public import proofs.«01_k».proof.Proof.Fox.Data

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

set_option maxHeartbeats 1000000

/-- The windows' blocks: point `t` is query tile `t % 4` of head `t / 4`. -/
theorem idx : ∀ t : Fin cfg0.N, win0_0.index t = ![t.val % 4, 12 + t.val / 4] ∧ win0_1.index t = ![0, 28 + t.val / 4] ∧ win0_2.index t = ![0, 44 + t.val / 4] ∧ win0_3.index t = ![t.val / 4, t.val % 4, 0] ∧ win0_4.index t = ![t.val / 4, 0, 0] ∧ win0_5.index t = ![t.val / 4, t.val % 4, 0] ∧ win0_7.index t = ![t.val % 4, t.val / 4] ∧ win0_8.index t = ![t.val % 4, t.val / 4] ∧ win0_9.index t = ![0, t.val / 4] ∧ win0_10.index t = ![0, t.val / 4] ∧ win0_11.index t = ![t.val / 4, 0, 0] ∧ t.val / 4 < 4 :=
  (by decide +kernel : ∀ t : Fin grid0.N, win0_0.index t = ![t.val % 4, 12 + t.val / 4] ∧ win0_1.index t = ![0, 28 + t.val / 4] ∧ win0_2.index t = ![0, 44 + t.val / 4] ∧ win0_3.index t = ![t.val / 4, t.val % 4, 0] ∧ win0_4.index t = ![t.val / 4, 0, 0] ∧ win0_5.index t = ![t.val / 4, t.val % 4, 0] ∧ win0_7.index t = ![t.val % 4, t.val / 4] ∧ win0_8.index t = ![t.val % 4, t.val / 4] ∧ win0_9.index t = ![0, t.val / 4] ∧ win0_10.index t = ![0, t.val / 4] ∧ win0_11.index t = ![t.val / 4, 0, 0] ∧ t.val / 4 < 4)

variable (m : (ℓ : Loc nD τ sig) → Buf (Elt Ideal) ℓ) (d : Dev nD)

/-- Head `h`'s queries, keys, values and incoming gradient, of the arrays of real numbers `z` and `y`. -/
def hq (z : ℕ → ℕ → ℝ) (h : ℕ) : ℕ → ℕ → ℝ := fun i e => z i ((12 + h) * 128 + e)
def hk (z : ℕ → ℕ → ℝ) (h : ℕ) : ℕ → ℕ → ℝ := fun i e => z i ((28 + h) * 128 + e)
def hv (z : ℕ → ℕ → ℝ) (h : ℕ) : ℕ → ℕ → ℝ := fun i e => z i ((44 + h) * 128 + e)
def hc (g : ℕ → ℕ → ℝ) (h : ℕ) : ℕ → ℝ := fun i => g i h
def hy (y : ℕ → ℕ → ℝ) (h : ℕ) : ℕ → ℕ → ℝ := fun i e => y i (h * 128 + e)

theorem read0 (z : ℕ → ℕ → ℝ) (t : Fin cfg0.N) :
    ((cfg0.win 0).blk t).view.read (Elt Ideal) ((mat 2048 6144 z : (⟨S2048x6144, .bf16⟩ : BufTy).Contents (Elt Ideal))) = mat 512 128 (fun i => hq z (t.val / 4) (512 * (t.val % 4) + i)) := by
  refine ext2 fun i j => ?_
  blk_simp [idx t, mat]
  rw [Nat.mul_comm (t.val % 4) 512]; rfl
theorem read1 (z : ℕ → ℕ → ℝ) (t : Fin cfg0.N) :
    ((cfg0.win 1).blk t).view.read (Elt Ideal) ((mat 2048 6144 z : (⟨S2048x6144, .bf16⟩ : BufTy).Contents (Elt Ideal))) = mat 2048 128 (hk z (t.val / 4)) := by
  refine ext2 fun i j => ?_
  blk_simp [idx t, mat]
  rfl
theorem read2 (z : ℕ → ℕ → ℝ) (t : Fin cfg0.N) :
    ((cfg0.win 2).blk t).view.read (Elt Ideal) ((mat 2048 6144 z : (⟨S2048x6144, .bf16⟩ : BufTy).Contents (Elt Ideal))) = mat 2048 128 (hv z (t.val / 4)) := by
  refine ext2 fun i j => ?_
  blk_simp [idx t, mat]
  rfl
theorem read7 (y : ℕ → ℕ → ℝ) (t : Fin cfg0.N) :
    ((cfg0.win 7).blk t).view.read (Elt Ideal) ((mat 2048 512 y : (⟨S2048x512, .bf16⟩ : BufTy).Contents (Elt Ideal))) = mat 512 128 (fun i => hy y (t.val / 4) (512 * (t.val % 4) + i)) := by
  refine ext2 fun i j => ?_
  blk_simp [idx t, mat]
  rw [Nat.mul_comm (t.val % 4) 512]; rfl
theorem read3 (f : ℕ → ℕ → ℝ) (t : Fin cfg0.N) :
    ((cfg0.win 3).blk t).view.read (Elt Ideal) ((fun i => ((f (i 0).val (i 1).val : ℝ) : EReal) : (⟨S4x2048x1, .f32⟩ : BufTy).Contents (Elt Ideal))) = col 512 (fun i => f (t.val / 4) (512 * (t.val % 4) + i)) := by
  funext i
  blk_simp [idx t]
  rw [Nat.mul_comm (t.val % 4) 512]; rfl
theorem read5 (f : ℕ → ℕ → ℝ) (t : Fin cfg0.N) :
    ((cfg0.win 5).blk t).view.read (Elt Ideal) ((fun i => ((f (i 0).val (i 1).val : ℝ) : EReal) : (⟨S4x2048x1, .f32⟩ : BufTy).Contents (Elt Ideal))) = col 512 (fun i => f (t.val / 4) (512 * (t.val % 4) + i)) := by
  funext i
  blk_simp [idx t]
  rw [Nat.mul_comm (t.val % 4) 512]; rfl
theorem read4 (f : ℕ → ℕ → ℝ) (t : Fin cfg0.N) :
    ((cfg0.win 4).blk t).view.read (Elt Ideal) ((fun i => ((f (i 0).val (i 2).val : ℝ) : EReal) : (⟨S4x1x2048, .f32⟩ : BufTy).Contents (Elt Ideal))) = row 2048 (fun j => f (t.val / 4) j) := by
  funext i
  blk_simp [idx t]
  rfl

theorem blk0_real (z : ℕ → ℕ → ℝ) (hz : m ((d.tc : Thread nD τ).loc main_arg0) = mat 2048 6144 z) (t : Fin cfg0.N) :
    blk0 m d t = mat 512 128 (fun i => hq z (t.val / 4) (512 * (t.val % 4) + i)) :=
  (congrArg (((cfg0.win 0).blk t).view.read (Elt Ideal)) ((V_main_arg0 m d).trans hz)).trans (read0 z t)
theorem blk1_real (z : ℕ → ℕ → ℝ) (hz : m ((d.tc : Thread nD τ).loc main_arg0) = mat 2048 6144 z) (t : Fin cfg0.N) :
    blk1 m d t = mat 2048 128 (hk z (t.val / 4)) :=
  (congrArg (((cfg0.win 1).blk t).view.read (Elt Ideal)) ((V_main_arg0 m d).trans hz)).trans (read1 z t)
theorem blk2_real (z : ℕ → ℕ → ℝ) (hz : m ((d.tc : Thread nD τ).loc main_arg0) = mat 2048 6144 z) (t : Fin cfg0.N) :
    blk2 m d t = mat 2048 128 (hv z (t.val / 4)) :=
  (congrArg (((cfg0.win 2).blk t).view.read (Elt Ideal)) ((V_main_arg0 m d).trans hz)).trans (read2 z t)
theorem blk7_real (y : ℕ → ℕ → ℝ) (hz : m ((d.tc : Thread nD τ).loc main_arg2) = mat 2048 512 y) (t : Fin cfg0.N) :
    blk7 m d t = mat 512 128 (fun i => hy y (t.val / 4) (512 * (t.val % 4) + i)) :=
  (congrArg (((cfg0.win 7).blk t).view.read (Elt Ideal)) ((V_main_arg2 m d).trans hz)).trans (read7 y t)
theorem blk3_real (f : ℕ → ℕ → ℝ) (hV : V m d main_v1 = fun i => ((f (i 0).val (i 1).val : ℝ) : EReal)) (t : Fin cfg0.N) :
    blk3 m d t = col 512 (fun i => f (t.val / 4) (512 * (t.val % 4) + i)) :=
  (congrArg (((cfg0.win 3).blk t).view.read (Elt Ideal)) hV).trans (read3 f t)
theorem blk4_real (f : ℕ → ℕ → ℝ) (hV : V m d main_v3 = fun i => ((f (i 0).val (i 2).val : ℝ) : EReal)) (t : Fin cfg0.N) :
    blk4 m d t = row 2048 (fun j => f (t.val / 4) j) :=
  (congrArg (((cfg0.win 4).blk t).view.read (Elt Ideal)) hV).trans (read4 f t)
theorem blk5_real (f : ℕ → ℕ → ℝ) (hV : V m d main_v35 = fun i => ((f (i 0).val (i 1).val : ℝ) : EReal)) (t : Fin cfg0.N) :
    blk5 m d t = col 512 (fun i => f (t.val / 4) (512 * (t.val % 4) + i)) :=
  (congrArg (((cfg0.win 5).blk t).view.read (Elt Ideal)) hV).trans (read5 f t)

end Cert.KernelIdeal.Fox

end
-- ==== Proof.Fox.Fold.lean ====
/- What the grid points leave, of arrays of real numbers. -/
module

public import proofs.«01_k».proof.Proof.Fox.Head

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

set_option maxHeartbeats 1000000

/-- The region's operands are arrays of real numbers: the projections `z`, the cumulated log-gates `g` read as a column
and as a row, the incoming gradient `y`, and the row logarithms. -/
structure Heads (m : (ℓ : Loc nD τ sig) → Buf (Elt Ideal) ℓ) (d : Dev nD) (z g y : ℕ → ℕ → ℝ) : Prop where
  z_eq : m ((d.tc : Thread nD τ).loc main_arg0) = mat 2048 6144 z
  y_eq : m ((d.tc : Thread nD τ).loc main_arg2) = mat 2048 512 y
  col_eq : V m d main_v1 = fun i => ((hc g (i 0).val (i 1).val : ℝ) : EReal)
  row_eq : V m d main_v3 = fun i => ((hc g (i 0).val (i 2).val : ℝ) : EReal)
  lse_eq : V m d main_v35 = fun i => ((lse (hq z (i 0).val) (hk z (i 0).val) (hc g (i 0).val) (i 1).val : ℝ) : EReal)

/-- Head `h`'s accumulators after the query rows before `n`. -/
def state (z g y : ℕ → ℕ → ℝ) (h n : ℕ) : Acc Ideal :=
  (mat 2048 128 (gk (hq z h) (hk z h) (hv z h) (hy y h) (hc g h) n),
   mat 2048 128 (gv (hq z h) (hk z h) (hy y h) (hc g h) n),
   row 2048 (gc (hq z h) (hk z h) (hv z h) (hy y h) (hc g h) n))

variable (m : (ℓ : Loc nD τ sig) → Buf (Elt Ideal) ℓ) (d : Dev nD) (z g y : ℕ → ℕ → ℝ) (H : Heads m d z g y)
include H

/-- A point's blocks of its head's arrays. -/
theorem blocks (t : Fin cfg0.N) :
    blk0 m d t = mat 512 128 (fun i => hq z (t.val / 4) (512 * (t.val % 4) + i))
    ∧ blk1 m d t = mat 2048 128 (hk z (t.val / 4))
    ∧ blk2 m d t = mat 2048 128 (hv z (t.val / 4))
    ∧ blk3 m d t = col 512 (fun i => hc g (t.val / 4) (512 * (t.val % 4) + i))
    ∧ blk4 m d t = row 2048 (hc g (t.val / 4))
    ∧ blk5 m d t = col 512 (fun i => lse (hq z (t.val / 4)) (hk z (t.val / 4)) (hc g (t.val / 4)) (512 * (t.val % 4) + i))
    ∧ blk7 m d t = mat 512 128 (fun i => hy y (t.val / 4) (512 * (t.val % 4) + i)) :=
  ⟨blk0_real m d z H.z_eq t, blk1_real m d z H.z_eq t, blk2_real m d z H.z_eq t, blk3_real m d (hc g) H.col_eq t,
   blk4_real m d (hc g) H.row_eq t, blk5_real m d (fun h => lse (hq z h) (hk z h) (hc g h)) H.lse_eq t, blk7_real m d y H.y_eq t⟩

/-- Query tile 0 of a head. -/
theorem accA (t : Fin cfg0.N) (ht : t.val % 4 = 0) : accAt m d t.val t.isLt = state z g y (t.val / 4) 512 := by
  obtain ⟨e0, e1, e2, e3, e4, e5, e7⟩ := blocks m d z g y H t
  simp only [ht, Nat.reduceMul] at e0 e3 e5 e7
  rw [accAt_A m d t ht, e0, e1, e2, e3, e4, e5, e7, start_gk (hq z (t.val / 4)) (hk z (t.val / 4)) (hv z (t.val / 4)) (hy y (t.val / 4)) (hc g (t.val / 4)), start_gv (hq z (t.val / 4)) (hk z (t.val / 4)) (hy y (t.val / 4)) (hc g (t.val / 4)), start_gc (hq z (t.val / 4)) (hk z (t.val / 4)) (hv z (t.val / 4)) (hy y (t.val / 4)) (hc g (t.val / 4)), dkA_real (hq z (t.val / 4)) (hk z (t.val / 4)) (hv z (t.val / 4)) (hy y (t.val / 4)) (hc g (t.val / 4)), dvA_real (hq z (t.val / 4)) (hk z (t.val / 4)) (hv z (t.val / 4)) (hy y (t.val / 4)) (hc g (t.val / 4)), dcA_real (hq z (t.val / 4)) (hk z (t.val / 4)) (hv z (t.val / 4)) (hy y (t.val / 4)) (hc g (t.val / 4))]
  rfl

theorem dqA_at (t : Fin cfg0.N) (ht : t.val % 4 = 0) :
    dqAt m d t = mat 512 128 (fun i => gq (hq z (t.val / 4)) (hk z (t.val / 4)) (hv z (t.val / 4)) (hy y (t.val / 4)) (hc g (t.val / 4)) (512 * (t.val % 4) + i)) := by
  obtain ⟨e0, e1, e2, e3, e4, e5, e7⟩ := blocks m d z g y H t
  simp only [ht, Nat.reduceMul] at e0 e3 e5 e7
  rw [dqAt_A m d t ht, e0, e1, e2, e3, e4, e5, e7, dqA_real (hq z (t.val / 4)) (hk z (t.val / 4)) (hv z (t.val / 4)) (hy y (t.val / 4)) (hc g (t.val / 4))]
  simp only [ht, Nat.reduceMul]

/-- Query tile 1 of a head. -/
theorem accB (t : Fin cfg0.N) (ht : t.val % 4 = 1) : accAt m d t.val t.isLt = state z g y (t.val / 4) 1024 := by
  obtain ⟨e0, e1, e2, e3, e4, e5, e7⟩ := blocks m d z g y H t
  simp only [ht, Nat.reduceMul] at e0 e3 e5 e7
  have a := accA m d z g y H ⟨t.val - 1, by have := t.isLt; omega⟩ (by show (t.val - 1) % 4 = 0; omega)
  rw [show (t.val - 1) / 4 = t.val / 4 by omega] at a
  rw [accAt_B m d t ht _ a, e0, e1, e2, e3, e4, e5, e7]
  unfold state
  dsimp only
  rw [dkB_real (hq z (t.val / 4)) (hk z (t.val / 4)) (hv z (t.val / 4)) (hy y (t.val / 4)) (hc g (t.val / 4)), dvB_real (hq z (t.val / 4)) (hk z (t.val / 4)) (hv z (t.val / 4)) (hy y (t.val / 4)) (hc g (t.val / 4)), dcB_real (hq z (t.val / 4)) (hk z (t.val / 4)) (hv z (t.val / 4)) (hy y (t.val / 4)) (hc g (t.val / 4))]

theorem dqB_at (t : Fin cfg0.N) (ht : t.val % 4 = 1) :
    dqAt m d t = mat 512 128 (fun i => gq (hq z (t.val / 4)) (hk z (t.val / 4)) (hv z (t.val / 4)) (hy y (t.val / 4)) (hc g (t.val / 4)) (512 * (t.val % 4) + i)) := by
  obtain ⟨e0, e1, e2, e3, e4, e5, e7⟩ := blocks m d z g y H t
  simp only [ht, Nat.reduceMul] at e0 e3 e5 e7
  rw [dqAt_B m d t ht, e0, e1, e2, e3, e4, e5, e7, dqB_real (hq z (t.val / 4)) (hk z (t.val / 4)) (hv z (t.val / 4)) (hy y (t.val / 4)) (hc g (t.val / 4))]
  simp only [ht, Nat.reduceMul]

/-- Query tile 2 of a head. -/
theorem accC (t : Fin cfg0.N) (ht : t.val % 4 = 2) : accAt m d t.val t.isLt = state z g y (t.val / 4) 1536 := by
  obtain ⟨e0, e1, e2, e3, e4, e5, e7⟩ := blocks m d z g y H t
  simp only [ht, Nat.reduceMul] at e0 e3 e5 e7
  have a := accB m d z g y H ⟨t.val - 1, by have := t.isLt; omega⟩ (by show (t.val - 1) % 4 = 1; omega)
  rw [show (t.val - 1) / 4 = t.val / 4 by omega] at a
  rw [accAt_C m d t ht _ a, e0, e1, e2, e3, e4, e5, e7]
  unfold state
  dsimp only
  rw [dkC_real (hq z (t.val / 4)) (hk z (t.val / 4)) (hv z (t.val / 4)) (hy y (t.val / 4)) (hc g (t.val / 4)), dvC_real (hq z (t.val / 4)) (hk z (t.val / 4)) (hv z (t.val / 4)) (hy y (t.val / 4)) (hc g (t.val / 4)), dcC_real (hq z (t.val / 4)) (hk z (t.val / 4)) (hv z (t.val / 4)) (hy y (t.val / 4)) (hc g (t.val / 4))]

theorem dqC_at (t : Fin cfg0.N) (ht : t.val % 4 = 2) :
    dqAt m d t = mat 512 128 (fun i => gq (hq z (t.val / 4)) (hk z (t.val / 4)) (hv z (t.val / 4)) (hy y (t.val / 4)) (hc g (t.val / 4)) (512 * (t.val % 4) + i)) := by
  obtain ⟨e0, e1, e2, e3, e4, e5, e7⟩ := blocks m d z g y H t
  simp only [ht, Nat.reduceMul] at e0 e3 e5 e7
  rw [dqAt_C m d t ht, e0, e1, e2, e3, e4, e5, e7, dqC_real (hq z (t.val / 4)) (hk z (t.val / 4)) (hv z (t.val / 4)) (hy y (t.val / 4)) (hc g (t.val / 4))]
  simp only [ht, Nat.reduceMul]

/-- Query tile 3 of a head. -/
theorem accD (t : Fin cfg0.N) (ht : t.val % 4 = 3) : accAt m d t.val t.isLt = state z g y (t.val / 4) 2048 := by
  obtain ⟨e0, e1, e2, e3, e4, e5, e7⟩ := blocks m d z g y H t
  simp only [ht, Nat.reduceMul] at e0 e3 e5 e7
  have a := accC m d z g y H ⟨t.val - 1, by have := t.isLt; omega⟩ (by show (t.val - 1) % 4 = 2; omega)
  rw [show (t.val - 1) / 4 = t.val / 4 by omega] at a
  rw [accAt_D m d t ht _ a, e0, e1, e2, e3, e4, e5, e7]
  unfold state
  dsimp only
  rw [dkD_real (hq z (t.val / 4)) (hk z (t.val / 4)) (hv z (t.val / 4)) (hy y (t.val / 4)) (hc g (t.val / 4)), dvD_real (hq z (t.val / 4)) (hk z (t.val / 4)) (hv z (t.val / 4)) (hy y (t.val / 4)) (hc g (t.val / 4)), dcD_real (hq z (t.val / 4)) (hk z (t.val / 4)) (hv z (t.val / 4)) (hy y (t.val / 4)) (hc g (t.val / 4))]

theorem dqD_at (t : Fin cfg0.N) (ht : t.val % 4 = 3) :
    dqAt m d t = mat 512 128 (fun i => gq (hq z (t.val / 4)) (hk z (t.val / 4)) (hv z (t.val / 4)) (hy y (t.val / 4)) (hc g (t.val / 4)) (512 * (t.val % 4) + i)) := by
  obtain ⟨e0, e1, e2, e3, e4, e5, e7⟩ := blocks m d z g y H t
  simp only [ht, Nat.reduceMul] at e0 e3 e5 e7
  rw [dqAt_D m d t ht, e0, e1, e2, e3, e4, e5, e7, dqD_real (hq z (t.val / 4)) (hk z (t.val / 4)) (hv z (t.val / 4)) (hy y (t.val / 4)) (hc g (t.val / 4))]
  simp only [ht, Nat.reduceMul]

/-- Every point stores its tile of the queries' gradient. -/
theorem dq_at (t : Fin cfg0.N) :
    dqAt m d t = mat 512 128 (fun i => gq (hq z (t.val / 4)) (hk z (t.val / 4)) (hv z (t.val / 4)) (hy y (t.val / 4)) (hc g (t.val / 4)) (512 * (t.val % 4) + i)) := by
  have h : t.val % 4 = 0 ∨ t.val % 4 = 1 ∨ t.val % 4 = 2 ∨ t.val % 4 = 3 := by omega
  rcases h with h | h | h | h
  · exact dqA_at m d z g y H t h
  · exact dqB_at m d z g y H t h
  · exact dqC_at m d z g y H t h
  · exact dqD_at m d z g y H t h

end Cert.KernelIdeal.Fox

end
-- ==== Proof.Fox.Rows.lean ====
/- The rows of scores: their maxima, and their exponentials less a number. -/
module

public import Idealize.ShloMosaic.Lib.Pipeline.ValueKit
public import Idealize.ShloMosaic.Lib.Affine
public import proofs.«01_k».proof.Proof.Fox.Lift

@[expose] public section

set_option maxRecDepth 16384

noncomputable section

namespace Cert.FoxReal

open Idealize.ShloMosaic Finset

set_option maxHeartbeats 1000000

/-- The causal mask's comparison, of key `j` with query `i`. -/
theorem masked (i j : ℕ) (hi : i < 2 ^ 31) (hj : j < 2 ^ 31) (a b : EReal) :
    Scalar.select (IntOp.cmpi CmpIPredicate.sle (BitVec.ofNat 32 j) (BitVec.ofNat 32 i)) a b = if j ≤ i then a else b := by
  have := visible 0 i j (by omega) hj a b
  rwa [Nat.zero_add, show IntOp.addi (BitVec.ofNat 32 0) (BitVec.ofNat 32 i) = BitVec.ofNat 32 i by
    unfold IntOp.addi; simp] at this

/-- The scores of four heads, the invisible ones minus infinity. -/
def scores (q k : ℕ → ℕ → ℕ → ℝ) (c : ℕ → ℕ → ℝ) : (⟨3, ![4, 2048, 2048]⟩ : Shape).Idx → EReal :=
  fun i => if (i 2).val ≤ (i 1).val then ((score (q (i 0).val) (k (i 0).val) (c (i 0).val) (i 1).val (i 2).val : ℝ) : EReal) else ⊥

/-- A value for every head and row. -/
def rows (M : ℕ → ℕ → ℝ) : (⟨2, ![4, 2048]⟩ : Shape).Idx → EReal := fun i => ((M (i 0).val (i 1).val : ℝ) : EReal)

theorem minus_inf : Ideal.ofBits FTy.f32 0xFF800000#32 = ⊥ := by
  simp [Ideal.ofBits, Ideal.ieee]

/-- The largest of finitely many numbers none of which is plus infinity, and one of which is real, is real. -/
theorem fold_real {n : ℕ} (f : Fin n → EReal) (hf : ∀ x, f x < ⊤) (x : Fin n) (hx : ⊥ < f x) :
    ∃ r : ℝ, Finset.fold max ⊥ f Finset.univ = (r : EReal) := by
  have h1 : Finset.fold max ⊥ f Finset.univ < ⊤ := (Finset.fold_max_lt _).mpr ⟨bot_lt_top, fun x _ => hf x⟩
  have h2 : ⊥ < Finset.fold max ⊥ f Finset.univ := (Finset.lt_fold_max _).mpr (Or.inr ⟨x, Finset.mem_univ x, hx⟩)
  exact ⟨_, (EReal.coe_toReal h1.ne h2.ne').symm⟩

/-- The scores' row maxima are real numbers: a row's own key is visible. -/
theorem row_max (q k : ℕ → ℕ → ℕ → ℝ) (c : ℕ → ℕ → ℝ) (h : (⟨3, ![4, 2048, 2048]⟩ : Shape).ReducesTo [2] ⟨2, ![4, 2048]⟩)
    (hu : 0 < (⟨0, ![]⟩ : Shape).numel) :
    ∃ M : ℕ → ℕ → ℝ, Host.reduce (α := Ideal .f32) FloatOps.maximumf (scores q k c) (constant ⟨0, ![]⟩ .f32 0xFF800000#32) h hu = rows M := by
  have key : ∀ i : (⟨2, ![4, 2048]⟩ : Shape).Idx, ∃ x : ℝ,
      Host.reduce (α := Ideal .f32) FloatOps.maximumf (scores q k c) (constant ⟨0, ![]⟩ .f32 0xFF800000#32) h hu i = (x : EReal) := by
    intro i
    pointwise
    rw [minus_inf]
    refine fold_real _ (fun x => ?_) (i 1) ?_
    · show (if x.val ≤ (i 1).val then _ else _ : EReal) < ⊤
      split
      · exact EReal.coe_lt_top _
      · exact bot_lt_top
    · show ⊥ < (if (i 1).val ≤ (i 1).val then _ else _ : EReal)
      rw [if_pos le_rfl]
      exact EReal.bot_lt_coe _
  choose f hf using key
  refine ⟨fun a b => f (ix2 (Fin.ofNat 4 a) (Fin.ofNat 2048 b)), ?_⟩
  funext i
  rw [hf i]
  unfold rows
  have e : i = ix2 (Fin.ofNat 4 (i 0).val) (Fin.ofNat 2048 (i 1).val) := by
    funext t
    match t with
    | ⟨0, _⟩ => exact Fin.ext (Nat.mod_eq_of_lt (i 0).isLt).symm
    | ⟨1, _⟩ => exact Fin.ext (Nat.mod_eq_of_lt (i 1).isLt).symm
  exact congrArg (fun j => ((f j : ℝ) : EReal)) e

/-- The exponential of a score less any number. -/
theorem exp_score (q k : ℕ → ℕ → ℕ → ℝ) (c : ℕ → ℕ → ℝ) (M : ℝ) (h : Fin 4) (i j : Fin 2048) :
    Ideal.exp (scores q k c (ix3 h i j) - (M : EReal))
      = ((if j.val ≤ i.val then Real.exp (score (q h.val) (k h.val) (c h.val) i.val j.val - M) else 0 : ℝ) : EReal) := by
  show Ideal.exp ((if j.val ≤ i.val then ((score (q h.val) (k h.val) (c h.val) i.val j.val : ℝ) : EReal) else ⊥) - (M : EReal)) = _
  split
  · rw [← EReal.coe_sub, Ideal.exp_coe]
  · rw [EReal.bot_sub]
    simp

/-- A row's sum of these exponentials. -/
theorem sum_exp (q k : ℕ → ℕ → ℕ → ℝ) (c : ℕ → ℕ → ℝ) (M : ℝ) (h : Fin 4) (i : Fin 2048) :
    ∑ x : Fin 2048, Ideal.exp (scores q k c (ix3 h i x) - (M : EReal)) = ((mass (q h.val) (k h.val) (c h.val) i.val / Real.exp M : ℝ) : EReal) := by
  simp only [exp_score]
  rw [sum_val 2048 (fun x => if x ≤ i.val then Real.exp (score (q h.val) (k h.val) (c h.val) i.val x - M) else 0), sum_shifted _ _ _ i.val 2048 i.isLt]

/-- The logarithm of a row's mass, by any shift. -/
theorem lse_val (q k : ℕ → ℕ → ℕ → ℝ) (c : ℕ → ℕ → ℝ) (M : ℝ) (h : Fin 4) (i : Fin 2048) :
    (M : EReal) + Ideal.log (∑ x : Fin 2048, Ideal.exp (scores q k c (ix3 h i x) - (M : EReal)))
      = ((lse (q h.val) (k h.val) (c h.val) i.val : ℝ) : EReal) := by
  rw [sum_exp, Ideal.log_coe, if_neg (not_le.mpr (div_pos (mass_pos _ _ _ _) (Real.exp_pos M))), ← EReal.coe_add,
    ← lse_shifted _ _ _ i.val 2048 i.isLt M, sum_shifted _ _ _ i.val 2048 i.isLt]

end Cert.FoxReal

end
-- ==== Proof.Fox.Host.lean ====
/- The lines before the call: the log-gates as a column and a row, and the row logarithms of the scores. -/
module

public import Idealize.ShloMosaic.Lib.Affine
public import Idealize.ShloMosaic.Lib.Claim
public import Idealize.ShloMosaic.Lib.StableHlo.RunRead
public import proofs.«01_k».proof.Proof.Fox.Fold
public import proofs.«01_k».proof.Proof.Fox.Rows

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

set_option maxHeartbeats 1000000

/-! ## The lines before the call -/

/-- The projections, split into queries, keys and values of the four heads. -/
def hostQkv (x : FVec Ideal S2048x6144 .bf16) : FVec Ideal S2048x3x4x128 .f32 :=
  extractStridedSlice S2048x3x4x128 ![0, 0, 12, 0] (shapeCast S2048x3x16x128 (extf .f32 x bitsLt_bf16_f32) shapeCasts_S2048x6144_S2048x3x16x128) slices_S2048x3x16x128_S2048x3x4x128_0_0_12_0

def hostQ (x : FVec Ideal S2048x6144 .bf16) : FVec Ideal S2048x4x128 .f32 :=
  shapeCast S2048x4x128 (extractStridedSlice S2048x1x4x128 ![0, 0, 0, 0] (hostQkv x) slices_S2048x3x4x128_S2048x1x4x128_0_0_0_0) shapeCasts_S2048x1x4x128_S2048x4x128

def hostK (x : FVec Ideal S2048x6144 .bf16) : FVec Ideal S2048x4x128 .f32 :=
  shapeCast S2048x4x128 (extractStridedSlice S2048x1x4x128 ![0, 1, 0, 0] (hostQkv x) slices_S2048x3x4x128_S2048x1x4x128_0_1_0_0) shapeCasts_S2048x1x4x128_S2048x4x128

/-- The log-gates as a column and as a row. -/
def hostCol (x : FVec Ideal S2048x4 .f32) : FVec Ideal S4x2048x1 .f32 :=
  broadcastInDim S4x2048x1 ![0, 1] bcast_S4x2048_S4x2048x1_0_1 (transpose S4x2048 [1, 0] x transposes_S2048x4_S4x2048_1_0)

def hostRow (x : FVec Ideal S2048x4 .f32) : FVec Ideal S4x1x2048 .f32 :=
  broadcastInDim S4x1x2048 ![0, 2] bcast_S4x2048_S4x1x2048_0_2 (transpose S4x2048 [1, 0] x transposes_S2048x4_S4x2048_1_0)

/-- The masked scores. -/
def hostMask (v : IVec S2048x2048 1) (s : FVec Ideal S4x2048x2048 .f32) (a : FVec Ideal S_ .f32) : FVec Ideal S4x2048x2048 .f32 :=
  select (broadcastInDim S4x2048x2048 ![1, 2] bcast_S2048x2048_S4x2048x2048_1_2 v) s (broadcastInDim S4x2048x2048 ![] bcast_S_S4x2048x2048 a)

def hostScore (x : FVec Ideal S2048x6144 .bf16) (c : FVec Ideal S2048x4 .f32) :
    FVec Ideal S4x2048x2048 .f32 :=
  hostMask (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0))))
    (subf (addf (mulf (Host.dotGeneral dot_S2048x4x128_S2048x4x128_S4x2048x2048_2_2_0_0_1_1 none (hostQ x) (hostK x))
          (broadcastInDim S4x2048x2048 ![] bcast_S_S4x2048x2048 (constant S_ .f32 0x3DB504F3#32)))
        (broadcastInDim S4x2048x2048 ![0, 1, 2] bcast_S4x2048x1_S4x2048x2048_0_1_2 (hostCol c)))
      (broadcastInDim S4x2048x2048 ![0, 1, 2] bcast_S4x1x2048_S4x2048x2048_0_1_2 (hostRow c)))
    (constant S_ .f32 0xFF800000#32)

/-- The row maxima of an array of scores. -/
def hostMax (s : FVec Ideal S4x2048x2048 .f32) : FVec Ideal S4x2048 .f32 :=
  Host.reduce FloatOps.maximumf s (constant S_ .f32 0xFF800000#32) reducesTo_S4x2048x2048_S4x2048_d2 h_S_

/-- A row's maximum plus the logarithm of the sum of the exponentials of its scores less the maximum. -/
def hostLse (s : FVec Ideal S4x2048x2048 .f32) (M : FVec Ideal S4x2048 .f32) :
    FVec Ideal S4x2048x1 .f32 :=
  addf (broadcastInDim S4x2048x1 ![0, 1] bcast_S4x2048_S4x2048x1_0_1 M)
    (Host.log (broadcastInDim S4x2048x1 ![0, 1] bcast_S4x2048_S4x2048x1_0_1
      (Host.reduceAdd (Host.exp (subf s (broadcastInDim S4x2048x2048 ![0, 1, 2] bcast_S4x2048x1_S4x2048x2048_0_1_2
        (broadcastInDim S4x2048x1 ![0, 1] bcast_S4x2048_S4x2048x1_0_1 M)))) (constant S_ .f32 0x00000000#32) reducesTo_S4x2048x2048_S4x2048_d2 h_S_)))

section
variable (m : (ℓ : Loc nD τ sig) → Buf (Elt Ideal) ℓ) (d : Dev nD)

theorem V_col : V m d main_v1 = hostCol (m ((d.tc : Thread nD τ).loc main_arg1)) := by
  entry_read; rfl
theorem V_row : V m d main_v3 = hostRow (m ((d.tc : Thread nD τ).loc main_arg1)) := by
  entry_read; rfl

/-- The lines in three stretches, each from any contents of the buffers. -/
theorem lines3 (σ : Valuation τ sig (Elt Ideal)) : StableHlo.after hostOps0_2 σ (Proc.devRef .tc main_v35)
    = hostLse (σ (Proc.devRef .tc main_v26)) (hostMax (σ (Proc.devRef .tc main_v26))) := by
  after_reads_simp
  rfl

theorem lines2 (σ : Valuation τ sig (Elt Ideal)) : StableHlo.after hostOps0_1 σ (Proc.devRef .tc main_v26)
    = hostMask (σ (Proc.devRef .tc main_v25)) (σ (Proc.devRef .tc main_v19)) (σ (Proc.devRef .tc main_cst_0)) := by
  after_reads_simp
  rfl

theorem lines1 (σ : Valuation τ sig (Elt Ideal)) :
    hostMask (StableHlo.after hostOps0 σ (Proc.devRef .tc main_v25)) (StableHlo.after hostOps0 σ (Proc.devRef .tc main_v19)) (StableHlo.after hostOps0 σ (Proc.devRef .tc main_cst_0))
    = hostScore (σ (Proc.devRef .tc main_arg0)) (σ (Proc.devRef .tc main_arg1)) := by
  after_reads_simp
  unfold hostScore hostQ hostK hostQkv hostCol hostRow
  rfl

theorem V_lse : V m d main_v35 = hostLse (hostScore (m ((d.tc : Thread nD τ).loc main_arg0)) (m ((d.tc : Thread nD τ).loc main_arg1)))
    (hostMax (hostScore (m ((d.tc : Thread nD τ).loc main_arg0)) (m ((d.tc : Thread nD τ).loc main_arg1)))) := by
  show StableHlo.after (List.flatten [hostOps0, hostOps0_1, hostOps0_2]) (fun b => m (d, b)) (Proc.devRef .tc main_v35) = _
  rw [List.flatten_cons, List.flatten_cons, List.flatten_cons, List.flatten_nil, List.append_nil, StableHlo.after_append, StableHlo.after_append, lines3, lines2, lines1]
end

section
variable (z g : ℕ → ℕ → ℝ)

theorem hostQ_at (i : Fin 2048) (h : Fin 4) (e : Fin 128) : hostQ (mat 2048 6144 z) (ix3 i h e) = ((hq z h.val i.val e.val : ℝ) : EReal) := by
  pointwise [hostQ, hostQkv]
  rfl
theorem hostK_at (i : Fin 2048) (h : Fin 4) (e : Fin 128) : hostK (mat 2048 6144 z) (ix3 i h e) = ((hk z h.val i.val e.val : ℝ) : EReal) := by
  pointwise [hostK, hostQkv]
  rw [mat_at]
  unfold hk
  congr 2
  dsimp only
  omega
theorem hostCol_real : hostCol (mat 2048 4 g) = fun i => ((hc g (i 0).val (i 1).val : ℝ) : EReal) := by
  funext i
  pointwise [hostCol]
  rfl
theorem hostRow_real : hostRow (mat 2048 4 g) = fun i => ((hc g (i 0).val (i 2).val : ℝ) : EReal) := by
  funext i
  pointwise [hostRow]
  rfl
theorem hostScore_real : hostScore (mat 2048 6144 z) (mat 2048 4 g) = scores (hq z) (hk z) (hc g) := by
  funext i
  unfold hostScore hostMask
  rw [hostCol_real, hostRow_real]
  pointwise
  rw [Finset.sum_congr rfl fun x _ => congrArg₂ (· * ·) (hostQ_at z (i 1) (i 0) x) (hostK_at z (i 2) (i 0) x),
    dot_val 128 (hq z (i 0).val (i 1).val) (hk z (i 0).val (i 2).val), ofBits_sc, minus_inf, masked _ _ (lt_trans (i 1).isLt (by decide)) (lt_trans (i 2).isLt (by decide))]
  unfold scores score
  rw [← EReal.coe_mul, ← EReal.coe_add, ← EReal.coe_sub]

theorem hostLse_real (M : ℕ → ℕ → ℝ) : hostLse (scores (hq z) (hk z) (hc g)) (rows M)
    = fun i => ((lse (hq z (i 0).val) (hk z (i 0).val) (hc g (i 0).val) (i 1).val : ℝ) : EReal) := by
  funext i
  pointwise [hostLse]
  exact lse_val (hq z) (hk z) (hc g) (M (i 0).val (i 1).val) (i 0) (i 1)

/-- The region's operands, of arrays of real numbers. -/
theorem heads (m : (ℓ : Loc nD τ sig) → Buf (Elt Ideal) ℓ) (d : Dev nD) (y : ℕ → ℕ → ℝ)
    (hz : m ((d.tc : Thread nD τ).loc main_arg0) = mat 2048 6144 z) (hg : m ((d.tc : Thread nD τ).loc main_arg1) = mat 2048 4 g)
    (hy : m ((d.tc : Thread nD τ).loc main_arg2) = mat 2048 512 y) : Heads m d z g y where
  z_eq := hz
  y_eq := hy
  col_eq := by rw [V_col, hg]; exact hostCol_real g
  row_eq := by rw [V_row, hg]; exact hostRow_real g
  lse_eq := by
    obtain ⟨M, hM⟩ := row_max (hq z) (hk z) (hc g) reducesTo_S4x2048x2048_S4x2048_d2 h_S_
    have hM : hostMax (scores (hq z) (hk z) (hc g)) = rows M := hM
    rw [V_lse, hz, hg]
    refine (congrArg (fun s => hostLse s (hostMax s)) (hostScore_real z g)).trans ?_
    rw [hM]
    exact hostLse_real z g M
end

end Cert.KernelIdeal.Fox

end
-- ==== Proof.Fox.Final.lean ====
/- The result arrays of the run, of arrays of real numbers. -/
module

public import proofs.«01_k».proof.Proof.Fox.Fold

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.FoxReal

set_option maxHeartbeats 1000000

/-- The four results: head `h`'s gradients in columns `128 h` to `128 h + 127`, and its log-gates' gradient in row `h`. -/
def outQ (z g y : ℕ → ℕ → ℝ) : ℕ → ℕ → ℝ := fun i e => (fun h => gq (hq z h) (hk z h) (hv z h) (hy y h) (hc g h) i (e % 128)) (e / 128)
def outK (z g y : ℕ → ℕ → ℝ) : ℕ → ℕ → ℝ := fun i e => (fun h => gk (hq z h) (hk z h) (hv z h) (hy y h) (hc g h) 2048 i (e % 128)) (e / 128)
def outV (z g y : ℕ → ℕ → ℝ) : ℕ → ℕ → ℝ := fun i e => (fun h => gv (hq z h) (hk z h) (hy y h) (hc g h) 2048 i (e % 128)) (e / 128)
def outC (z g y : ℕ → ℕ → ℝ) : (⟨3, ![4, 1, 2048]⟩ : Shape).Idx → EReal :=
  fun i => (((fun h => gc (hq z h) (hk z h) (hv z h) (hy y h) (hc g h) 2048 (i 2).val) (i 0).val : ℝ) : EReal)

variable (m : (ℓ : Loc nD τ sig) → Buf (Elt Ideal) ℓ) (d : Dev nD) (z g y : ℕ → ℕ → ℝ) (H : Heads m d z g y)
include H

theorem finalQ : (dats m 0 d).arrAt 8 (cfgs 0).N = mat 2048 512 (outQ z g y) := by
  refine (dats m 0 d).arrAt_eq_of_covers 8 _ (by decide +kernel) fun t hf j => ?_
  blk_simp
  rw [after8, dq_at m d z g y H t]
  have h1 : (j 1).val < 128 := (j 1).isLt
  blk_simp [mat, idx t]
  show ((gq (hq z (t.val / 4)) (hk z (t.val / 4)) (hv z (t.val / 4)) (hy y (t.val / 4)) (hc g (t.val / 4)) (512 * (t.val % 4) + (j 0).val) (j 1).val : ℝ) : EReal) = ((outQ z g y _ _ : ℝ) : EReal)
  unfold outQ
  dsimp only
  rw [show (t.val / 4 * 128 + (j 1).val) / 128 = t.val / 4 by omega, show (t.val / 4 * 128 + (j 1).val) % 128 = (j 1).val by omega, Nat.mul_comm (t.val % 4) 512]

theorem finalK : (dats m 0 d).arrAt 9 (cfgs 0).N = mat 2048 512 (outK z g y) := by
  refine (dats m 0 d).arrAt_eq_of_covers 9 _ (by decide +kernel) fun t hf j => ?_
  blk_simp
  rw [after9, accD m d z g y H t ((flush0_9 t).mp hf)]
  show mat 2048 128 (gk (hq z (t.val / 4)) (hk z (t.val / 4)) (hv z (t.val / 4)) (hy y (t.val / 4)) (hc g (t.val / 4)) 2048) j = _
  have h1 : (j 1).val < 128 := (j 1).isLt
  blk_simp [mat, idx t]
  show ((gk (hq z (t.val / 4)) (hk z (t.val / 4)) (hv z (t.val / 4)) (hy y (t.val / 4)) (hc g (t.val / 4)) 2048 (j 0).val (j 1).val : ℝ) : EReal) = ((outK z g y _ _ : ℝ) : EReal)
  unfold outK
  dsimp only
  rw [show (t.val / 4 * 128 + (j 1).val) / 128 = t.val / 4 by omega, show (t.val / 4 * 128 + (j 1).val) % 128 = (j 1).val by omega]

theorem finalV : (dats m 0 d).arrAt 10 (cfgs 0).N = mat 2048 512 (outV z g y) := by
  refine (dats m 0 d).arrAt_eq_of_covers 10 _ (by decide +kernel) fun t hf j => ?_
  blk_simp
  rw [after10, accD m d z g y H t ((flush0_10 t).mp hf)]
  show mat 2048 128 (gv (hq z (t.val / 4)) (hk z (t.val / 4)) (hy y (t.val / 4)) (hc g (t.val / 4)) 2048) j = _
  have h1 : (j 1).val < 128 := (j 1).isLt
  blk_simp [mat, idx t]
  show ((gv (hq z (t.val / 4)) (hk z (t.val / 4)) (hy y (t.val / 4)) (hc g (t.val / 4)) 2048 (j 0).val (j 1).val : ℝ) : EReal) = ((outV z g y _ _ : ℝ) : EReal)
  unfold outV
  dsimp only
  rw [show (t.val / 4 * 128 + (j 1).val) / 128 = t.val / 4 by omega, show (t.val / 4 * 128 + (j 1).val) % 128 = (j 1).val by omega]

theorem finalC : (dats m 0 d).arrAt 11 (cfgs 0).N = outC z g y := by
  refine (dats m 0 d).arrAt_eq_of_covers 11 _ (by decide +kernel) fun t hf j => ?_
  blk_simp
  rw [after11, accD m d z g y H t ((flush0_11 t).mp hf)]
  show row 2048 (gc (hq z (t.val / 4)) (hk z (t.val / 4)) (hv z (t.val / 4)) (hy y (t.val / 4)) (hc g (t.val / 4)) 2048) j = _
  blk_simp [outC, idx t]
  rfl

end Cert.KernelIdeal.Fox

end
-- ==== Proof.Fox.Ref.lean ====
/- The reference's values, of arrays of real numbers. -/
module

public import Idealize.ShloMosaic.Lib.Pipeline.ValueKit
public import Idealize.ShloMosaic.Lib.Affine
public import proofs.«01_k».proof.Proof.Fox.Rows
public import proofs.«01_k».proof.Proof.Fox.Final
public import proofs.«01_k».proof.Proof.Gen.ReferenceIdeal.Run
public import proofs.«01_k».proof.Proof.Gen.ReferenceIdeal.Read

@[expose] public section

set_option maxRecDepth 16384

noncomputable section

namespace Cert.ReferenceIdeal.Fox

open Idealize.ShloMosaic Idealize.ShloMosaic.TcCoe Cert.ReferenceIdeal Cert.ReferenceIdeal.Gen Cert.ReferenceIdeal.Read
open Cert.FoxReal
open Cert.KernelIdeal.Fox (hq hk hv hc hy outQ outK outV outC)
open Finset (range)

set_option maxHeartbeats 1000000

/-- Real numbers for every head, query and key. -/
def arr (f : ℕ → ℕ → ℕ → ℝ) : (⟨3, ![4, 2048, 2048]⟩ : Shape).Idx → EReal := fun i => ((f (i 0).val (i 1).val (i 2).val : ℝ) : EReal)

/-- Real numbers for every row, head and feature. -/
def part (f : ℕ → ℕ → ℕ → ℝ) : (⟨3, ![2048, 4, 128]⟩ : Shape).Idx → EReal := fun i => ((f (i 1).val (i 0).val (i 2).val : ℝ) : EReal)

variable (z g y : ℕ → ℕ → ℝ)

theorem q_real : val_main_v7 (F := Ideal) (mat 2048 6144 z) = part (hq z) := by
  funext i
  pointwise [val_main_v7, val_main_v2, val_main_v1, val_main_v0]
  rfl

theorem k_real : val_main_v8 (F := Ideal) (mat 2048 6144 z) = part (hk z) := by
  funext i
  pointwise [val_main_v8, val_main_v4, val_main_v3, val_main_v0]
  show ((z _ (2048 + ((12 + (i 1).val) * 128 + (i 2).val)) : ℝ) : EReal) = ((z _ ((28 + (i 1).val) * 128 + (i 2).val) : ℝ) : EReal)
  exact congrArg (fun x => ((z (i 0).val x : ℝ) : EReal)) (by ring)

theorem v_real : val_main_v9 (F := Ideal) (mat 2048 6144 z) = part (hv z) := by
  funext i
  pointwise [val_main_v9, val_main_v6, val_main_v5, val_main_v0]
  show ((z _ (4096 + ((12 + (i 1).val) * 128 + (i 2).val)) : ℝ) : EReal) = ((z _ ((44 + (i 1).val) * 128 + (i 2).val) : ℝ) : EReal)
  exact congrArg (fun x => ((z (i 0).val x : ℝ) : EReal)) (by ring)

theorem y_real : val_main_v11 (F := Ideal) (mat 2048 512 y) = part (hy y) := by
  funext i
  pointwise [val_main_v11, val_main_v10]
  rfl

theorem s_real : val_main_v28_0 (F := Ideal) (mat 2048 6144 z) (mat 2048 4 g) = scores (hq z) (hk z) (hc g) := by
  unfold val_main_v28_0 val_main_v21 val_main_v18 val_main_v14 val_main_v12
  rw [q_real, k_real]
  funext i
  pointwise [val_main_v28_1, val_main_v27, val_main_v26, val_main_v25, val_main_v24, val_main_v23, val_main_v22, val_main_v20, val_main_v19, val_main_v17, val_main_v16, val_main_v15, val_main_v13, val_main_cst, val_main_call0_v2, val_main_call0_v0, val_main_cst_0]
  have h1 : (i 1).val < 2048 := (i 1).isLt
  have h2 : (i 2).val < 2048 := (i 2).isLt
  rw [masked _ _ (by omega) (by omega)]
  unfold scores
  split
  · refine (congrArg (fun x : EReal => x * _ + _ - _) (dot_val 128 (fun e => hq z (i 0).val (i 1).val e) (fun e => hk z (i 0).val (i 2).val e))).trans ?_
    rw [ofBits_sc, ← EReal.coe_mul]
    exact (congrArg (fun x : EReal => x - _) (EReal.coe_add _ _).symm).trans (EReal.coe_sub _ _).symm
  · exact minus_inf

/-- The rows' maxima are real numbers. -/
theorem max_real : ∃ M, val_main_v29 (F := Ideal) (mat 2048 6144 z) (mat 2048 4 g) = rows M := by
  unfold val_main_v29 val_main_cst_1
  rw [s_real]
  exact row_max _ _ _ _ _

/-- The exponential of a visible score less a row's number. -/
def ex (M : ℕ → ℕ → ℝ) (h i j : ℕ) : ℝ := if j ≤ i then Real.exp (score (hq z h) (hk z h) (hc g h) i j - M h i) else 0

/-- A row's sum of these. -/
def tot (M : ℕ → ℕ → ℝ) (h i : ℕ) : ℝ := mass (hq z h) (hk z h) (hc g h) i / Real.exp (M h i)

/-- The weights, their gradient and the scores' gradient, by head. -/
def pr (h i j : ℕ) : ℝ := prob (hq z h) (hk z h) (hc g h) i j
def dp (h i j : ℕ) : ℝ := dprob (hv z h) (hy y h) i j
def ds (h i j : ℕ) : ℝ := dscore (hq z h) (hk z h) (hv z h) (hy y h) (hc g h) i j

theorem tot_pos (M : ℕ → ℕ → ℝ) (h i : ℕ) : 0 < tot z g M h i := div_pos (mass_pos _ _ _ _) (Real.exp_pos _)

theorem pr_ex (M : ℕ → ℕ → ℝ) (h i j : ℕ) : ex z g M h i j * (1 / tot z g M h i) = pr z g h i j := by
  unfold ex pr tot
  have e := Real.exp_pos (M h i)
  have p := mass_pos (hq z h) (hk z h) (hc g h) i
  rcases Nat.lt_or_ge i j with hj | hj
  · rw [if_neg (by omega), prob_after _ _ _ hj, zero_mul]
  · rw [if_pos hj, prob_visible _ _ _ hj, Real.exp_sub]
    field_simp

/-- The softmax's gradient, as it is taken from the exponentials and their sum. -/
theorem ds_ex (M : ℕ → ℕ → ℝ) (h i j : ℕ) :
    (dp z y h i j * (1 / tot z g M h i) + -∑ x ∈ range 2048, dp z y h i x * (1 / (tot z g M h i * tot z g M h i)) * ex z g M h i x) * ex z g M h i j
      = ds z g y h i j := by
  have t := (tot_pos z g M h i).ne'
  have e : ∑ x ∈ range 2048, dp z y h i x * (1 / (tot z g M h i * tot z g M h i)) * ex z g M h i x
      = (∑ x ∈ range 2048, pr z g h i x * dp z y h i x) * (1 / tot z g M h i) := by
    rw [Finset.sum_mul]
    refine Finset.sum_congr rfl fun x _ => ?_
    rw [← pr_ex z g M]
    field_simp
  rw [e]
  show _ = pr z g h i j * (dp z y h i j - ∑ x ∈ range 2048, pr z g h i x * dp z y h i x)
  rw [← pr_ex z g M h i j]
  ring

section
variable (M : ℕ → ℕ → ℝ) (hM : val_main_v29 (F := Ideal) (mat 2048 6144 z) (mat 2048 4 g) = rows M)
include hM

theorem exp_real : val_main_v49 (F := Ideal) (mat 2048 6144 z) (mat 2048 4 g) = arr (ex z g M) := by
  unfold val_main_v49 val_main_v48 val_main_v47 val_main_v46 val_main_v36
  rw [hM, s_real]
  funext i
  pointwise [val_main_v35, val_main_cst_3]
  refine (congrArg (fun x => Ideal.exp (scores (hq z) (hk z) (hc g) i - max x _)) minus_inf).trans ?_
  refine (congrArg (fun x => Ideal.exp (scores (hq z) (hk z) (hc g) i - x)) (max_bot_left _)).trans ?_
  exact exp_score (hq z) (hk z) (hc g) (M (i 0).val (i 1).val) (i 0) (i 1) (i 2)

theorem tot_real : val_main_v50 (F := Ideal) (mat 2048 6144 z) (mat 2048 4 g) = rows (tot z g M) := by
  unfold val_main_v50
  rw [exp_real z g M hM]
  funext i
  pointwise [val_main_cst_9]
  have h1 : (i 1).val < 2048 := (i 1).isLt
  exact (sum_val 2048 (fun j => ex z g M (i 0).val (i 1).val j)).trans (congrArg _ (sum_shifted _ _ _ _ 2048 h1 _))

theorem prob_real : val_main_v53 (F := Ideal) (mat 2048 6144 z) (mat 2048 4 g) = arr (pr z g) := by
  unfold val_main_v53 val_main_v52 val_main_v51
  rw [exp_real z g M hM, tot_real z g M hM]
  funext i
  pointwise
  refine (Ideal.div_coe (tot_pos z g M (i 0).val (i 1).val).ne' _).trans ?_
  exact (EReal.coe_mul _ _).symm.trans (congrArg _ (pr_ex z g M (i 0).val (i 1).val (i 2).val))

theorem square_real : val_main_v63 (F := Ideal) (mat 2048 6144 z) (mat 2048 4 g)
    = arr (fun h i _ => 1 / (tot z g M h i * tot z g M h i)) := by
  unfold val_main_v63 val_main_v56 val_main_v54 val_main_v51
  rw [tot_real z g M hM]
  funext i
  pointwise [val_main_v55, val_main_cst_10]
  have t := tot_pos z g M (i 0).val (i 1).val
  refine (congrArg _ (EReal.coe_mul _ _).symm).trans ?_
  refine (Ideal.div_coe (mul_pos t t).ne' _).trans ?_
  exact one_mul _

omit hM in
theorem dprob_real : val_main_v60 (F := Ideal) (mat 2048 6144 z) (mat 2048 512 y) = arr (dp z y) := by
  unfold val_main_v60 val_main_v59
  rw [y_real, v_real]
  funext i
  pointwise
  exact dot_val 128 (fun e => hy y (i 0).val (i 1).val e) (fun e => hv z (i 0).val (i 2).val e)

theorem inner_real : val_main_v71 (F := Ideal) (mat 2048 6144 z) (mat 2048 4 g) (mat 2048 512 y)
    = rows (fun h i => -∑ x ∈ range 2048, dp z y h i x * (1 / (tot z g M h i * tot z g M h i)) * ex z g M h i x) := by
  unfold val_main_v71 val_main_v68 val_main_v67 val_main_v66 val_main_v65 val_main_v64
  rw [dprob_real, square_real z g M hM, exp_real z g M hM]
  funext i
  pointwise [val_main_cst_11, val_main_cst_12]
  rw [Fin.sum_univ_one]
  refine (congrArg (fun x : EReal => -x) ?_).trans (EReal.coe_neg _).symm
  refine Eq.trans (Finset.sum_congr rfl fun x _ => ?_)
    (sum_val 2048 fun x => dp z y (i 0).val (i 1).val x * (1 / (tot z g M (i 0).val (i 1).val * tot z g M (i 0).val (i 1).val)) * ex z g M (i 0).val (i 1).val x)
  exact (congrArg (fun t : EReal => t * _) (EReal.coe_mul _ _).symm).trans (EReal.coe_mul _ _).symm

theorem dscore_real : val_main_v75 (F := Ideal) (mat 2048 6144 z) (mat 2048 4 g) (mat 2048 512 y) = arr (ds z g y) := by
  unfold val_main_v75 val_main_v74 val_main_v73 val_main_v72 val_main_v70 val_main_v69 val_main_v51
  rw [dprob_real, tot_real z g M hM, exp_real z g M hM, inner_real z g y M hM]
  funext i
  pointwise [val_main_v28_1, val_main_v27, val_main_v26, val_main_v25, val_main_v24, val_main_v23, val_main_v22, val_main_call1_v0, val_main_call1_cst]
  have h1 : (i 1).val < 2048 := (i 1).isLt
  have h2 : (i 2).val < 2048 := (i 2).isLt
  rw [masked _ _ (by omega) (by omega)]
  split
  case isTrue =>
    refine (congrArg (fun t : EReal => (t + _) * _) (Ideal.div_coe (tot_pos z g M (i 0).val (i 1).val).ne' _)).trans ?_
    refine Eq.trans ?_ (congrArg (fun t : ℝ => (t : EReal)) (ds_ex z g y M (i 0).val (i 1).val (i 2).val))
    rw [EReal.coe_mul, EReal.coe_add, EReal.coe_mul]
    rfl
  case isFalse hj =>
    exact EReal.coe_zero.symm.trans (congrArg (fun t : ℝ => (t : EReal)) (dscore_after _ _ _ _ _ (by omega)).symm)
end

/-- A product of two real vectors, the first of them scaled. -/
theorem dot_scaled (n : ℕ) (a b : ℕ → ℝ) :
    ∑ x : Fin n, ((a x.val : ℝ) : EReal) * Ideal.ofBits FTy.f32 0x3DB504F3#32 * ((b x.val : ℝ) : EReal) = (((∑ x ∈ range n, a x * b x) * sc : ℝ) : EReal) := by
  rw [ofBits_sc]
  simp only [← EReal.coe_mul]
  rw [sum_val n fun x => a x * sc * b x, Finset.sum_mul]
  exact congrArg (fun t : ℝ => (t : EReal)) (Finset.sum_congr rfl fun x _ => by ring)

theorem dq_real : val_main_v92 (F := Ideal) (mat 2048 6144 z) (mat 2048 4 g) (mat 2048 512 y) = mat 2048 512 (outQ z g y) := by
  obtain ⟨M, hM⟩ := max_real z g
  unfold val_main_v92 val_main_v91 val_main_v90 val_main_v89 val_main_v86
  rw [dscore_real z g y M hM, k_real]
  funext i
  pointwise [val_main_v85, val_main_cst_17]
  exact dot_scaled 2048 (fun x => ds z g y ((i 1).val / 128) (i 0).val x) (fun x => hk z ((i 1).val / 128) x ((i 1).val % 128))

theorem dk_real : val_main_v94 (F := Ideal) (mat 2048 6144 z) (mat 2048 4 g) (mat 2048 512 y) = mat 2048 512 (outK z g y) := by
  obtain ⟨M, hM⟩ := max_real z g
  unfold val_main_v94 val_main_v93 val_main_v88 val_main_v87 val_main_v86
  rw [dscore_real z g y M hM, q_real]
  funext i
  pointwise [val_main_v85, val_main_cst_17]
  exact dot_scaled 2048 (fun x => ds z g y ((i 1).val / 128) x (i 0).val) (fun x => hq z ((i 1).val / 128) x ((i 1).val % 128))

theorem dv_real : val_main_v96 (F := Ideal) (mat 2048 6144 z) (mat 2048 4 g) (mat 2048 512 y) = mat 2048 512 (outV z g y) := by
  obtain ⟨M, hM⟩ := max_real z g
  unfold val_main_v96 val_main_v95 val_main_v62 val_main_v61 val_main_v59
  rw [prob_real z g M hM, y_real]
  funext i
  pointwise
  refine (dot_val 2048 (fun x => hy y ((i 1).val / 128) x ((i 1).val % 128)) (fun x => pr z g ((i 1).val / 128) x (i 0).val)).trans ?_
  exact congrArg (fun t : ℝ => (t : EReal)) (Finset.sum_congr rfl fun x _ => mul_comm _ _)

theorem dc_real : val_main_v98 (F := Ideal) (mat 2048 6144 z) (mat 2048 4 g) (mat 2048 512 y) = outC z g y := by
  obtain ⟨M, hM⟩ := max_real z g
  unfold val_main_v98 val_main_v97 val_main_v84 val_main_v83 val_main_v82 val_main_v81 val_main_v80 val_main_v79 val_main_v78 val_main_v77 val_main_v76
  rw [dscore_real z g y M hM]
  funext i
  pointwise [val_main_cst_13, val_main_cst_14, val_main_cst_15, val_main_cst_16]
  have h2 : (i 2).val < 2048 := (i 2).isLt
  rw [Fin.sum_univ_one, Fin.sum_univ_one]
  have e1 := (sum_val 2048 fun x => -ds z g y (i 0).val x (i 2).val).trans (congrArg (fun t : ℝ => (t : EReal)) (Finset.sum_neg_distrib _))
  have e2 := (sum_val 2048 fun x => ds z g y (i 0).val (i 2).val x).trans (congrArg (fun t : ℝ => (t : EReal)) (sum_dscore _ _ _ _ _ _ h2))
  exact (congrArg₂ (fun a b : EReal => a + b) e1 e2).trans (add_zero _)

end Cert.ReferenceIdeal.Fox

end
-- ==== Proof.Fox.Finite.lean ====
/- The precondition: an array of finite numbers is an array of real numbers. -/
module

public import Idealize.ShloMosaic.Lib.Pipeline.ValueKit
public import Idealize.ShloMosaic.Lib.Affine
public import proofs.«01_k».proof.Proof.Fox.Lift
public import proofs.«01_k».proof.Proof.Gen.Pre_finite
public import proofs.«01_k».proof.Defs
public import Idealize.ShloMosaic.Lib.ReduceAll

@[expose] public section

set_option maxRecDepth 16384

noncomputable section

namespace Cert.FoxReal

open Idealize.ShloMosaic Finset

theorem infinity : Ideal.ofBits FTy.f32 0x7F800000#32 = ⊤ := by
  simp [Ideal.ofBits, Ideal.ieee]

/-- A number whose absolute value is below infinity is real. -/
theorem real_of_abs {x : EReal} (h : Ideal.cmp .olt (max x (-x)) ⊤ = 1#1) : ∃ r : ℝ, x = (r : EReal) := by
  have h : max x (-x) < ⊤ := by
    by_contra hn
    simp [Ideal.cmp, hn] at h
  obtain ⟨h1, h2⟩ := max_lt_iff.mp h
  refine ⟨x.toReal, (EReal.coe_toReal h1.ne fun e => ?_).symm⟩
  rw [e] at h2
  exact absurd h2 (by simp)

/-- A matrix all of whose entries are real. -/
theorem mat_of_real {a b : ℕ} (x : (⟨2, ![a, b]⟩ : Shape).Idx → EReal) (h : ∀ i, ∃ r : ℝ, x i = (r : EReal)) : ∃ f, x = mat a b f := by
  choose f hf using h
  refine ⟨fun p q => if h : p < a ∧ q < b then f (ix2 ⟨p, h.1⟩ ⟨q, h.2⟩) else 0, ext2 fun i j => ?_⟩
  rw [hf]
  show _ = ((dite _ _ _ : ℝ) : EReal)
  rw [dif_pos ⟨i.isLt, j.isLt⟩]
  rfl

/-- What the precondition says of the three arguments. -/
theorem finite_real [Cert.Pre_finite.Facts] (x : FVec Ideal ⟨2, ![2048, 6144]⟩ .bf16) (c : FVec Ideal ⟨2, ![2048, 4]⟩ .f32) (d : FVec Ideal ⟨2, ![2048, 512]⟩ .bf16)
    (h : Cert.Pre_finite.fn (F := Ideal) x c d = fun _ => 1#1) :
    (∃ z, x = mat 2048 6144 z) ∧ (∃ g, c = mat 2048 4 g) ∧ ∃ y, d = mat 2048 512 y := by
  have h := congrFun h ix0
  obtain ⟨h, hd⟩ := IntOp.andi_eq_one.1 h
  obtain ⟨hx, hc⟩ := IntOp.andi_eq_one.1 h
  haveI : Subsingleton Cert.Pre_finite.S_.Idx := ⟨fun a b => funext fun i => i.elim0⟩
  refine ⟨mat_of_real _ fun i => real_of_abs ?_, mat_of_real _ fun i => real_of_abs ?_, mat_of_real _ fun i => real_of_abs ?_⟩
  · rw [← infinity]; exact Host.reduce_andi_all _ _ _ _ _ hx i
  · rw [← infinity]; exact Host.reduce_andi_all _ _ _ _ _ hc i
  · rw [← infinity]; exact Host.reduce_andi_all _ _ _ _ _ hd i

end Cert.FoxReal

end
-- ==== Proof.Fox.RunA.lean ====
/- The body of the kernel at the grid points of query tile 0. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a point of case A: what it leaves in the six buffers it may store into, from what they held. -/
theorem runA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x1x2048 .f32) (harg13 : arg13.IsWhole) (arg14 : Memref sig .tc .vmem S2048x128 .f32) (harg14 : arg14.IsWhole) (arg15 : Memref sig .tc .vmem S2048x128 .f32) (harg15 : arg15.IsWhole) (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x0 : Vec F S512x128 .bf16) (x1 : Vec F S2048x128 .bf16) (x2 : Vec F S2048x128 .bf16) (x3 : Vec F S1x512x1 .f32) (x4 : Vec F S1x1x2048 .f32) (x5 : Vec F S1x512x1 .f32) (x6 : Vec F S512x128 .bf16) (x7 : Vec F S512x128 .bf16) (d10 : Vec F S512x128 .bf16) (d11 : Vec F S2048x128 .bf16) (d12 : Vec F S2048x128 .bf16) (xd : Vec F S1x1x2048 .f32) (xk : Vec F S2048x128 .f32) (xv : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d10 ∗ owns (c : Thread nD τ) arg11 fullShare d11 ∗ owns (c : Thread nD τ) arg12 fullShare d12 ∗ owns (c : Thread nD τ) arg13 fullShare xd ∗ owns (c : Thread nD τ) arg14 fullShare xk ∗ owns (c : Thread nD τ) arg15 fullShare xv ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqA x0 x1 x2 x3 x4 x5 x7) ∗ owns (c : Thread nD τ) arg11 fullShare d11 ∗ owns (c : Thread nD τ) arg12 fullShare d12 ∗ owns (c : Thread nD τ) arg13 fullShare (dcA x0 x1 x2 x3 x4 x5 x7 k0_pay3) ∗ owns (c : Thread nD τ) arg14 fullShare (dkA x0 x1 x2 x3 x4 x5 x7 k0_pay1) ∗ owns (c : Thread nD τ) arg15 fullShare (dvA x0 x1 x2 x3 x4 x5 x7 k0_pay2)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    try delta runA.sl.v73
    try delta runA.sl.v66
    try delta runA.sl.v58
    try delta runA.sl.H15_1
    try delta runA.sl.H14_1
    try delta runA.sl.H13_1
    try delta runA.sl.r_5
    try delta runA.sl.r_4
    try delta runA.sl.r_3
    try delta runA.sl.r_2
    try delta runA.sl.r_1
    try delta runA.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try delta runA.sl.v73
    try delta runA.sl.v66
    try delta runA.sl.v58
    try delta runA.sl.H15_1
    try delta runA.sl.H14_1
    try delta runA.sl.H13_1
    try delta runA.sl.r_5
    try delta runA.sl.r_4
    try delta runA.sl.r_3
    try delta runA.sl.r_2
    try delta runA.sl.r_1
    try delta runA.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

      | exact congrArg₂ (fun a b : Vec F S1x1x2048 .f32 => over (s := S1x1x2048) ![0, 0, 0] S1x1x512.size inb_S1x1x2048_S1x1x512_0_0_0 (k0_pay7 (k0_pay23 x0 (View.ld x1 (Rect.unit (s := S2048x128) ![0, 0] S512x128.size inb_S2048x128_S512x128_0_0)) (View.ld x2 (Rect.unit (s := S2048x128) ![0, 0] S512x128.size inb_S2048x128_S512x128_0_0)) x7 x3 (View.ld x4 (Rect.unit (s := S1x1x2048) ![0, 0, 0] S1x1x512.size inb_S1x1x2048_S1x1x512_0_0_0)) x5) (View.ld a (Rect.unit (s := S1x1x2048) ![0, 0, 0] S1x1x512.size inb_S1x1x2048_S1x1x512_0_0_0))) b) (ovd _ _ _) (ovd _ _ _)
  isplitl [H14]
  · iexists _; isplitr
    swap; · iexact H14
    ipureintro
    try delta runA.sl.v73
    try delta runA.sl.v66
    try delta runA.sl.v58
    try delta runA.sl.H15_1
    try delta runA.sl.H14_1
    try delta runA.sl.H13_1
    try delta runA.sl.r_5
    try delta runA.sl.r_4
    try delta runA.sl.r_3
    try delta runA.sl.r_2
    try delta runA.sl.r_1
    try delta runA.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

      | exact congrArg₂ (fun a b : Vec F S2048x128 .f32 => over (s := S2048x128) ![0, 0] S512x128.size inb_S2048x128_S512x128_0_0 (k0_pay5 x0 (k0_pay24 x0 (View.ld x1 (Rect.unit (s := S2048x128) ![0, 0] S512x128.size inb_S2048x128_S512x128_0_0)) (View.ld x2 (Rect.unit (s := S2048x128) ![0, 0] S512x128.size inb_S2048x128_S512x128_0_0)) x7 x3 (View.ld x4 (Rect.unit (s := S1x1x2048) ![0, 0, 0] S1x1x512.size inb_S1x1x2048_S1x1x512_0_0_0)) x5) (View.ld a (Rect.unit (s := S2048x128) ![0, 0] S512x128.size inb_S2048x128_S512x128_0_0))) b) (ova _ _ _) (ova _ _ _)
  iexists _; isplitr
  swap; · iexact H15
  ipureintro
  try delta runA.sl.v73
  try delta runA.sl.v66
  try delta runA.sl.v58
  try delta runA.sl.H15_1
  try delta runA.sl.H14_1
  try delta runA.sl.H13_1
  try delta runA.sl.r_5
  try delta runA.sl.r_4
  try delta runA.sl.r_3
  try delta runA.sl.r_2
  try delta runA.sl.r_1
  try delta runA.sl.r
  simp only [readAt_part, read_writes_over, readCov_part, read_nil, ovlq, ovlk, ovla, ovlc, ovld, ldq x0, ldq x7, ldc x3, ldc x5]
  try first
    | rfl
    | exact ovq _ _ _
    | exact ova _ _ _
    | exact ovd _ _ _
    | exact ovk _ _ _

    | exact congrArg₂ (fun a b : Vec F S2048x128 .f32 => over (s := S2048x128) ![0, 0] S512x128.size inb_S2048x128_S512x128_0_0 (k0_pay6 x7 (k0_pay22 x0 (View.ld x1 (Rect.unit (s := S2048x128) ![0, 0] S512x128.size inb_S2048x128_S512x128_0_0)) x3 (View.ld x4 (Rect.unit (s := S1x1x2048) ![0, 0, 0] S1x1x512.size inb_S1x1x2048_S1x1x512_0_0_0)) x5) (View.ld a (Rect.unit (s := S2048x128) ![0, 0] S512x128.size inb_S2048x128_S512x128_0_0))) b) (ova _ _ _) (ova _ _ _)

end Cert.KernelIdeal.Fox

end
-- ==== Proof.Fox.RunB.lean ====
/- The body of the kernel at the grid points of query tile 1. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a point of case B: what it leaves in the six buffers it may store into, from what they held. -/
theorem runB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x1x2048 .f32) (harg13 : arg13.IsWhole) (arg14 : Memref sig .tc .vmem S2048x128 .f32) (harg14 : arg14.IsWhole) (arg15 : Memref sig .tc .vmem S2048x128 .f32) (harg15 : arg15.IsWhole) (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1)
    (x0 : Vec F S512x128 .bf16) (x1 : Vec F S2048x128 .bf16) (x2 : Vec F S2048x128 .bf16) (x3 : Vec F S1x512x1 .f32) (x4 : Vec F S1x1x2048 .f32) (x5 : Vec F S1x512x1 .f32) (x6 : Vec F S512x128 .bf16) (x7 : Vec F S512x128 .bf16) (d10 : Vec F S512x128 .bf16) (d11 : Vec F S2048x128 .bf16) (d12 : Vec F S2048x128 .bf16) (xd : Vec F S1x1x2048 .f32) (xk : Vec F S2048x128 .f32) (xv : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d10 ∗ owns (c : Thread nD τ) arg11 fullShare d11 ∗ owns (c : Thread nD τ) arg12 fullShare d12 ∗ owns (c : Thread nD τ) arg13 fullShare xd ∗ owns (c : Thread nD τ) arg14 fullShare xk ∗ owns (c : Thread nD τ) arg15 fullShare xv ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqB x0 x1 x2 x3 x4 x5 x7) ∗ owns (c : Thread nD τ) arg11 fullShare d11 ∗ owns (c : Thread nD τ) arg12 fullShare d12 ∗ owns (c : Thread nD τ) arg13 fullShare (dcB x0 x1 x2 x3 x4 x5 x7 xd) ∗ owns (c : Thread nD τ) arg14 fullShare (dkB x0 x1 x2 x3 x4 x5 x7 xk) ∗ owns (c : Thread nD τ) arg15 fullShare (dvB x0 x1 x2 x3 x4 x5 x7 xv)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  simp only [k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    try delta runB.sl.r_5
    try delta runB.sl.r_4
    try delta runB.sl.r_3
    try delta runB.sl.r_2
    try delta runB.sl.r_1
    try delta runB.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try delta runB.sl.r_5
    try delta runB.sl.r_4
    try delta runB.sl.r_3
    try delta runB.sl.r_2
    try delta runB.sl.r_1
    try delta runB.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  isplitl [H14]
  · iexists _; isplitr
    swap; · iexact H14
    ipureintro
    try delta runB.sl.r_5
    try delta runB.sl.r_4
    try delta runB.sl.r_3
    try delta runB.sl.r_2
    try delta runB.sl.r_1
    try delta runB.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  iexists _; isplitr
  swap; · iexact H15
  ipureintro
  try delta runB.sl.r_5
  try delta runB.sl.r_4
  try delta runB.sl.r_3
  try delta runB.sl.r_2
  try delta runB.sl.r_1
  try delta runB.sl.r
  simp only [readAt_part, read_writes_over, readCov_part, read_nil, ovlq, ovlk, ovla, ovlc, ovld, ldq x0, ldq x7, ldc x3, ldc x5]
  try first
    | rfl
    | exact ovq _ _ _
    | exact ova _ _ _
    | exact ovd _ _ _
    | exact ovk _ _ _

end Cert.KernelIdeal.Fox

end
-- ==== Proof.Fox.RunC.lean ====
/- The body of the kernel at the grid points of query tile 2. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a point of case C: what it leaves in the six buffers it may store into, from what they held. -/
theorem runC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x1x2048 .f32) (harg13 : arg13.IsWhole) (arg14 : Memref sig .tc .vmem S2048x128 .f32) (harg14 : arg14.IsWhole) (arg15 : Memref sig .tc .vmem S2048x128 .f32) (harg15 : arg15.IsWhole) (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1)
    (x0 : Vec F S512x128 .bf16) (x1 : Vec F S2048x128 .bf16) (x2 : Vec F S2048x128 .bf16) (x3 : Vec F S1x512x1 .f32) (x4 : Vec F S1x1x2048 .f32) (x5 : Vec F S1x512x1 .f32) (x6 : Vec F S512x128 .bf16) (x7 : Vec F S512x128 .bf16) (d10 : Vec F S512x128 .bf16) (d11 : Vec F S2048x128 .bf16) (d12 : Vec F S2048x128 .bf16) (xd : Vec F S1x1x2048 .f32) (xk : Vec F S2048x128 .f32) (xv : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d10 ∗ owns (c : Thread nD τ) arg11 fullShare d11 ∗ owns (c : Thread nD τ) arg12 fullShare d12 ∗ owns (c : Thread nD τ) arg13 fullShare xd ∗ owns (c : Thread nD τ) arg14 fullShare xk ∗ owns (c : Thread nD τ) arg15 fullShare xv ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqC x0 x1 x2 x3 x4 x5 x7) ∗ owns (c : Thread nD τ) arg11 fullShare d11 ∗ owns (c : Thread nD τ) arg12 fullShare d12 ∗ owns (c : Thread nD τ) arg13 fullShare (dcC x0 x1 x2 x3 x4 x5 x7 xd) ∗ owns (c : Thread nD τ) arg14 fullShare (dkC x0 x1 x2 x3 x4 x5 x7 xk) ∗ owns (c : Thread nD τ) arg15 fullShare (dvC x0 x1 x2 x3 x4 x5 x7 xv)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    try delta runC.sl.r_5
    try delta runC.sl.r_4
    try delta runC.sl.r_3
    try delta runC.sl.r_2
    try delta runC.sl.r_1
    try delta runC.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try delta runC.sl.r_5
    try delta runC.sl.r_4
    try delta runC.sl.r_3
    try delta runC.sl.r_2
    try delta runC.sl.r_1
    try delta runC.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  isplitl [H14]
  · iexists _; isplitr
    swap; · iexact H14
    ipureintro
    try delta runC.sl.r_5
    try delta runC.sl.r_4
    try delta runC.sl.r_3
    try delta runC.sl.r_2
    try delta runC.sl.r_1
    try delta runC.sl.r
    simp only [readAt_part, read_writes_over, readCov_part, read_nil, ovlq, ovlk, ovla, ovlc, ovld, ldq x0, ldq x7, ldc x3, ldc x5]
    try first
      | rfl
      | exact ovq _ _ _
      | exact ova _ _ _
      | exact ovd _ _ _
      | exact ovk _ _ _

  iexists _; isplitr
  swap; · iexact H15
  ipureintro
  try delta runC.sl.r_5
  try delta runC.sl.r_4
  try delta runC.sl.r_3
  try delta runC.sl.r_2
  try delta runC.sl.r_1
  try delta runC.sl.r
  simp only [readAt_part, read_writes_over, readCov_part, read_nil, ovlq, ovlk, ovla, ovlc, ovld, ldq x0, ldq x7, ldc x3, ldc x5]
  try first
    | rfl
    | exact ovq _ _ _
    | exact ova _ _ _
    | exact ovd _ _ _
    | exact ovk _ _ _

end Cert.KernelIdeal.Fox

end
-- ==== Proof.Fox.RunD.lean ====
/- The body of the kernel at the grid points of query tile 3. -/
module

public import proofs.«01_k».proof.Proof.Fox.Step

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a point of case D: what it leaves in the six buffers it may store into, from what they held. -/
theorem runD (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x512x1 .f32) (harg5 : arg5.IsWhole) (arg6 : Memref sig .tc .vmem S1x1x2048 .f32) (harg6 : arg6.IsWhole) (arg7 : Memref sig .tc .vmem S1x512x1 .f32) (harg7 : arg7.IsWhole) (arg8 : Memref sig .tc .vmem S512x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x1x2048 .f32) (harg13 : arg13.IsWhole) (arg14 : Memref sig .tc .vmem S2048x128 .f32) (harg14 : arg14.IsWhole) (arg15 : Memref sig .tc .vmem S2048x128 .f32) (harg15 : arg15.IsWhole) (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1)
    (x0 : Vec F S512x128 .bf16) (x1 : Vec F S2048x128 .bf16) (x2 : Vec F S2048x128 .bf16) (x3 : Vec F S1x512x1 .f32) (x4 : Vec F S1x1x2048 .f32) (x5 : Vec F S1x512x1 .f32) (x6 : Vec F S512x128 .bf16) (x7 : Vec F S512x128 .bf16) (d10 : Vec F S512x128 .bf16) (d11 : Vec F S2048x128 .bf16) (d12 : Vec F S2048x128 .bf16) (xd : Vec F S1x1x2048 .f32) (xk : Vec F S2048x128 .f32) (xv : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d10 ∗ owns (c : Thread nD τ) arg11 fullShare d11 ∗ owns (c : Thread nD τ) arg12 fullShare d12 ∗ owns (c : Thread nD τ) arg13 fullShare xd ∗ owns (c : Thread nD τ) arg14 fullShare xk ∗ owns (c : Thread nD τ) arg15 fullShare xv ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqD x0 x1 x2 x3 x4 x5 x7) ∗ owns (c : Thread nD τ) arg11 fullShare (k0_pay20 (dkD x0 x1 x2 x3 x4 x5 x7 xk)) ∗ owns (c : Thread nD τ) arg12 fullShare (k0_pay21 (dvD x0 x1 x2 x3 x4 x5 x7 xv)) ∗ owns (c : Thread nD τ) arg13 fullShare (dcD x0 x1 x2 x3 x4 x5 x7 xd) ∗ owns (c : Thread nD τ) arg14 fullShare (dkD x0 x1 x2 x3 x4 x5 x7 xk) ∗ owns (c : Thread nD τ) arg15 fullShare (dvD x0 x1 x2 x3 x4 x5 x7 xv)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  simp only [k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    try delta runD.sl.v21
    try delta runD.sl.v18
    try delta runD.sl.H15_1
    try delta runD.sl.H14_1
    try delta runD.sl.r_5
    try delta runD.sl.r_4
    try delta runD.sl.r_3
    try delta runD.sl.r_2
    try delta runD.sl.r_1
    try delta runD.sl.r
    simp only [readAt_part, read_writes_over, readCov_part, read_nil, ovlq, ovlk, ovla, ovlc, ovld, ldq x0, ldq x7, ldc x3, ldc x5, ldk x1, ldk x2, lda xk, lda xv, ldd x4, ldd xd]
    try first
      | rfl
      | exact ovq _ _ _
      | exact ova _ _ _
      | exact ovd _ _ _
      | exact ovk _ _ _

  isplitl [H11]
  · iexists _; isplitr
    swap; · iexact H11
    ipureintro
    try delta runD.sl.v21
    try delta runD.sl.v18
    try delta runD.sl.H15_1
    try delta runD.sl.H14_1
    try delta runD.sl.r_5
    try delta runD.sl.r_4
    try delta runD.sl.r_3
    try delta runD.sl.r_2
    try delta runD.sl.r_1
    try delta runD.sl.r
    simp only [readAt_part, read_writes_over, readCov_part, read_nil, ovlq, ovlk, ovla, ovlc, ovld, ldq x0, ldq x7, ldc x3, ldc x5, ldk x1, ldk x2, lda xk, lda xv, ldd x4, ldd xd]
    try first
      | rfl
      | exact ovq _ _ _
      | exact ova _ _ _
      | exact ovd _ _ _
      | exact ovk _ _ _

      | exact (ovk _ _ _).trans (congrArg k0_pay20 ((lda _ _).trans (ova _ _ _)))
  isplitl [H12]
  · iexists _; isplitr
    swap; · iexact H12
    ipureintro
    try delta runD.sl.v21
    try delta runD.sl.v18
    try delta runD.sl.H15_1
    try delta runD.sl.H14_1
    try delta runD.sl.r_5
    try delta runD.sl.r_4
    try delta runD.sl.r_3
    try delta runD.sl.r_2
    try delta runD.sl.r_1
    try delta runD.sl.r
    simp only [readAt_part, read_writes_over, readCov_part, read_nil, ovlq, ovlk, ovla, ovlc, ovld, ldq x0, ldq x7, ldc x3, ldc x5, ldk x1, ldk x2, lda xk, lda xv, ldd x4, ldd xd]
    try first
      | rfl
      | exact ovq _ _ _
      | exact ova _ _ _
      | exact ovd _ _ _
      | exact ovk _ _ _

      | exact (ovk _ _ _).trans (congrArg k0_pay21 ((lda _ _).trans (ova _ _ _)))
  isplitl [H13]
  · iexists _; isplitr
    swap; · iexact H13
    ipureintro
    try delta runD.sl.v21
    try delta runD.sl.v18
    try delta runD.sl.H15_1
    try delta runD.sl.H14_1
    try delta runD.sl.r_5
    try delta runD.sl.r_4
    try delta runD.sl.r_3
    try delta runD.sl.r_2
    try delta runD.sl.r_1
    try delta runD.sl.r
    simp only [readAt_part, read_writes_over, readCov_part, read_nil, ovlq, ovlk, ovla, ovlc, ovld, ldq x0, ldq x7, ldc x3, ldc x5, ldk x1, ldk x2, lda xk, lda xv, ldd x4, ldd xd]
    try first
      | rfl
      | exact ovq _ _ _
      | exact ova _ _ _
      | exact ovd _ _ _
      | exact ovk _ _ _

  isplitl [H14]
  · iexists _; isplitr
    swap; · iexact H14
    ipureintro
    try delta runD.sl.v21
    try delta runD.sl.v18
    try delta runD.sl.H15_1
    try delta runD.sl.H14_1
    try delta runD.sl.r_5
    try delta runD.sl.r_4
    try delta runD.sl.r_3
    try delta runD.sl.r_2
    try delta runD.sl.r_1
    try delta runD.sl.r
    simp only [readAt_part, read_writes_over, readCov_part, read_nil, ovlq, ovlk, ovla, ovlc, ovld, ldq x0, ldq x7, ldc x3, ldc x5, ldk x1, ldk x2, lda xk, lda xv, ldd x4, ldd xd]
    try first
      | rfl
      | exact ovq _ _ _
      | exact ova _ _ _
      | exact ovd _ _ _
      | exact ovk _ _ _

  iexists _; isplitr
  swap; · iexact H15
  ipureintro
  try delta runD.sl.v21
  try delta runD.sl.v18
  try delta runD.sl.H15_1
  try delta runD.sl.H14_1
  try delta runD.sl.r_5
  try delta runD.sl.r_4
  try delta runD.sl.r_3
  try delta runD.sl.r_2
  try delta runD.sl.r_1
  try delta runD.sl.r
  simp only [readAt_part, read_writes_over, readCov_part, read_nil, ovlq, ovlk, ovla, ovlc, ovld, ldq x0, ldq x7, ldc x3, ldc x5, ldk x1, ldk x2, lda xk, lda xv, ldd x4, ldd xd]
  try first
    | rfl
    | exact ovq _ _ _
    | exact ova _ _ _
    | exact ovd _ _ _
    | exact ovk _ _ _

end Cert.KernelIdeal.Fox

end
-- ==== Proof.Fox.Frame.lean ====
/- The body at every grid point, the run of the program and its frame. -/
module

public import Idealize.ShloMosaic.Lib.Claim
public import proofs.«01_k».proof.Proof.Fox.Data
public import proofs.«01_k».proof.Proof.Fox.RunA
public import proofs.«01_k».proof.Proof.Fox.RunB
public import proofs.«01_k».proof.Proof.Fox.RunC
public import proofs.«01_k».proof.Proof.Fox.RunD

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) : (dats m 0 c).leavesExact 0 t = owns (c : Thread nD τ) (buf0 t) fullShare (iblk m c 0 t) := by
  unfold Dat.leavesExact; rw [show cfg0.idle 0 (cfg0.grid.coords t) = false from rfl, after0]

theorem leaves1 (c : Dev nD) (t : Fin cfg0.N) : (dats m 0 c).leavesExact 1 t = owns (c : Thread nD τ) (buf1 t) fullShare (iblk m c 1 t) := by
  unfold Dat.leavesExact; rw [show cfg0.idle 1 (cfg0.grid.coords t) = false from rfl, after1]

theorem leaves2 (c : Dev nD) (t : Fin cfg0.N) : (dats m 0 c).leavesExact 2 t = owns (c : Thread nD τ) (buf2 t) fullShare (iblk m c 2 t) := by
  unfold Dat.leavesExact; rw [show cfg0.idle 2 (cfg0.grid.coords t) = false from rfl, after2]

theorem leaves3 (c : Dev nD) (t : Fin cfg0.N) : (dats m 0 c).leavesExact 3 t = owns (c : Thread nD τ) (buf3 t) fullShare (iblk m c 3 t) := by
  unfold Dat.leavesExact; rw [show cfg0.idle 3 (cfg0.grid.coords t) = false from rfl, after3]

theorem leaves4 (c : Dev nD) (t : Fin cfg0.N) : (dats m 0 c).leavesExact 4 t = owns (c : Thread nD τ) (buf4 t) fullShare (iblk m c 4 t) := by
  unfold Dat.leavesExact; rw [show cfg0.idle 4 (cfg0.grid.coords t) = false from rfl, after4]

theorem leaves5 (c : Dev nD) (t : Fin cfg0.N) : (dats m 0 c).leavesExact 5 t = owns (c : Thread nD τ) (buf5 t) fullShare (iblk m c 5 t) := by
  unfold Dat.leavesExact; rw [show cfg0.idle 5 (cfg0.grid.coords t) = false from rfl, after5]

theorem leaves6 (c : Dev nD) (t : Fin cfg0.N) : (dats m 0 c).leavesExact 6 t = owns (c : Thread nD τ) (buf6 t) fullShare (iblk m c 6 t) := by
  unfold Dat.leavesExact; rw [show cfg0.idle 6 (cfg0.grid.coords t) = false from rfl, after6]

theorem leaves7 (c : Dev nD) (t : Fin cfg0.N) : (dats m 0 c).leavesExact 7 t = owns (c : Thread nD τ) (buf7 t) fullShare (iblk m c 7 t) := by
  unfold Dat.leavesExact; rw [show cfg0.idle 7 (cfg0.grid.coords t) = false from rfl, after7]

theorem leaves8 (c : Dev nD) (t : Fin cfg0.N) : (dats m 0 c).leavesExact 8 t = owns (c : Thread nD τ) (buf8 t) fullShare (dqAt m c t) := by
  unfold Dat.leavesExact; rw [live_dq t, after8]

theorem leaves11 (c : Dev nD) (t : Fin cfg0.N) : (dats m 0 c).leavesExact 11 t = owns (c : Thread nD τ) (buf11 t) fullShare (accAt m c t.val t.isLt).2.2 := by
  unfold Dat.leavesExact; rw [live_dc t, after11]

theorem leaves9 (c : Dev nD) (t : Fin cfg0.N) (h : t.val % 4 = 3) :
    (dats m 0 c).leavesExact 9 t = owns (c : Thread nD τ) (buf9 t) fullShare (k0_pay20 (accAt m c t.val t.isLt).1) := by
  unfold Dat.leavesExact; rw [idle_dk t, decide_eq_true h, after9]; rfl

theorem leaves10 (c : Dev nD) (t : Fin cfg0.N) (h : t.val % 4 = 3) :
    (dats m 0 c).leavesExact 10 t = owns (c : Thread nD τ) (buf10 t) fullShare (k0_pay21 (accAt m c t.val t.isLt).2.1) := by
  unfold Dat.leavesExact; rw [idle_dv t, decide_eq_true h, after10]; rfl

theorem keeps9 (c : Dev nD) (t : Fin cfg0.N) (h : t.val % 4 ≠ 3) :
    (dats m 0 c).leavesExact 9 t = iprop(∃ d, owns (c : Thread nD τ) (buf9 t) fullShare ((dats m 0 c).before 9 t d)) :=
  (dats m 0 c).leavesExact_idle 9 t (by rw [idle_dk t, decide_eq_false h]; rfl) (Bool.eq_false_iff.mpr fun h' => h ((flush0_9 t).mp h'))

theorem keeps10 (c : Dev nD) (t : Fin cfg0.N) (h : t.val % 4 ≠ 3) :
    (dats m 0 c).leavesExact 10 t = iprop(∃ d, owns (c : Thread nD τ) (buf10 t) fullShare ((dats m 0 c).before 10 t d)) :=
  (dats m 0 c).leavesExact_idle 10 t (by rw [idle_dv t, decide_eq_false h]; rfl) (Bool.eq_false_iff.mpr fun h' => h ((flush0_10 t).mp h'))

/-- At any point the invariant holds the accumulators at some contents. -/
theorem inv_some (c : Dev nD) (n : ℕ) (h : n ≤ cfg0.N) :
    inv m c n h ⊢ iprop(iprop((∃ d, owns (c : Thread nD τ) accK fullShare d) ∗ (∃ d, owns (c : Thread nD τ) accV fullShare d)) ∗ (∃ r, prngReg c r)) := by
  cases n with
  | zero => rw [inv_zero m c 0 h rfl, region_eq]
  | succ n =>
    rw [inv_succ]
    iintro ⟨⟨HK, HV⟩, Hg⟩
    isplitl [HK HV]
    · isplitl [HK]
      · iexists _; iexact HK
      iexists _; iexact HV
    iexact Hg

set_option maxHeartbeats 1000000 in
/-- The body at any point, by the query tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = inv m c (t.val + 1) t.isLt from rfl, inv_succ, inv_castSucc]
  rw [leaves0, leaves1, leaves2, leaves3, leaves4, leaves5, leaves6, leaves7, leaves8, leaves11]
  have hN : t.val < 16 := lt_of_lt_of_eq t.isLt (show cfg0.N = 16 from N_0)
  rcases (by omega : t.val % 4 = 0 ∨ t.val % 4 = 1 ∨ t.val % 4 = 2 ∨ t.val % 4 = 3) with h | h | h | h
  · refine (show _ ⊢ _ from sep_mono (show inv m c t.val (Nat.le_of_lt t.isLt) ⊢ iprop(iprop((∃ d, owns (c : Thread nD τ) accK fullShare d) ∗ (∃ d, owns (c : Thread nD τ) accV fullShare d)) ∗ (∃ r, prngReg c r)) from inv_some m c t.val _) .rfl).trans ?_
    rw [accAt_A m c t h, dqAt_A m c t h]
    rw [keeps9 m c t (by omega), keeps10 m c t (by omega)]
    iintro ⟨⟨⟨⟨%ek, HK⟩, ⟨%ev, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ _ _ _ _ ((branch1 t).mpr h) ((branch2 t).mpr h) (fun h' => by have := (branch3 t).mp h'; omega) (fun h' => by have := (branch4 t).mp h'; omega) (fun h' => by have := (branch5 t).mp h'; omega) (fun h' => by have := (branch6 t).mp h'; omega) (blk0 m c t) (blk1 m c t) (blk2 m c t) (blk3 m c t) (blk4 m c t) (blk5 m c t) (blk6 m c t) (blk7 m c t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HK]; · iexact HK
    isplitl [HV]; · iexact HV
    iintro ⟨H0, H1, H2, H3, H4, H5, H6, H7, H8, H9, H10, H11, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11
  · rw [inv_pos m c _ _ (by omega)]
    simp only [before11 m c t (by omega)]
    rw [accAt_B m c t h _ rfl, dqAt_B m c t h]
    rw [keeps9 m c t (by omega), keeps10 m c t (by omega)]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ _ _ _ _ (fun h' => by have := (branch1 t).mp h'; omega) (fun h' => by have := (branch2 t).mp h'; omega) ((branch3 t).mpr h) (fun h' => by have := (branch4 t).mp h'; omega) (fun h' => by have := (branch5 t).mp h'; omega) (fun h' => by have := (branch6 t).mp h'; omega) (blk0 m c t) (blk1 m c t) (blk2 m c t) (blk3 m c t) (blk4 m c t) (blk5 m c t) (blk6 m c t) (blk7 m c t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HK]; · iexact HK
    isplitl [HV]; · iexact HV
    iintro ⟨H0, H1, H2, H3, H4, H5, H6, H7, H8, H9, H10, H11, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11
  · rw [inv_pos m c _ _ (by omega)]
    simp only [before11 m c t (by omega)]
    rw [accAt_C m c t h _ rfl, dqAt_C m c t h]
    rw [keeps9 m c t (by omega), keeps10 m c t (by omega)]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runC c (grid0.coords t) _ _ _ _ _ _ _ _ _ _ _ _ _ _ _ _ _ _ _ _ _ _ _ _ _ _ _ _ (fun h' => by have := (branch1 t).mp h'; omega) (fun h' => by have := (branch2 t).mp h'; omega) (fun h' => by have := (branch3 t).mp h'; omega) ((branch4 t).mpr h) (fun h' => by have := (branch5 t).mp h'; omega) (fun h' => by have := (branch6 t).mp h'; omega) (blk0 m c t) (blk1 m c t) (blk2 m c t) (blk3 m c t) (blk4 m c t) (blk5 m c t) (blk6 m c t) (blk7 m c t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HK]; · iexact HK
    isplitl [HV]; · iexact HV
    iintro ⟨H0, H1, H2, H3, H4, H5, H6, H7, H8, H9, H10, H11, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11
  · rw [inv_pos m c _ _ (by omega)]
    simp only [before11 m c t (by omega)]
    rw [accAt_D m c t h _ rfl, dqAt_D m c t h]
    rw [leaves9 m c t h, leaves10 m c t h, accAt_D m c t h _ rfl]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runD c (grid0.coords t) _ _ _ _ _ _ _ _ _ _ _ _ _ _ _ _ _ _ _ _ _ _ _ _ _ _ _ _ (fun h' => by have := (branch1 t).mp h'; omega) (fun h' => by have := (branch2 t).mp h'; omega) (fun h' => by have := (branch3 t).mp h'; omega) (fun h' => by have := (branch4 t).mp h'; omega) ((branch5 t).mpr h) ((branch6 t).mpr h) (blk0 m c t) (blk1 m c t) (blk2 m c t) (blk3 m c t) (blk4 m c t) (blk5 m c t) (blk6 m c t) (blk7 m c t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HK]; · iexact HK
    isplitl [HV]; · iexact HV
    iintro ⟨H0, H1, H2, H3, H4, H5, H6, H7, H8, H9, H10, H11, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, region_eq]
  exact inv_some m c _ _

/-! ## The run and the frame -/

set_option backward.isDefEq.respectTransparency.types false in
/-- Every fair run ends, with every window's array at the contents the proof data names and the counters at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.KernelIdeal.Fox

end
-- ==== Proof.Fox.Words.lean ====
/- The kernel's frame, from the ideal program's: the two programs are one text, but for the mask's constant, which the ideal
   program's has by name. -/
module

public import proofs.«01_k».proof.Defs
public import proofs.«01_k».proof.Proof.Gen.Kernel
public import proofs.«01_k».proof.Proof.Fox.Frame

@[expose] public section

set_option maxRecDepth 16384

noncomputable section

namespace Cert.Kernel.Fox

open Idealize.ShloMosaic Idealize.SL.Sem

/-- The named constants at the words the kernel's own program has in their place. -/
abbrev words : Named Bits := ⟨fun _ _ {φ} b => FloatOps.ofBits φ b⟩

set_option maxHeartbeats 4000000

theorem defs₀_eq : @Cert.Kernel.defs₀ Bits _ Cert.Kernel.Gen.facts = @Cert.KernelIdeal.defs₀ Bits _ words Cert.KernelIdeal.Gen.facts := by
  refine congrArg (Defs.onTc (τ := Cert.Kernel.τ) (sig := Cert.Kernel.sig) (Λ := Cert.Kernel.Λ₀)) (funext fun l => funext fun x => ?_)
  match l, x with
  | ⟨0, _⟩, (t, s) => exact rfl

theorem defs_eq : @Cert.Kernel.defs Bits _ Cert.Kernel.Gen.facts = @Cert.KernelIdeal.defs Bits _ words Cert.KernelIdeal.Gen.facts :=
  congrArg (Pipeline.defs Cert.Kernel.pcfgs) defs₀_eq

theorem main_eq : @Cert.Kernel.main Bits _ Cert.Kernel.Gen.facts = @Cert.KernelIdeal.main Bits _ Cert.KernelIdeal.Gen.facts := rfl

/-- The kernel's frame. -/
theorem frame_kernel : Cert.quiescent_Kernel (hKernel := Cert.Kernel.Gen.facts) := by
  intro m ρ _
  rw [defs_eq, main_eq]
  exact @Cert.KernelIdeal.Fox.frame Bits _ words m ρ

end Cert.Kernel.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Mlp.Up
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Mlp.Down
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import proofs.«01_k».proof.Proof.Mlp.Dact
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Mlp.DwDown
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Mlp.DwUp
public import proofs.«01_k».proof.Proof.Gen.Dm.Frame
public import proofs.«01_k».proof.Proof.Gen.DmIdeal.Value
public import proofs.«01_k».proof.Proof.Gen.DmRefIdeal.Run
public import proofs.«01_k».proof.Proof.Gen.DmRefIdeal.Read
public import proofs.«01_k».proof.Proof.Mlp.Dm
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Layer.Qkv
public import proofs.«01_k».proof.Proof.Gen.Logit.Frame
public import proofs.«01_k».proof.Proof.Gen.LogitIdeal.Value
public import proofs.«01_k».proof.Proof.Gen.LogitRefIdeal.Run
public import proofs.«01_k».proof.Proof.Gen.LogitRefIdeal.Read
public import proofs.«01_k».proof.Proof.Layer.Logit
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Layer.Gate
public import proofs.«01_k».proof.Proof.Gen.Branch.Frame
public import proofs.«01_k».proof.Proof.Gen.BranchIdeal.Value
public import proofs.«01_k».proof.Proof.Gen.BranchRefIdeal.Run
public import proofs.«01_k».proof.Proof.Gen.BranchRefIdeal.Read
public import proofs.«01_k».proof.Proof.Layer.Branch
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Layer.Out
public import proofs.«01_k».proof.Proof.Gen.PleGate.Frame
public import proofs.«01_k».proof.Proof.Gen.PleGateIdeal.Value
public import proofs.«01_k».proof.Proof.Gen.PleGateRefIdeal.Run
public import proofs.«01_k».proof.Proof.Gen.PleGateRefIdeal.Read
public import proofs.«01_k».proof.Proof.Layer.PleGate
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Layer.Ple
public import proofs.«01_k».proof.Proof.Gen.DwPle.Frame
public import proofs.«01_k».proof.Proof.Gen.DwPleIdeal.Value
public import proofs.«01_k».proof.Proof.Gen.DwPleRefIdeal.Run
public import proofs.«01_k».proof.Proof.Gen.DwPleRefIdeal.Read
public import proofs.«01_k».proof.Proof.Layer.DwPle
public import proofs.«01_k».proof.Proof.Gen.DwSquare.Frame
public import proofs.«01_k».proof.Proof.Gen.DwSquareIdeal.Value
public import proofs.«01_k».proof.Proof.Gen.DwSquareRefIdeal.Run
public import proofs.«01_k».proof.Proof.Gen.DwSquareRefIdeal.Read
public import proofs.«01_k».proof.Proof.Layer.DwSquare
public import proofs.«01_k».proof.Proof.Gen.DSquare.Frame
public import proofs.«01_k».proof.Proof.Gen.DSquareIdeal.Value
public import proofs.«01_k».proof.Proof.Gen.DSquareRefIdeal.Run
public import proofs.«01_k».proof.Proof.Gen.DSquareRefIdeal.Read
public import proofs.«01_k».proof.Proof.Layer.DSquare
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwGateRefIdeal.Read
public import proofs.«01_k».proof.Proof.Layer.DwGate
public import proofs.«01_k».proof.Proof.Gen.DwBranch.Frame
public import proofs.«01_k».proof.Proof.Gen.DwBranchIdeal.Value
public import proofs.«01_k».proof.Proof.Gen.DwBranchRefIdeal.Run
public import proofs.«01_k».proof.Proof.Gen.DwBranchRefIdeal.Read
public import proofs.«01_k».proof.Proof.Layer.DwBranch
public import proofs.«01_k».proof.Proof.Gen.DBranch.Frame
public import proofs.«01_k».proof.Proof.Gen.DBranchIdeal.Value
public import proofs.«01_k».proof.Proof.Gen.DBranchRefIdeal.Run
public import proofs.«01_k».proof.Proof.Gen.DBranchRefIdeal.Read
public import proofs.«01_k».proof.Proof.Layer.DBranch
public import proofs.«01_k».proof.Proof.Gen.DwQkv.Frame
public import proofs.«01_k».proof.Proof.Gen.DwQkvIdeal.Value
public import proofs.«01_k».proof.Proof.Gen.DwQkvRefIdeal.Run
public import proofs.«01_k».proof.Proof.Gen.DwQkvRefIdeal.Read
public import proofs.«01_k».proof.Proof.Layer.DwQkv
public import proofs.«01_k».proof.Proof.Gen.DwLogit.Frame
public import proofs.«01_k».proof.Proof.Gen.DwLogitIdeal.Value
public import proofs.«01_k».proof.Proof.Gen.DwLogitRefIdeal.Run
public import proofs.«01_k».proof.Proof.Gen.DwLogitRefIdeal.Read
public import proofs.«01_k».proof.Proof.Layer.DwLogit
public import proofs.«01_k».proof.Proof.Gen.DuLogit.Frame
public import proofs.«01_k».proof.Proof.Gen.DuLogitIdeal.Value
public import proofs.«01_k».proof.Proof.Gen.DuLogitRefIdeal.Run
public import proofs.«01_k».proof.Proof.Gen.DuLogitRefIdeal.Read
public import proofs.«01_k».proof.Proof.Layer.DuLogit
public import proofs.«01_k».proof.Proof.Gen.DuGate.Frame
public import proofs.«01_k».proof.Proof.Gen.DuGateIdeal.Value
public import proofs.«01_k».proof.Proof.Gen.DuGateRefIdeal.Run
public import proofs.«01_k».proof.Proof.Gen.DuGateRefIdeal.Read
public import proofs.«01_k».proof.Proof.Layer.DuGate
public import proofs.«01_k».proof.Proof.Gen.DuQkv.Frame
public import proofs.«01_k».proof.Proof.Gen.DuQkvIdeal.Value
public import proofs.«01_k».proof.Proof.Gen.DuQkvRefIdeal.Run
public import proofs.«01_k».proof.Proof.Gen.DuQkvRefIdeal.Read
public import proofs.«01_k».proof.Proof.Layer.DuQkv
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Layer.Merge
public import proofs.«01_k».proof.Proof.Gen.DMerge.Frame
public import proofs.«01_k».proof.Proof.Gen.DMergeIdeal.Value
public import proofs.«01_k».proof.Proof.Gen.DMergeRefIdeal.Run
public import proofs.«01_k».proof.Proof.Gen.DMergeRefIdeal.Read
public import proofs.«01_k».proof.Proof.Layer.DMerge
public import proofs.«01_k».proof.Proof.Gen.DPle.Frame
public import proofs.«01_k».proof.Proof.Gen.DPleIdeal.Value
public import proofs.«01_k».proof.Proof.Gen.DPleRefIdeal.Run
public import proofs.«01_k».proof.Proof.Gen.DPleRefIdeal.Read
public import proofs.«01_k».proof.Proof.Layer.DPle
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Layer.Norm
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Layer.Adamw
public import proofs.«01_k».proof.Proof.Gen.DNorm.Frame
public import proofs.«01_k».proof.Proof.Gen.DNormIdeal.Value
public import proofs.«01_k».proof.Proof.Gen.DNormRefIdeal.Run
public import proofs.«01_k».proof.Proof.Gen.DNormRefIdeal.Read
public import proofs.«01_k».proof.Proof.Layer.DNorm
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Layer.Loss
public import proofs.«01_k».proof.Proof.Gen.Rope.Frame
public import proofs.«01_k».proof.Proof.Gen.RopeIdeal.Value
public import proofs.«01_k».proof.Proof.Gen.RopeRefIdeal.Run
public import proofs.«01_k».proof.Proof.Gen.RopeRefIdeal.Read
public import proofs.«01_k».proof.Proof.Layer.Rope
public import proofs.«01_k».proof.Proof.Gen.DRope.Frame
public import proofs.«01_k».proof.Proof.Gen.DRopeIdeal.Value
public import proofs.«01_k».proof.Proof.Gen.DRopeRefIdeal.Run
public import proofs.«01_k».proof.Proof.Gen.DRopeRefIdeal.Read
public import proofs.«01_k».proof.Proof.Layer.DRope
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Layer.Mix
public import proofs.«01_k».proof.Proof.Fox.Host
public import proofs.«01_k».proof.Proof.Fox.Ref
public import proofs.«01_k».proof.Proof.Fox.Finite
public import proofs.«01_k».proof.Proof.Fox.Frame
public import proofs.«01_k».proof.Proof.Fox.Words
public import Idealize.ShloMosaic.Adequacy
public import Idealize.ShloMosaic.Init

@[expose] public section

noncomputable section

namespace Cert.Proof

open Idealize.ShloMosaic Idealize.SL.Sem
open Cert.FoxReal (mat finite_real)
open Cert.KernelIdeal.Fox (outQ outK outV outC)

theorem frame_ideal : Cert.quiescent_KernelIdeal (hKernelIdeal := Cert.KernelIdeal.Gen.facts) := fun m ρ _ => Cert.KernelIdeal.Fox.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run m ρ)

theorem preserves : Cert.preserves_Kernel_KernelIdeal := IdealRules.named_const.statement Cert.KernelIdeal.κ "mask" .f32 0xF149F2CA#32 ⊥ rfl

/-- The kernel's results: the gradients of the queries, the keys, the values and the cumulated log-gates. -/
theorem kernel_value (m : (ℓ : Loc Cert.KernelIdeal.nD Cert.KernelIdeal.τ Cert.KernelIdeal.sig) → Buf (Elt Ideal) ℓ) (ρ : Dev Cert.KernelIdeal.nD → PrngReg)
    (z g y : Dev Cert.KernelIdeal.nD → ℕ → ℕ → ℝ) (H : ∀ c, Cert.KernelIdeal.Fox.Heads m c (z c) (g c) (y c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v51_0) = mat 2048 512 (outQ (z c) (g c) (y c))
      ∧ r.2.mem ((c.tc : Thread Cert.KernelIdeal.nD Cert.KernelIdeal.τ).loc Cert.KernelIdeal.main_v51_1) = mat 2048 512 (outK (z c) (g c) (y c))
      ∧ r.2.mem ((c.tc : Thread Cert.KernelIdeal.nD Cert.KernelIdeal.τ).loc Cert.KernelIdeal.main_v51_2) = mat 2048 512 (outV (z c) (g c) (y c))
      ∧ r.2.mem ((c.tc : Thread Cert.KernelIdeal.nD Cert.KernelIdeal.τ).loc Cert.KernelIdeal.main_v51_3) = outC (z c) (g c) (y c)) :=
  (θ_run Cert.KernelIdeal.defs _ _).mono
    (fun r h c => ⟨((h c).1 8).trans (Cert.KernelIdeal.Fox.finalQ m c (z c) (g c) (y c) (H c)), ((h c).1 9).trans (Cert.KernelIdeal.Fox.finalK m c (z c) (g c) (y c) (H c)),
      ((h c).1 10).trans (Cert.KernelIdeal.Fox.finalV m c (z c) (g c) (y c) (H c)), ((h c).1 11).trans (Cert.KernelIdeal.Fox.finalC m c (z c) (g c) (y c) (H c))⟩)
    (Cert.KernelIdeal.Fox.run_main m ρ)

/-- On finite arguments the kernel's results are the reference's. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m ρ m' ρ' hfin hargs
  have hr := fun c => @finite_real Cert.Pre_finite.Gen.facts _ _ _ (hfin c)
  choose z hz using fun c => (hr c).1
  choose g hg using fun c => (hr c).2.1
  choose y hy using fun c => (hr c).2.2
  have H : ∀ c, Cert.KernelIdeal.Fox.Heads m c (z c) (g c) (y c) := fun c => Cert.KernelIdeal.Fox.heads (z c) (g c) m c (y c) (hz c) (hg c) (hy c)
  refine ⟨fun c => mat 2048 512 (outQ (z c) (g c) (y c)), fun c => mat 2048 512 (outK (z c) (g c) (y c)), fun c => mat 2048 512 (outV (z c) (g c) (y c)),
    fun c => outC (z c) (g c) (y c), ?_, ?_⟩
  · refine (θ_run Cert.KernelIdeal.defs _ _).mono (fun r h c => ?_) (θ_run_and (kernel_value m ρ z g y H) (Cert.KernelIdeal.Fox.unchanged m ρ))
    obtain ⟨h1, h2, h3, h4⟩ := h.1 c
    exact ⟨h1, h2, h3, h4, h.2 c⟩
  · refine (θ_run Cert.ReferenceIdeal.defs _ _).mono (fun r h c => ?_) (Cert.ReferenceIdeal.Value.run m' ρ')
    obtain ⟨h1, h2, h3, h4, h5⟩ := h c
    obtain ⟨a1, a2, a3⟩ := hargs c
    have a1 := a1.trans (hz c)
    have a2 := a2.trans (hg c)
    have a3 := a3.trans (hy c)
    refine ⟨h1.trans ?_, h2.trans ?_, h3.trans ?_, h4.trans ?_, h5⟩
    · rw [Cert.ReferenceIdeal.Read.val_main_v92_eq, a1, a2, a3]
      exact Cert.ReferenceIdeal.Fox.dq_real (z c) (g c) (y c)
    · rw [Cert.ReferenceIdeal.Read.val_main_v94_eq, a1, a2, a3]
      exact Cert.ReferenceIdeal.Fox.dk_real (z c) (g c) (y c)
    · rw [Cert.ReferenceIdeal.Read.val_main_v96_eq, a1, a2, a3]
      exact Cert.ReferenceIdeal.Fox.dv_real (z c) (g c) (y c)
    · rw [Cert.ReferenceIdeal.Read.val_main_v98_eq, a1, a2, a3]
      exact Cert.ReferenceIdeal.Fox.dc_real (z c) (g c) (y c)

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts, Cert.Down.Gen.facts, Cert.DownIdeal.Gen.facts, Cert.DownRefIdeal.Gen.facts, Cert.Dact.Gen.facts, Cert.DactIdeal.Gen.facts, Cert.DactRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.Dm.Gen.facts, Cert.DmIdeal.Gen.facts, Cert.DmRefIdeal.Gen.facts, Cert.Qkv.Gen.facts, Cert.QkvIdeal.Gen.facts, Cert.QkvRefIdeal.Gen.facts, Cert.Logit.Gen.facts, Cert.LogitIdeal.Gen.facts, Cert.LogitRefIdeal.Gen.facts, Cert.Gate.Gen.facts, Cert.GateIdeal.Gen.facts, Cert.GateRefIdeal.Gen.facts, Cert.Branch.Gen.facts, Cert.BranchIdeal.Gen.facts, Cert.BranchRefIdeal.Gen.facts, Cert.Out.Gen.facts, Cert.OutIdeal.Gen.facts, Cert.OutRefIdeal.Gen.facts, Cert.PleGate.Gen.facts, Cert.PleGateIdeal.Gen.facts, Cert.PleGateRefIdeal.Gen.facts, Cert.Ple.Gen.facts, Cert.PleIdeal.Gen.facts, Cert.PleRefIdeal.Gen.facts, Cert.DwPle.Gen.facts, Cert.DwPleIdeal.Gen.facts, Cert.DwPleRefIdeal.Gen.facts, Cert.DwSquare.Gen.facts, Cert.DwSquareIdeal.Gen.facts, Cert.DwSquareRefIdeal.Gen.facts, Cert.DSquare.Gen.facts, Cert.DSquareIdeal.Gen.facts, Cert.DSquareRefIdeal.Gen.facts, Cert.DwGate.Gen.facts, Cert.DwGateIdeal.Gen.facts, Cert.DwGateRefIdeal.Gen.facts, Cert.DwBranch.Gen.facts, Cert.DwBranchIdeal.Gen.facts, Cert.DwBranchRefIdeal.Gen.facts, Cert.DBranch.Gen.facts, Cert.DBranchIdeal.Gen.facts, Cert.DBranchRefIdeal.Gen.facts, Cert.DwQkv.Gen.facts, Cert.DwQkvIdeal.Gen.facts, Cert.DwQkvRefIdeal.Gen.facts, Cert.DwLogit.Gen.facts, Cert.DwLogitIdeal.Gen.facts, Cert.DwLogitRefIdeal.Gen.facts, Cert.DuLogit.Gen.facts, Cert.DuLogitIdeal.Gen.facts, Cert.DuLogitRefIdeal.Gen.facts, Cert.DuGate.Gen.facts, Cert.DuGateIdeal.Gen.facts, Cert.DuGateRefIdeal.Gen.facts, Cert.DuQkv.Gen.facts, Cert.DuQkvIdeal.Gen.facts, Cert.DuQkvRefIdeal.Gen.facts, Cert.Merge.Gen.facts, Cert.MergeIdeal.Gen.facts, Cert.MergeRefIdeal.Gen.facts, Cert.DMerge.Gen.facts, Cert.DMergeIdeal.Gen.facts, Cert.DMergeRefIdeal.Gen.facts, Cert.DPle.Gen.facts, Cert.DPleIdeal.Gen.facts, Cert.DPleRefIdeal.Gen.facts, Cert.Norm.Gen.facts, Cert.NormIdeal.Gen.facts, Cert.NormRefIdeal.Gen.facts, Cert.Adamw.Gen.facts, Cert.AdamwIdeal.Gen.facts, Cert.AdamwRefIdeal.Gen.facts, Cert.DNorm.Gen.facts, Cert.DNormIdeal.Gen.facts, Cert.DNormRefIdeal.Gen.facts, Cert.Loss.Gen.facts, Cert.LossIdeal.Gen.facts, Cert.LossRefIdeal.Gen.facts, Cert.Rope.Gen.facts, Cert.RopeIdeal.Gen.facts, Cert.RopeRefIdeal.Gen.facts, Cert.DRope.Gen.facts, Cert.DRopeIdeal.Gen.facts, Cert.DRopeRefIdeal.Gen.facts, Cert.Mix.Gen.facts, Cert.MixIdeal.Gen.facts, Cert.MixRefIdeal.Gen.facts, Cert.Pre_finite.Gen.facts,
    Cert.Kernel.Fox.frame_kernel, frame_ideal, fun m ρ _ => frame_ideal m ρ trivial, frame_reference, fun m ρ _ => frame_reference m ρ trivial,
    fun m ρ _ => Cert.Up.Gen.frame m ρ, fun m ρ _ => Cert.UpIdeal.Gen.frame m ρ, Cert.UpIdeal.Mlp.frame_reference,
    fun m ρ _ => Cert.Down.Gen.frame m ρ, fun m ρ _ => Cert.DownIdeal.Gen.frame m ρ, Cert.DownIdeal.Mlp.frame_reference,
    fun m ρ _ => Cert.Dact.Gen.frame m ρ, fun m ρ _ => Cert.DactIdeal.Gen.frame m ρ, Cert.DactIdeal.Mlp.frame_reference,
    fun m ρ _ => Cert.DwDown.Gen.frame m ρ, fun m ρ _ => Cert.DwDownIdeal.Gen.frame m ρ, Cert.DwDownIdeal.Mlp.frame_reference,
    fun m ρ _ => Cert.DwUp.Gen.frame m ρ, fun m ρ _ => Cert.DwUpIdeal.Gen.frame m ρ, Cert.DwUpIdeal.Mlp.frame_reference,
    fun m ρ _ => Cert.Dm.Gen.frame m ρ, fun m ρ _ => Cert.DmIdeal.Gen.frame m ρ, Cert.DmIdeal.Mlp.frame_reference,
    fun m ρ _ => Cert.Qkv.Gen.frame m ρ, fun m ρ _ => Cert.QkvIdeal.Gen.frame m ρ, Cert.QkvIdeal.Layer.frame_reference,
    fun m ρ _ => Cert.Logit.Gen.frame m ρ, fun m ρ _ => Cert.LogitIdeal.Gen.frame m ρ, Cert.LogitIdeal.Layer.frame_reference,
    fun m ρ _ => Cert.Gate.Gen.frame m ρ, fun m ρ _ => Cert.GateIdeal.Gen.frame m ρ, Cert.GateIdeal.Layer.frame_reference,
    fun m ρ _ => Cert.Branch.Gen.frame m ρ, fun m ρ _ => Cert.BranchIdeal.Gen.frame m ρ, Cert.BranchIdeal.Layer.frame_reference,
    fun m ρ _ => Cert.Out.Gen.frame m ρ, fun m ρ _ => Cert.OutIdeal.Gen.frame m ρ, Cert.OutIdeal.Layer.frame_reference,
    fun m ρ _ => Cert.PleGate.Gen.frame m ρ, fun m ρ _ => Cert.PleGateIdeal.Gen.frame m ρ, Cert.PleGateIdeal.Layer.frame_reference,
    fun m ρ _ => Cert.Ple.Gen.frame m ρ, fun m ρ _ => Cert.PleIdeal.Gen.frame m ρ, Cert.PleIdeal.Layer.frame_reference,
    fun m ρ _ => Cert.DwPle.Gen.frame m ρ, fun m ρ _ => Cert.DwPleIdeal.Gen.frame m ρ, Cert.DwPleIdeal.Layer.frame_reference,
    fun m ρ _ => Cert.DwSquare.Gen.frame m ρ, fun m ρ _ => Cert.DwSquareIdeal.Gen.frame m ρ, Cert.DwSquareIdeal.Layer.frame_reference,
    fun m ρ _ => Cert.DSquare.Gen.frame m ρ, fun m ρ _ => Cert.DSquareIdeal.Gen.frame m ρ, Cert.DSquareIdeal.Layer.frame_reference,
    fun m ρ _ => Cert.DwGate.Gen.frame m ρ, fun m ρ _ => Cert.DwGateIdeal.Gen.frame m ρ, Cert.DwGateIdeal.Layer.frame_reference,
    fun m ρ _ => Cert.DwBranch.Gen.frame m ρ, fun m ρ _ => Cert.DwBranchIdeal.Gen.frame m ρ, Cert.DwBranchIdeal.Layer.frame_reference,
    fun m ρ _ => Cert.DBranch.Gen.frame m ρ, fun m ρ _ => Cert.DBranchIdeal.Gen.frame m ρ, Cert.DBranchIdeal.Layer.frame_reference,
    fun m ρ _ => Cert.DwQkv.Gen.frame m ρ, fun m ρ _ => Cert.DwQkvIdeal.Gen.frame m ρ, Cert.DwQkvIdeal.Layer.frame_reference,
    fun m ρ _ => Cert.DwLogit.Gen.frame m ρ, fun m ρ _ => Cert.DwLogitIdeal.Gen.frame m ρ, Cert.DwLogitIdeal.Layer.frame_reference,
    fun m ρ _ => Cert.DuLogit.Gen.frame m ρ, fun m ρ _ => Cert.DuLogitIdeal.Gen.frame m ρ, Cert.DuLogitIdeal.Layer.frame_reference,
    fun m ρ _ => Cert.DuGate.Gen.frame m ρ, fun m ρ _ => Cert.DuGateIdeal.Gen.frame m ρ, Cert.DuGateIdeal.Layer.frame_reference,
    fun m ρ _ => Cert.DuQkv.Gen.frame m ρ, fun m ρ _ => Cert.DuQkvIdeal.Gen.frame m ρ, Cert.DuQkvIdeal.Layer.frame_reference,
    fun m ρ _ => Cert.Merge.Gen.frame m ρ, fun m ρ _ => Cert.MergeIdeal.Gen.frame m ρ, Cert.MergeIdeal.Layer.frame_reference,
    fun m ρ _ => Cert.DMerge.Gen.frame m ρ, fun m ρ _ => Cert.DMergeIdeal.Gen.frame m ρ, Cert.DMergeIdeal.Layer.frame_reference,
    fun m ρ _ => Cert.DPle.Gen.frame m ρ, fun m ρ _ => Cert.DPleIdeal.Gen.frame m ρ, Cert.DPleIdeal.Layer.frame_reference,
    fun m ρ _ => Cert.Norm.Gen.frame m ρ, fun m ρ _ => Cert.NormIdeal.Gen.frame m ρ, Cert.NormIdeal.Layer.frame_reference,
    fun m ρ _ => Cert.Adamw.Gen.frame m ρ, fun m ρ _ => Cert.AdamwIdeal.Gen.frame m ρ, Cert.AdamwIdeal.Layer.frame_reference,
    fun m ρ _ => Cert.DNorm.Gen.frame m ρ, fun m ρ _ => Cert.DNormIdeal.Gen.frame m ρ, Cert.DNormIdeal.Layer.frame_reference,
    fun m ρ _ => Cert.Loss.Gen.frame m ρ, fun m ρ _ => Cert.LossIdeal.Gen.frame m ρ, Cert.LossIdeal.Layer.frame_reference,
    fun m ρ _ => Cert.Rope.Gen.frame m ρ, fun m ρ _ => Cert.RopeIdeal.Gen.frame m ρ, Cert.RopeIdeal.Layer.frame_reference,
    fun m ρ _ => Cert.DRope.Gen.frame m ρ, fun m ρ _ => Cert.DRopeIdeal.Gen.frame m ρ, Cert.DRopeIdeal.Layer.frame_reference,
    fun m ρ _ => Cert.Mix.Gen.frame m ρ, fun m ρ _ => Cert.MixIdeal.Gen.frame m ρ, Cert.MixIdeal.Layer.frame_reference,
    preserves, algebraic,
    trivial, Cert.UpIdeal.Mlp.algebraic,
    trivial, Cert.DownIdeal.Mlp.algebraic,
    trivial, Cert.DactIdeal.Mlp.algebraic,
    trivial, Cert.DwDownIdeal.Mlp.algebraic,
    trivial, Cert.DwUpIdeal.Mlp.algebraic,
    trivial, Cert.DmIdeal.Mlp.algebraic,
    trivial, Cert.QkvIdeal.Layer.algebraic,
    trivial, Cert.LogitIdeal.Layer.algebraic,
    trivial, Cert.GateIdeal.Layer.algebraic,
    trivial, Cert.BranchIdeal.Layer.algebraic,
    trivial, Cert.OutIdeal.Layer.algebraic,
    trivial, Cert.PleGateIdeal.Layer.algebraic,
    trivial, Cert.PleIdeal.Layer.algebraic,
    trivial, Cert.DwPleIdeal.Layer.algebraic,
    trivial, Cert.DwSquareIdeal.Layer.algebraic,
    trivial, Cert.DSquareIdeal.Layer.algebraic,
    trivial, Cert.DwGateIdeal.Layer.algebraic,
    trivial, Cert.DwBranchIdeal.Layer.algebraic,
    trivial, Cert.DBranchIdeal.Layer.algebraic,
    trivial, Cert.DwQkvIdeal.Layer.algebraic,
    trivial, Cert.DwLogitIdeal.Layer.algebraic,
    trivial, Cert.DuLogitIdeal.Layer.algebraic,
    trivial, Cert.DuGateIdeal.Layer.algebraic,
    trivial, Cert.DuQkvIdeal.Layer.algebraic,
    trivial, Cert.MergeIdeal.Layer.algebraic,
    trivial, Cert.DMergeIdeal.Layer.algebraic,
    trivial, Cert.DPleIdeal.Layer.algebraic,
    trivial, Cert.NormIdeal.Layer.algebraic,
    trivial, Cert.AdamwIdeal.Layer.algebraic,
    trivial, Cert.DNormIdeal.Layer.algebraic,
    trivial, Cert.LossIdeal.Layer.algebraic,
    trivial, Cert.RopeIdeal.Layer.algebraic,
    trivial, Cert.DRopeIdeal.Layer.algebraic,
    trivial, Cert.MixIdeal.Layer.algebraic⟩

end Cert.Proof

end
